-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S_ : Shape := ⟨0, ![]⟩
abbrev S64 : Shape := ⟨1, ![64]⟩
abbrev S6144 : Shape := ⟨1, ![6144]⟩
abbrev S16704x3584 : Shape := ⟨2, ![16704, 3584]⟩
abbrev S16704x128 : Shape := ⟨2, ![16704, 128]⟩
abbrev S30522x3584 : Shape := ⟨2, ![30522, 3584]⟩
abbrev S30522 : Shape := ⟨1, ![30522]⟩
abbrev S64x128 : Shape := ⟨2, ![64, 128]⟩
abbrev S2089 : Shape := ⟨1, ![2089]⟩
abbrev S16704x1 : Shape := ⟨2, ![16704, 1]⟩

class Facts : Prop where
  bcast_S_S64 : S_.BroadcastsInDim S64 (![] : Fin 0 → Fin S64.rank)
  reducesTo_S64_S_d0 : S64.ReducesTo [0] S_
  h_S_ : 0 < S_.numel
  slices_S6144_S2089_0 : S6144.Slices ![0] S2089
  bcast_S_S2089 : S_.BroadcastsInDim S2089 (![] : Fin 0 → Fin S2089.rank)
  reducesTo_S2089_S_d0 : S2089.ReducesTo [0] S_
  bitsLt_bf16_f32 : FTy.bits .bf16 < FTy.bits .f32
  bcast_S_S16704x3584 : S_.BroadcastsInDim S16704x3584 (![] : Fin 0 → Fin S16704x3584.rank)
  reducesTo_S16704x3584_S_d0_1 : S16704x3584.ReducesTo [0, 1] S_
  slices_S16704x128_S16704x1_0_0 : S16704x128.Slices ![0, 0] S16704x1
  bcast_S16704x1_S16704x128_0_1 : S16704x1.BroadcastsInDim S16704x128 (![0, 1] : Fin 2 → Fin S16704x128.rank)
  reducesTo_S16704x128_S_d0_1 : S16704x128.ReducesTo [0, 1] S_

variable [Facts]

def fn_where {F : FTy → Type} [FloatOps F] (arg0 : IVec S64 1) (arg1 : IVec S64 32) (arg2 : IVec S_ 32) : IVec S64 32 :=
  let v0 : IVec S_ 32 := id arg2
  let v1 : IVec S64 32 := broadcastInDim S64 ![] bcast_S_S64 v0
  let v2 : IVec S64 32 := select arg0 arg1 v1
  v2

def fn_part2 {F : FTy → Type} [FloatOps F] (main_v30 : IVec S_ 1) (main_v33 : IVec S16704x128 1) : IVec S_ 1 :=
  let main_c_12 : IVec S_ 1 := constantI S_ 1 1#1
  let main_v34 : IVec S_ 1 := (fun x v => Host.reduce IntOp.andi x v reducesTo_S16704x128_S_d0_1 h_S_) main_v33 main_c_12
  let main_v35 : IVec S_ 1 := andi main_v30 main_v34
  main_v35

def fn_part1 {F : FTy → Type} [FloatOps F] (main_arg2 : IVec S6144 32) (main_arg3 : FVec F S16704x3584 .bf16) (main_arg4 : FVec F S16704x128 .f32) (main_v11 : IVec S_ 1) (main_v14 : IVec S_ 1) : IVec S_ 1 :=
  let main_v15 : IVec S_ 1 := andi main_v11 main_v14
  let main_v16 : IVec S2089 32 := (extractStridedSlice S2089 ![0] · slices_S6144_S2089_0) main_arg2
  let main_c_8 : IVec S_ 32 := constantI S_ 32 0#32
  let main_v17 : IVec S2089 32 := broadcastInDim S2089 ![] bcast_S_S2089 main_c_8
  let main_v18 : IVec S2089 1 := cmpi .sge main_v16 main_v17
  let main_v19 : IVec S2089 32 := (extractStridedSlice S2089 ![0] · slices_S6144_S2089_0) main_arg2
  let main_c_9 : IVec S_ 32 := constantI S_ 32 64#32
  let main_v20 : IVec S2089 32 := broadcastInDim S2089 ![] bcast_S_S2089 main_c_9
  let main_v21 : IVec S2089 1 := cmpi .sle main_v19 main_v20
  let main_v22 : IVec S2089 1 := andi main_v18 main_v21
  let main_c_10 : IVec S_ 1 := constantI S_ 1 1#1
  let main_v23 : IVec S_ 1 := (fun x v => Host.reduce IntOp.andi x v reducesTo_S2089_S_d0 h_S_) main_v22 main_c_10
  let main_v24 : IVec S_ 1 := andi main_v15 main_v23
  let main_v25 : FVec F S16704x3584 .f32 := (extf .f32 · bitsLt_bf16_f32) main_arg3
  let main_v26 : FVec F S16704x3584 .f32 := Host.absf main_v25
  let main_cst : FVec F S_ .f32 := constant S_ .f32 0x42FE0000#32
  let main_v27 : FVec F S16704x3584 .f32 := broadcastInDim S16704x3584 ![] bcast_S_S16704x3584 main_cst
  let main_v28 : IVec S16704x3584 1 := cmpf .ole main_v26 main_v27
  let main_c_11 : IVec S_ 1 := constantI S_ 1 1#1
  let main_v29 : IVec S_ 1 := (fun x v => Host.reduce IntOp.andi x v reducesTo_S16704x3584_S_d0_1 h_S_) main_v28 main_c_11
  let main_v30 : IVec S_ 1 := andi main_v24 main_v29
  let main_v31 : FVec F S16704x1 .f32 := (extractStridedSlice S16704x1 ![0, 0] · slices_S16704x128_S16704x1_0_0) main_arg4
  let main_v32 : FVec F S16704x128 .f32 := broadcastInDim S16704x128 ![0, 1] bcast_S16704x1_S16704x128_0_1 main_v31
  let main_v33 : IVec S16704x128 1 := cmpf .oeq main_arg4 main_v32
  fn_part2 (F := F) main_v30 main_v33

def fn {F : FTy → Type} [FloatOps F] (main_arg0 : IVec S_ 32) (main_arg1 : IVec S64 32) (main_arg2 : IVec S6144 32) (main_arg3 : FVec F S16704x3584 .bf16) (main_arg4 : FVec F S16704x128 .f32) (main_arg5 : IVec S30522x3584 8) (main_arg6 : FVec F S30522 .f32) (main_arg7 : FVec F S30522 .f32) (main_arg8 : IVec S64x128 32) : IVec S_ 1 :=
  let main_c : IVec S_ 32 := constantI S_ 32 0#32
  let main_v0 : IVec S64 32 := broadcastInDim S64 ![] bcast_S_S64 main_c
  let main_v1 : IVec S64 1 := cmpi .sgt main_arg1 main_v0
  let main_c_0 : IVec S_ 32 := constantI S_ 32 8#32
  let main_v2 : IVec S64 32 := broadcastInDim S64 ![] bcast_S_S64 main_c_0
  let main_v3 : IVec S64 32 := maxsi main_arg1 main_v2
  let main_c_1 : IVec S_ 32 := constantI S_ 32 0#32
  let main_v4 : IVec S64 32 := fn_where (F := F) main_v1 main_v3 main_c_1
  let main_c_2 : IVec S_ 32 := constantI S_ 32 1#32
  let main_v5 : IVec S_ 1 := cmpi .sge main_arg0 main_c_2
  let main_c_3 : IVec S_ 32 := constantI S_ 32 18#32
  let main_v6 : IVec S_ 1 := cmpi .sle main_arg0 main_c_3
  let main_v7 : IVec S_ 1 := andi main_v5 main_v6
  let main_c_4 : IVec S_ 32 := constantI S_ 32 256#32
  let main_v8 : IVec S64 32 := broadcastInDim S64 ![] bcast_S_S64 main_c_4
  let main_v9 : IVec S64 1 := cmpi .sle main_arg1 main_v8
  let main_c_5 : IVec S_ 1 := constantI S_ 1 1#1
  let main_v10 : IVec S_ 1 := (fun x v => Host.reduce IntOp.andi x v reducesTo_S64_S_d0 h_S_) main_v9 main_c_5
  let main_v11 : IVec S_ 1 := andi main_v7 main_v10
  let main_c_6 : IVec S_ 32 := constantI S_ 32 0#32
  let main_v12 : IVec S_ 32 := (fun x v => Host.reduce IntOp.addi x v reducesTo_S64_S_d0 h_S_) main_v4 main_c_6
  let main_c_7 : IVec S_ 32 := constantI S_ 32 928#32
  let main_v13 : IVec S_ 32 := muli main_arg0 main_c_7
  let main_v14 : IVec S_ 1 := cmpi .sle main_v12 main_v13
  fn_part1 (F := F) main_arg2 main_arg3 main_arg4 main_v11 main_v14
-- ==== Kernel.lean ====
abbrev S_ : Shape := ⟨0, ![]⟩
abbrev S64 : Shape := ⟨1, ![64]⟩
abbrev S6144 : Shape := ⟨1, ![6144]⟩
abbrev S16704x3584 : Shape := ⟨2, ![16704, 3584]⟩
abbrev S16704x128 : Shape := ⟨2, ![16704, 128]⟩
abbrev S30522x3584 : Shape := ⟨2, ![30522, 3584]⟩
abbrev S30522 : Shape := ⟨1, ![30522]⟩
abbrev S64x128 : Shape := ⟨2, ![64, 128]⟩
abbrev S1 : Shape := ⟨1, ![1]⟩
abbrev S30720x3584 : Shape := ⟨2, ![30720, 3584]⟩
abbrev S1x30522 : Shape := ⟨2, ![1, 30522]⟩
abbrev S64x30522 : Shape := ⟨2, ![64, 30522]⟩
abbrev S64x256 : Shape := ⟨2, ![64, 256]⟩
abbrev S928x3584 : Shape := ⟨2, ![928, 3584]⟩
abbrev S928x128 : Shape := ⟨2, ![928, 128]⟩
abbrev S1024x3584 : Shape := ⟨2, ![1024, 3584]⟩
abbrev S1x1024 : Shape := ⟨2, ![1, 1024]⟩
abbrev S64x1024 : Shape := ⟨2, ![64, 1024]⟩
abbrev S5x464x1792 : Shape := ⟨3, ![5, 464, 1792]⟩
abbrev S512x1792 : Shape := ⟨2, ![512, 1792]⟩
abbrev S2x2x464x512 : Shape := ⟨4, ![2, 2, 464, 512]⟩
abbrev S65x8x1024 : Shape := ⟨3, ![65, 8, 1024]⟩
abbrev S30x64x1024 : Shape := ⟨3, ![30, 64, 1024]⟩
abbrev S464x1792 : Shape := ⟨2, ![464, 1792]⟩
abbrev S1x464x1792 : Shape := ⟨3, ![1, 464, 1792]⟩
abbrev S512x1 : Shape := ⟨2, ![512, 1]⟩
abbrev S464x512 : Shape := ⟨2, ![464, 512]⟩
abbrev S1x1x464x512 : Shape := ⟨4, ![1, 1, 464, 512]⟩
abbrev S8x128 : Shape := ⟨2, ![8, 128]⟩
abbrev S1x1x8x128 : Shape := ⟨4, ![1, 1, 8, 128]⟩
abbrev S1x128 : Shape := ⟨2, ![1, 128]⟩
abbrev S1x8x128 : Shape := ⟨3, ![1, 8, 128]⟩
abbrev S64x1 : Shape := ⟨2, ![64, 1]⟩
abbrev S1x64x128 : Shape := ⟨3, ![1, 64, 128]⟩
abbrev S64x8x128 : Shape := ⟨3, ![64, 8, 128]⟩
abbrev S1x256 : Shape := ⟨2, ![1, 256]⟩
abbrev S256x128 : Shape := ⟨2, ![256, 128]⟩
abbrev S128x256 : Shape := ⟨2, ![128, 256]⟩
abbrev S256 : Shape := ⟨1, ![256]⟩

abbrev nBuf : Space → Nat
  | .hbm => 12
  | .vmem => 20
  | .smem => 4
  | _ => 0

abbrev bufTy : (tb : Table) → Fin (tcTables nBuf tb) → BufTy
  | .hbm, ⟨0, _⟩ => ⟨S16704x3584, .bf16⟩
  | .hbm, ⟨1, _⟩ => ⟨S16704x128, .f32⟩
  | .hbm, ⟨2, _⟩ => ⟨S30522x3584, .i8⟩
  | .hbm, ⟨3, _⟩ => ⟨S30522, .f32⟩
  | .hbm, ⟨4, _⟩ => ⟨S30522, .f32⟩
  | .hbm, ⟨5, _⟩ => ⟨S64x128, .i32⟩
  | .hbm, ⟨6, _⟩ => ⟨S_, .i8⟩
  | .hbm, ⟨7, _⟩ => ⟨S30720x3584, .i8⟩
  | .hbm, ⟨8, _⟩ => ⟨S1x30522, .f32⟩
  | .hbm, ⟨9, _⟩ => ⟨S1x30522, .f32⟩
  | .hbm, ⟨10, _⟩ => ⟨S64x30522, .bf16⟩
  | .hbm, ⟨11, _⟩ => ⟨S64x256, .f32⟩
  | .local _ .vmem, ⟨0, _⟩ => ⟨S928x3584, .bf16⟩
  | .local _ .vmem, ⟨1, _⟩ => ⟨S928x3584, .bf16⟩
  | .local _ .vmem, ⟨2, _⟩ => ⟨S928x128, .f32⟩
  | .local _ .vmem, ⟨3, _⟩ => ⟨S928x128, .f32⟩
  | .local _ .vmem, ⟨4, _⟩ => ⟨S1024x3584, .i8⟩
  | .local _ .vmem, ⟨5, _⟩ => ⟨S1024x3584, .i8⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S64x128, .i32⟩
  | .local _ .vmem, ⟨11, _⟩ => ⟨S64x1024, .bf16⟩
  | .local _ .vmem, ⟨12, _⟩ => ⟨S64x1024, .bf16⟩
  | .local _ .vmem, ⟨13, _⟩ => ⟨S64x256, .f32⟩
  | .local _ .vmem, ⟨14, _⟩ => ⟨S5x464x1792, .bf16⟩
  | .local _ .vmem, ⟨15, _⟩ => ⟨S512x1792, .bf16⟩
  | .local _ .vmem, ⟨16, _⟩ => ⟨S2x2x464x512, .f32⟩
  | .local _ .vmem, ⟨17, _⟩ => ⟨S65x8x1024, .f32⟩
  | .local _ .vmem, ⟨18, _⟩ => ⟨S30x64x1024, .f32⟩
  | .local _ .vmem, ⟨19, _⟩ => ⟨S16704x128, .f32⟩
  | .local _ .smem, ⟨0, _⟩ => ⟨S_, .i32⟩
  | .local _ .smem, ⟨1, _⟩ => ⟨S1, .i32⟩
  | .local _ .smem, ⟨2, _⟩ => ⟨S64, .i32⟩
  | .local _ .smem, ⟨3, _⟩ => ⟨S6144, .i32⟩
  | _, _ => ⟨S16704x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_arg0 : Ref sig .tc := ⟨.smem, 0, rfl⟩
abbrev main_v0 : Ref sig .tc := ⟨.smem, 1, rfl⟩
abbrev main_arg1 : Ref sig .tc := ⟨.smem, 2, rfl⟩
abbrev main_arg2 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![0, 30], ![true, false]⟩

abbrev pre0 : Pipeline.Prefetch sig := ⟨4, ![main_arg0.idx, main_v0.idx, main_arg1.idx, main_arg2.idx], fun | 0 => main_arg0.names | 1 => main_v0.names | 2 => main_arg1.names | 3 => main_arg2.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def dynb0 (pf : pre0.Contents (Elt F)) : grid0.Bounds := ![(pf 0 fun a => a.elim0).toNat, 30]

def k0_cond1 (i : grid0.Static) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (arg0 : BitVec 32) : Fin 2 → Nat :=
  let c928_i32_361 : BitVec 32 := 928#32
  let v525 : BitVec 32 := Scalar.muli arg0 c928_i32_361
  let v526 : Index := Scalar.indexCast v525
  let c0_362 : Index := 0#32
  ![v526.toNat, 0]

@[reducible] def k0_t1_loop : Scf.Loop 32 :=
  let c0_i32_203 : BitVec 32 := 0#32
  let c58_i32 : BitVec 32 := 58#32
  let v292 : BitVec 32 := Scalar.addi c0_i32_203 c58_i32
  let c1_i32 : BitVec 32 := 1#32
  ⟨c0_i32_203, v292, c1_i32⟩
def k0_mult1 (k0_t1 : Fin k0_t1_loop.trips) : BitVec 32 :=
  let c0_i32_203 : BitVec 32 := 0#32
  let c1_i32 : BitVec 32 := 1#32
  let arg19 : BitVec 32 := Scf.iv c0_i32_203 c1_i32 k0_t1
  let c8_i32 : BitVec 32 := 8#32
  let v494 : BitVec 32 := Scalar.muli arg19 c8_i32
  v494
def k0_mult2 (k0_t1 : Fin k0_t1_loop.trips) : BitVec 32 :=
  let c0_i32_325 : BitVec 32 := 0#32
  let c0_i32_203 : BitVec 32 := 0#32
  let c1_i32 : BitVec 32 := 1#32
  let arg19 : BitVec 32 := Scf.iv c0_i32_203 c1_i32 k0_t1
  let v496 : BitVec 32 := Scalar.addi c0_i32_325 arg19
  let c8_i32_326 : BitVec 32 := 8#32
  let v497 : BitVec 32 := Scalar.muli v496 c8_i32_326
  v497
def k0_off2 (arg0 : BitVec 32) (k0_t1 : Fin k0_t1_loop.trips) : Fin 1 → Nat :=
  let c116_i32 : BitVec 32 := 116#32
  let v283 : BitVec 32 := Scalar.muli arg0 c116_i32
  let c0_i32_327 : BitVec 32 := 0#32
  let v499 : BitVec 32 := Scalar.addi v283 c0_i32_327
  let c0_i32_203 : BitVec 32 := 0#32
  let c1_i32 : BitVec 32 := 1#32
  let arg19 : BitVec 32 := Scf.iv c0_i32_203 c1_i32 k0_t1
  let v500 : BitVec 32 := Scalar.addi v499 arg19
  let v501 : Index := Scalar.indexCast v500
  ![v501.toNat]
def k0_off3 (arg0 : BitVec 32) (k0_t1 : Fin k0_t1_loop.trips) : Fin 1 → Nat :=
  let c116_i32 : BitVec 32 := 116#32
  let v283 : BitVec 32 := Scalar.muli arg0 c116_i32
  let c0_i32_327 : BitVec 32 := 0#32
  let v499 : BitVec 32 := Scalar.addi v283 c0_i32_327
  let c0_i32_203 : BitVec 32 := 0#32
  let c1_i32 : BitVec 32 := 1#32
  let arg19 : BitVec 32 := Scf.iv c0_i32_203 c1_i32 k0_t1
  let v500 : BitVec 32 := Scalar.addi v499 arg19
  let c1_i32_328 : BitVec 32 := 1#32
  let v503 : BitVec 32 := Scalar.addi v500 c1_i32_328
  let v504 : Index := Scalar.indexCast v503
  ![v504.toNat]
def k0_off4 (arg0 : BitVec 32) (k0_t1 : Fin k0_t1_loop.trips) : Fin 1 → Nat :=
  let c3072_i32 : BitVec 32 := 3072#32
  let c116_i32 : BitVec 32 := 116#32
  let v283 : BitVec 32 := Scalar.muli arg0 c116_i32
  let c0_i32_327 : BitVec 32 := 0#32
  let v499 : BitVec 32 := Scalar.addi v283 c0_i32_327
  let c0_i32_203 : BitVec 32 := 0#32
  let c1_i32 : BitVec 32 := 1#32
  let arg19 : BitVec 32 := Scf.iv c0_i32_203 c1_i32 k0_t1
  let v500 : BitVec 32 := Scalar.addi v499 arg19
  let v506 : BitVec 32 := Scalar.addi c3072_i32 v500
  let v507 : Index := Scalar.indexCast v506
  ![v507.toNat]
def k0_off5 (k0_t1 : Fin k0_t1_loop.trips) : Fin 2 → Nat :=
  let c0_i32_325 : BitVec 32 := 0#32
  let c0_i32_203 : BitVec 32 := 0#32
  let c1_i32 : BitVec 32 := 1#32
  let arg19 : BitVec 32 := Scf.iv c0_i32_203 c1_i32 k0_t1
  let v496 : BitVec 32 := Scalar.addi c0_i32_325 arg19
  let c8_i32_326 : BitVec 32 := 8#32
  let v497 : BitVec 32 := Scalar.muli v496 c8_i32_326
  let v498 : BitVec 32 := v497
  let v513 : Index := Scalar.indexCast v498
  let c0_329 : Index := 0#32
  ![v513.toNat, 0]
def k0_mult3 (arg0 : BitVec 32) (k0_t1 : Fin k0_t1_loop.trips) : BitVec 32 :=
  let c116_i32 : BitVec 32 := 116#32
  let v283 : BitVec 32 := Scalar.muli arg0 c116_i32
  let c0_i32_327 : BitVec 32 := 0#32
  let v499 : BitVec 32 := Scalar.addi v283 c0_i32_327
  let c0_i32_203 : BitVec 32 := 0#32
  let c1_i32 : BitVec 32 := 1#32
  let arg19 : BitVec 32 := Scf.iv c0_i32_203 c1_i32 k0_t1
  let v500 : BitVec 32 := Scalar.addi v499 arg19
  let c8_i32_330 : BitVec 32 := 8#32
  let v515 : BitVec 32 := Scalar.muli v500 c8_i32_330
  v515
def k0_off6 (arg0 : BitVec 32) (k0_t1 : Fin k0_t1_loop.trips) : Fin 2 → Nat :=
  let c116_i32 : BitVec 32 := 116#32
  let v283 : BitVec 32 := Scalar.muli arg0 c116_i32
  let c0_i32_327 : BitVec 32 := 0#32
  let v499 : BitVec 32 := Scalar.addi v283 c0_i32_327
  let c0_i32_203 : BitVec 32 := 0#32
  let c1_i32 : BitVec 32 := 1#32
  let arg19 : BitVec 32 := Scf.iv c0_i32_203 c1_i32 k0_t1
  let v500 : BitVec 32 := Scalar.addi v499 arg19
  let c8_i32_330 : BitVec 32 := 8#32
  let v515 : BitVec 32 := Scalar.muli v500 c8_i32_330
  let v516 : BitVec 32 := v515
  let v517 : Index := Scalar.indexCast v516
  let c0_331 : Index := 0#32
  ![v517.toNat, 0]
def k0_off7 (k0_t1 : Fin k0_t1_loop.trips) : Fin 4 → Nat :=
  let c0_332 : Index := 0#32
  let c0_333 : Index := 0#32
  let c0_i32_203 : BitVec 32 := 0#32
  let c1_i32 : BitVec 32 := 1#32
  let arg19 : BitVec 32 := Scf.iv c0_i32_203 c1_i32 k0_t1
  let c8_i32 : BitVec 32 := 8#32
  let v494 : BitVec 32 := Scalar.muli arg19 c8_i32
  let v495 : BitVec 32 := v494
  let v519 : Index := Scalar.indexCast v495
  let c0_334 : Index := 0#32
  ![0, 0, v519.toNat, 0]
def k0_off8 (v502 : BitVec 32) : Fin 3 → Nat :=
  let v541 : Index := Scalar.indexCast v502
  let c0_338 : Index := 0#32
  let c0_339 : Index := 0#32
  ![v541.toNat, 0, 0]

def k0_off9 (k0_t1 : Fin k0_t1_loop.trips) : Fin 4 → Nat :=
  let c0_341 : Index := 0#32
  let c0_342 : Index := 0#32
  let c0_i32_203 : BitVec 32 := 0#32
  let c1_i32 : BitVec 32 := 1#32
  let arg19 : BitVec 32 := Scf.iv c0_i32_203 c1_i32 k0_t1
  let c8_i32 : BitVec 32 := 8#32
  let v494 : BitVec 32 := Scalar.muli arg19 c8_i32
  let v495 : BitVec 32 := v494
  let v548 : Index := Scalar.indexCast v495
  let c128_343 : Index := 128#32
  ![0, 0, v548.toNat, 128]
def k0_off10 (v502 : BitVec 32) : Fin 3 → Nat :=
  let v570 : Index := Scalar.indexCast v502
  let c0_347 : Index := 0#32
  let c128_348 : Index := 128#32
  ![v570.toNat, 0, 128]
def k0_off11 (k0_t1 : Fin k0_t1_loop.trips) : Fin 4 → Nat :=
  let c0_350 : Index := 0#32
  let c0_351 : Index := 0#32
  let c0_i32_203 : BitVec 32 := 0#32
  let c1_i32 : BitVec 32 := 1#32
  let arg19 : BitVec 32 := Scf.iv c0_i32_203 c1_i32 k0_t1
  let c8_i32 : BitVec 32 := 8#32
  let v494 : BitVec 32 := Scalar.muli arg19 c8_i32
  let v495 : BitVec 32 := v494
  let v577 : Index := Scalar.indexCast v495
  let c256_352 : Index := 256#32
  ![0, 0, v577.toNat, 256]
def k0_off12 (v502 : BitVec 32) : Fin 3 → Nat :=
  let v599 : Index := Scalar.indexCast v502
  let c0_356 : Index := 0#32
  let c256_357 : Index := 256#32
  ![v599.toNat, 0, 256]
def k0_off13 (k0_t1 : Fin k0_t1_loop.trips) : Fin 4 → Nat :=
  let c0_359 : Index := 0#32
  let c0_360 : Index := 0#32
  let c0_i32_203 : BitVec 32 := 0#32
  let c1_i32 : BitVec 32 := 1#32
  let arg19 : BitVec 32 := Scf.iv c0_i32_203 c1_i32 k0_t1
  let c8_i32 : BitVec 32 := 8#32
  let v494 : BitVec 32 := Scalar.muli arg19 c8_i32
  let v495 : BitVec 32 := v494
  let v606 : Index := Scalar.indexCast v495
  let c384_361 : Index := 384#32
  ![0, 0, v606.toNat, 384]
def k0_off14 (v502 : BitVec 32) : Fin 3 → Nat :=
  let v628 : Index := Scalar.indexCast v502
  let c0_365 : Index := 0#32
  let c384_366 : Index := 384#32
  ![v628.toNat, 0, 384]
def k0_off15 (k0_t1 : Fin k0_t1_loop.trips) : Fin 4 → Nat :=
  let c0_368 : Index := 0#32
  let c1_369 : Index := 1#32
  let c0_i32_203 : BitVec 32 := 0#32
  let c1_i32 : BitVec 32 := 1#32
  let arg19 : BitVec 32 := Scf.iv c0_i32_203 c1_i32 k0_t1
  let c8_i32 : BitVec 32 := 8#32
  let v494 : BitVec 32 := Scalar.muli arg19 c8_i32
  let v495 : BitVec 32 := v494
  let v635 : Index := Scalar.indexCast v495
  let c0_370 : Index := 0#32
  ![0, 1, v635.toNat, 0]
def k0_off16 (v502 : BitVec 32) : Fin 3 → Nat :=
  let v657 : Index := Scalar.indexCast v502
  let c0_374 : Index := 0#32
  let c512_375 : Index := 512#32
  ![v657.toNat, 0, 512]
def k0_off17 (k0_t1 : Fin k0_t1_loop.trips) : Fin 4 → Nat :=
  let c0_377 : Index := 0#32
  let c1_378 : Index := 1#32
  let c0_i32_203 : BitVec 32 := 0#32
  let c1_i32 : BitVec 32 := 1#32
  let arg19 : BitVec 32 := Scf.iv c0_i32_203 c1_i32 k0_t1
  let c8_i32 : BitVec 32 := 8#32
  let v494 : BitVec 32 := Scalar.muli arg19 c8_i32
  let v495 : BitVec 32 := v494
  let v664 : Index := Scalar.indexCast v495
  let c128_379 : Index := 128#32
  ![0, 1, v664.toNat, 128]
def k0_off18 (v502 : BitVec 32) : Fin 3 → Nat :=
  let v686 : Index := Scalar.indexCast v502
  let c0_383 : Index := 0#32
  let c640_384 : Index := 640#32
  ![v686.toNat, 0, 640]
def k0_off19 (k0_t1 : Fin k0_t1_loop.trips) : Fin 4 → Nat :=
  let c0_386 : Index := 0#32
  let c1_387 : Index := 1#32
  let c0_i32_203 : BitVec 32 := 0#32
  let c1_i32 : BitVec 32 := 1#32
  let arg19 : BitVec 32 := Scf.iv c0_i32_203 c1_i32 k0_t1
  let c8_i32 : BitVec 32 := 8#32
  let v494 : BitVec 32 := Scalar.muli arg19 c8_i32
  let v495 : BitVec 32 := v494
  let v693 : Index := Scalar.indexCast v495
  let c256_388 : Index := 256#32
  ![0, 1, v693.toNat, 256]
def k0_off20 (v502 : BitVec 32) : Fin 3 → Nat :=
  let v715 : Index := Scalar.indexCast v502
  let c0_392 : Index := 0#32
  let c768_393 : Index := 768#32
  ![v715.toNat, 0, 768]
def k0_off21 (k0_t1 : Fin k0_t1_loop.trips) : Fin 4 → Nat :=
  let c0_395 : Index := 0#32
  let c1_396 : Index := 1#32
  let c0_i32_203 : BitVec 32 := 0#32
  let c1_i32 : BitVec 32 := 1#32
  let arg19 : BitVec 32 := Scf.iv c0_i32_203 c1_i32 k0_t1
  let c8_i32 : BitVec 32 := 8#32
  let v494 : BitVec 32 := Scalar.muli arg19 c8_i32
  let v495 : BitVec 32 := v494
  let v722 : Index := Scalar.indexCast v495
  let c384_397 : Index := 384#32
  ![0, 1, v722.toNat, 384]
def k0_off22 (v502 : BitVec 32) : Fin 3 → Nat :=
  let v744 : Index := Scalar.indexCast v502
  let c0_401 : Index := 0#32
  let c896_402 : Index := 896#32
  ![v744.toNat, 0, 896]

def k0_chk2 (v502 : BitVec 32) : Prop :=
  (∀ a, (k0_off8 v502) a + S1x8x128.size a ≤ S65x8x1024.size a) ∧
  (∀ a, (k0_off10 v502) a + S1x8x128.size a ≤ S65x8x1024.size a) ∧
  (∀ a, (k0_off12 v502) a + S1x8x128.size a ≤ S65x8x1024.size a) ∧
  (∀ a, (k0_off14 v502) a + S1x8x128.size a ≤ S65x8x1024.size a) ∧
  (∀ a, (k0_off16 v502) a + S1x8x128.size a ≤ S65x8x1024.size a) ∧
  (∀ a, (k0_off18 v502) a + S1x8x128.size a ≤ S65x8x1024.size a) ∧
  (∀ a, (k0_off20 v502) a + S1x8x128.size a ≤ S65x8x1024.size a) ∧
  (∀ a, (k0_off22 v502) a + S1x8x128.size a ≤ S65x8x1024.size a)
theorem k0_off8_inb : ∀ (v502 : BitVec 32) (k0_hw2 : k0_chk2 v502), ∀ a, (k0_off8 v502) a + S1x8x128.size a ≤ S65x8x1024.size a := fun v502 k0_hw2 => k0_hw2.1
theorem k0_off10_inb : ∀ (v502 : BitVec 32) (k0_hw2 : k0_chk2 v502), ∀ a, (k0_off10 v502) a + S1x8x128.size a ≤ S65x8x1024.size a := fun v502 k0_hw2 => k0_hw2.2.1
theorem k0_off12_inb : ∀ (v502 : BitVec 32) (k0_hw2 : k0_chk2 v502), ∀ a, (k0_off12 v502) a + S1x8x128.size a ≤ S65x8x1024.size a := fun v502 k0_hw2 => k0_hw2.2.2.1
theorem k0_off14_inb : ∀ (v502 : BitVec 32) (k0_hw2 : k0_chk2 v502), ∀ a, (k0_off14 v502) a + S1x8x128.size a ≤ S65x8x1024.size a := fun v502 k0_hw2 => k0_hw2.2.2.2.1
theorem k0_off16_inb : ∀ (v502 : BitVec 32) (k0_hw2 : k0_chk2 v502), ∀ a, (k0_off16 v502) a + S1x8x128.size a ≤ S65x8x1024.size a := fun v502 k0_hw2 => k0_hw2.2.2.2.2.1
theorem k0_off18_inb : ∀ (v502 : BitVec 32) (k0_hw2 : k0_chk2 v502), ∀ a, (k0_off18 v502) a + S1x8x128.size a ≤ S65x8x1024.size a := fun v502 k0_hw2 => k0_hw2.2.2.2.2.2.1
theorem k0_off20_inb : ∀ (v502 : BitVec 32) (k0_hw2 : k0_chk2 v502), ∀ a, (k0_off20 v502) a + S1x8x128.size a ≤ S65x8x1024.size a := fun v502 k0_hw2 => k0_hw2.2.2.2.2.2.2.1
theorem k0_off22_inb : ∀ (v502 : BitVec 32) (k0_hw2 : k0_chk2 v502), ∀ a, (k0_off22 v502) a + S1x8x128.size a ≤ S65x8x1024.size a := fun v502 k0_hw2 => k0_hw2.2.2.2.2.2.2.2

def k0_off23 (arg0 : BitVec 32) (k0_t1 : Fin k0_t1_loop.trips) : Fin 2 → Nat :=
  let c116_i32 : BitVec 32 := 116#32
  let v283 : BitVec 32 := Scalar.muli arg0 c116_i32
  let c0_i32_327 : BitVec 32 := 0#32
  let v499 : BitVec 32 := Scalar.addi v283 c0_i32_327
  let c0_i32_203 : BitVec 32 := 0#32
  let c1_i32 : BitVec 32 := 1#32
  let arg19 : BitVec 32 := Scf.iv c0_i32_203 c1_i32 k0_t1
  let v500 : BitVec 32 := Scalar.addi v499 arg19
  let c8_i32_330 : BitVec 32 := 8#32
  let v515 : BitVec 32 := Scalar.muli v500 c8_i32_330
  let v516 : BitVec 32 := v515
  let v751 : Index := Scalar.indexCast v516
  let c0_404 : Index := 0#32
  ![v751.toNat, 0]
@[reducible] def k0_t2_loop : Scf.Loop 32 :=
  let c0_i32_205 : BitVec 32 := 0#32
  let c58_i32_206 : BitVec 32 := 58#32
  let v294 : BitVec 32 := Scalar.addi c0_i32_205 c58_i32_206
  let c1_i32_207 : BitVec 32 := 1#32
  ⟨c0_i32_205, v294, c1_i32_207⟩
def k0_mult4 (k0_t2 : Fin k0_t2_loop.trips) : BitVec 32 :=
  let c0_i32_205 : BitVec 32 := 0#32
  let c1_i32_207 : BitVec 32 := 1#32
  let arg19 : BitVec 32 := Scf.iv c0_i32_205 c1_i32_207 k0_t2
  let c8_i32 : BitVec 32 := 8#32
  let v494 : BitVec 32 := Scalar.muli arg19 c8_i32
  v494
def k0_mult5 (k0_t2 : Fin k0_t2_loop.trips) : BitVec 32 :=
  let c58_i32_325 : BitVec 32 := 58#32
  let c0_i32_205 : BitVec 32 := 0#32
  let c1_i32_207 : BitVec 32 := 1#32
  let arg19 : BitVec 32 := Scf.iv c0_i32_205 c1_i32_207 k0_t2
  let v496 : BitVec 32 := Scalar.addi c58_i32_325 arg19
  let c8_i32_326 : BitVec 32 := 8#32
  let v497 : BitVec 32 := Scalar.muli v496 c8_i32_326
  v497
def k0_off24 (arg0 : BitVec 32) (k0_t2 : Fin k0_t2_loop.trips) : Fin 1 → Nat :=
  let c116_i32 : BitVec 32 := 116#32
  let v283 : BitVec 32 := Scalar.muli arg0 c116_i32
  let c58_i32_327 : BitVec 32 := 58#32
  let v499 : BitVec 32 := Scalar.addi v283 c58_i32_327
  let c0_i32_205 : BitVec 32 := 0#32
  let c1_i32_207 : BitVec 32 := 1#32
  let arg19 : BitVec 32 := Scf.iv c0_i32_205 c1_i32_207 k0_t2
  let v500 : BitVec 32 := Scalar.addi v499 arg19
  let v501 : Index := Scalar.indexCast v500
  ![v501.toNat]
def k0_off25 (arg0 : BitVec 32) (k0_t2 : Fin k0_t2_loop.trips) : Fin 1 → Nat :=
  let c116_i32 : BitVec 32 := 116#32
  let v283 : BitVec 32 := Scalar.muli arg0 c116_i32
  let c58_i32_327 : BitVec 32 := 58#32
  let v499 : BitVec 32 := Scalar.addi v283 c58_i32_327
  let c0_i32_205 : BitVec 32 := 0#32
  let c1_i32_207 : BitVec 32 := 1#32
  let arg19 : BitVec 32 := Scf.iv c0_i32_205 c1_i32_207 k0_t2
  let v500 : BitVec 32 := Scalar.addi v499 arg19
  let c1_i32_328 : BitVec 32 := 1#32
  let v503 : BitVec 32 := Scalar.addi v500 c1_i32_328
  let v504 : Index := Scalar.indexCast v503
  ![v504.toNat]
def k0_off26 (arg0 : BitVec 32) (k0_t2 : Fin k0_t2_loop.trips) : Fin 1 → Nat :=
  let c3072_i32 : BitVec 32 := 3072#32
  let c116_i32 : BitVec 32 := 116#32
  let v283 : BitVec 32 := Scalar.muli arg0 c116_i32
  let c58_i32_327 : BitVec 32 := 58#32
  let v499 : BitVec 32 := Scalar.addi v283 c58_i32_327
  let c0_i32_205 : BitVec 32 := 0#32
  let c1_i32_207 : BitVec 32 := 1#32
  let arg19 : BitVec 32 := Scf.iv c0_i32_205 c1_i32_207 k0_t2
  let v500 : BitVec 32 := Scalar.addi v499 arg19
  let v506 : BitVec 32 := Scalar.addi c3072_i32 v500
  let v507 : Index := Scalar.indexCast v506
  ![v507.toNat]
def k0_off27 (k0_t2 : Fin k0_t2_loop.trips) : Fin 2 → Nat :=
  let c58_i32_325 : BitVec 32 := 58#32
  let c0_i32_205 : BitVec 32 := 0#32
  let c1_i32_207 : BitVec 32 := 1#32
  let arg19 : BitVec 32 := Scf.iv c0_i32_205 c1_i32_207 k0_t2
  let v496 : BitVec 32 := Scalar.addi c58_i32_325 arg19
  let c8_i32_326 : BitVec 32 := 8#32
  let v497 : BitVec 32 := Scalar.muli v496 c8_i32_326
  let v498 : BitVec 32 := v497
  let v513 : Index := Scalar.indexCast v498
  let c0_329 : Index := 0#32
  ![v513.toNat, 0]
def k0_mult6 (arg0 : BitVec 32) (k0_t2 : Fin k0_t2_loop.trips) : BitVec 32 :=
  let c116_i32 : BitVec 32 := 116#32
  let v283 : BitVec 32 := Scalar.muli arg0 c116_i32
  let c58_i32_327 : BitVec 32 := 58#32
  let v499 : BitVec 32 := Scalar.addi v283 c58_i32_327
  let c0_i32_205 : BitVec 32 := 0#32
  let c1_i32_207 : BitVec 32 := 1#32
  let arg19 : BitVec 32 := Scf.iv c0_i32_205 c1_i32_207 k0_t2
  let v500 : BitVec 32 := Scalar.addi v499 arg19
  let c8_i32_330 : BitVec 32 := 8#32
  let v515 : BitVec 32 := Scalar.muli v500 c8_i32_330
  v515
def k0_off28 (arg0 : BitVec 32) (k0_t2 : Fin k0_t2_loop.trips) : Fin 2 → Nat :=
  let c116_i32 : BitVec 32 := 116#32
  let v283 : BitVec 32 := Scalar.muli arg0 c116_i32
  let c58_i32_327 : BitVec 32 := 58#32
  let v499 : BitVec 32 := Scalar.addi v283 c58_i32_327
  let c0_i32_205 : BitVec 32 := 0#32
  let c1_i32_207 : BitVec 32 := 1#32
  let arg19 : BitVec 32 := Scf.iv c0_i32_205 c1_i32_207 k0_t2
  let v500 : BitVec 32 := Scalar.addi v499 arg19
  let c8_i32_330 : BitVec 32 := 8#32
  let v515 : BitVec 32 := Scalar.muli v500 c8_i32_330
  let v516 : BitVec 32 := v515
  let v517 : Index := Scalar.indexCast v516
  let c0_331 : Index := 0#32
  ![v517.toNat, 0]
def k0_off29 (k0_t2 : Fin k0_t2_loop.trips) : Fin 4 → Nat :=
  let c1_332 : Index := 1#32
  let c0_333 : Index := 0#32
  let c0_i32_205 : BitVec 32 := 0#32
  let c1_i32_207 : BitVec 32 := 1#32
  let arg19 : BitVec 32 := Scf.iv c0_i32_205 c1_i32_207 k0_t2
  let c8_i32 : BitVec 32 := 8#32
  let v494 : BitVec 32 := Scalar.muli arg19 c8_i32
  let v495 : BitVec 32 := v494
  let v519 : Index := Scalar.indexCast v495
  let c0_334 : Index := 0#32
  ![1, 0, v519.toNat, 0]
def k0_off30 (v502 : BitVec 32) : Fin 3 → Nat :=
  let v541 : Index := Scalar.indexCast v502
  let c0_338 : Index := 0#32
  let c0_339 : Index := 0#32
  ![v541.toNat, 0, 0]

def k0_off31 (k0_t2 : Fin k0_t2_loop.trips) : Fin 4 → Nat :=
  let c1_341 : Index := 1#32
  let c0_342 : Index := 0#32
  let c0_i32_205 : BitVec 32 := 0#32
  let c1_i32_207 : BitVec 32 := 1#32
  let arg19 : BitVec 32 := Scf.iv c0_i32_205 c1_i32_207 k0_t2
  let c8_i32 : BitVec 32 := 8#32
  let v494 : BitVec 32 := Scalar.muli arg19 c8_i32
  let v495 : BitVec 32 := v494
  let v548 : Index := Scalar.indexCast v495
  let c128_343 : Index := 128#32
  ![1, 0, v548.toNat, 128]
def k0_off32 (v502 : BitVec 32) : Fin 3 → Nat :=
  let v570 : Index := Scalar.indexCast v502
  let c0_347 : Index := 0#32
  let c128_348 : Index := 128#32
  ![v570.toNat, 0, 128]
def k0_off33 (k0_t2 : Fin k0_t2_loop.trips) : Fin 4 → Nat :=
  let c1_350 : Index := 1#32
  let c0_351 : Index := 0#32
  let c0_i32_205 : BitVec 32 := 0#32
  let c1_i32_207 : BitVec 32 := 1#32
  let arg19 : BitVec 32 := Scf.iv c0_i32_205 c1_i32_207 k0_t2
  let c8_i32 : BitVec 32 := 8#32
  let v494 : BitVec 32 := Scalar.muli arg19 c8_i32
  let v495 : BitVec 32 := v494
  let v577 : Index := Scalar.indexCast v495
  let c256_352 : Index := 256#32
  ![1, 0, v577.toNat, 256]
def k0_off34 (v502 : BitVec 32) : Fin 3 → Nat :=
  let v599 : Index := Scalar.indexCast v502
  let c0_356 : Index := 0#32
  let c256_357 : Index := 256#32
  ![v599.toNat, 0, 256]
def k0_off35 (k0_t2 : Fin k0_t2_loop.trips) : Fin 4 → Nat :=
  let c1_359 : Index := 1#32
  let c0_360 : Index := 0#32
  let c0_i32_205 : BitVec 32 := 0#32
  let c1_i32_207 : BitVec 32 := 1#32
  let arg19 : BitVec 32 := Scf.iv c0_i32_205 c1_i32_207 k0_t2
  let c8_i32 : BitVec 32 := 8#32
  let v494 : BitVec 32 := Scalar.muli arg19 c8_i32
  let v495 : BitVec 32 := v494
  let v606 : Index := Scalar.indexCast v495
  let c384_361 : Index := 384#32
  ![1, 0, v606.toNat, 384]
def k0_off36 (v502 : BitVec 32) : Fin 3 → Nat :=
  let v628 : Index := Scalar.indexCast v502
  let c0_365 : Index := 0#32
  let c384_366 : Index := 384#32
  ![v628.toNat, 0, 384]
def k0_off37 (k0_t2 : Fin k0_t2_loop.trips) : Fin 4 → Nat :=
  let c1_368 : Index := 1#32
  let c1_369 : Index := 1#32
  let c0_i32_205 : BitVec 32 := 0#32
  let c1_i32_207 : BitVec 32 := 1#32
  let arg19 : BitVec 32 := Scf.iv c0_i32_205 c1_i32_207 k0_t2
  let c8_i32 : BitVec 32 := 8#32
  let v494 : BitVec 32 := Scalar.muli arg19 c8_i32
  let v495 : BitVec 32 := v494
  let v635 : Index := Scalar.indexCast v495
  let c0_370 : Index := 0#32
  ![1, 1, v635.toNat, 0]
def k0_off38 (v502 : BitVec 32) : Fin 3 → Nat :=
  let v657 : Index := Scalar.indexCast v502
  let c0_374 : Index := 0#32
  let c512_375 : Index := 512#32
  ![v657.toNat, 0, 512]
def k0_off39 (k0_t2 : Fin k0_t2_loop.trips) : Fin 4 → Nat :=
  let c1_377 : Index := 1#32
  let c1_378 : Index := 1#32
  let c0_i32_205 : BitVec 32 := 0#32
  let c1_i32_207 : BitVec 32 := 1#32
  let arg19 : BitVec 32 := Scf.iv c0_i32_205 c1_i32_207 k0_t2
  let c8_i32 : BitVec 32 := 8#32
  let v494 : BitVec 32 := Scalar.muli arg19 c8_i32
  let v495 : BitVec 32 := v494
  let v664 : Index := Scalar.indexCast v495
  let c128_379 : Index := 128#32
  ![1, 1, v664.toNat, 128]
def k0_off40 (v502 : BitVec 32) : Fin 3 → Nat :=
  let v686 : Index := Scalar.indexCast v502
  let c0_383 : Index := 0#32
  let c640_384 : Index := 640#32
  ![v686.toNat, 0, 640]
def k0_off41 (k0_t2 : Fin k0_t2_loop.trips) : Fin 4 → Nat :=
  let c1_386 : Index := 1#32
  let c1_387 : Index := 1#32
  let c0_i32_205 : BitVec 32 := 0#32
  let c1_i32_207 : BitVec 32 := 1#32
  let arg19 : BitVec 32 := Scf.iv c0_i32_205 c1_i32_207 k0_t2
  let c8_i32 : BitVec 32 := 8#32
  let v494 : BitVec 32 := Scalar.muli arg19 c8_i32
  let v495 : BitVec 32 := v494
  let v693 : Index := Scalar.indexCast v495
  let c256_388 : Index := 256#32
  ![1, 1, v693.toNat, 256]
def k0_off42 (v502 : BitVec 32) : Fin 3 → Nat :=
  let v715 : Index := Scalar.indexCast v502
  let c0_392 : Index := 0#32
  let c768_393 : Index := 768#32
  ![v715.toNat, 0, 768]
def k0_off43 (k0_t2 : Fin k0_t2_loop.trips) : Fin 4 → Nat :=
  let c1_395 : Index := 1#32
  let c1_396 : Index := 1#32
  let c0_i32_205 : BitVec 32 := 0#32
  let c1_i32_207 : BitVec 32 := 1#32
  let arg19 : BitVec 32 := Scf.iv c0_i32_205 c1_i32_207 k0_t2
  let c8_i32 : BitVec 32 := 8#32
  let v494 : BitVec 32 := Scalar.muli arg19 c8_i32
  let v495 : BitVec 32 := v494
  let v722 : Index := Scalar.indexCast v495
  let c384_397 : Index := 384#32
  ![1, 1, v722.toNat, 384]
def k0_off44 (v502 : BitVec 32) : Fin 3 → Nat :=
  let v744 : Index := Scalar.indexCast v502
  let c0_401 : Index := 0#32
  let c896_402 : Index := 896#32
  ![v744.toNat, 0, 896]

def k0_chk3 (v502 : BitVec 32) : Prop :=
  (∀ a, (k0_off30 v502) a + S1x8x128.size a ≤ S65x8x1024.size a) ∧
  (∀ a, (k0_off32 v502) a + S1x8x128.size a ≤ S65x8x1024.size a) ∧
  (∀ a, (k0_off34 v502) a + S1x8x128.size a ≤ S65x8x1024.size a) ∧
  (∀ a, (k0_off36 v502) a + S1x8x128.size a ≤ S65x8x1024.size a) ∧
  (∀ a, (k0_off38 v502) a + S1x8x128.size a ≤ S65x8x1024.size a) ∧
  (∀ a, (k0_off40 v502) a + S1x8x128.size a ≤ S65x8x1024.size a) ∧
  (∀ a, (k0_off42 v502) a + S1x8x128.size a ≤ S65x8x1024.size a) ∧
  (∀ a, (k0_off44 v502) a + S1x8x128.size a ≤ S65x8x1024.size a)
theorem k0_off30_inb : ∀ (v502 : BitVec 32) (k0_hw3 : k0_chk3 v502), ∀ a, (k0_off30 v502) a + S1x8x128.size a ≤ S65x8x1024.size a := fun v502 k0_hw3 => k0_hw3.1
theorem k0_off32_inb : ∀ (v502 : BitVec 32) (k0_hw3 : k0_chk3 v502), ∀ a, (k0_off32 v502) a + S1x8x128.size a ≤ S65x8x1024.size a := fun v502 k0_hw3 => k0_hw3.2.1
theorem k0_off34_inb : ∀ (v502 : BitVec 32) (k0_hw3 : k0_chk3 v502), ∀ a, (k0_off34 v502) a + S1x8x128.size a ≤ S65x8x1024.size a := fun v502 k0_hw3 => k0_hw3.2.2.1
theorem k0_off36_inb : ∀ (v502 : BitVec 32) (k0_hw3 : k0_chk3 v502), ∀ a, (k0_off36 v502) a + S1x8x128.size a ≤ S65x8x1024.size a := fun v502 k0_hw3 => k0_hw3.2.2.2.1
theorem k0_off38_inb : ∀ (v502 : BitVec 32) (k0_hw3 : k0_chk3 v502), ∀ a, (k0_off38 v502) a + S1x8x128.size a ≤ S65x8x1024.size a := fun v502 k0_hw3 => k0_hw3.2.2.2.2.1
theorem k0_off40_inb : ∀ (v502 : BitVec 32) (k0_hw3 : k0_chk3 v502), ∀ a, (k0_off40 v502) a + S1x8x128.size a ≤ S65x8x1024.size a := fun v502 k0_hw3 => k0_hw3.2.2.2.2.2.1
theorem k0_off42_inb : ∀ (v502 : BitVec 32) (k0_hw3 : k0_chk3 v502), ∀ a, (k0_off42 v502) a + S1x8x128.size a ≤ S65x8x1024.size a := fun v502 k0_hw3 => k0_hw3.2.2.2.2.2.2.1
theorem k0_off44_inb : ∀ (v502 : BitVec 32) (k0_hw3 : k0_chk3 v502), ∀ a, (k0_off44 v502) a + S1x8x128.size a ≤ S65x8x1024.size a := fun v502 k0_hw3 => k0_hw3.2.2.2.2.2.2.2

def k0_off45 (arg0 : BitVec 32) (k0_t2 : Fin k0_t2_loop.trips) : Fin 2 → Nat :=
  let c116_i32 : BitVec 32 := 116#32
  let v283 : BitVec 32 := Scalar.muli arg0 c116_i32
  let c58_i32_327 : BitVec 32 := 58#32
  let v499 : BitVec 32 := Scalar.addi v283 c58_i32_327
  let c0_i32_205 : BitVec 32 := 0#32
  let c1_i32_207 : BitVec 32 := 1#32
  let arg19 : BitVec 32 := Scf.iv c0_i32_205 c1_i32_207 k0_t2
  let v500 : BitVec 32 := Scalar.addi v499 arg19
  let c8_i32_330 : BitVec 32 := 8#32
  let v515 : BitVec 32 := Scalar.muli v500 c8_i32_330
  let v516 : BitVec 32 := v515
  let v751 : Index := Scalar.indexCast v516
  let c0_404 : Index := 0#32
  ![v751.toNat, 0]
def k0_off46 (arg0 : BitVec 32) : Fin 1 → Nat :=
  let c116_i32 : BitVec 32 := 116#32
  let v283 : BitVec 32 := Scalar.muli arg0 c116_i32
  let c116_i32_209 : BitVec 32 := 116#32
  let v296 : BitVec 32 := Scalar.addi v283 c116_i32_209
  let v297 : Index := Scalar.indexCast v296
  ![v297.toNat]

def k0_chk1 (i : grid0.Static) (arg0 : BitVec 32) : Prop :=
  (∀ (k0_h1 : k0_cond1 i = 1#1), ∀ a, (k0_off1 arg0) a + S928x128.size a ≤ S16704x128.size a) ∧
  (∀ k0_t1 : Fin k0_t1_loop.trips, ∀ a, (k0_off2 arg0 k0_t1) a + S1.size a ≤ S6144.size a) ∧
  (∀ k0_t1 : Fin k0_t1_loop.trips, ∀ a, (k0_off3 arg0 k0_t1) a + S1.size a ≤ S6144.size a) ∧
  (∀ k0_t1 : Fin k0_t1_loop.trips, ∀ a, (k0_off4 arg0 k0_t1) a + S1.size a ≤ S6144.size a) ∧
  (∀ k0_t1 : Fin k0_t1_loop.trips, 8 ∣ (k0_mult3 arg0 k0_t1).toNat) ∧
  (∀ k0_t1 : Fin k0_t1_loop.trips, ∀ a, (k0_off6 arg0 k0_t1) a + S8x128.size a ≤ S16704x128.size a) ∧
  (∀ k0_t1 : Fin k0_t1_loop.trips, ∀ a, (k0_off23 arg0 k0_t1) a + S8x128.size a ≤ S16704x128.size a) ∧
  (∀ k0_t2 : Fin k0_t2_loop.trips, ∀ a, (k0_off24 arg0 k0_t2) a + S1.size a ≤ S6144.size a) ∧
  (∀ k0_t2 : Fin k0_t2_loop.trips, ∀ a, (k0_off25 arg0 k0_t2) a + S1.size a ≤ S6144.size a) ∧
  (∀ k0_t2 : Fin k0_t2_loop.trips, ∀ a, (k0_off26 arg0 k0_t2) a + S1.size a ≤ S6144.size a) ∧
  (∀ k0_t2 : Fin k0_t2_loop.trips, 8 ∣ (k0_mult6 arg0 k0_t2).toNat) ∧
  (∀ k0_t2 : Fin k0_t2_loop.trips, ∀ a, (k0_off28 arg0 k0_t2) a + S8x128.size a ≤ S16704x128.size a) ∧
  (∀ k0_t2 : Fin k0_t2_loop.trips, ∀ a, (k0_off45 arg0 k0_t2) a + S8x128.size a ≤ S16704x128.size a) ∧
  (∀ a, (k0_off46 arg0) a + S1.size a ≤ S6144.size a)
theorem k0_off1_inb : ∀ (i : grid0.Static) (arg0 : BitVec 32) (k0_hw1 : k0_chk1 i arg0), ∀ (k0_h1 : k0_cond1 i = 1#1), ∀ a, (k0_off1 arg0) a + S928x128.size a ≤ S16704x128.size a := fun i arg0 k0_hw1 k0_h1 => k0_hw1.1 k0_h1
theorem k0_off2_inb : ∀ (i : grid0.Static) (arg0 : BitVec 32) (k0_hw1 : k0_chk1 i arg0) (k0_t1 : Fin k0_t1_loop.trips), ∀ a, (k0_off2 arg0 k0_t1) a + S1.size a ≤ S6144.size a := fun i arg0 k0_hw1 k0_t1 => k0_hw1.2.1 k0_t1
theorem k0_off3_inb : ∀ (i : grid0.Static) (arg0 : BitVec 32) (k0_hw1 : k0_chk1 i arg0) (k0_t1 : Fin k0_t1_loop.trips), ∀ a, (k0_off3 arg0 k0_t1) a + S1.size a ≤ S6144.size a := fun i arg0 k0_hw1 k0_t1 => k0_hw1.2.2.1 k0_t1
theorem k0_off4_inb : ∀ (i : grid0.Static) (arg0 : BitVec 32) (k0_hw1 : k0_chk1 i arg0) (k0_t1 : Fin k0_t1_loop.trips), ∀ a, (k0_off4 arg0 k0_t1) a + S1.size a ≤ S6144.size a := fun i arg0 k0_hw1 k0_t1 => k0_hw1.2.2.2.1 k0_t1
theorem k0_mult3_dvd : ∀ (i : grid0.Static) (arg0 : BitVec 32) (k0_hw1 : k0_chk1 i arg0) (k0_t1 : Fin k0_t1_loop.trips), 8 ∣ (k0_mult3 arg0 k0_t1).toNat := fun i arg0 k0_hw1 k0_t1 => k0_hw1.2.2.2.2.1 k0_t1
theorem k0_off6_inb : ∀ (i : grid0.Static) (arg0 : BitVec 32) (k0_hw1 : k0_chk1 i arg0) (k0_t1 : Fin k0_t1_loop.trips), ∀ a, (k0_off6 arg0 k0_t1) a + S8x128.size a ≤ S16704x128.size a := fun i arg0 k0_hw1 k0_t1 => k0_hw1.2.2.2.2.2.1 k0_t1
theorem k0_off23_inb : ∀ (i : grid0.Static) (arg0 : BitVec 32) (k0_hw1 : k0_chk1 i arg0) (k0_t1 : Fin k0_t1_loop.trips), ∀ a, (k0_off23 arg0 k0_t1) a + S8x128.size a ≤ S16704x128.size a := fun i arg0 k0_hw1 k0_t1 => k0_hw1.2.2.2.2.2.2.1 k0_t1
theorem k0_off24_inb : ∀ (i : grid0.Static) (arg0 : BitVec 32) (k0_hw1 : k0_chk1 i arg0) (k0_t2 : Fin k0_t2_loop.trips), ∀ a, (k0_off24 arg0 k0_t2) a + S1.size a ≤ S6144.size a := fun i arg0 k0_hw1 k0_t2 => k0_hw1.2.2.2.2.2.2.2.1 k0_t2
theorem k0_off25_inb : ∀ (i : grid0.Static) (arg0 : BitVec 32) (k0_hw1 : k0_chk1 i arg0) (k0_t2 : Fin k0_t2_loop.trips), ∀ a, (k0_off25 arg0 k0_t2) a + S1.size a ≤ S6144.size a := fun i arg0 k0_hw1 k0_t2 => k0_hw1.2.2.2.2.2.2.2.2.1 k0_t2
theorem k0_off26_inb : ∀ (i : grid0.Static) (arg0 : BitVec 32) (k0_hw1 : k0_chk1 i arg0) (k0_t2 : Fin k0_t2_loop.trips), ∀ a, (k0_off26 arg0 k0_t2) a + S1.size a ≤ S6144.size a := fun i arg0 k0_hw1 k0_t2 => k0_hw1.2.2.2.2.2.2.2.2.2.1 k0_t2
theorem k0_mult6_dvd : ∀ (i : grid0.Static) (arg0 : BitVec 32) (k0_hw1 : k0_chk1 i arg0) (k0_t2 : Fin k0_t2_loop.trips), 8 ∣ (k0_mult6 arg0 k0_t2).toNat := fun i arg0 k0_hw1 k0_t2 => k0_hw1.2.2.2.2.2.2.2.2.2.2.1 k0_t2
theorem k0_off28_inb : ∀ (i : grid0.Static) (arg0 : BitVec 32) (k0_hw1 : k0_chk1 i arg0) (k0_t2 : Fin k0_t2_loop.trips), ∀ a, (k0_off28 arg0 k0_t2) a + S8x128.size a ≤ S16704x128.size a := fun i arg0 k0_hw1 k0_t2 => k0_hw1.2.2.2.2.2.2.2.2.2.2.2.1 k0_t2
theorem k0_off45_inb : ∀ (i : grid0.Static) (arg0 : BitVec 32) (k0_hw1 : k0_chk1 i arg0) (k0_t2 : Fin k0_t2_loop.trips), ∀ a, (k0_off45 arg0 k0_t2) a + S8x128.size a ≤ S16704x128.size a := fun i arg0 k0_hw1 k0_t2 => k0_hw1.2.2.2.2.2.2.2.2.2.2.2.2.1 k0_t2
theorem k0_off46_inb : ∀ (i : grid0.Static) (arg0 : BitVec 32) (k0_hw1 : k0_chk1 i arg0), ∀ a, (k0_off46 arg0) a + S1.size a ≤ S6144.size a := fun i arg0 k0_hw1 => k0_hw1.2.2.2.2.2.2.2.2.2.2.2.2.2

def k0_off47 (v298 : BitVec 32) : Fin 3 → Nat :=
  let v299 : Index := Scalar.indexCast v298
  let c0_210 : Index := 0#32
  let c0_211 : Index := 0#32
  ![v299.toNat, 0, 0]

def k0_off48 (v298 : BitVec 32) : Fin 3 → Nat :=
  let v303 : Index := Scalar.indexCast v298
  let c0_212 : Index := 0#32
  let c128 : Index := 128#32
  ![v303.toNat, 0, 128]
def k0_off49 (v298 : BitVec 32) : Fin 3 → Nat :=
  let v307 : Index := Scalar.indexCast v298
  let c0_213 : Index := 0#32
  let c256 : Index := 256#32
  ![v307.toNat, 0, 256]
def k0_off50 (v298 : BitVec 32) : Fin 3 → Nat :=
  let v311 : Index := Scalar.indexCast v298
  let c0_214 : Index := 0#32
  let c384 : Index := 384#32
  ![v311.toNat, 0, 384]
def k0_off51 (v298 : BitVec 32) : Fin 3 → Nat :=
  let v315 : Index := Scalar.indexCast v298
  let c0_215 : Index := 0#32
  let c512_216 : Index := 512#32
  ![v315.toNat, 0, 512]
def k0_off52 (v298 : BitVec 32) : Fin 3 → Nat :=
  let v319 : Index := Scalar.indexCast v298
  let c0_217 : Index := 0#32
  let c640 : Index := 640#32
  ![v319.toNat, 0, 640]
def k0_off53 (v298 : BitVec 32) : Fin 3 → Nat :=
  let v323 : Index := Scalar.indexCast v298
  let c0_218 : Index := 0#32
  let c768 : Index := 768#32
  ![v323.toNat, 0, 768]
def k0_off54 (v298 : BitVec 32) : Fin 3 → Nat :=
  let v327 : Index := Scalar.indexCast v298
  let c0_219 : Index := 0#32
  let c896 : Index := 896#32
  ![v327.toNat, 0, 896]

def k0_chk4 (v298 : BitVec 32) : Prop :=
  (∀ a, (k0_off47 v298) a + S1x8x128.size a ≤ S65x8x1024.size a) ∧
  (∀ a, (k0_off48 v298) a + S1x8x128.size a ≤ S65x8x1024.size a) ∧
  (∀ a, (k0_off49 v298) a + S1x8x128.size a ≤ S65x8x1024.size a) ∧
  (∀ a, (k0_off50 v298) a + S1x8x128.size a ≤ S65x8x1024.size a) ∧
  (∀ a, (k0_off51 v298) a + S1x8x128.size a ≤ S65x8x1024.size a) ∧
  (∀ a, (k0_off52 v298) a + S1x8x128.size a ≤ S65x8x1024.size a) ∧
  (∀ a, (k0_off53 v298) a + S1x8x128.size a ≤ S65x8x1024.size a) ∧
  (∀ a, (k0_off54 v298) a + S1x8x128.size a ≤ S65x8x1024.size a)
theorem k0_off47_inb : ∀ (v298 : BitVec 32) (k0_hw4 : k0_chk4 v298), ∀ a, (k0_off47 v298) a + S1x8x128.size a ≤ S65x8x1024.size a := fun v298 k0_hw4 => k0_hw4.1
theorem k0_off48_inb : ∀ (v298 : BitVec 32) (k0_hw4 : k0_chk4 v298), ∀ a, (k0_off48 v298) a + S1x8x128.size a ≤ S65x8x1024.size a := fun v298 k0_hw4 => k0_hw4.2.1
theorem k0_off49_inb : ∀ (v298 : BitVec 32) (k0_hw4 : k0_chk4 v298), ∀ a, (k0_off49 v298) a + S1x8x128.size a ≤ S65x8x1024.size a := fun v298 k0_hw4 => k0_hw4.2.2.1
theorem k0_off50_inb : ∀ (v298 : BitVec 32) (k0_hw4 : k0_chk4 v298), ∀ a, (k0_off50 v298) a + S1x8x128.size a ≤ S65x8x1024.size a := fun v298 k0_hw4 => k0_hw4.2.2.2.1
theorem k0_off51_inb : ∀ (v298 : BitVec 32) (k0_hw4 : k0_chk4 v298), ∀ a, (k0_off51 v298) a + S1x8x128.size a ≤ S65x8x1024.size a := fun v298 k0_hw4 => k0_hw4.2.2.2.2.1
theorem k0_off52_inb : ∀ (v298 : BitVec 32) (k0_hw4 : k0_chk4 v298), ∀ a, (k0_off52 v298) a + S1x8x128.size a ≤ S65x8x1024.size a := fun v298 k0_hw4 => k0_hw4.2.2.2.2.2.1
theorem k0_off53_inb : ∀ (v298 : BitVec 32) (k0_hw4 : k0_chk4 v298), ∀ a, (k0_off53 v298) a + S1x8x128.size a ≤ S65x8x1024.size a := fun v298 k0_hw4 => k0_hw4.2.2.2.2.2.2.1
theorem k0_off54_inb : ∀ (v298 : BitVec 32) (k0_hw4 : k0_chk4 v298), ∀ a, (k0_off54 v298) a + S1x8x128.size a ≤ S65x8x1024.size a := fun v298 k0_hw4 => k0_hw4.2.2.2.2.2.2.2

def k0_off55 (i : grid0.Static) : Fin 3 → Nat :=
  let arg1 : BitVec 32 := BitVec.ofNat 32 (i 1).val
  let v344 : Index := Scalar.indexCast arg1
  let c0_227 : Index := 0#32
  let c0_228 : Index := 0#32
  ![v344.toNat, 0, 0]
def k0_off56 (i : grid0.Static) : Fin 3 → Nat :=
  let arg1 : BitVec 32 := BitVec.ofNat 32 (i 1).val
  let v362 : Index := Scalar.indexCast arg1
  let c0_239 : Index := 0#32
  let c128_240 : Index := 128#32
  ![v362.toNat, 0, 128]
def k0_off57 (i : grid0.Static) : Fin 3 → Nat :=
  let arg1 : BitVec 32 := BitVec.ofNat 32 (i 1).val
  let v380 : Index := Scalar.indexCast arg1
  let c0_251 : Index := 0#32
  let c256_252 : Index := 256#32
  ![v380.toNat, 0, 256]
def k0_off58 (i : grid0.Static) : Fin 3 → Nat :=
  let arg1 : BitVec 32 := BitVec.ofNat 32 (i 1).val
  let v398 : Index := Scalar.indexCast arg1
  let c0_263 : Index := 0#32
  let c384_264 : Index := 384#32
  ![v398.toNat, 0, 384]
def k0_off59 (i : grid0.Static) : Fin 3 → Nat :=
  let arg1 : BitVec 32 := BitVec.ofNat 32 (i 1).val
  let v416 : Index := Scalar.indexCast arg1
  let c0_275 : Index := 0#32
  let c512_276 : Index := 512#32
  ![v416.toNat, 0, 512]
def k0_off60 (i : grid0.Static) : Fin 3 → Nat :=
  let arg1 : BitVec 32 := BitVec.ofNat 32 (i 1).val
  let v434 : Index := Scalar.indexCast arg1
  let c0_287 : Index := 0#32
  let c640_288 : Index := 640#32
  ![v434.toNat, 0, 640]
def k0_off61 (i : grid0.Static) : Fin 3 → Nat :=
  let arg1 : BitVec 32 := BitVec.ofNat 32 (i 1).val
  let v452 : Index := Scalar.indexCast arg1
  let c0_299 : Index := 0#32
  let c768_300 : Index := 768#32
  ![v452.toNat, 0, 768]
def k0_off62 (i : grid0.Static) : Fin 3 → Nat :=
  let arg1 : BitVec 32 := BitVec.ofNat 32 (i 1).val
  let v470 : Index := Scalar.indexCast arg1
  let c0_311 : Index := 0#32
  let c896_312 : Index := 896#32
  ![v470.toNat, 0, 896]
def k0_off63 (v495 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let v510 : Index := Scalar.indexCast v508
  let c0_336 : Index := 0#32
  ![v510.toNat, 0]
def k0_cond3 (i : grid0.Static) (arg0 : BitVec 32) (v487 : BitVec 32) : BitVec 1 :=
  let c1_i32_323 : BitVec 32 := 1#32
  let v488 : BitVec 32 := Scalar.subi v487 c1_i32_323
  let v489 : BitVec 1 := Scalar.cmpi .eq arg0 v488
  let arg1 : BitVec 32 := BitVec.ofNat 32 (i 1).val
  let c29_i32 : BitVec 32 := 29#32
  let v490 : BitVec 1 := Scalar.cmpi .eq arg1 c29_i32
  let v491 : BitVec 1 := Scalar.andi v489 v490
  let v492 : BitVec 32 := Scalar.extui v491
  let c0_i32_324 : BitVec 32 := 0#32
  let v493 : BitVec 1 := Scalar.cmpi .ne v492 c0_i32_324
  v493

def k0_chk5 (i : grid0.Static) (arg0 : BitVec 32) (v487 : BitVec 32) (v495 : BitVec 32) : Prop :=
  (∀ (k0_h3 : k0_cond3 i arg0 v487 = 1#1), ∀ a, (k0_off63 v495) a + S256x128.size a ≤ S16704x128.size a)
theorem k0_off63_inb : ∀ (i : grid0.Static) (arg0 : BitVec 32) (v487 : BitVec 32) (v495 : BitVec 32) (k0_hw5 : k0_chk5 i arg0 v487 v495), ∀ (k0_h3 : k0_cond3 i arg0 v487 = 1#1), ∀ a, (k0_off63 v495) a + S256x128.size a ≤ S16704x128.size a := fun i arg0 v487 v495 k0_hw5 k0_h3 => k0_hw5 k0_h3

def k0_off64 (v495 : BitVec 32) (v509 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let v525 : Index := Scalar.indexCast v523
  let c0_345 : Index := 0#32
  ![v525.toNat, 0]

def k0_chk6 (i : grid0.Static) (arg0 : BitVec 32) (v487 : BitVec 32) (v495 : BitVec 32) (v509 : BitVec 32) : Prop :=
  (∀ (k0_h3 : k0_cond3 i arg0 v487 = 1#1), ∀ a, (k0_off64 v495 v509) a + S256x128.size a ≤ S16704x128.size a)
theorem k0_off64_inb : ∀ (i : grid0.Static) (arg0 : BitVec 32) (v487 : BitVec 32) (v495 : BitVec 32) (v509 : BitVec 32) (k0_hw6 : k0_chk6 i arg0 v487 v495 v509), ∀ (k0_h3 : k0_cond3 i arg0 v487 = 1#1), ∀ a, (k0_off64 v495 v509) a + S256x128.size a ≤ S16704x128.size a := fun i arg0 v487 v495 v509 k0_hw6 k0_h3 => k0_hw6 k0_h3

def k0_off65 (v495 : BitVec 32) (v509 : BitVec 32) (v524 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let v540 : Index := Scalar.indexCast v538
  let c0_354 : Index := 0#32
  ![v540.toNat, 0]

def k0_chk7 (i : grid0.Static) (arg0 : BitVec 32) (v487 : BitVec 32) (v495 : BitVec 32) (v509 : BitVec 32) (v524 : BitVec 32) : Prop :=
  (∀ (k0_h3 : k0_cond3 i arg0 v487 = 1#1), ∀ a, (k0_off65 v495 v509 v524) a + S256x128.size a ≤ S16704x128.size a)
theorem k0_off65_inb : ∀ (i : grid0.Static) (arg0 : BitVec 32) (v487 : BitVec 32) (v495 : BitVec 32) (v509 : BitVec 32) (v524 : BitVec 32) (k0_hw7 : k0_chk7 i arg0 v487 v495 v509 v524), ∀ (k0_h3 : k0_cond3 i arg0 v487 = 1#1), ∀ a, (k0_off65 v495 v509 v524) a + S256x128.size a ≤ S16704x128.size a := fun i arg0 v487 v495 v509 v524 k0_hw7 k0_h3 => k0_hw7 k0_h3

def k0_off66 (v495 : BitVec 32) (v509 : BitVec 32) (v524 : BitVec 32) (v539 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let v555 : Index := Scalar.indexCast v553
  let c0_363 : Index := 0#32
  ![v555.toNat, 0]

def k0_chk8 (i : grid0.Static) (arg0 : BitVec 32) (v487 : BitVec 32) (v495 : BitVec 32) (v509 : BitVec 32) (v524 : BitVec 32) (v539 : BitVec 32) : Prop :=
  (∀ (k0_h3 : k0_cond3 i arg0 v487 = 1#1), ∀ a, (k0_off66 v495 v509 v524 v539) a + S256x128.size a ≤ S16704x128.size a)
theorem k0_off66_inb : ∀ (i : grid0.Static) (arg0 : BitVec 32) (v487 : BitVec 32) (v495 : BitVec 32) (v509 : BitVec 32) (v524 : BitVec 32) (v539 : BitVec 32) (k0_hw8 : k0_chk8 i arg0 v487 v495 v509 v524 v539), ∀ (k0_h3 : k0_cond3 i arg0 v487 = 1#1), ∀ a, (k0_off66 v495 v509 v524 v539) a + S256x128.size a ≤ S16704x128.size a := fun i arg0 v487 v495 v509 v524 v539 k0_hw8 k0_h3 => k0_hw8 k0_h3

def k0_off67 (v495 : BitVec 32) (v509 : BitVec 32) (v524 : BitVec 32) (v539 : BitVec 32) (v554 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let v570 : Index := Scalar.indexCast v568
  let c0_371 : Index := 0#32
  ![v570.toNat, 0]

def k0_chk9 (i : grid0.Static) (arg0 : BitVec 32) (v487 : BitVec 32) (v495 : BitVec 32) (v509 : BitVec 32) (v524 : BitVec 32) (v539 : BitVec 32) (v554 : BitVec 32) : Prop :=
  (∀ (k0_h3 : k0_cond3 i arg0 v487 = 1#1), ∀ a, (k0_off67 v495 v509 v524 v539 v554) a + S256x128.size a ≤ S16704x128.size a)
theorem k0_off67_inb : ∀ (i : grid0.Static) (arg0 : BitVec 32) (v487 : BitVec 32) (v495 : BitVec 32) (v509 : BitVec 32) (v524 : BitVec 32) (v539 : BitVec 32) (v554 : BitVec 32) (k0_hw9 : k0_chk9 i arg0 v487 v495 v509 v524 v539 v554), ∀ (k0_h3 : k0_cond3 i arg0 v487 = 1#1), ∀ a, (k0_off67 v495 v509 v524 v539 v554) a + S256x128.size a ≤ S16704x128.size a := fun i arg0 v487 v495 v509 v524 v539 v554 k0_hw9 k0_h3 => k0_hw9 k0_h3

def k0_off68 (v495 : BitVec 32) (v509 : BitVec 32) (v524 : BitVec 32) (v539 : BitVec 32) (v554 : BitVec 32) (v569 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let v585 : Index := Scalar.indexCast v583
  let c0_379 : Index := 0#32
  ![v585.toNat, 0]

def k0_chk10 (i : grid0.Static) (arg0 : BitVec 32) (v487 : BitVec 32) (v495 : BitVec 32) (v509 : BitVec 32) (v524 : BitVec 32) (v539 : BitVec 32) (v554 : BitVec 32) (v569 : BitVec 32) : Prop :=
  (∀ (k0_h3 : k0_cond3 i arg0 v487 = 1#1), ∀ a, (k0_off68 v495 v509 v524 v539 v554 v569) a + S256x128.size a ≤ S16704x128.size a)
theorem k0_off68_inb : ∀ (i : grid0.Static) (arg0 : BitVec 32) (v487 : BitVec 32) (v495 : BitVec 32) (v509 : BitVec 32) (v524 : BitVec 32) (v539 : BitVec 32) (v554 : BitVec 32) (v569 : BitVec 32) (k0_hw10 : k0_chk10 i arg0 v487 v495 v509 v524 v539 v554 v569), ∀ (k0_h3 : k0_cond3 i arg0 v487 = 1#1), ∀ a, (k0_off68 v495 v509 v524 v539 v554 v569) a + S256x128.size a ≤ S16704x128.size a := fun i arg0 v487 v495 v509 v524 v539 v554 v569 k0_hw10 k0_h3 => k0_hw10 k0_h3

def k0_off69 (v495 : BitVec 32) (v509 : BitVec 32) (v524 : BitVec 32) (v539 : BitVec 32) (v554 : BitVec 32) (v569 : BitVec 32) (v584 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let v600 : Index := Scalar.indexCast v598
  let c0_387 : Index := 0#32
  ![v600.toNat, 0]

def k0_chk11 (i : grid0.Static) (arg0 : BitVec 32) (v487 : BitVec 32) (v495 : BitVec 32) (v509 : BitVec 32) (v524 : BitVec 32) (v539 : BitVec 32) (v554 : BitVec 32) (v569 : BitVec 32) (v584 : BitVec 32) : Prop :=
  (∀ (k0_h3 : k0_cond3 i arg0 v487 = 1#1), ∀ a, (k0_off69 v495 v509 v524 v539 v554 v569 v584) a + S256x128.size a ≤ S16704x128.size a)
theorem k0_off69_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (k0_hw11 : k0_chk11 i arg0 v487 v495 v509 v524 v539 v554 v569 v584), ∀ (k0_h3 : k0_cond3 i arg0 v487 = 1#1), ∀ a, (k0_off69 v495 v509 v524 v539 v554 v569 v584) a + S256x128.size a ≤ S16704x128.size a := fun i arg0 v487 v495 v509 v524 v539 v554 v569 v584 k0_hw11 k0_h3 => k0_hw11 k0_h3

def k0_off70 (v495 : BitVec 32) (v509 : BitVec 32) (v524 : BitVec 32) (v539 : BitVec 32) (v554 : BitVec 32) (v569 : BitVec 32) (v584 : BitVec 32) (v599 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let v615 : Index := Scalar.indexCast v613
  let c0_395 : Index := 0#32
  ![v615.toNat, 0]

def k0_chk12 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) : Prop :=
  (∀ (k0_h3 : k0_cond3 i arg0 v487 = 1#1), ∀ a, (k0_off70 v495 v509 v524 v539 v554 v569 v584 v599) a + S256x128.size a ≤ S16704x128.size a)
theorem k0_off70_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (k0_hw12 : k0_chk12 i arg0 v487 v495 v509 v524 v539 v554 v569 v584 v599), ∀ (k0_h3 : k0_cond3 i arg0 v487 = 1#1), ∀ a, (k0_off70 v495 v509 v524 v539 v554 v569 v584 v599) a + S256x128.size a ≤ S16704x128.size a := fun i arg0 v487 v495 v509 v524 v539 v554 v569 v584 v599 k0_hw12 k0_h3 => k0_hw12 k0_h3

def k0_off71 (v495 : BitVec 32) (v509 : BitVec 32) (v524 : BitVec 32) (v539 : BitVec 32) (v554 : BitVec 32) (v569 : BitVec 32) (v584 : BitVec 32) (v599 : BitVec 32) (v614 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let v630 : Index := Scalar.indexCast v628
  let c0_403 : Index := 0#32
  ![v630.toNat, 0]

def k0_chk13 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) : Prop :=
  (∀ (k0_h3 : k0_cond3 i arg0 v487 = 1#1), ∀ a, (k0_off71 v495 v509 v524 v539 v554 v569 v584 v599 v614) a + S256x128.size a ≤ S16704x128.size a)
theorem k0_off71_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (k0_hw13 : k0_chk13 i arg0 v487 v495 v509 v524 v539 v554 v569 v584 v599 v614), ∀ (k0_h3 : k0_cond3 i arg0 v487 = 1#1), ∀ a, (k0_off71 v495 v509 v524 v539 v554 v569 v584 v599 v614) a + S256x128.size a ≤ S16704x128.size a := fun i arg0 v487 v495 v509 v524 v539 v554 v569 v584 v599 v614 k0_hw13 k0_h3 => k0_hw13 k0_h3

def k0_off72 (v495 : BitVec 32) (v509 : BitVec 32) (v524 : BitVec 32) (v539 : BitVec 32) (v554 : BitVec 32) (v569 : BitVec 32) (v584 : BitVec 32) (v599 : BitVec 32) (v614 : BitVec 32) (v629 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let v645 : Index := Scalar.indexCast v643
  let c0_411 : Index := 0#32
  ![v645.toNat, 0]

def k0_chk14 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) : Prop :=
  (∀ (k0_h3 : k0_cond3 i arg0 v487 = 1#1), ∀ a, (k0_off72 v495 v509 v524 v539 v554 v569 v584 v599 v614 v629) a + S256x128.size a ≤ S16704x128.size a)
theorem k0_off72_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (k0_hw14 : k0_chk14 i arg0 v487 v495 v509 v524 v539 v554 v569 v584 v599 v614 v629), ∀ (k0_h3 : k0_cond3 i arg0 v487 = 1#1), ∀ a, (k0_off72 v495 v509 v524 v539 v554 v569 v584 v599 v614 v629) a + S256x128.size a ≤ S16704x128.size a := fun i arg0 v487 v495 v509 v524 v539 v554 v569 v584 v599 v614 v629 k0_hw14 k0_h3 => k0_hw14 k0_h3

def k0_off73 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let v660 : Index := Scalar.indexCast v658
  let c0_419 : Index := 0#32
  ![v660.toNat, 0]

def k0_chk15 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) : Prop :=
  (∀ (k0_h3 : k0_cond3 i arg0 v487 = 1#1), ∀ a, (k0_off73 v495 v509 v524 v539 v554 v569 v584 v599 v614 v629 v644) a + S256x128.size a ≤ S16704x128.size a)
theorem k0_off73_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (k0_hw15 : k0_chk15 i arg0 v487 v495 v509 v524 v539 v554 v569 v584 v599 v614 v629 v644), ∀ (k0_h3 : k0_cond3 i arg0 v487 = 1#1), ∀ a, (k0_off73 v495 v509 v524 v539 v554 v569 v584 v599 v614 v629 v644) a + S256x128.size a ≤ S16704x128.size a := fun i arg0 v487 v495 v509 v524 v539 v554 v569 v584 v599 v614 v629 v644 k0_hw15 k0_h3 => k0_hw15 k0_h3

def k0_off74 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let v675 : Index := Scalar.indexCast v673
  let c0_427 : Index := 0#32
  ![v675.toNat, 0]

def k0_chk16 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) : Prop :=
  (∀ (k0_h3 : k0_cond3 i arg0 v487 = 1#1), ∀ a, (k0_off74 v495 v509 v524 v539 v554 v569 v584 v599 v614 v629 v644 v659) a + S256x128.size a ≤ S16704x128.size a)
theorem k0_off74_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (k0_hw16 : k0_chk16 i arg0 v487 v495 v509 v524 v539 v554 v569 v584 v599 v614 v629 v644 v659), ∀ (k0_h3 : k0_cond3 i arg0 v487 = 1#1), ∀ a, (k0_off74 v495 v509 v524 v539 v554 v569 v584 v599 v614 v629 v644 v659) a + S256x128.size a ≤ S16704x128.size a := fun i arg0 v487 v495 v509 v524 v539 v554 v569 v584 v599 v614 v629 v644 v659 k0_hw16 k0_h3 => k0_hw16 k0_h3

def k0_off75 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let v690 : Index := Scalar.indexCast v688
  let c0_435 : Index := 0#32
  ![v690.toNat, 0]

def k0_chk17 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) : Prop :=
  (∀ (k0_h3 : k0_cond3 i arg0 v487 = 1#1), ∀ a, (k0_off75 v495 v509 v524 v539 v554 v569 v584 v599 v614 v629 v644 v659 v674) a + S256x128.size a ≤ S16704x128.size a)
theorem k0_off75_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (k0_hw17 : k0_chk17 i arg0 v487 v495 v509 v524 v539 v554 v569 v584 v599 v614 v629 v644 v659 v674), ∀ (k0_h3 : k0_cond3 i arg0 v487 = 1#1), ∀ a, (k0_off75 v495 v509 v524 v539 v554 v569 v584 v599 v614 v629 v644 v659 v674) a + S256x128.size a ≤ S16704x128.size a := fun i arg0 v487 v495 v509 v524 v539 v554 v569 v584 v599 v614 v629 v644 v659 v674 k0_hw17 k0_h3 => k0_hw17 k0_h3

def k0_off76 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let v705 : Index := Scalar.indexCast v703
  let c0_443 : Index := 0#32
  ![v705.toNat, 0]

def k0_chk18 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) : Prop :=
  (∀ (k0_h3 : k0_cond3 i arg0 v487 = 1#1), ∀ a, (k0_off76 v495 v509 v524 v539 v554 v569 v584 v599 v614 v629 v644 v659 v674 v689) a + S256x128.size a ≤ S16704x128.size a)
theorem k0_off76_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (k0_hw18 : k0_chk18 i arg0 v487 v495 v509 v524 v539 v554 v569 v584 v599 v614 v629 v644 v659 v674 v689), ∀ (k0_h3 : k0_cond3 i arg0 v487 = 1#1), ∀ a, (k0_off76 v495 v509 v524 v539 v554 v569 v584 v599 v614 v629 v644 v659 v674 v689) a + S256x128.size a ≤ S16704x128.size a := fun i arg0 v487 v495 v509 v524 v539 v554 v569 v584 v599 v614 v629 v644 v659 v674 v689 k0_hw18 k0_h3 => k0_hw18 k0_h3

def k0_off77 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let v720 : Index := Scalar.indexCast v718
  let c0_451 : Index := 0#32
  ![v720.toNat, 0]

def k0_chk19 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) : Prop :=
  (∀ (k0_h3 : k0_cond3 i arg0 v487 = 1#1), ∀ a, (k0_off77 v495 v509 v524 v539 v554 v569 v584 v599 v614 v629 v644 v659 v674 v689 v704) a + S256x128.size a ≤ S16704x128.size a)
theorem k0_off77_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (k0_hw19 : k0_chk19 i arg0 v487 v495 v509 v524 v539 v554 v569 v584 v599 v614 v629 v644 v659 v674 v689 v704), ∀ (k0_h3 : k0_cond3 i arg0 v487 = 1#1), ∀ a, (k0_off77 v495 v509 v524 v539 v554 v569 v584 v599 v614 v629 v644 v659 v674 v689 v704) a + S256x128.size a ≤ S16704x128.size a := fun i arg0 v487 v495 v509 v524 v539 v554 v569 v584 v599 v614 v629 v644 v659 v674 v689 v704 k0_hw19 k0_h3 => k0_hw19 k0_h3

def k0_off78 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let v735 : Index := Scalar.indexCast v733
  let c0_459 : Index := 0#32
  ![v735.toNat, 0]

def k0_chk20 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) : Prop :=
  (∀ (k0_h3 : k0_cond3 i arg0 v487 = 1#1), ∀ a, (k0_off78 v495 v509 v524 v539 v554 v569 v584 v599 v614 v629 v644 v659 v674 v689 v704 v719) a + S256x128.size a ≤ S16704x128.size a)
theorem k0_off78_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (k0_hw20 : k0_chk20 i arg0 v487 v495 v509 v524 v539 v554 v569 v584 v599 v614 v629 v644 v659 v674 v689 v704 v719), ∀ (k0_h3 : k0_cond3 i arg0 v487 = 1#1), ∀ a, (k0_off78 v495 v509 v524 v539 v554 v569 v584 v599 v614 v629 v644 v659 v674 v689 v704 v719) a + S256x128.size a ≤ S16704x128.size a := fun i arg0 v487 v495 v509 v524 v539 v554 v569 v584 v599 v614 v629 v644 v659 v674 v689 v704 v719 k0_hw20 k0_h3 => k0_hw20 k0_h3

def k0_off79 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let v750 : Index := Scalar.indexCast v748
  let c0_467 : Index := 0#32
  ![v750.toNat, 0]

def k0_chk21 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) : Prop :=
  (∀ (k0_h3 : k0_cond3 i arg0 v487 = 1#1), ∀ a, (k0_off79 v495 v509 v524 v539 v554 v569 v584 v599 v614 v629 v644 v659 v674 v689 v704 v719 v734) a + S256x128.size a ≤ S16704x128.size a)
theorem k0_off79_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (k0_hw21 : k0_chk21 i arg0 v487 v495 v509 v524 v539 v554 v569 v584 v599 v614 v629 v644 v659 v674 v689 v704 v719 v734), ∀ (k0_h3 : k0_cond3 i arg0 v487 = 1#1), ∀ a, (k0_off79 v495 v509 v524 v539 v554 v569 v584 v599 v614 v629 v644 v659 v674 v689 v704 v719 v734) a + S256x128.size a ≤ S16704x128.size a := fun i arg0 v487 v495 v509 v524 v539 v554 v569 v584 v599 v614 v629 v644 v659 v674 v689 v704 v719 v734 k0_hw21 k0_h3 => k0_hw21 k0_h3

def k0_off80 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let v765 : Index := Scalar.indexCast v763
  let c0_475 : Index := 0#32
  ![v765.toNat, 0]

def k0_chk22 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) : Prop :=
  (∀ (k0_h3 : k0_cond3 i arg0 v487 = 1#1), ∀ a, (k0_off80 v495 v509 v524 v539 v554 v569 v584 v599 v614 v629 v644 v659 v674 v689 v704 v719 v734 v749) a + S256x128.size a ≤ S16704x128.size a)
theorem k0_off80_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (k0_hw22 : k0_chk22 i arg0 v487 v495 v509 v524 v539 v554 v569 v584 v599 v614 v629 v644 v659 v674 v689 v704 v719 v734 v749), ∀ (k0_h3 : k0_cond3 i arg0 v487 = 1#1), ∀ a, (k0_off80 v495 v509 v524 v539 v554 v569 v584 v599 v614 v629 v644 v659 v674 v689 v704 v719 v734 v749) a + S256x128.size a ≤ S16704x128.size a := fun i arg0 v487 v495 v509 v524 v539 v554 v569 v584 v599 v614 v629 v644 v659 v674 v689 v704 v719 v734 v749 k0_hw22 k0_h3 => k0_hw22 k0_h3

def k0_off81 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let v780 : Index := Scalar.indexCast v778
  let c0_483 : Index := 0#32
  ![v780.toNat, 0]

def k0_chk23 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) : Prop :=
  (∀ (k0_h3 : k0_cond3 i arg0 v487 = 1#1), ∀ a, (k0_off81 v495 v509 v524 v539 v554 v569 v584 v599 v614 v629 v644 v659 v674 v689 v704 v719 v734 v749 v764) a + S256x128.size a ≤ S16704x128.size a)
theorem k0_off81_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (k0_hw23 : k0_chk23 i arg0 v487 v495 v509 v524 v539 v554 v569 v584 v599 v614 v629 v644 v659 v674 v689 v704 v719 v734 v749 v764), ∀ (k0_h3 : k0_cond3 i arg0 v487 = 1#1), ∀ a, (k0_off81 v495 v509 v524 v539 v554 v569 v584 v599 v614 v629 v644 v659 v674 v689 v704 v719 v734 v749 v764) a + S256x128.size a ≤ S16704x128.size a := fun i arg0 v487 v495 v509 v524 v539 v554 v569 v584 v599 v614 v629 v644 v659 v674 v689 v704 v719 v734 v749 v764 k0_hw23 k0_h3 => k0_hw23 k0_h3

def k0_off82 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let v795 : Index := Scalar.indexCast v793
  let c0_491 : Index := 0#32
  ![v795.toNat, 0]

def k0_chk24 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) : Prop :=
  (∀ (k0_h3 : k0_cond3 i arg0 v487 = 1#1), ∀ a, (k0_off82 v495 v509 v524 v539 v554 v569 v584 v599 v614 v629 v644 v659 v674 v689 v704 v719 v734 v749 v764 v779) a + S256x128.size a ≤ S16704x128.size a)
theorem k0_off82_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (k0_hw24 : k0_chk24 i arg0 v487 v495 v509 v524 v539 v554 v569 v584 v599 v614 v629 v644 v659 v674 v689 v704 v719 v734 v749 v764 v779), ∀ (k0_h3 : k0_cond3 i arg0 v487 = 1#1), ∀ a, (k0_off82 v495 v509 v524 v539 v554 v569 v584 v599 v614 v629 v644 v659 v674 v689 v704 v719 v734 v749 v764 v779) a + S256x128.size a ≤ S16704x128.size a := fun i arg0 v487 v495 v509 v524 v539 v554 v569 v584 v599 v614 v629 v644 v659 v674 v689 v704 v719 v734 v749 v764 v779 k0_hw24 k0_h3 => k0_hw24 k0_h3

def k0_off83 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let v810 : Index := Scalar.indexCast v808
  let c0_499 : Index := 0#32
  ![v810.toNat, 0]

def k0_chk25 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) : Prop :=
  (∀ (k0_h3 : k0_cond3 i arg0 v487 = 1#1), ∀ a, (k0_off83 v495 v509 v524 v539 v554 v569 v584 v599 v614 v629 v644 v659 v674 v689 v704 v719 v734 v749 v764 v779 v794) a + S256x128.size a ≤ S16704x128.size a)
theorem k0_off83_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (k0_hw25 : k0_chk25 i arg0 v487 v495 v509 v524 v539 v554 v569 v584 v599 v614 v629 v644 v659 v674 v689 v704 v719 v734 v749 v764 v779 v794), ∀ (k0_h3 : k0_cond3 i arg0 v487 = 1#1), ∀ a, (k0_off83 v495 v509 v524 v539 v554 v569 v584 v599 v614 v629 v644 v659 v674 v689 v704 v719 v734 v749 v764 v779 v794) a + S256x128.size a ≤ S16704x128.size a := fun i arg0 v487 v495 v509 v524 v539 v554 v569 v584 v599 v614 v629 v644 v659 v674 v689 v704 v719 v734 v749 v764 v779 v794 k0_hw25 k0_h3 => k0_hw25 k0_h3

def k0_off84 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let v825 : Index := Scalar.indexCast v823
  let c0_507 : Index := 0#32
  ![v825.toNat, 0]

def k0_chk26 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) : Prop :=
  (∀ (k0_h3 : k0_cond3 i arg0 v487 = 1#1), ∀ a, (k0_off84 v495 v509 v524 v539 v554 v569 v584 v599 v614 v629 v644 v659 v674 v689 v704 v719 v734 v749 v764 v779 v794 v809) a + S256x128.size a ≤ S16704x128.size a)
theorem k0_off84_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (k0_hw26 : k0_chk26 i arg0 v487 v495 v509 v524 v539 v554 v569 v584 v599 v614 v629 v644 v659 v674 v689 v704 v719 v734 v749 v764 v779 v794 v809), ∀ (k0_h3 : k0_cond3 i arg0 v487 = 1#1), ∀ a, (k0_off84 v495 v509 v524 v539 v554 v569 v584 v599 v614 v629 v644 v659 v674 v689 v704 v719 v734 v749 v764 v779 v794 v809) a + S256x128.size a ≤ S16704x128.size a := fun i arg0 v487 v495 v509 v524 v539 v554 v569 v584 v599 v614 v629 v644 v659 v674 v689 v704 v719 v734 v749 v764 v779 v794 v809 k0_hw26 k0_h3 => k0_hw26 k0_h3

def k0_off85 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let v840 : Index := Scalar.indexCast v838
  let c0_515 : Index := 0#32
  ![v840.toNat, 0]

def k0_chk27 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) : Prop :=
  (∀ (k0_h3 : k0_cond3 i arg0 v487 = 1#1), ∀ a, (k0_off85 v495 v509 v524 v539 v554 v569 v584 v599 v614 v629 v644 v659 v674 v689 v704 v719 v734 v749 v764 v779 v794 v809 v824) a + S256x128.size a ≤ S16704x128.size a)
theorem k0_off85_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (k0_hw27 : k0_chk27 i arg0 v487 v495 v509 v524 v539 v554 v569 v584 v599 v614 v629 v644 v659 v674 v689 v704 v719 v734 v749 v764 v779 v794 v809 v824), ∀ (k0_h3 : k0_cond3 i arg0 v487 = 1#1), ∀ a, (k0_off85 v495 v509 v524 v539 v554 v569 v584 v599 v614 v629 v644 v659 v674 v689 v704 v719 v734 v749 v764 v779 v794 v809 v824) a + S256x128.size a ≤ S16704x128.size a := fun i arg0 v487 v495 v509 v524 v539 v554 v569 v584 v599 v614 v629 v644 v659 v674 v689 v704 v719 v734 v749 v764 v779 v794 v809 v824 k0_hw27 k0_h3 => k0_hw27 k0_h3

def k0_off86 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let v855 : Index := Scalar.indexCast v853
  let c0_523 : Index := 0#32
  ![v855.toNat, 0]

def k0_chk28 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) : Prop :=
  (∀ (k0_h3 : k0_cond3 i arg0 v487 = 1#1), ∀ a, (k0_off86 v495 v509 v524 v539 v554 v569 v584 v599 v614 v629 v644 v659 v674 v689 v704 v719 v734 v749 v764 v779 v794 v809 v824 v839) a + S256x128.size a ≤ S16704x128.size a)
theorem k0_off86_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (k0_hw28 : k0_chk28 i arg0 v487 v495 v509 v524 v539 v554 v569 v584 v599 v614 v629 v644 v659 v674 v689 v704 v719 v734 v749 v764 v779 v794 v809 v824 v839), ∀ (k0_h3 : k0_cond3 i arg0 v487 = 1#1), ∀ a, (k0_off86 v495 v509 v524 v539 v554 v569 v584 v599 v614 v629 v644 v659 v674 v689 v704 v719 v734 v749 v764 v779 v794 v809 v824 v839) a + S256x128.size a ≤ S16704x128.size a := fun i arg0 v487 v495 v509 v524 v539 v554 v569 v584 v599 v614 v629 v644 v659 v674 v689 v704 v719 v734 v749 v764 v779 v794 v809 v824 v839 k0_hw28 k0_h3 => k0_hw28 k0_h3

def k0_off87 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let v870 : Index := Scalar.indexCast v868
  let c0_531 : Index := 0#32
  ![v870.toNat, 0]

def k0_chk29 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) : Prop :=
  (∀ (k0_h3 : k0_cond3 i arg0 v487 = 1#1), ∀ a, (k0_off87 v495 v509 v524 v539 v554 v569 v584 v599 v614 v629 v644 v659 v674 v689 v704 v719 v734 v749 v764 v779 v794 v809 v824 v839 v854) a + S256x128.size a ≤ S16704x128.size a)
theorem k0_off87_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (k0_hw29 : k0_chk29 i arg0 v487 v495 v509 v524 v539 v554 v569 v584 v599 v614 v629 v644 v659 v674 v689 v704 v719 v734 v749 v764 v779 v794 v809 v824 v839 v854), ∀ (k0_h3 : k0_cond3 i arg0 v487 = 1#1), ∀ a, (k0_off87 v495 v509 v524 v539 v554 v569 v584 v599 v614 v629 v644 v659 v674 v689 v704 v719 v734 v749 v764 v779 v794 v809 v824 v839 v854) a + S256x128.size a ≤ S16704x128.size a := fun i arg0 v487 v495 v509 v524 v539 v554 v569 v584 v599 v614 v629 v644 v659 v674 v689 v704 v719 v734 v749 v764 v779 v794 v809 v824 v839 v854 k0_hw29 k0_h3 => k0_hw29 k0_h3

def k0_off88 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let v885 : Index := Scalar.indexCast v883
  let c0_539 : Index := 0#32
  ![v885.toNat, 0]

def k0_chk30 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) : Prop :=
  (∀ (k0_h3 : k0_cond3 i arg0 v487 = 1#1), ∀ a, (k0_off88 v495 v509 v524 v539 v554 v569 v584 v599 v614 v629 v644 v659 v674 v689 v704 v719 v734 v749 v764 v779 v794 v809 v824 v839 v854 v869) a + S256x128.size a ≤ S16704x128.size a)
theorem k0_off88_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (k0_hw30 : k0_chk30 i arg0 v487 v495 v509 v524 v539 v554 v569 v584 v599 v614 v629 v644 v659 v674 v689 v704 v719 v734 v749 v764 v779 v794 v809 v824 v839 v854 v869), ∀ (k0_h3 : k0_cond3 i arg0 v487 = 1#1), ∀ a, (k0_off88 v495 v509 v524 v539 v554 v569 v584 v599 v614 v629 v644 v659 v674 v689 v704 v719 v734 v749 v764 v779 v794 v809 v824 v839 v854 v869) a + S256x128.size a ≤ S16704x128.size a := fun i arg0 v487 v495 v509 v524 v539 v554 v569 v584 v599 v614 v629 v644 v659 v674 v689 v704 v719 v734 v749 v764 v779 v794 v809 v824 v839 v854 v869 k0_hw30 k0_h3 => k0_hw30 k0_h3

def k0_off89 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let v900 : Index := Scalar.indexCast v898
  let c0_547 : Index := 0#32
  ![v900.toNat, 0]

def k0_chk31 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) : Prop :=
  (∀ (k0_h3 : k0_cond3 i arg0 v487 = 1#1), ∀ a, (k0_off89 v495 v509 v524 v539 v554 v569 v584 v599 v614 v629 v644 v659 v674 v689 v704 v719 v734 v749 v764 v779 v794 v809 v824 v839 v854 v869 v884) a + S256x128.size a ≤ S16704x128.size a)
theorem k0_off89_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (k0_hw31 : k0_chk31 i arg0 v487 v495 v509 v524 v539 v554 v569 v584 v599 v614 v629 v644 v659 v674 v689 v704 v719 v734 v749 v764 v779 v794 v809 v824 v839 v854 v869 v884), ∀ (k0_h3 : k0_cond3 i arg0 v487 = 1#1), ∀ a, (k0_off89 v495 v509 v524 v539 v554 v569 v584 v599 v614 v629 v644 v659 v674 v689 v704 v719 v734 v749 v764 v779 v794 v809 v824 v839 v854 v869 v884) a + S256x128.size a ≤ S16704x128.size a := fun i arg0 v487 v495 v509 v524 v539 v554 v569 v584 v599 v614 v629 v644 v659 v674 v689 v704 v719 v734 v749 v764 v779 v794 v809 v824 v839 v854 v869 v884 k0_hw31 k0_h3 => k0_hw31 k0_h3

def k0_off90 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let v915 : Index := Scalar.indexCast v913
  let c0_555 : Index := 0#32
  ![v915.toNat, 0]

def k0_chk32 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) : Prop :=
  (∀ (k0_h3 : k0_cond3 i arg0 v487 = 1#1), ∀ a, (k0_off90 v495 v509 v524 v539 v554 v569 v584 v599 v614 v629 v644 v659 v674 v689 v704 v719 v734 v749 v764 v779 v794 v809 v824 v839 v854 v869 v884 v899) a + S256x128.size a ≤ S16704x128.size a)
theorem k0_off90_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (k0_hw32 : k0_chk32 i arg0 v487 v495 v509 v524 v539 v554 v569 v584 v599 v614 v629 v644 v659 v674 v689 v704 v719 v734 v749 v764 v779 v794 v809 v824 v839 v854 v869 v884 v899), ∀ (k0_h3 : k0_cond3 i arg0 v487 = 1#1), ∀ a, (k0_off90 v495 v509 v524 v539 v554 v569 v584 v599 v614 v629 v644 v659 v674 v689 v704 v719 v734 v749 v764 v779 v794 v809 v824 v839 v854 v869 v884 v899) a + S256x128.size a ≤ S16704x128.size a := fun i arg0 v487 v495 v509 v524 v539 v554 v569 v584 v599 v614 v629 v644 v659 v674 v689 v704 v719 v734 v749 v764 v779 v794 v809 v824 v839 v854 v869 v884 v899 k0_hw32 k0_h3 => k0_hw32 k0_h3

def k0_off91 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let v930 : Index := Scalar.indexCast v928
  let c0_563 : Index := 0#32
  ![v930.toNat, 0]

def k0_chk33 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) : Prop :=
  (∀ (k0_h3 : k0_cond3 i arg0 v487 = 1#1), ∀ a, (k0_off91 v495 v509 v524 v539 v554 v569 v584 v599 v614 v629 v644 v659 v674 v689 v704 v719 v734 v749 v764 v779 v794 v809 v824 v839 v854 v869 v884 v899 v914) a + S256x128.size a ≤ S16704x128.size a)
theorem k0_off91_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (k0_hw33 : k0_chk33 i arg0 v487 v495 v509 v524 v539 v554 v569 v584 v599 v614 v629 v644 v659 v674 v689 v704 v719 v734 v749 v764 v779 v794 v809 v824 v839 v854 v869 v884 v899 v914), ∀ (k0_h3 : k0_cond3 i arg0 v487 = 1#1), ∀ a, (k0_off91 v495 v509 v524 v539 v554 v569 v584 v599 v614 v629 v644 v659 v674 v689 v704 v719 v734 v749 v764 v779 v794 v809 v824 v839 v854 v869 v884 v899 v914) a + S256x128.size a ≤ S16704x128.size a := fun i arg0 v487 v495 v509 v524 v539 v554 v569 v584 v599 v614 v629 v644 v659 v674 v689 v704 v719 v734 v749 v764 v779 v794 v809 v824 v839 v854 v869 v884 v899 v914 k0_hw33 k0_h3 => k0_hw33 k0_h3

def k0_off92 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let v945 : Index := Scalar.indexCast v943
  let c0_571 : Index := 0#32
  ![v945.toNat, 0]

def k0_chk34 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) : Prop :=
  (∀ (k0_h3 : k0_cond3 i arg0 v487 = 1#1), ∀ a, (k0_off92 v495 v509 v524 v539 v554 v569 v584 v599 v614 v629 v644 v659 v674 v689 v704 v719 v734 v749 v764 v779 v794 v809 v824 v839 v854 v869 v884 v899 v914 v929) a + S256x128.size a ≤ S16704x128.size a)
theorem k0_off92_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (k0_hw34 : k0_chk34 i arg0 v487 v495 v509 v524 v539 v554 v569 v584 v599 v614 v629 v644 v659 v674 v689 v704 v719 v734 v749 v764 v779 v794 v809 v824 v839 v854 v869 v884 v899 v914 v929), ∀ (k0_h3 : k0_cond3 i arg0 v487 = 1#1), ∀ a, (k0_off92 v495 v509 v524 v539 v554 v569 v584 v599 v614 v629 v644 v659 v674 v689 v704 v719 v734 v749 v764 v779 v794 v809 v824 v839 v854 v869 v884 v899 v914 v929) a + S256x128.size a ≤ S16704x128.size a := fun i arg0 v487 v495 v509 v524 v539 v554 v569 v584 v599 v614 v629 v644 v659 v674 v689 v704 v719 v734 v749 v764 v779 v794 v809 v824 v839 v854 v869 v884 v899 v914 v929 k0_hw34 k0_h3 => k0_hw34 k0_h3

def k0_off93 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let v960 : Index := Scalar.indexCast v958
  let c0_579 : Index := 0#32
  ![v960.toNat, 0]

def k0_chk35 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) : Prop :=
  (∀ (k0_h3 : k0_cond3 i arg0 v487 = 1#1), ∀ a, (k0_off93 v495 v509 v524 v539 v554 v569 v584 v599 v614 v629 v644 v659 v674 v689 v704 v719 v734 v749 v764 v779 v794 v809 v824 v839 v854 v869 v884 v899 v914 v929 v944) a + S256x128.size a ≤ S16704x128.size a)
theorem k0_off93_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (k0_hw35 : k0_chk35 i arg0 v487 v495 v509 v524 v539 v554 v569 v584 v599 v614 v629 v644 v659 v674 v689 v704 v719 v734 v749 v764 v779 v794 v809 v824 v839 v854 v869 v884 v899 v914 v929 v944), ∀ (k0_h3 : k0_cond3 i arg0 v487 = 1#1), ∀ a, (k0_off93 v495 v509 v524 v539 v554 v569 v584 v599 v614 v629 v644 v659 v674 v689 v704 v719 v734 v749 v764 v779 v794 v809 v824 v839 v854 v869 v884 v899 v914 v929 v944) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 k0_hw35 k0_h3 => k0_hw35 k0_h3

def k0_off94 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let v975 : Index := Scalar.indexCast v973
  let c0_587 : Index := 0#32
  ![v975.toNat, 0]

def k0_chk36 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) : Prop :=
  (∀ (k0_h3 : k0_cond3 i arg0 v487 = 1#1), ∀ a, (k0_off94 v495 v509 v524 v539 v554 v569 v584 v599 v614 v629 v644 v659 v674 v689 v704 v719 v734 v749 v764 v779 v794 v809 v824 v839 v854 v869 v884 v899 v914 v929 v944 v959) a + S256x128.size a ≤ S16704x128.size a)
theorem k0_off94_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (k0_hw36 : k0_chk36 i arg0 v487 v495 v509 v524 v539 v554 v569 v584 v599 v614 v629 v644 v659 v674 v689 v704 v719 v734 v749 v764 v779 v794 v809 v824 v839 v854 v869 v884 v899 v914 v929 v944 v959), ∀ (k0_h3 : k0_cond3 i arg0 v487 = 1#1), ∀ a, (k0_off94 v495 v509 v524 v539 v554 v569 v584 v599 v614 v629 v644 v659 v674 v689 v704 v719 v734 v749 v764 v779 v794 v809 v824 v839 v854 v869 v884 v899 v914 v929 v944 v959) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 k0_hw36 k0_h3 => k0_hw36 k0_h3

def k0_off95 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let v990 : Index := Scalar.indexCast v988
  let c0_595 : Index := 0#32
  ![v990.toNat, 0]

def k0_chk37 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) : Prop :=
  (∀ (k0_h3 : k0_cond3 i arg0 v487 = 1#1), ∀ a, (k0_off95 v495 v509 v524 v539 v554 v569 v584 v599 v614 v629 v644 v659 v674 v689 v704 v719 v734 v749 v764 v779 v794 v809 v824 v839 v854 v869 v884 v899 v914 v929 v944 v959 v974) a + S256x128.size a ≤ S16704x128.size a)
theorem k0_off95_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (k0_hw37 : k0_chk37 i arg0 v487 v495 v509 v524 v539 v554 v569 v584 v599 v614 v629 v644 v659 v674 v689 v704 v719 v734 v749 v764 v779 v794 v809 v824 v839 v854 v869 v884 v899 v914 v929 v944 v959 v974), ∀ (k0_h3 : k0_cond3 i arg0 v487 = 1#1), ∀ a, (k0_off95 v495 v509 v524 v539 v554 v569 v584 v599 v614 v629 v644 v659 v674 v689 v704 v719 v734 v749 v764 v779 v794 v809 v824 v839 v854 v869 v884 v899 v914 v929 v944 v959 v974) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 k0_hw37 k0_h3 => k0_hw37 k0_h3

def k0_off96 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let v1005 : Index := Scalar.indexCast v1003
  let c0_603 : Index := 0#32
  ![v1005.toNat, 0]

def k0_chk38 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) : Prop :=
  (∀ (k0_h3 : k0_cond3 i arg0 v487 = 1#1), ∀ a, (k0_off96 v495 v509 v524 v539 v554 v569 v584 v599 v614 v629 v644 v659 v674 v689 v704 v719 v734 v749 v764 v779 v794 v809 v824 v839 v854 v869 v884 v899 v914 v929 v944 v959 v974 v989) a + S256x128.size a ≤ S16704x128.size a)
theorem k0_off96_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (k0_hw38 : k0_chk38 i arg0 v487 v495 v509 v524 v539 v554 v569 v584 v599 v614 v629 v644 v659 v674 v689 v704 v719 v734 v749 v764 v779 v794 v809 v824 v839 v854 v869 v884 v899 v914 v929 v944 v959 v974 v989), ∀ (k0_h3 : k0_cond3 i arg0 v487 = 1#1), ∀ a, (k0_off96 v495 v509 v524 v539 v554 v569 v584 v599 v614 v629 v644 v659 v674 v689 v704 v719 v734 v749 v764 v779 v794 v809 v824 v839 v854 v869 v884 v899 v914 v929 v944 v959 v974 v989) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 k0_hw38 k0_h3 => k0_hw38 k0_h3

def k0_off97 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let v1020 : Index := Scalar.indexCast v1018
  let c0_611 : Index := 0#32
  ![v1020.toNat, 0]

def k0_chk39 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) : Prop :=
  (∀ (k0_h3 : k0_cond3 i arg0 v487 = 1#1), ∀ a, (k0_off97 v495 v509 v524 v539 v554 v569 v584 v599 v614 v629 v644 v659 v674 v689 v704 v719 v734 v749 v764 v779 v794 v809 v824 v839 v854 v869 v884 v899 v914 v929 v944 v959 v974 v989 v1004) a + S256x128.size a ≤ S16704x128.size a)
theorem k0_off97_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (k0_hw39 : k0_chk39 i arg0 v487 v495 v509 v524 v539 v554 v569 v584 v599 v614 v629 v644 v659 v674 v689 v704 v719 v734 v749 v764 v779 v794 v809 v824 v839 v854 v869 v884 v899 v914 v929 v944 v959 v974 v989 v1004), ∀ (k0_h3 : k0_cond3 i arg0 v487 = 1#1), ∀ a, (k0_off97 v495 v509 v524 v539 v554 v569 v584 v599 v614 v629 v644 v659 v674 v689 v704 v719 v734 v749 v764 v779 v794 v809 v824 v839 v854 v869 v884 v899 v914 v929 v944 v959 v974 v989 v1004) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 k0_hw39 k0_h3 => k0_hw39 k0_h3

def k0_off98 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let v1035 : Index := Scalar.indexCast v1033
  let c0_619 : Index := 0#32
  ![v1035.toNat, 0]

def k0_chk40 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) : Prop :=
  (∀ (k0_h3 : k0_cond3 i arg0 v487 = 1#1), ∀ a, (k0_off98 v495 v509 v524 v539 v554 v569 v584 v599 v614 v629 v644 v659 v674 v689 v704 v719 v734 v749 v764 v779 v794 v809 v824 v839 v854 v869 v884 v899 v914 v929 v944 v959 v974 v989 v1004 v1019) a + S256x128.size a ≤ S16704x128.size a)
theorem k0_off98_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (k0_hw40 : k0_chk40 i arg0 v487 v495 v509 v524 v539 v554 v569 v584 v599 v614 v629 v644 v659 v674 v689 v704 v719 v734 v749 v764 v779 v794 v809 v824 v839 v854 v869 v884 v899 v914 v929 v944 v959 v974 v989 v1004 v1019), ∀ (k0_h3 : k0_cond3 i arg0 v487 = 1#1), ∀ a, (k0_off98 v495 v509 v524 v539 v554 v569 v584 v599 v614 v629 v644 v659 v674 v689 v704 v719 v734 v749 v764 v779 v794 v809 v824 v839 v854 v869 v884 v899 v914 v929 v944 v959 v974 v989 v1004 v1019) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 k0_hw40 k0_h3 => k0_hw40 k0_h3

def k0_off99 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let v1050 : Index := Scalar.indexCast v1048
  let c0_627 : Index := 0#32
  ![v1050.toNat, 0]

def k0_chk41 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) : Prop :=
  (∀ (k0_h3 : k0_cond3 i arg0 v487 = 1#1), ∀ a, (k0_off99 v495 v509 v524 v539 v554 v569 v584 v599 v614 v629 v644 v659 v674 v689 v704 v719 v734 v749 v764 v779 v794 v809 v824 v839 v854 v869 v884 v899 v914 v929 v944 v959 v974 v989 v1004 v1019 v1034) a + S256x128.size a ≤ S16704x128.size a)
theorem k0_off99_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (k0_hw41 : k0_chk41 i arg0 v487 v495 v509 v524 v539 v554 v569 v584 v599 v614 v629 v644 v659 v674 v689 v704 v719 v734 v749 v764 v779 v794 v809 v824 v839 v854 v869 v884 v899 v914 v929 v944 v959 v974 v989 v1004 v1019 v1034), ∀ (k0_h3 : k0_cond3 i arg0 v487 = 1#1), ∀ a, (k0_off99 v495 v509 v524 v539 v554 v569 v584 v599 v614 v629 v644 v659 v674 v689 v704 v719 v734 v749 v764 v779 v794 v809 v824 v839 v854 v869 v884 v899 v914 v929 v944 v959 v974 v989 v1004 v1019 v1034) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 k0_hw41 k0_h3 => k0_hw41 k0_h3

def k0_off100 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let v1065 : Index := Scalar.indexCast v1063
  let c0_635 : Index := 0#32
  ![v1065.toNat, 0]

def k0_chk42 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) : Prop :=
  (∀ (k0_h3 : k0_cond3 i arg0 v487 = 1#1), ∀ a, (k0_off100 v495 v509 v524 v539 v554 v569 v584 v599 v614 v629 v644 v659 v674 v689 v704 v719 v734 v749 v764 v779 v794 v809 v824 v839 v854 v869 v884 v899 v914 v929 v944 v959 v974 v989 v1004 v1019 v1034 v1049) a + S256x128.size a ≤ S16704x128.size a)
theorem k0_off100_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (k0_hw42 : k0_chk42 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049), ∀ (k0_h3 : k0_cond3 i arg0 v487 = 1#1), ∀ a, (k0_off100 v495 v509 v524 v539 v554 v569 v584 v599 v614 v629 v644 v659 v674 v689 v704 v719 v734 v749 v764 v779 v794 v809 v824 v839 v854 v869 v884 v899 v914 v929 v944 v959 v974 v989 v1004 v1019 v1034 v1049) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 k0_hw42 k0_h3 => k0_hw42 k0_h3

def k0_off101 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let v1080 : Index := Scalar.indexCast v1078
  let c0_643 : Index := 0#32
  ![v1080.toNat, 0]

def k0_chk43 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) : Prop :=
  (∀ (k0_h3 : k0_cond3 i arg0 v487 = 1#1), ∀ a, (k0_off101 v495 v509 v524 v539 v554 v569 v584 v599 v614 v629 v644 v659 v674 v689 v704 v719 v734 v749 v764 v779 v794 v809 v824 v839 v854 v869 v884 v899 v914 v929 v944 v959 v974 v989 v1004 v1019 v1034 v1049 v1064) a + S256x128.size a ≤ S16704x128.size a)
theorem k0_off101_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (k0_hw43 : k0_chk43 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064), ∀ (k0_h3 : k0_cond3 i arg0 v487 = 1#1), ∀ a, (k0_off101 v495 v509 v524 v539 v554 v569 v584 v599 v614 v629 v644 v659 v674 v689 v704 v719 v734 v749 v764 v779 v794 v809 v824 v839 v854 v869 v884 v899 v914 v929 v944 v959 v974 v989 v1004 v1019 v1034 v1049 v1064) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 k0_hw43 k0_h3 => k0_hw43 k0_h3

def k0_off102 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let c0_i32_648 : BitVec 32 := 0#32
  let v1090 : BitVec 1 := Scalar.cmpi .sgt v1079 c0_i32_648
  let c8_i32_649 : BitVec 32 := 8#32
  let v1091 : BitVec 32 := Scalar.maxsi v1079 c8_i32_649
  let c0_i32_650 : BitVec 32 := 0#32
  let v1092 : BitVec 32 := Scalar.select v1090 v1091 c0_i32_650
  let v1093 : BitVec 32 := Scalar.addi v1078 v1092
  let v1095 : Index := Scalar.indexCast v1093
  let c0_651 : Index := 0#32
  ![v1095.toNat, 0]

def k0_chk44 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) : Prop :=
  (∀ (k0_h3 : k0_cond3 i arg0 v487 = 1#1), ∀ a, (k0_off102 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079) a + S256x128.size a ≤ S16704x128.size a)
theorem k0_off102_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (k0_hw44 : k0_chk44 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079), ∀ (k0_h3 : k0_cond3 i arg0 v487 = 1#1), ∀ a, (k0_off102 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 k0_hw44 k0_h3 => k0_hw44 k0_h3

def k0_off103 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let c0_i32_648 : BitVec 32 := 0#32
  let v1090 : BitVec 1 := Scalar.cmpi .sgt v1079 c0_i32_648
  let c8_i32_649 : BitVec 32 := 8#32
  let v1091 : BitVec 32 := Scalar.maxsi v1079 c8_i32_649
  let c0_i32_650 : BitVec 32 := 0#32
  let v1092 : BitVec 32 := Scalar.select v1090 v1091 c0_i32_650
  let v1093 : BitVec 32 := Scalar.addi v1078 v1092
  let c0_i32_656 : BitVec 32 := 0#32
  let v1105 : BitVec 1 := Scalar.cmpi .sgt v1094 c0_i32_656
  let c8_i32_657 : BitVec 32 := 8#32
  let v1106 : BitVec 32 := Scalar.maxsi v1094 c8_i32_657
  let c0_i32_658 : BitVec 32 := 0#32
  let v1107 : BitVec 32 := Scalar.select v1105 v1106 c0_i32_658
  let v1108 : BitVec 32 := Scalar.addi v1093 v1107
  let v1110 : Index := Scalar.indexCast v1108
  let c0_659 : Index := 0#32
  ![v1110.toNat, 0]

def k0_chk45 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) : Prop :=
  (∀ (k0_h3 : k0_cond3 i arg0 v487 = 1#1), ∀ a, (k0_off103 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094) a + S256x128.size a ≤ S16704x128.size a)
theorem k0_off103_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (k0_hw45 : k0_chk45 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094), ∀ (k0_h3 : k0_cond3 i arg0 v487 = 1#1), ∀ a, (k0_off103 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 k0_hw45 k0_h3 => k0_hw45 k0_h3

def k0_off104 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let c0_i32_648 : BitVec 32 := 0#32
  let v1090 : BitVec 1 := Scalar.cmpi .sgt v1079 c0_i32_648
  let c8_i32_649 : BitVec 32 := 8#32
  let v1091 : BitVec 32 := Scalar.maxsi v1079 c8_i32_649
  let c0_i32_650 : BitVec 32 := 0#32
  let v1092 : BitVec 32 := Scalar.select v1090 v1091 c0_i32_650
  let v1093 : BitVec 32 := Scalar.addi v1078 v1092
  let c0_i32_656 : BitVec 32 := 0#32
  let v1105 : BitVec 1 := Scalar.cmpi .sgt v1094 c0_i32_656
  let c8_i32_657 : BitVec 32 := 8#32
  let v1106 : BitVec 32 := Scalar.maxsi v1094 c8_i32_657
  let c0_i32_658 : BitVec 32 := 0#32
  let v1107 : BitVec 32 := Scalar.select v1105 v1106 c0_i32_658
  let v1108 : BitVec 32 := Scalar.addi v1093 v1107
  let c0_i32_664 : BitVec 32 := 0#32
  let v1120 : BitVec 1 := Scalar.cmpi .sgt v1109 c0_i32_664
  let c8_i32_665 : BitVec 32 := 8#32
  let v1121 : BitVec 32 := Scalar.maxsi v1109 c8_i32_665
  let c0_i32_666 : BitVec 32 := 0#32
  let v1122 : BitVec 32 := Scalar.select v1120 v1121 c0_i32_666
  let v1123 : BitVec 32 := Scalar.addi v1108 v1122
  let v1125 : Index := Scalar.indexCast v1123
  let c0_667 : Index := 0#32
  ![v1125.toNat, 0]

def k0_chk46 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) : Prop :=
  (∀ (k0_h3 : k0_cond3 i arg0 v487 = 1#1), ∀ a, (k0_off104 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109) a + S256x128.size a ≤ S16704x128.size a)
theorem k0_off104_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (k0_hw46 : k0_chk46 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109), ∀ (k0_h3 : k0_cond3 i arg0 v487 = 1#1), ∀ a, (k0_off104 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 k0_hw46 k0_h3 => k0_hw46 k0_h3

def k0_off105 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let c0_i32_648 : BitVec 32 := 0#32
  let v1090 : BitVec 1 := Scalar.cmpi .sgt v1079 c0_i32_648
  let c8_i32_649 : BitVec 32 := 8#32
  let v1091 : BitVec 32 := Scalar.maxsi v1079 c8_i32_649
  let c0_i32_650 : BitVec 32 := 0#32
  let v1092 : BitVec 32 := Scalar.select v1090 v1091 c0_i32_650
  let v1093 : BitVec 32 := Scalar.addi v1078 v1092
  let c0_i32_656 : BitVec 32 := 0#32
  let v1105 : BitVec 1 := Scalar.cmpi .sgt v1094 c0_i32_656
  let c8_i32_657 : BitVec 32 := 8#32
  let v1106 : BitVec 32 := Scalar.maxsi v1094 c8_i32_657
  let c0_i32_658 : BitVec 32 := 0#32
  let v1107 : BitVec 32 := Scalar.select v1105 v1106 c0_i32_658
  let v1108 : BitVec 32 := Scalar.addi v1093 v1107
  let c0_i32_664 : BitVec 32 := 0#32
  let v1120 : BitVec 1 := Scalar.cmpi .sgt v1109 c0_i32_664
  let c8_i32_665 : BitVec 32 := 8#32
  let v1121 : BitVec 32 := Scalar.maxsi v1109 c8_i32_665
  let c0_i32_666 : BitVec 32 := 0#32
  let v1122 : BitVec 32 := Scalar.select v1120 v1121 c0_i32_666
  let v1123 : BitVec 32 := Scalar.addi v1108 v1122
  let c0_i32_672 : BitVec 32 := 0#32
  let v1135 : BitVec 1 := Scalar.cmpi .sgt v1124 c0_i32_672
  let c8_i32_673 : BitVec 32 := 8#32
  let v1136 : BitVec 32 := Scalar.maxsi v1124 c8_i32_673
  let c0_i32_674 : BitVec 32 := 0#32
  let v1137 : BitVec 32 := Scalar.select v1135 v1136 c0_i32_674
  let v1138 : BitVec 32 := Scalar.addi v1123 v1137
  let v1140 : Index := Scalar.indexCast v1138
  let c0_675 : Index := 0#32
  ![v1140.toNat, 0]

def k0_chk47 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) : Prop :=
  (∀ (k0_h3 : k0_cond3 i arg0 v487 = 1#1), ∀ a, (k0_off105 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124) a + S256x128.size a ≤ S16704x128.size a)
theorem k0_off105_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (k0_hw47 : k0_chk47 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124), ∀ (k0_h3 : k0_cond3 i arg0 v487 = 1#1), ∀ a, (k0_off105 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 k0_hw47 k0_h3 => k0_hw47 k0_h3

def k0_off106 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let c0_i32_648 : BitVec 32 := 0#32
  let v1090 : BitVec 1 := Scalar.cmpi .sgt v1079 c0_i32_648
  let c8_i32_649 : BitVec 32 := 8#32
  let v1091 : BitVec 32 := Scalar.maxsi v1079 c8_i32_649
  let c0_i32_650 : BitVec 32 := 0#32
  let v1092 : BitVec 32 := Scalar.select v1090 v1091 c0_i32_650
  let v1093 : BitVec 32 := Scalar.addi v1078 v1092
  let c0_i32_656 : BitVec 32 := 0#32
  let v1105 : BitVec 1 := Scalar.cmpi .sgt v1094 c0_i32_656
  let c8_i32_657 : BitVec 32 := 8#32
  let v1106 : BitVec 32 := Scalar.maxsi v1094 c8_i32_657
  let c0_i32_658 : BitVec 32 := 0#32
  let v1107 : BitVec 32 := Scalar.select v1105 v1106 c0_i32_658
  let v1108 : BitVec 32 := Scalar.addi v1093 v1107
  let c0_i32_664 : BitVec 32 := 0#32
  let v1120 : BitVec 1 := Scalar.cmpi .sgt v1109 c0_i32_664
  let c8_i32_665 : BitVec 32 := 8#32
  let v1121 : BitVec 32 := Scalar.maxsi v1109 c8_i32_665
  let c0_i32_666 : BitVec 32 := 0#32
  let v1122 : BitVec 32 := Scalar.select v1120 v1121 c0_i32_666
  let v1123 : BitVec 32 := Scalar.addi v1108 v1122
  let c0_i32_672 : BitVec 32 := 0#32
  let v1135 : BitVec 1 := Scalar.cmpi .sgt v1124 c0_i32_672
  let c8_i32_673 : BitVec 32 := 8#32
  let v1136 : BitVec 32 := Scalar.maxsi v1124 c8_i32_673
  let c0_i32_674 : BitVec 32 := 0#32
  let v1137 : BitVec 32 := Scalar.select v1135 v1136 c0_i32_674
  let v1138 : BitVec 32 := Scalar.addi v1123 v1137
  let c0_i32_680 : BitVec 32 := 0#32
  let v1150 : BitVec 1 := Scalar.cmpi .sgt v1139 c0_i32_680
  let c8_i32_681 : BitVec 32 := 8#32
  let v1151 : BitVec 32 := Scalar.maxsi v1139 c8_i32_681
  let c0_i32_682 : BitVec 32 := 0#32
  let v1152 : BitVec 32 := Scalar.select v1150 v1151 c0_i32_682
  let v1153 : BitVec 32 := Scalar.addi v1138 v1152
  let v1155 : Index := Scalar.indexCast v1153
  let c0_683 : Index := 0#32
  ![v1155.toNat, 0]

def k0_chk48 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) : Prop :=
  (∀ (k0_h3 : k0_cond3 i arg0 v487 = 1#1), ∀ a, (k0_off106 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139) a + S256x128.size a ≤ S16704x128.size a)
theorem k0_off106_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (k0_hw48 : k0_chk48 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139), ∀ (k0_h3 : k0_cond3 i arg0 v487 = 1#1), ∀ a, (k0_off106 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 k0_hw48 k0_h3 => k0_hw48 k0_h3

def k0_off107 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let c0_i32_648 : BitVec 32 := 0#32
  let v1090 : BitVec 1 := Scalar.cmpi .sgt v1079 c0_i32_648
  let c8_i32_649 : BitVec 32 := 8#32
  let v1091 : BitVec 32 := Scalar.maxsi v1079 c8_i32_649
  let c0_i32_650 : BitVec 32 := 0#32
  let v1092 : BitVec 32 := Scalar.select v1090 v1091 c0_i32_650
  let v1093 : BitVec 32 := Scalar.addi v1078 v1092
  let c0_i32_656 : BitVec 32 := 0#32
  let v1105 : BitVec 1 := Scalar.cmpi .sgt v1094 c0_i32_656
  let c8_i32_657 : BitVec 32 := 8#32
  let v1106 : BitVec 32 := Scalar.maxsi v1094 c8_i32_657
  let c0_i32_658 : BitVec 32 := 0#32
  let v1107 : BitVec 32 := Scalar.select v1105 v1106 c0_i32_658
  let v1108 : BitVec 32 := Scalar.addi v1093 v1107
  let c0_i32_664 : BitVec 32 := 0#32
  let v1120 : BitVec 1 := Scalar.cmpi .sgt v1109 c0_i32_664
  let c8_i32_665 : BitVec 32 := 8#32
  let v1121 : BitVec 32 := Scalar.maxsi v1109 c8_i32_665
  let c0_i32_666 : BitVec 32 := 0#32
  let v1122 : BitVec 32 := Scalar.select v1120 v1121 c0_i32_666
  let v1123 : BitVec 32 := Scalar.addi v1108 v1122
  let c0_i32_672 : BitVec 32 := 0#32
  let v1135 : BitVec 1 := Scalar.cmpi .sgt v1124 c0_i32_672
  let c8_i32_673 : BitVec 32 := 8#32
  let v1136 : BitVec 32 := Scalar.maxsi v1124 c8_i32_673
  let c0_i32_674 : BitVec 32 := 0#32
  let v1137 : BitVec 32 := Scalar.select v1135 v1136 c0_i32_674
  let v1138 : BitVec 32 := Scalar.addi v1123 v1137
  let c0_i32_680 : BitVec 32 := 0#32
  let v1150 : BitVec 1 := Scalar.cmpi .sgt v1139 c0_i32_680
  let c8_i32_681 : BitVec 32 := 8#32
  let v1151 : BitVec 32 := Scalar.maxsi v1139 c8_i32_681
  let c0_i32_682 : BitVec 32 := 0#32
  let v1152 : BitVec 32 := Scalar.select v1150 v1151 c0_i32_682
  let v1153 : BitVec 32 := Scalar.addi v1138 v1152
  let c0_i32_688 : BitVec 32 := 0#32
  let v1165 : BitVec 1 := Scalar.cmpi .sgt v1154 c0_i32_688
  let c8_i32_689 : BitVec 32 := 8#32
  let v1166 : BitVec 32 := Scalar.maxsi v1154 c8_i32_689
  let c0_i32_690 : BitVec 32 := 0#32
  let v1167 : BitVec 32 := Scalar.select v1165 v1166 c0_i32_690
  let v1168 : BitVec 32 := Scalar.addi v1153 v1167
  let v1170 : Index := Scalar.indexCast v1168
  let c0_691 : Index := 0#32
  ![v1170.toNat, 0]

def k0_chk49 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) : Prop :=
  (∀ (k0_h3 : k0_cond3 i arg0 v487 = 1#1), ∀ a, (k0_off107 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154) a + S256x128.size a ≤ S16704x128.size a)
theorem k0_off107_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (k0_hw49 : k0_chk49 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154), ∀ (k0_h3 : k0_cond3 i arg0 v487 = 1#1), ∀ a, (k0_off107 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 k0_hw49 k0_h3 => k0_hw49 k0_h3

def k0_off108 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let c0_i32_648 : BitVec 32 := 0#32
  let v1090 : BitVec 1 := Scalar.cmpi .sgt v1079 c0_i32_648
  let c8_i32_649 : BitVec 32 := 8#32
  let v1091 : BitVec 32 := Scalar.maxsi v1079 c8_i32_649
  let c0_i32_650 : BitVec 32 := 0#32
  let v1092 : BitVec 32 := Scalar.select v1090 v1091 c0_i32_650
  let v1093 : BitVec 32 := Scalar.addi v1078 v1092
  let c0_i32_656 : BitVec 32 := 0#32
  let v1105 : BitVec 1 := Scalar.cmpi .sgt v1094 c0_i32_656
  let c8_i32_657 : BitVec 32 := 8#32
  let v1106 : BitVec 32 := Scalar.maxsi v1094 c8_i32_657
  let c0_i32_658 : BitVec 32 := 0#32
  let v1107 : BitVec 32 := Scalar.select v1105 v1106 c0_i32_658
  let v1108 : BitVec 32 := Scalar.addi v1093 v1107
  let c0_i32_664 : BitVec 32 := 0#32
  let v1120 : BitVec 1 := Scalar.cmpi .sgt v1109 c0_i32_664
  let c8_i32_665 : BitVec 32 := 8#32
  let v1121 : BitVec 32 := Scalar.maxsi v1109 c8_i32_665
  let c0_i32_666 : BitVec 32 := 0#32
  let v1122 : BitVec 32 := Scalar.select v1120 v1121 c0_i32_666
  let v1123 : BitVec 32 := Scalar.addi v1108 v1122
  let c0_i32_672 : BitVec 32 := 0#32
  let v1135 : BitVec 1 := Scalar.cmpi .sgt v1124 c0_i32_672
  let c8_i32_673 : BitVec 32 := 8#32
  let v1136 : BitVec 32 := Scalar.maxsi v1124 c8_i32_673
  let c0_i32_674 : BitVec 32 := 0#32
  let v1137 : BitVec 32 := Scalar.select v1135 v1136 c0_i32_674
  let v1138 : BitVec 32 := Scalar.addi v1123 v1137
  let c0_i32_680 : BitVec 32 := 0#32
  let v1150 : BitVec 1 := Scalar.cmpi .sgt v1139 c0_i32_680
  let c8_i32_681 : BitVec 32 := 8#32
  let v1151 : BitVec 32 := Scalar.maxsi v1139 c8_i32_681
  let c0_i32_682 : BitVec 32 := 0#32
  let v1152 : BitVec 32 := Scalar.select v1150 v1151 c0_i32_682
  let v1153 : BitVec 32 := Scalar.addi v1138 v1152
  let c0_i32_688 : BitVec 32 := 0#32
  let v1165 : BitVec 1 := Scalar.cmpi .sgt v1154 c0_i32_688
  let c8_i32_689 : BitVec 32 := 8#32
  let v1166 : BitVec 32 := Scalar.maxsi v1154 c8_i32_689
  let c0_i32_690 : BitVec 32 := 0#32
  let v1167 : BitVec 32 := Scalar.select v1165 v1166 c0_i32_690
  let v1168 : BitVec 32 := Scalar.addi v1153 v1167
  let c0_i32_696 : BitVec 32 := 0#32
  let v1180 : BitVec 1 := Scalar.cmpi .sgt v1169 c0_i32_696
  let c8_i32_697 : BitVec 32 := 8#32
  let v1181 : BitVec 32 := Scalar.maxsi v1169 c8_i32_697
  let c0_i32_698 : BitVec 32 := 0#32
  let v1182 : BitVec 32 := Scalar.select v1180 v1181 c0_i32_698
  let v1183 : BitVec 32 := Scalar.addi v1168 v1182
  let v1185 : Index := Scalar.indexCast v1183
  let c0_699 : Index := 0#32
  ![v1185.toNat, 0]

def k0_chk50 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) : Prop :=
  (∀ (k0_h3 : k0_cond3 i arg0 v487 = 1#1), ∀ a, (k0_off108 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169) a + S256x128.size a ≤ S16704x128.size a)
theorem k0_off108_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (k0_hw50 : k0_chk50 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169), ∀ (k0_h3 : k0_cond3 i arg0 v487 = 1#1), ∀ a, (k0_off108 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 k0_hw50 k0_h3 => k0_hw50 k0_h3

def k0_off109 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let c0_i32_648 : BitVec 32 := 0#32
  let v1090 : BitVec 1 := Scalar.cmpi .sgt v1079 c0_i32_648
  let c8_i32_649 : BitVec 32 := 8#32
  let v1091 : BitVec 32 := Scalar.maxsi v1079 c8_i32_649
  let c0_i32_650 : BitVec 32 := 0#32
  let v1092 : BitVec 32 := Scalar.select v1090 v1091 c0_i32_650
  let v1093 : BitVec 32 := Scalar.addi v1078 v1092
  let c0_i32_656 : BitVec 32 := 0#32
  let v1105 : BitVec 1 := Scalar.cmpi .sgt v1094 c0_i32_656
  let c8_i32_657 : BitVec 32 := 8#32
  let v1106 : BitVec 32 := Scalar.maxsi v1094 c8_i32_657
  let c0_i32_658 : BitVec 32 := 0#32
  let v1107 : BitVec 32 := Scalar.select v1105 v1106 c0_i32_658
  let v1108 : BitVec 32 := Scalar.addi v1093 v1107
  let c0_i32_664 : BitVec 32 := 0#32
  let v1120 : BitVec 1 := Scalar.cmpi .sgt v1109 c0_i32_664
  let c8_i32_665 : BitVec 32 := 8#32
  let v1121 : BitVec 32 := Scalar.maxsi v1109 c8_i32_665
  let c0_i32_666 : BitVec 32 := 0#32
  let v1122 : BitVec 32 := Scalar.select v1120 v1121 c0_i32_666
  let v1123 : BitVec 32 := Scalar.addi v1108 v1122
  let c0_i32_672 : BitVec 32 := 0#32
  let v1135 : BitVec 1 := Scalar.cmpi .sgt v1124 c0_i32_672
  let c8_i32_673 : BitVec 32 := 8#32
  let v1136 : BitVec 32 := Scalar.maxsi v1124 c8_i32_673
  let c0_i32_674 : BitVec 32 := 0#32
  let v1137 : BitVec 32 := Scalar.select v1135 v1136 c0_i32_674
  let v1138 : BitVec 32 := Scalar.addi v1123 v1137
  let c0_i32_680 : BitVec 32 := 0#32
  let v1150 : BitVec 1 := Scalar.cmpi .sgt v1139 c0_i32_680
  let c8_i32_681 : BitVec 32 := 8#32
  let v1151 : BitVec 32 := Scalar.maxsi v1139 c8_i32_681
  let c0_i32_682 : BitVec 32 := 0#32
  let v1152 : BitVec 32 := Scalar.select v1150 v1151 c0_i32_682
  let v1153 : BitVec 32 := Scalar.addi v1138 v1152
  let c0_i32_688 : BitVec 32 := 0#32
  let v1165 : BitVec 1 := Scalar.cmpi .sgt v1154 c0_i32_688
  let c8_i32_689 : BitVec 32 := 8#32
  let v1166 : BitVec 32 := Scalar.maxsi v1154 c8_i32_689
  let c0_i32_690 : BitVec 32 := 0#32
  let v1167 : BitVec 32 := Scalar.select v1165 v1166 c0_i32_690
  let v1168 : BitVec 32 := Scalar.addi v1153 v1167
  let c0_i32_696 : BitVec 32 := 0#32
  let v1180 : BitVec 1 := Scalar.cmpi .sgt v1169 c0_i32_696
  let c8_i32_697 : BitVec 32 := 8#32
  let v1181 : BitVec 32 := Scalar.maxsi v1169 c8_i32_697
  let c0_i32_698 : BitVec 32 := 0#32
  let v1182 : BitVec 32 := Scalar.select v1180 v1181 c0_i32_698
  let v1183 : BitVec 32 := Scalar.addi v1168 v1182
  let c0_i32_704 : BitVec 32 := 0#32
  let v1195 : BitVec 1 := Scalar.cmpi .sgt v1184 c0_i32_704
  let c8_i32_705 : BitVec 32 := 8#32
  let v1196 : BitVec 32 := Scalar.maxsi v1184 c8_i32_705
  let c0_i32_706 : BitVec 32 := 0#32
  let v1197 : BitVec 32 := Scalar.select v1195 v1196 c0_i32_706
  let v1198 : BitVec 32 := Scalar.addi v1183 v1197
  let v1200 : Index := Scalar.indexCast v1198
  let c0_707 : Index := 0#32
  ![v1200.toNat, 0]

def k0_chk51 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) : Prop :=
  (∀ (k0_h3 : k0_cond3 i arg0 v487 = 1#1), ∀ a, (k0_off109 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184) a + S256x128.size a ≤ S16704x128.size a)
theorem k0_off109_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (k0_hw51 : k0_chk51 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184), ∀ (k0_h3 : k0_cond3 i arg0 v487 = 1#1), ∀ a, (k0_off109 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 k0_hw51 k0_h3 => k0_hw51 k0_h3

def k0_off110 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let c0_i32_648 : BitVec 32 := 0#32
  let v1090 : BitVec 1 := Scalar.cmpi .sgt v1079 c0_i32_648
  let c8_i32_649 : BitVec 32 := 8#32
  let v1091 : BitVec 32 := Scalar.maxsi v1079 c8_i32_649
  let c0_i32_650 : BitVec 32 := 0#32
  let v1092 : BitVec 32 := Scalar.select v1090 v1091 c0_i32_650
  let v1093 : BitVec 32 := Scalar.addi v1078 v1092
  let c0_i32_656 : BitVec 32 := 0#32
  let v1105 : BitVec 1 := Scalar.cmpi .sgt v1094 c0_i32_656
  let c8_i32_657 : BitVec 32 := 8#32
  let v1106 : BitVec 32 := Scalar.maxsi v1094 c8_i32_657
  let c0_i32_658 : BitVec 32 := 0#32
  let v1107 : BitVec 32 := Scalar.select v1105 v1106 c0_i32_658
  let v1108 : BitVec 32 := Scalar.addi v1093 v1107
  let c0_i32_664 : BitVec 32 := 0#32
  let v1120 : BitVec 1 := Scalar.cmpi .sgt v1109 c0_i32_664
  let c8_i32_665 : BitVec 32 := 8#32
  let v1121 : BitVec 32 := Scalar.maxsi v1109 c8_i32_665
  let c0_i32_666 : BitVec 32 := 0#32
  let v1122 : BitVec 32 := Scalar.select v1120 v1121 c0_i32_666
  let v1123 : BitVec 32 := Scalar.addi v1108 v1122
  let c0_i32_672 : BitVec 32 := 0#32
  let v1135 : BitVec 1 := Scalar.cmpi .sgt v1124 c0_i32_672
  let c8_i32_673 : BitVec 32 := 8#32
  let v1136 : BitVec 32 := Scalar.maxsi v1124 c8_i32_673
  let c0_i32_674 : BitVec 32 := 0#32
  let v1137 : BitVec 32 := Scalar.select v1135 v1136 c0_i32_674
  let v1138 : BitVec 32 := Scalar.addi v1123 v1137
  let c0_i32_680 : BitVec 32 := 0#32
  let v1150 : BitVec 1 := Scalar.cmpi .sgt v1139 c0_i32_680
  let c8_i32_681 : BitVec 32 := 8#32
  let v1151 : BitVec 32 := Scalar.maxsi v1139 c8_i32_681
  let c0_i32_682 : BitVec 32 := 0#32
  let v1152 : BitVec 32 := Scalar.select v1150 v1151 c0_i32_682
  let v1153 : BitVec 32 := Scalar.addi v1138 v1152
  let c0_i32_688 : BitVec 32 := 0#32
  let v1165 : BitVec 1 := Scalar.cmpi .sgt v1154 c0_i32_688
  let c8_i32_689 : BitVec 32 := 8#32
  let v1166 : BitVec 32 := Scalar.maxsi v1154 c8_i32_689
  let c0_i32_690 : BitVec 32 := 0#32
  let v1167 : BitVec 32 := Scalar.select v1165 v1166 c0_i32_690
  let v1168 : BitVec 32 := Scalar.addi v1153 v1167
  let c0_i32_696 : BitVec 32 := 0#32
  let v1180 : BitVec 1 := Scalar.cmpi .sgt v1169 c0_i32_696
  let c8_i32_697 : BitVec 32 := 8#32
  let v1181 : BitVec 32 := Scalar.maxsi v1169 c8_i32_697
  let c0_i32_698 : BitVec 32 := 0#32
  let v1182 : BitVec 32 := Scalar.select v1180 v1181 c0_i32_698
  let v1183 : BitVec 32 := Scalar.addi v1168 v1182
  let c0_i32_704 : BitVec 32 := 0#32
  let v1195 : BitVec 1 := Scalar.cmpi .sgt v1184 c0_i32_704
  let c8_i32_705 : BitVec 32 := 8#32
  let v1196 : BitVec 32 := Scalar.maxsi v1184 c8_i32_705
  let c0_i32_706 : BitVec 32 := 0#32
  let v1197 : BitVec 32 := Scalar.select v1195 v1196 c0_i32_706
  let v1198 : BitVec 32 := Scalar.addi v1183 v1197
  let c0_i32_712 : BitVec 32 := 0#32
  let v1210 : BitVec 1 := Scalar.cmpi .sgt v1199 c0_i32_712
  let c8_i32_713 : BitVec 32 := 8#32
  let v1211 : BitVec 32 := Scalar.maxsi v1199 c8_i32_713
  let c0_i32_714 : BitVec 32 := 0#32
  let v1212 : BitVec 32 := Scalar.select v1210 v1211 c0_i32_714
  let v1213 : BitVec 32 := Scalar.addi v1198 v1212
  let v1215 : Index := Scalar.indexCast v1213
  let c0_715 : Index := 0#32
  ![v1215.toNat, 0]

def k0_chk52 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) : Prop :=
  (∀ (k0_h3 : k0_cond3 i arg0 v487 = 1#1), ∀ a, (k0_off110 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199) a + S256x128.size a ≤ S16704x128.size a)
theorem k0_off110_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (k0_hw52 : k0_chk52 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199), ∀ (k0_h3 : k0_cond3 i arg0 v487 = 1#1), ∀ a, (k0_off110 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 k0_hw52 k0_h3 => k0_hw52 k0_h3

def k0_off111 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let c0_i32_648 : BitVec 32 := 0#32
  let v1090 : BitVec 1 := Scalar.cmpi .sgt v1079 c0_i32_648
  let c8_i32_649 : BitVec 32 := 8#32
  let v1091 : BitVec 32 := Scalar.maxsi v1079 c8_i32_649
  let c0_i32_650 : BitVec 32 := 0#32
  let v1092 : BitVec 32 := Scalar.select v1090 v1091 c0_i32_650
  let v1093 : BitVec 32 := Scalar.addi v1078 v1092
  let c0_i32_656 : BitVec 32 := 0#32
  let v1105 : BitVec 1 := Scalar.cmpi .sgt v1094 c0_i32_656
  let c8_i32_657 : BitVec 32 := 8#32
  let v1106 : BitVec 32 := Scalar.maxsi v1094 c8_i32_657
  let c0_i32_658 : BitVec 32 := 0#32
  let v1107 : BitVec 32 := Scalar.select v1105 v1106 c0_i32_658
  let v1108 : BitVec 32 := Scalar.addi v1093 v1107
  let c0_i32_664 : BitVec 32 := 0#32
  let v1120 : BitVec 1 := Scalar.cmpi .sgt v1109 c0_i32_664
  let c8_i32_665 : BitVec 32 := 8#32
  let v1121 : BitVec 32 := Scalar.maxsi v1109 c8_i32_665
  let c0_i32_666 : BitVec 32 := 0#32
  let v1122 : BitVec 32 := Scalar.select v1120 v1121 c0_i32_666
  let v1123 : BitVec 32 := Scalar.addi v1108 v1122
  let c0_i32_672 : BitVec 32 := 0#32
  let v1135 : BitVec 1 := Scalar.cmpi .sgt v1124 c0_i32_672
  let c8_i32_673 : BitVec 32 := 8#32
  let v1136 : BitVec 32 := Scalar.maxsi v1124 c8_i32_673
  let c0_i32_674 : BitVec 32 := 0#32
  let v1137 : BitVec 32 := Scalar.select v1135 v1136 c0_i32_674
  let v1138 : BitVec 32 := Scalar.addi v1123 v1137
  let c0_i32_680 : BitVec 32 := 0#32
  let v1150 : BitVec 1 := Scalar.cmpi .sgt v1139 c0_i32_680
  let c8_i32_681 : BitVec 32 := 8#32
  let v1151 : BitVec 32 := Scalar.maxsi v1139 c8_i32_681
  let c0_i32_682 : BitVec 32 := 0#32
  let v1152 : BitVec 32 := Scalar.select v1150 v1151 c0_i32_682
  let v1153 : BitVec 32 := Scalar.addi v1138 v1152
  let c0_i32_688 : BitVec 32 := 0#32
  let v1165 : BitVec 1 := Scalar.cmpi .sgt v1154 c0_i32_688
  let c8_i32_689 : BitVec 32 := 8#32
  let v1166 : BitVec 32 := Scalar.maxsi v1154 c8_i32_689
  let c0_i32_690 : BitVec 32 := 0#32
  let v1167 : BitVec 32 := Scalar.select v1165 v1166 c0_i32_690
  let v1168 : BitVec 32 := Scalar.addi v1153 v1167
  let c0_i32_696 : BitVec 32 := 0#32
  let v1180 : BitVec 1 := Scalar.cmpi .sgt v1169 c0_i32_696
  let c8_i32_697 : BitVec 32 := 8#32
  let v1181 : BitVec 32 := Scalar.maxsi v1169 c8_i32_697
  let c0_i32_698 : BitVec 32 := 0#32
  let v1182 : BitVec 32 := Scalar.select v1180 v1181 c0_i32_698
  let v1183 : BitVec 32 := Scalar.addi v1168 v1182
  let c0_i32_704 : BitVec 32 := 0#32
  let v1195 : BitVec 1 := Scalar.cmpi .sgt v1184 c0_i32_704
  let c8_i32_705 : BitVec 32 := 8#32
  let v1196 : BitVec 32 := Scalar.maxsi v1184 c8_i32_705
  let c0_i32_706 : BitVec 32 := 0#32
  let v1197 : BitVec 32 := Scalar.select v1195 v1196 c0_i32_706
  let v1198 : BitVec 32 := Scalar.addi v1183 v1197
  let c0_i32_712 : BitVec 32 := 0#32
  let v1210 : BitVec 1 := Scalar.cmpi .sgt v1199 c0_i32_712
  let c8_i32_713 : BitVec 32 := 8#32
  let v1211 : BitVec 32 := Scalar.maxsi v1199 c8_i32_713
  let c0_i32_714 : BitVec 32 := 0#32
  let v1212 : BitVec 32 := Scalar.select v1210 v1211 c0_i32_714
  let v1213 : BitVec 32 := Scalar.addi v1198 v1212
  let c0_i32_720 : BitVec 32 := 0#32
  let v1225 : BitVec 1 := Scalar.cmpi .sgt v1214 c0_i32_720
  let c8_i32_721 : BitVec 32 := 8#32
  let v1226 : BitVec 32 := Scalar.maxsi v1214 c8_i32_721
  let c0_i32_722 : BitVec 32 := 0#32
  let v1227 : BitVec 32 := Scalar.select v1225 v1226 c0_i32_722
  let v1228 : BitVec 32 := Scalar.addi v1213 v1227
  let v1230 : Index := Scalar.indexCast v1228
  let c0_723 : Index := 0#32
  ![v1230.toNat, 0]

def k0_chk53 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) : Prop :=
  (∀ (k0_h3 : k0_cond3 i arg0 v487 = 1#1), ∀ a, (k0_off111 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214) a + S256x128.size a ≤ S16704x128.size a)
theorem k0_off111_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (k0_hw53 : k0_chk53 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214), ∀ (k0_h3 : k0_cond3 i arg0 v487 = 1#1), ∀ a, (k0_off111 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 k0_hw53 k0_h3 => k0_hw53 k0_h3

def k0_off112 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let c0_i32_648 : BitVec 32 := 0#32
  let v1090 : BitVec 1 := Scalar.cmpi .sgt v1079 c0_i32_648
  let c8_i32_649 : BitVec 32 := 8#32
  let v1091 : BitVec 32 := Scalar.maxsi v1079 c8_i32_649
  let c0_i32_650 : BitVec 32 := 0#32
  let v1092 : BitVec 32 := Scalar.select v1090 v1091 c0_i32_650
  let v1093 : BitVec 32 := Scalar.addi v1078 v1092
  let c0_i32_656 : BitVec 32 := 0#32
  let v1105 : BitVec 1 := Scalar.cmpi .sgt v1094 c0_i32_656
  let c8_i32_657 : BitVec 32 := 8#32
  let v1106 : BitVec 32 := Scalar.maxsi v1094 c8_i32_657
  let c0_i32_658 : BitVec 32 := 0#32
  let v1107 : BitVec 32 := Scalar.select v1105 v1106 c0_i32_658
  let v1108 : BitVec 32 := Scalar.addi v1093 v1107
  let c0_i32_664 : BitVec 32 := 0#32
  let v1120 : BitVec 1 := Scalar.cmpi .sgt v1109 c0_i32_664
  let c8_i32_665 : BitVec 32 := 8#32
  let v1121 : BitVec 32 := Scalar.maxsi v1109 c8_i32_665
  let c0_i32_666 : BitVec 32 := 0#32
  let v1122 : BitVec 32 := Scalar.select v1120 v1121 c0_i32_666
  let v1123 : BitVec 32 := Scalar.addi v1108 v1122
  let c0_i32_672 : BitVec 32 := 0#32
  let v1135 : BitVec 1 := Scalar.cmpi .sgt v1124 c0_i32_672
  let c8_i32_673 : BitVec 32 := 8#32
  let v1136 : BitVec 32 := Scalar.maxsi v1124 c8_i32_673
  let c0_i32_674 : BitVec 32 := 0#32
  let v1137 : BitVec 32 := Scalar.select v1135 v1136 c0_i32_674
  let v1138 : BitVec 32 := Scalar.addi v1123 v1137
  let c0_i32_680 : BitVec 32 := 0#32
  let v1150 : BitVec 1 := Scalar.cmpi .sgt v1139 c0_i32_680
  let c8_i32_681 : BitVec 32 := 8#32
  let v1151 : BitVec 32 := Scalar.maxsi v1139 c8_i32_681
  let c0_i32_682 : BitVec 32 := 0#32
  let v1152 : BitVec 32 := Scalar.select v1150 v1151 c0_i32_682
  let v1153 : BitVec 32 := Scalar.addi v1138 v1152
  let c0_i32_688 : BitVec 32 := 0#32
  let v1165 : BitVec 1 := Scalar.cmpi .sgt v1154 c0_i32_688
  let c8_i32_689 : BitVec 32 := 8#32
  let v1166 : BitVec 32 := Scalar.maxsi v1154 c8_i32_689
  let c0_i32_690 : BitVec 32 := 0#32
  let v1167 : BitVec 32 := Scalar.select v1165 v1166 c0_i32_690
  let v1168 : BitVec 32 := Scalar.addi v1153 v1167
  let c0_i32_696 : BitVec 32 := 0#32
  let v1180 : BitVec 1 := Scalar.cmpi .sgt v1169 c0_i32_696
  let c8_i32_697 : BitVec 32 := 8#32
  let v1181 : BitVec 32 := Scalar.maxsi v1169 c8_i32_697
  let c0_i32_698 : BitVec 32 := 0#32
  let v1182 : BitVec 32 := Scalar.select v1180 v1181 c0_i32_698
  let v1183 : BitVec 32 := Scalar.addi v1168 v1182
  let c0_i32_704 : BitVec 32 := 0#32
  let v1195 : BitVec 1 := Scalar.cmpi .sgt v1184 c0_i32_704
  let c8_i32_705 : BitVec 32 := 8#32
  let v1196 : BitVec 32 := Scalar.maxsi v1184 c8_i32_705
  let c0_i32_706 : BitVec 32 := 0#32
  let v1197 : BitVec 32 := Scalar.select v1195 v1196 c0_i32_706
  let v1198 : BitVec 32 := Scalar.addi v1183 v1197
  let c0_i32_712 : BitVec 32 := 0#32
  let v1210 : BitVec 1 := Scalar.cmpi .sgt v1199 c0_i32_712
  let c8_i32_713 : BitVec 32 := 8#32
  let v1211 : BitVec 32 := Scalar.maxsi v1199 c8_i32_713
  let c0_i32_714 : BitVec 32 := 0#32
  let v1212 : BitVec 32 := Scalar.select v1210 v1211 c0_i32_714
  let v1213 : BitVec 32 := Scalar.addi v1198 v1212
  let c0_i32_720 : BitVec 32 := 0#32
  let v1225 : BitVec 1 := Scalar.cmpi .sgt v1214 c0_i32_720
  let c8_i32_721 : BitVec 32 := 8#32
  let v1226 : BitVec 32 := Scalar.maxsi v1214 c8_i32_721
  let c0_i32_722 : BitVec 32 := 0#32
  let v1227 : BitVec 32 := Scalar.select v1225 v1226 c0_i32_722
  let v1228 : BitVec 32 := Scalar.addi v1213 v1227
  let c0_i32_728 : BitVec 32 := 0#32
  let v1240 : BitVec 1 := Scalar.cmpi .sgt v1229 c0_i32_728
  let c8_i32_729 : BitVec 32 := 8#32
  let v1241 : BitVec 32 := Scalar.maxsi v1229 c8_i32_729
  let c0_i32_730 : BitVec 32 := 0#32
  let v1242 : BitVec 32 := Scalar.select v1240 v1241 c0_i32_730
  let v1243 : BitVec 32 := Scalar.addi v1228 v1242
  let v1245 : Index := Scalar.indexCast v1243
  let c0_731 : Index := 0#32
  ![v1245.toNat, 0]

def k0_chk54 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) : Prop :=
  (∀ (k0_h3 : k0_cond3 i arg0 v487 = 1#1), ∀ a, (k0_off112 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229) a + S256x128.size a ≤ S16704x128.size a)
theorem k0_off112_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (k0_hw54 : k0_chk54 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229), ∀ (k0_h3 : k0_cond3 i arg0 v487 = 1#1), ∀ a, (k0_off112 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 k0_hw54 k0_h3 => k0_hw54 k0_h3

def k0_off113 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let c0_i32_648 : BitVec 32 := 0#32
  let v1090 : BitVec 1 := Scalar.cmpi .sgt v1079 c0_i32_648
  let c8_i32_649 : BitVec 32 := 8#32
  let v1091 : BitVec 32 := Scalar.maxsi v1079 c8_i32_649
  let c0_i32_650 : BitVec 32 := 0#32
  let v1092 : BitVec 32 := Scalar.select v1090 v1091 c0_i32_650
  let v1093 : BitVec 32 := Scalar.addi v1078 v1092
  let c0_i32_656 : BitVec 32 := 0#32
  let v1105 : BitVec 1 := Scalar.cmpi .sgt v1094 c0_i32_656
  let c8_i32_657 : BitVec 32 := 8#32
  let v1106 : BitVec 32 := Scalar.maxsi v1094 c8_i32_657
  let c0_i32_658 : BitVec 32 := 0#32
  let v1107 : BitVec 32 := Scalar.select v1105 v1106 c0_i32_658
  let v1108 : BitVec 32 := Scalar.addi v1093 v1107
  let c0_i32_664 : BitVec 32 := 0#32
  let v1120 : BitVec 1 := Scalar.cmpi .sgt v1109 c0_i32_664
  let c8_i32_665 : BitVec 32 := 8#32
  let v1121 : BitVec 32 := Scalar.maxsi v1109 c8_i32_665
  let c0_i32_666 : BitVec 32 := 0#32
  let v1122 : BitVec 32 := Scalar.select v1120 v1121 c0_i32_666
  let v1123 : BitVec 32 := Scalar.addi v1108 v1122
  let c0_i32_672 : BitVec 32 := 0#32
  let v1135 : BitVec 1 := Scalar.cmpi .sgt v1124 c0_i32_672
  let c8_i32_673 : BitVec 32 := 8#32
  let v1136 : BitVec 32 := Scalar.maxsi v1124 c8_i32_673
  let c0_i32_674 : BitVec 32 := 0#32
  let v1137 : BitVec 32 := Scalar.select v1135 v1136 c0_i32_674
  let v1138 : BitVec 32 := Scalar.addi v1123 v1137
  let c0_i32_680 : BitVec 32 := 0#32
  let v1150 : BitVec 1 := Scalar.cmpi .sgt v1139 c0_i32_680
  let c8_i32_681 : BitVec 32 := 8#32
  let v1151 : BitVec 32 := Scalar.maxsi v1139 c8_i32_681
  let c0_i32_682 : BitVec 32 := 0#32
  let v1152 : BitVec 32 := Scalar.select v1150 v1151 c0_i32_682
  let v1153 : BitVec 32 := Scalar.addi v1138 v1152
  let c0_i32_688 : BitVec 32 := 0#32
  let v1165 : BitVec 1 := Scalar.cmpi .sgt v1154 c0_i32_688
  let c8_i32_689 : BitVec 32 := 8#32
  let v1166 : BitVec 32 := Scalar.maxsi v1154 c8_i32_689
  let c0_i32_690 : BitVec 32 := 0#32
  let v1167 : BitVec 32 := Scalar.select v1165 v1166 c0_i32_690
  let v1168 : BitVec 32 := Scalar.addi v1153 v1167
  let c0_i32_696 : BitVec 32 := 0#32
  let v1180 : BitVec 1 := Scalar.cmpi .sgt v1169 c0_i32_696
  let c8_i32_697 : BitVec 32 := 8#32
  let v1181 : BitVec 32 := Scalar.maxsi v1169 c8_i32_697
  let c0_i32_698 : BitVec 32 := 0#32
  let v1182 : BitVec 32 := Scalar.select v1180 v1181 c0_i32_698
  let v1183 : BitVec 32 := Scalar.addi v1168 v1182
  let c0_i32_704 : BitVec 32 := 0#32
  let v1195 : BitVec 1 := Scalar.cmpi .sgt v1184 c0_i32_704
  let c8_i32_705 : BitVec 32 := 8#32
  let v1196 : BitVec 32 := Scalar.maxsi v1184 c8_i32_705
  let c0_i32_706 : BitVec 32 := 0#32
  let v1197 : BitVec 32 := Scalar.select v1195 v1196 c0_i32_706
  let v1198 : BitVec 32 := Scalar.addi v1183 v1197
  let c0_i32_712 : BitVec 32 := 0#32
  let v1210 : BitVec 1 := Scalar.cmpi .sgt v1199 c0_i32_712
  let c8_i32_713 : BitVec 32 := 8#32
  let v1211 : BitVec 32 := Scalar.maxsi v1199 c8_i32_713
  let c0_i32_714 : BitVec 32 := 0#32
  let v1212 : BitVec 32 := Scalar.select v1210 v1211 c0_i32_714
  let v1213 : BitVec 32 := Scalar.addi v1198 v1212
  let c0_i32_720 : BitVec 32 := 0#32
  let v1225 : BitVec 1 := Scalar.cmpi .sgt v1214 c0_i32_720
  let c8_i32_721 : BitVec 32 := 8#32
  let v1226 : BitVec 32 := Scalar.maxsi v1214 c8_i32_721
  let c0_i32_722 : BitVec 32 := 0#32
  let v1227 : BitVec 32 := Scalar.select v1225 v1226 c0_i32_722
  let v1228 : BitVec 32 := Scalar.addi v1213 v1227
  let c0_i32_728 : BitVec 32 := 0#32
  let v1240 : BitVec 1 := Scalar.cmpi .sgt v1229 c0_i32_728
  let c8_i32_729 : BitVec 32 := 8#32
  let v1241 : BitVec 32 := Scalar.maxsi v1229 c8_i32_729
  let c0_i32_730 : BitVec 32 := 0#32
  let v1242 : BitVec 32 := Scalar.select v1240 v1241 c0_i32_730
  let v1243 : BitVec 32 := Scalar.addi v1228 v1242
  let c0_i32_736 : BitVec 32 := 0#32
  let v1255 : BitVec 1 := Scalar.cmpi .sgt v1244 c0_i32_736
  let c8_i32_737 : BitVec 32 := 8#32
  let v1256 : BitVec 32 := Scalar.maxsi v1244 c8_i32_737
  let c0_i32_738 : BitVec 32 := 0#32
  let v1257 : BitVec 32 := Scalar.select v1255 v1256 c0_i32_738
  let v1258 : BitVec 32 := Scalar.addi v1243 v1257
  let v1260 : Index := Scalar.indexCast v1258
  let c0_739 : Index := 0#32
  ![v1260.toNat, 0]

def k0_chk55 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) : Prop :=
  (∀ (k0_h3 : k0_cond3 i arg0 v487 = 1#1), ∀ a, (k0_off113 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244) a + S256x128.size a ≤ S16704x128.size a)
theorem k0_off113_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (k0_hw55 : k0_chk55 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244), ∀ (k0_h3 : k0_cond3 i arg0 v487 = 1#1), ∀ a, (k0_off113 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 k0_hw55 k0_h3 => k0_hw55 k0_h3

def k0_off114 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let c0_i32_648 : BitVec 32 := 0#32
  let v1090 : BitVec 1 := Scalar.cmpi .sgt v1079 c0_i32_648
  let c8_i32_649 : BitVec 32 := 8#32
  let v1091 : BitVec 32 := Scalar.maxsi v1079 c8_i32_649
  let c0_i32_650 : BitVec 32 := 0#32
  let v1092 : BitVec 32 := Scalar.select v1090 v1091 c0_i32_650
  let v1093 : BitVec 32 := Scalar.addi v1078 v1092
  let c0_i32_656 : BitVec 32 := 0#32
  let v1105 : BitVec 1 := Scalar.cmpi .sgt v1094 c0_i32_656
  let c8_i32_657 : BitVec 32 := 8#32
  let v1106 : BitVec 32 := Scalar.maxsi v1094 c8_i32_657
  let c0_i32_658 : BitVec 32 := 0#32
  let v1107 : BitVec 32 := Scalar.select v1105 v1106 c0_i32_658
  let v1108 : BitVec 32 := Scalar.addi v1093 v1107
  let c0_i32_664 : BitVec 32 := 0#32
  let v1120 : BitVec 1 := Scalar.cmpi .sgt v1109 c0_i32_664
  let c8_i32_665 : BitVec 32 := 8#32
  let v1121 : BitVec 32 := Scalar.maxsi v1109 c8_i32_665
  let c0_i32_666 : BitVec 32 := 0#32
  let v1122 : BitVec 32 := Scalar.select v1120 v1121 c0_i32_666
  let v1123 : BitVec 32 := Scalar.addi v1108 v1122
  let c0_i32_672 : BitVec 32 := 0#32
  let v1135 : BitVec 1 := Scalar.cmpi .sgt v1124 c0_i32_672
  let c8_i32_673 : BitVec 32 := 8#32
  let v1136 : BitVec 32 := Scalar.maxsi v1124 c8_i32_673
  let c0_i32_674 : BitVec 32 := 0#32
  let v1137 : BitVec 32 := Scalar.select v1135 v1136 c0_i32_674
  let v1138 : BitVec 32 := Scalar.addi v1123 v1137
  let c0_i32_680 : BitVec 32 := 0#32
  let v1150 : BitVec 1 := Scalar.cmpi .sgt v1139 c0_i32_680
  let c8_i32_681 : BitVec 32 := 8#32
  let v1151 : BitVec 32 := Scalar.maxsi v1139 c8_i32_681
  let c0_i32_682 : BitVec 32 := 0#32
  let v1152 : BitVec 32 := Scalar.select v1150 v1151 c0_i32_682
  let v1153 : BitVec 32 := Scalar.addi v1138 v1152
  let c0_i32_688 : BitVec 32 := 0#32
  let v1165 : BitVec 1 := Scalar.cmpi .sgt v1154 c0_i32_688
  let c8_i32_689 : BitVec 32 := 8#32
  let v1166 : BitVec 32 := Scalar.maxsi v1154 c8_i32_689
  let c0_i32_690 : BitVec 32 := 0#32
  let v1167 : BitVec 32 := Scalar.select v1165 v1166 c0_i32_690
  let v1168 : BitVec 32 := Scalar.addi v1153 v1167
  let c0_i32_696 : BitVec 32 := 0#32
  let v1180 : BitVec 1 := Scalar.cmpi .sgt v1169 c0_i32_696
  let c8_i32_697 : BitVec 32 := 8#32
  let v1181 : BitVec 32 := Scalar.maxsi v1169 c8_i32_697
  let c0_i32_698 : BitVec 32 := 0#32
  let v1182 : BitVec 32 := Scalar.select v1180 v1181 c0_i32_698
  let v1183 : BitVec 32 := Scalar.addi v1168 v1182
  let c0_i32_704 : BitVec 32 := 0#32
  let v1195 : BitVec 1 := Scalar.cmpi .sgt v1184 c0_i32_704
  let c8_i32_705 : BitVec 32 := 8#32
  let v1196 : BitVec 32 := Scalar.maxsi v1184 c8_i32_705
  let c0_i32_706 : BitVec 32 := 0#32
  let v1197 : BitVec 32 := Scalar.select v1195 v1196 c0_i32_706
  let v1198 : BitVec 32 := Scalar.addi v1183 v1197
  let c0_i32_712 : BitVec 32 := 0#32
  let v1210 : BitVec 1 := Scalar.cmpi .sgt v1199 c0_i32_712
  let c8_i32_713 : BitVec 32 := 8#32
  let v1211 : BitVec 32 := Scalar.maxsi v1199 c8_i32_713
  let c0_i32_714 : BitVec 32 := 0#32
  let v1212 : BitVec 32 := Scalar.select v1210 v1211 c0_i32_714
  let v1213 : BitVec 32 := Scalar.addi v1198 v1212
  let c0_i32_720 : BitVec 32 := 0#32
  let v1225 : BitVec 1 := Scalar.cmpi .sgt v1214 c0_i32_720
  let c8_i32_721 : BitVec 32 := 8#32
  let v1226 : BitVec 32 := Scalar.maxsi v1214 c8_i32_721
  let c0_i32_722 : BitVec 32 := 0#32
  let v1227 : BitVec 32 := Scalar.select v1225 v1226 c0_i32_722
  let v1228 : BitVec 32 := Scalar.addi v1213 v1227
  let c0_i32_728 : BitVec 32 := 0#32
  let v1240 : BitVec 1 := Scalar.cmpi .sgt v1229 c0_i32_728
  let c8_i32_729 : BitVec 32 := 8#32
  let v1241 : BitVec 32 := Scalar.maxsi v1229 c8_i32_729
  let c0_i32_730 : BitVec 32 := 0#32
  let v1242 : BitVec 32 := Scalar.select v1240 v1241 c0_i32_730
  let v1243 : BitVec 32 := Scalar.addi v1228 v1242
  let c0_i32_736 : BitVec 32 := 0#32
  let v1255 : BitVec 1 := Scalar.cmpi .sgt v1244 c0_i32_736
  let c8_i32_737 : BitVec 32 := 8#32
  let v1256 : BitVec 32 := Scalar.maxsi v1244 c8_i32_737
  let c0_i32_738 : BitVec 32 := 0#32
  let v1257 : BitVec 32 := Scalar.select v1255 v1256 c0_i32_738
  let v1258 : BitVec 32 := Scalar.addi v1243 v1257
  let c0_i32_744 : BitVec 32 := 0#32
  let v1270 : BitVec 1 := Scalar.cmpi .sgt v1259 c0_i32_744
  let c8_i32_745 : BitVec 32 := 8#32
  let v1271 : BitVec 32 := Scalar.maxsi v1259 c8_i32_745
  let c0_i32_746 : BitVec 32 := 0#32
  let v1272 : BitVec 32 := Scalar.select v1270 v1271 c0_i32_746
  let v1273 : BitVec 32 := Scalar.addi v1258 v1272
  let v1275 : Index := Scalar.indexCast v1273
  let c0_747 : Index := 0#32
  ![v1275.toNat, 0]

def k0_chk56 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) : Prop :=
  (∀ (k0_h3 : k0_cond3 i arg0 v487 = 1#1), ∀ a, (k0_off114 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259) a + S256x128.size a ≤ S16704x128.size a)
theorem k0_off114_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (k0_hw56 : k0_chk56 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259), ∀ (k0_h3 : k0_cond3 i arg0 v487 = 1#1), ∀ a, (k0_off114 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 k0_hw56 k0_h3 => k0_hw56 k0_h3

def k0_off115 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let c0_i32_648 : BitVec 32 := 0#32
  let v1090 : BitVec 1 := Scalar.cmpi .sgt v1079 c0_i32_648
  let c8_i32_649 : BitVec 32 := 8#32
  let v1091 : BitVec 32 := Scalar.maxsi v1079 c8_i32_649
  let c0_i32_650 : BitVec 32 := 0#32
  let v1092 : BitVec 32 := Scalar.select v1090 v1091 c0_i32_650
  let v1093 : BitVec 32 := Scalar.addi v1078 v1092
  let c0_i32_656 : BitVec 32 := 0#32
  let v1105 : BitVec 1 := Scalar.cmpi .sgt v1094 c0_i32_656
  let c8_i32_657 : BitVec 32 := 8#32
  let v1106 : BitVec 32 := Scalar.maxsi v1094 c8_i32_657
  let c0_i32_658 : BitVec 32 := 0#32
  let v1107 : BitVec 32 := Scalar.select v1105 v1106 c0_i32_658
  let v1108 : BitVec 32 := Scalar.addi v1093 v1107
  let c0_i32_664 : BitVec 32 := 0#32
  let v1120 : BitVec 1 := Scalar.cmpi .sgt v1109 c0_i32_664
  let c8_i32_665 : BitVec 32 := 8#32
  let v1121 : BitVec 32 := Scalar.maxsi v1109 c8_i32_665
  let c0_i32_666 : BitVec 32 := 0#32
  let v1122 : BitVec 32 := Scalar.select v1120 v1121 c0_i32_666
  let v1123 : BitVec 32 := Scalar.addi v1108 v1122
  let c0_i32_672 : BitVec 32 := 0#32
  let v1135 : BitVec 1 := Scalar.cmpi .sgt v1124 c0_i32_672
  let c8_i32_673 : BitVec 32 := 8#32
  let v1136 : BitVec 32 := Scalar.maxsi v1124 c8_i32_673
  let c0_i32_674 : BitVec 32 := 0#32
  let v1137 : BitVec 32 := Scalar.select v1135 v1136 c0_i32_674
  let v1138 : BitVec 32 := Scalar.addi v1123 v1137
  let c0_i32_680 : BitVec 32 := 0#32
  let v1150 : BitVec 1 := Scalar.cmpi .sgt v1139 c0_i32_680
  let c8_i32_681 : BitVec 32 := 8#32
  let v1151 : BitVec 32 := Scalar.maxsi v1139 c8_i32_681
  let c0_i32_682 : BitVec 32 := 0#32
  let v1152 : BitVec 32 := Scalar.select v1150 v1151 c0_i32_682
  let v1153 : BitVec 32 := Scalar.addi v1138 v1152
  let c0_i32_688 : BitVec 32 := 0#32
  let v1165 : BitVec 1 := Scalar.cmpi .sgt v1154 c0_i32_688
  let c8_i32_689 : BitVec 32 := 8#32
  let v1166 : BitVec 32 := Scalar.maxsi v1154 c8_i32_689
  let c0_i32_690 : BitVec 32 := 0#32
  let v1167 : BitVec 32 := Scalar.select v1165 v1166 c0_i32_690
  let v1168 : BitVec 32 := Scalar.addi v1153 v1167
  let c0_i32_696 : BitVec 32 := 0#32
  let v1180 : BitVec 1 := Scalar.cmpi .sgt v1169 c0_i32_696
  let c8_i32_697 : BitVec 32 := 8#32
  let v1181 : BitVec 32 := Scalar.maxsi v1169 c8_i32_697
  let c0_i32_698 : BitVec 32 := 0#32
  let v1182 : BitVec 32 := Scalar.select v1180 v1181 c0_i32_698
  let v1183 : BitVec 32 := Scalar.addi v1168 v1182
  let c0_i32_704 : BitVec 32 := 0#32
  let v1195 : BitVec 1 := Scalar.cmpi .sgt v1184 c0_i32_704
  let c8_i32_705 : BitVec 32 := 8#32
  let v1196 : BitVec 32 := Scalar.maxsi v1184 c8_i32_705
  let c0_i32_706 : BitVec 32 := 0#32
  let v1197 : BitVec 32 := Scalar.select v1195 v1196 c0_i32_706
  let v1198 : BitVec 32 := Scalar.addi v1183 v1197
  let c0_i32_712 : BitVec 32 := 0#32
  let v1210 : BitVec 1 := Scalar.cmpi .sgt v1199 c0_i32_712
  let c8_i32_713 : BitVec 32 := 8#32
  let v1211 : BitVec 32 := Scalar.maxsi v1199 c8_i32_713
  let c0_i32_714 : BitVec 32 := 0#32
  let v1212 : BitVec 32 := Scalar.select v1210 v1211 c0_i32_714
  let v1213 : BitVec 32 := Scalar.addi v1198 v1212
  let c0_i32_720 : BitVec 32 := 0#32
  let v1225 : BitVec 1 := Scalar.cmpi .sgt v1214 c0_i32_720
  let c8_i32_721 : BitVec 32 := 8#32
  let v1226 : BitVec 32 := Scalar.maxsi v1214 c8_i32_721
  let c0_i32_722 : BitVec 32 := 0#32
  let v1227 : BitVec 32 := Scalar.select v1225 v1226 c0_i32_722
  let v1228 : BitVec 32 := Scalar.addi v1213 v1227
  let c0_i32_728 : BitVec 32 := 0#32
  let v1240 : BitVec 1 := Scalar.cmpi .sgt v1229 c0_i32_728
  let c8_i32_729 : BitVec 32 := 8#32
  let v1241 : BitVec 32 := Scalar.maxsi v1229 c8_i32_729
  let c0_i32_730 : BitVec 32 := 0#32
  let v1242 : BitVec 32 := Scalar.select v1240 v1241 c0_i32_730
  let v1243 : BitVec 32 := Scalar.addi v1228 v1242
  let c0_i32_736 : BitVec 32 := 0#32
  let v1255 : BitVec 1 := Scalar.cmpi .sgt v1244 c0_i32_736
  let c8_i32_737 : BitVec 32 := 8#32
  let v1256 : BitVec 32 := Scalar.maxsi v1244 c8_i32_737
  let c0_i32_738 : BitVec 32 := 0#32
  let v1257 : BitVec 32 := Scalar.select v1255 v1256 c0_i32_738
  let v1258 : BitVec 32 := Scalar.addi v1243 v1257
  let c0_i32_744 : BitVec 32 := 0#32
  let v1270 : BitVec 1 := Scalar.cmpi .sgt v1259 c0_i32_744
  let c8_i32_745 : BitVec 32 := 8#32
  let v1271 : BitVec 32 := Scalar.maxsi v1259 c8_i32_745
  let c0_i32_746 : BitVec 32 := 0#32
  let v1272 : BitVec 32 := Scalar.select v1270 v1271 c0_i32_746
  let v1273 : BitVec 32 := Scalar.addi v1258 v1272
  let c0_i32_752 : BitVec 32 := 0#32
  let v1285 : BitVec 1 := Scalar.cmpi .sgt v1274 c0_i32_752
  let c8_i32_753 : BitVec 32 := 8#32
  let v1286 : BitVec 32 := Scalar.maxsi v1274 c8_i32_753
  let c0_i32_754 : BitVec 32 := 0#32
  let v1287 : BitVec 32 := Scalar.select v1285 v1286 c0_i32_754
  let v1288 : BitVec 32 := Scalar.addi v1273 v1287
  let v1290 : Index := Scalar.indexCast v1288
  let c0_755 : Index := 0#32
  ![v1290.toNat, 0]

def k0_chk57 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) : Prop :=
  (∀ (k0_h3 : k0_cond3 i arg0 v487 = 1#1), ∀ a, (k0_off115 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274) a + S256x128.size a ≤ S16704x128.size a)
theorem k0_off115_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (k0_hw57 : k0_chk57 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274), ∀ (k0_h3 : k0_cond3 i arg0 v487 = 1#1), ∀ a, (k0_off115 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 k0_hw57 k0_h3 => k0_hw57 k0_h3

def k0_off116 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let c0_i32_648 : BitVec 32 := 0#32
  let v1090 : BitVec 1 := Scalar.cmpi .sgt v1079 c0_i32_648
  let c8_i32_649 : BitVec 32 := 8#32
  let v1091 : BitVec 32 := Scalar.maxsi v1079 c8_i32_649
  let c0_i32_650 : BitVec 32 := 0#32
  let v1092 : BitVec 32 := Scalar.select v1090 v1091 c0_i32_650
  let v1093 : BitVec 32 := Scalar.addi v1078 v1092
  let c0_i32_656 : BitVec 32 := 0#32
  let v1105 : BitVec 1 := Scalar.cmpi .sgt v1094 c0_i32_656
  let c8_i32_657 : BitVec 32 := 8#32
  let v1106 : BitVec 32 := Scalar.maxsi v1094 c8_i32_657
  let c0_i32_658 : BitVec 32 := 0#32
  let v1107 : BitVec 32 := Scalar.select v1105 v1106 c0_i32_658
  let v1108 : BitVec 32 := Scalar.addi v1093 v1107
  let c0_i32_664 : BitVec 32 := 0#32
  let v1120 : BitVec 1 := Scalar.cmpi .sgt v1109 c0_i32_664
  let c8_i32_665 : BitVec 32 := 8#32
  let v1121 : BitVec 32 := Scalar.maxsi v1109 c8_i32_665
  let c0_i32_666 : BitVec 32 := 0#32
  let v1122 : BitVec 32 := Scalar.select v1120 v1121 c0_i32_666
  let v1123 : BitVec 32 := Scalar.addi v1108 v1122
  let c0_i32_672 : BitVec 32 := 0#32
  let v1135 : BitVec 1 := Scalar.cmpi .sgt v1124 c0_i32_672
  let c8_i32_673 : BitVec 32 := 8#32
  let v1136 : BitVec 32 := Scalar.maxsi v1124 c8_i32_673
  let c0_i32_674 : BitVec 32 := 0#32
  let v1137 : BitVec 32 := Scalar.select v1135 v1136 c0_i32_674
  let v1138 : BitVec 32 := Scalar.addi v1123 v1137
  let c0_i32_680 : BitVec 32 := 0#32
  let v1150 : BitVec 1 := Scalar.cmpi .sgt v1139 c0_i32_680
  let c8_i32_681 : BitVec 32 := 8#32
  let v1151 : BitVec 32 := Scalar.maxsi v1139 c8_i32_681
  let c0_i32_682 : BitVec 32 := 0#32
  let v1152 : BitVec 32 := Scalar.select v1150 v1151 c0_i32_682
  let v1153 : BitVec 32 := Scalar.addi v1138 v1152
  let c0_i32_688 : BitVec 32 := 0#32
  let v1165 : BitVec 1 := Scalar.cmpi .sgt v1154 c0_i32_688
  let c8_i32_689 : BitVec 32 := 8#32
  let v1166 : BitVec 32 := Scalar.maxsi v1154 c8_i32_689
  let c0_i32_690 : BitVec 32 := 0#32
  let v1167 : BitVec 32 := Scalar.select v1165 v1166 c0_i32_690
  let v1168 : BitVec 32 := Scalar.addi v1153 v1167
  let c0_i32_696 : BitVec 32 := 0#32
  let v1180 : BitVec 1 := Scalar.cmpi .sgt v1169 c0_i32_696
  let c8_i32_697 : BitVec 32 := 8#32
  let v1181 : BitVec 32 := Scalar.maxsi v1169 c8_i32_697
  let c0_i32_698 : BitVec 32 := 0#32
  let v1182 : BitVec 32 := Scalar.select v1180 v1181 c0_i32_698
  let v1183 : BitVec 32 := Scalar.addi v1168 v1182
  let c0_i32_704 : BitVec 32 := 0#32
  let v1195 : BitVec 1 := Scalar.cmpi .sgt v1184 c0_i32_704
  let c8_i32_705 : BitVec 32 := 8#32
  let v1196 : BitVec 32 := Scalar.maxsi v1184 c8_i32_705
  let c0_i32_706 : BitVec 32 := 0#32
  let v1197 : BitVec 32 := Scalar.select v1195 v1196 c0_i32_706
  let v1198 : BitVec 32 := Scalar.addi v1183 v1197
  let c0_i32_712 : BitVec 32 := 0#32
  let v1210 : BitVec 1 := Scalar.cmpi .sgt v1199 c0_i32_712
  let c8_i32_713 : BitVec 32 := 8#32
  let v1211 : BitVec 32 := Scalar.maxsi v1199 c8_i32_713
  let c0_i32_714 : BitVec 32 := 0#32
  let v1212 : BitVec 32 := Scalar.select v1210 v1211 c0_i32_714
  let v1213 : BitVec 32 := Scalar.addi v1198 v1212
  let c0_i32_720 : BitVec 32 := 0#32
  let v1225 : BitVec 1 := Scalar.cmpi .sgt v1214 c0_i32_720
  let c8_i32_721 : BitVec 32 := 8#32
  let v1226 : BitVec 32 := Scalar.maxsi v1214 c8_i32_721
  let c0_i32_722 : BitVec 32 := 0#32
  let v1227 : BitVec 32 := Scalar.select v1225 v1226 c0_i32_722
  let v1228 : BitVec 32 := Scalar.addi v1213 v1227
  let c0_i32_728 : BitVec 32 := 0#32
  let v1240 : BitVec 1 := Scalar.cmpi .sgt v1229 c0_i32_728
  let c8_i32_729 : BitVec 32 := 8#32
  let v1241 : BitVec 32 := Scalar.maxsi v1229 c8_i32_729
  let c0_i32_730 : BitVec 32 := 0#32
  let v1242 : BitVec 32 := Scalar.select v1240 v1241 c0_i32_730
  let v1243 : BitVec 32 := Scalar.addi v1228 v1242
  let c0_i32_736 : BitVec 32 := 0#32
  let v1255 : BitVec 1 := Scalar.cmpi .sgt v1244 c0_i32_736
  let c8_i32_737 : BitVec 32 := 8#32
  let v1256 : BitVec 32 := Scalar.maxsi v1244 c8_i32_737
  let c0_i32_738 : BitVec 32 := 0#32
  let v1257 : BitVec 32 := Scalar.select v1255 v1256 c0_i32_738
  let v1258 : BitVec 32 := Scalar.addi v1243 v1257
  let c0_i32_744 : BitVec 32 := 0#32
  let v1270 : BitVec 1 := Scalar.cmpi .sgt v1259 c0_i32_744
  let c8_i32_745 : BitVec 32 := 8#32
  let v1271 : BitVec 32 := Scalar.maxsi v1259 c8_i32_745
  let c0_i32_746 : BitVec 32 := 0#32
  let v1272 : BitVec 32 := Scalar.select v1270 v1271 c0_i32_746
  let v1273 : BitVec 32 := Scalar.addi v1258 v1272
  let c0_i32_752 : BitVec 32 := 0#32
  let v1285 : BitVec 1 := Scalar.cmpi .sgt v1274 c0_i32_752
  let c8_i32_753 : BitVec 32 := 8#32
  let v1286 : BitVec 32 := Scalar.maxsi v1274 c8_i32_753
  let c0_i32_754 : BitVec 32 := 0#32
  let v1287 : BitVec 32 := Scalar.select v1285 v1286 c0_i32_754
  let v1288 : BitVec 32 := Scalar.addi v1273 v1287
  let c0_i32_760 : BitVec 32 := 0#32
  let v1300 : BitVec 1 := Scalar.cmpi .sgt v1289 c0_i32_760
  let c8_i32_761 : BitVec 32 := 8#32
  let v1301 : BitVec 32 := Scalar.maxsi v1289 c8_i32_761
  let c0_i32_762 : BitVec 32 := 0#32
  let v1302 : BitVec 32 := Scalar.select v1300 v1301 c0_i32_762
  let v1303 : BitVec 32 := Scalar.addi v1288 v1302
  let v1305 : Index := Scalar.indexCast v1303
  let c0_763 : Index := 0#32
  ![v1305.toNat, 0]

def k0_chk58 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) : Prop :=
  (∀ (k0_h3 : k0_cond3 i arg0 v487 = 1#1), ∀ a, (k0_off116 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289) a + S256x128.size a ≤ S16704x128.size a)
theorem k0_off116_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (k0_hw58 : k0_chk58 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289), ∀ (k0_h3 : k0_cond3 i arg0 v487 = 1#1), ∀ a, (k0_off116 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 k0_hw58 k0_h3 => k0_hw58 k0_h3

def k0_off117 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let c0_i32_648 : BitVec 32 := 0#32
  let v1090 : BitVec 1 := Scalar.cmpi .sgt v1079 c0_i32_648
  let c8_i32_649 : BitVec 32 := 8#32
  let v1091 : BitVec 32 := Scalar.maxsi v1079 c8_i32_649
  let c0_i32_650 : BitVec 32 := 0#32
  let v1092 : BitVec 32 := Scalar.select v1090 v1091 c0_i32_650
  let v1093 : BitVec 32 := Scalar.addi v1078 v1092
  let c0_i32_656 : BitVec 32 := 0#32
  let v1105 : BitVec 1 := Scalar.cmpi .sgt v1094 c0_i32_656
  let c8_i32_657 : BitVec 32 := 8#32
  let v1106 : BitVec 32 := Scalar.maxsi v1094 c8_i32_657
  let c0_i32_658 : BitVec 32 := 0#32
  let v1107 : BitVec 32 := Scalar.select v1105 v1106 c0_i32_658
  let v1108 : BitVec 32 := Scalar.addi v1093 v1107
  let c0_i32_664 : BitVec 32 := 0#32
  let v1120 : BitVec 1 := Scalar.cmpi .sgt v1109 c0_i32_664
  let c8_i32_665 : BitVec 32 := 8#32
  let v1121 : BitVec 32 := Scalar.maxsi v1109 c8_i32_665
  let c0_i32_666 : BitVec 32 := 0#32
  let v1122 : BitVec 32 := Scalar.select v1120 v1121 c0_i32_666
  let v1123 : BitVec 32 := Scalar.addi v1108 v1122
  let c0_i32_672 : BitVec 32 := 0#32
  let v1135 : BitVec 1 := Scalar.cmpi .sgt v1124 c0_i32_672
  let c8_i32_673 : BitVec 32 := 8#32
  let v1136 : BitVec 32 := Scalar.maxsi v1124 c8_i32_673
  let c0_i32_674 : BitVec 32 := 0#32
  let v1137 : BitVec 32 := Scalar.select v1135 v1136 c0_i32_674
  let v1138 : BitVec 32 := Scalar.addi v1123 v1137
  let c0_i32_680 : BitVec 32 := 0#32
  let v1150 : BitVec 1 := Scalar.cmpi .sgt v1139 c0_i32_680
  let c8_i32_681 : BitVec 32 := 8#32
  let v1151 : BitVec 32 := Scalar.maxsi v1139 c8_i32_681
  let c0_i32_682 : BitVec 32 := 0#32
  let v1152 : BitVec 32 := Scalar.select v1150 v1151 c0_i32_682
  let v1153 : BitVec 32 := Scalar.addi v1138 v1152
  let c0_i32_688 : BitVec 32 := 0#32
  let v1165 : BitVec 1 := Scalar.cmpi .sgt v1154 c0_i32_688
  let c8_i32_689 : BitVec 32 := 8#32
  let v1166 : BitVec 32 := Scalar.maxsi v1154 c8_i32_689
  let c0_i32_690 : BitVec 32 := 0#32
  let v1167 : BitVec 32 := Scalar.select v1165 v1166 c0_i32_690
  let v1168 : BitVec 32 := Scalar.addi v1153 v1167
  let c0_i32_696 : BitVec 32 := 0#32
  let v1180 : BitVec 1 := Scalar.cmpi .sgt v1169 c0_i32_696
  let c8_i32_697 : BitVec 32 := 8#32
  let v1181 : BitVec 32 := Scalar.maxsi v1169 c8_i32_697
  let c0_i32_698 : BitVec 32 := 0#32
  let v1182 : BitVec 32 := Scalar.select v1180 v1181 c0_i32_698
  let v1183 : BitVec 32 := Scalar.addi v1168 v1182
  let c0_i32_704 : BitVec 32 := 0#32
  let v1195 : BitVec 1 := Scalar.cmpi .sgt v1184 c0_i32_704
  let c8_i32_705 : BitVec 32 := 8#32
  let v1196 : BitVec 32 := Scalar.maxsi v1184 c8_i32_705
  let c0_i32_706 : BitVec 32 := 0#32
  let v1197 : BitVec 32 := Scalar.select v1195 v1196 c0_i32_706
  let v1198 : BitVec 32 := Scalar.addi v1183 v1197
  let c0_i32_712 : BitVec 32 := 0#32
  let v1210 : BitVec 1 := Scalar.cmpi .sgt v1199 c0_i32_712
  let c8_i32_713 : BitVec 32 := 8#32
  let v1211 : BitVec 32 := Scalar.maxsi v1199 c8_i32_713
  let c0_i32_714 : BitVec 32 := 0#32
  let v1212 : BitVec 32 := Scalar.select v1210 v1211 c0_i32_714
  let v1213 : BitVec 32 := Scalar.addi v1198 v1212
  let c0_i32_720 : BitVec 32 := 0#32
  let v1225 : BitVec 1 := Scalar.cmpi .sgt v1214 c0_i32_720
  let c8_i32_721 : BitVec 32 := 8#32
  let v1226 : BitVec 32 := Scalar.maxsi v1214 c8_i32_721
  let c0_i32_722 : BitVec 32 := 0#32
  let v1227 : BitVec 32 := Scalar.select v1225 v1226 c0_i32_722
  let v1228 : BitVec 32 := Scalar.addi v1213 v1227
  let c0_i32_728 : BitVec 32 := 0#32
  let v1240 : BitVec 1 := Scalar.cmpi .sgt v1229 c0_i32_728
  let c8_i32_729 : BitVec 32 := 8#32
  let v1241 : BitVec 32 := Scalar.maxsi v1229 c8_i32_729
  let c0_i32_730 : BitVec 32 := 0#32
  let v1242 : BitVec 32 := Scalar.select v1240 v1241 c0_i32_730
  let v1243 : BitVec 32 := Scalar.addi v1228 v1242
  let c0_i32_736 : BitVec 32 := 0#32
  let v1255 : BitVec 1 := Scalar.cmpi .sgt v1244 c0_i32_736
  let c8_i32_737 : BitVec 32 := 8#32
  let v1256 : BitVec 32 := Scalar.maxsi v1244 c8_i32_737
  let c0_i32_738 : BitVec 32 := 0#32
  let v1257 : BitVec 32 := Scalar.select v1255 v1256 c0_i32_738
  let v1258 : BitVec 32 := Scalar.addi v1243 v1257
  let c0_i32_744 : BitVec 32 := 0#32
  let v1270 : BitVec 1 := Scalar.cmpi .sgt v1259 c0_i32_744
  let c8_i32_745 : BitVec 32 := 8#32
  let v1271 : BitVec 32 := Scalar.maxsi v1259 c8_i32_745
  let c0_i32_746 : BitVec 32 := 0#32
  let v1272 : BitVec 32 := Scalar.select v1270 v1271 c0_i32_746
  let v1273 : BitVec 32 := Scalar.addi v1258 v1272
  let c0_i32_752 : BitVec 32 := 0#32
  let v1285 : BitVec 1 := Scalar.cmpi .sgt v1274 c0_i32_752
  let c8_i32_753 : BitVec 32 := 8#32
  let v1286 : BitVec 32 := Scalar.maxsi v1274 c8_i32_753
  let c0_i32_754 : BitVec 32 := 0#32
  let v1287 : BitVec 32 := Scalar.select v1285 v1286 c0_i32_754
  let v1288 : BitVec 32 := Scalar.addi v1273 v1287
  let c0_i32_760 : BitVec 32 := 0#32
  let v1300 : BitVec 1 := Scalar.cmpi .sgt v1289 c0_i32_760
  let c8_i32_761 : BitVec 32 := 8#32
  let v1301 : BitVec 32 := Scalar.maxsi v1289 c8_i32_761
  let c0_i32_762 : BitVec 32 := 0#32
  let v1302 : BitVec 32 := Scalar.select v1300 v1301 c0_i32_762
  let v1303 : BitVec 32 := Scalar.addi v1288 v1302
  let c0_i32_768 : BitVec 32 := 0#32
  let v1315 : BitVec 1 := Scalar.cmpi .sgt v1304 c0_i32_768
  let c8_i32_769 : BitVec 32 := 8#32
  let v1316 : BitVec 32 := Scalar.maxsi v1304 c8_i32_769
  let c0_i32_770 : BitVec 32 := 0#32
  let v1317 : BitVec 32 := Scalar.select v1315 v1316 c0_i32_770
  let v1318 : BitVec 32 := Scalar.addi v1303 v1317
  let v1320 : Index := Scalar.indexCast v1318
  let c0_771 : Index := 0#32
  ![v1320.toNat, 0]

def k0_chk59 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) : Prop :=
  (∀ (k0_h3 : k0_cond3 i arg0 v487 = 1#1), ∀ a, (k0_off117 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304) a + S256x128.size a ≤ S16704x128.size a)
theorem k0_off117_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (k0_hw59 : k0_chk59 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304), ∀ (k0_h3 : k0_cond3 i arg0 v487 = 1#1), ∀ a, (k0_off117 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 k0_hw59 k0_h3 => k0_hw59 k0_h3

def k0_off118 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (v1319 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let c0_i32_648 : BitVec 32 := 0#32
  let v1090 : BitVec 1 := Scalar.cmpi .sgt v1079 c0_i32_648
  let c8_i32_649 : BitVec 32 := 8#32
  let v1091 : BitVec 32 := Scalar.maxsi v1079 c8_i32_649
  let c0_i32_650 : BitVec 32 := 0#32
  let v1092 : BitVec 32 := Scalar.select v1090 v1091 c0_i32_650
  let v1093 : BitVec 32 := Scalar.addi v1078 v1092
  let c0_i32_656 : BitVec 32 := 0#32
  let v1105 : BitVec 1 := Scalar.cmpi .sgt v1094 c0_i32_656
  let c8_i32_657 : BitVec 32 := 8#32
  let v1106 : BitVec 32 := Scalar.maxsi v1094 c8_i32_657
  let c0_i32_658 : BitVec 32 := 0#32
  let v1107 : BitVec 32 := Scalar.select v1105 v1106 c0_i32_658
  let v1108 : BitVec 32 := Scalar.addi v1093 v1107
  let c0_i32_664 : BitVec 32 := 0#32
  let v1120 : BitVec 1 := Scalar.cmpi .sgt v1109 c0_i32_664
  let c8_i32_665 : BitVec 32 := 8#32
  let v1121 : BitVec 32 := Scalar.maxsi v1109 c8_i32_665
  let c0_i32_666 : BitVec 32 := 0#32
  let v1122 : BitVec 32 := Scalar.select v1120 v1121 c0_i32_666
  let v1123 : BitVec 32 := Scalar.addi v1108 v1122
  let c0_i32_672 : BitVec 32 := 0#32
  let v1135 : BitVec 1 := Scalar.cmpi .sgt v1124 c0_i32_672
  let c8_i32_673 : BitVec 32 := 8#32
  let v1136 : BitVec 32 := Scalar.maxsi v1124 c8_i32_673
  let c0_i32_674 : BitVec 32 := 0#32
  let v1137 : BitVec 32 := Scalar.select v1135 v1136 c0_i32_674
  let v1138 : BitVec 32 := Scalar.addi v1123 v1137
  let c0_i32_680 : BitVec 32 := 0#32
  let v1150 : BitVec 1 := Scalar.cmpi .sgt v1139 c0_i32_680
  let c8_i32_681 : BitVec 32 := 8#32
  let v1151 : BitVec 32 := Scalar.maxsi v1139 c8_i32_681
  let c0_i32_682 : BitVec 32 := 0#32
  let v1152 : BitVec 32 := Scalar.select v1150 v1151 c0_i32_682
  let v1153 : BitVec 32 := Scalar.addi v1138 v1152
  let c0_i32_688 : BitVec 32 := 0#32
  let v1165 : BitVec 1 := Scalar.cmpi .sgt v1154 c0_i32_688
  let c8_i32_689 : BitVec 32 := 8#32
  let v1166 : BitVec 32 := Scalar.maxsi v1154 c8_i32_689
  let c0_i32_690 : BitVec 32 := 0#32
  let v1167 : BitVec 32 := Scalar.select v1165 v1166 c0_i32_690
  let v1168 : BitVec 32 := Scalar.addi v1153 v1167
  let c0_i32_696 : BitVec 32 := 0#32
  let v1180 : BitVec 1 := Scalar.cmpi .sgt v1169 c0_i32_696
  let c8_i32_697 : BitVec 32 := 8#32
  let v1181 : BitVec 32 := Scalar.maxsi v1169 c8_i32_697
  let c0_i32_698 : BitVec 32 := 0#32
  let v1182 : BitVec 32 := Scalar.select v1180 v1181 c0_i32_698
  let v1183 : BitVec 32 := Scalar.addi v1168 v1182
  let c0_i32_704 : BitVec 32 := 0#32
  let v1195 : BitVec 1 := Scalar.cmpi .sgt v1184 c0_i32_704
  let c8_i32_705 : BitVec 32 := 8#32
  let v1196 : BitVec 32 := Scalar.maxsi v1184 c8_i32_705
  let c0_i32_706 : BitVec 32 := 0#32
  let v1197 : BitVec 32 := Scalar.select v1195 v1196 c0_i32_706
  let v1198 : BitVec 32 := Scalar.addi v1183 v1197
  let c0_i32_712 : BitVec 32 := 0#32
  let v1210 : BitVec 1 := Scalar.cmpi .sgt v1199 c0_i32_712
  let c8_i32_713 : BitVec 32 := 8#32
  let v1211 : BitVec 32 := Scalar.maxsi v1199 c8_i32_713
  let c0_i32_714 : BitVec 32 := 0#32
  let v1212 : BitVec 32 := Scalar.select v1210 v1211 c0_i32_714
  let v1213 : BitVec 32 := Scalar.addi v1198 v1212
  let c0_i32_720 : BitVec 32 := 0#32
  let v1225 : BitVec 1 := Scalar.cmpi .sgt v1214 c0_i32_720
  let c8_i32_721 : BitVec 32 := 8#32
  let v1226 : BitVec 32 := Scalar.maxsi v1214 c8_i32_721
  let c0_i32_722 : BitVec 32 := 0#32
  let v1227 : BitVec 32 := Scalar.select v1225 v1226 c0_i32_722
  let v1228 : BitVec 32 := Scalar.addi v1213 v1227
  let c0_i32_728 : BitVec 32 := 0#32
  let v1240 : BitVec 1 := Scalar.cmpi .sgt v1229 c0_i32_728
  let c8_i32_729 : BitVec 32 := 8#32
  let v1241 : BitVec 32 := Scalar.maxsi v1229 c8_i32_729
  let c0_i32_730 : BitVec 32 := 0#32
  let v1242 : BitVec 32 := Scalar.select v1240 v1241 c0_i32_730
  let v1243 : BitVec 32 := Scalar.addi v1228 v1242
  let c0_i32_736 : BitVec 32 := 0#32
  let v1255 : BitVec 1 := Scalar.cmpi .sgt v1244 c0_i32_736
  let c8_i32_737 : BitVec 32 := 8#32
  let v1256 : BitVec 32 := Scalar.maxsi v1244 c8_i32_737
  let c0_i32_738 : BitVec 32 := 0#32
  let v1257 : BitVec 32 := Scalar.select v1255 v1256 c0_i32_738
  let v1258 : BitVec 32 := Scalar.addi v1243 v1257
  let c0_i32_744 : BitVec 32 := 0#32
  let v1270 : BitVec 1 := Scalar.cmpi .sgt v1259 c0_i32_744
  let c8_i32_745 : BitVec 32 := 8#32
  let v1271 : BitVec 32 := Scalar.maxsi v1259 c8_i32_745
  let c0_i32_746 : BitVec 32 := 0#32
  let v1272 : BitVec 32 := Scalar.select v1270 v1271 c0_i32_746
  let v1273 : BitVec 32 := Scalar.addi v1258 v1272
  let c0_i32_752 : BitVec 32 := 0#32
  let v1285 : BitVec 1 := Scalar.cmpi .sgt v1274 c0_i32_752
  let c8_i32_753 : BitVec 32 := 8#32
  let v1286 : BitVec 32 := Scalar.maxsi v1274 c8_i32_753
  let c0_i32_754 : BitVec 32 := 0#32
  let v1287 : BitVec 32 := Scalar.select v1285 v1286 c0_i32_754
  let v1288 : BitVec 32 := Scalar.addi v1273 v1287
  let c0_i32_760 : BitVec 32 := 0#32
  let v1300 : BitVec 1 := Scalar.cmpi .sgt v1289 c0_i32_760
  let c8_i32_761 : BitVec 32 := 8#32
  let v1301 : BitVec 32 := Scalar.maxsi v1289 c8_i32_761
  let c0_i32_762 : BitVec 32 := 0#32
  let v1302 : BitVec 32 := Scalar.select v1300 v1301 c0_i32_762
  let v1303 : BitVec 32 := Scalar.addi v1288 v1302
  let c0_i32_768 : BitVec 32 := 0#32
  let v1315 : BitVec 1 := Scalar.cmpi .sgt v1304 c0_i32_768
  let c8_i32_769 : BitVec 32 := 8#32
  let v1316 : BitVec 32 := Scalar.maxsi v1304 c8_i32_769
  let c0_i32_770 : BitVec 32 := 0#32
  let v1317 : BitVec 32 := Scalar.select v1315 v1316 c0_i32_770
  let v1318 : BitVec 32 := Scalar.addi v1303 v1317
  let c0_i32_776 : BitVec 32 := 0#32
  let v1330 : BitVec 1 := Scalar.cmpi .sgt v1319 c0_i32_776
  let c8_i32_777 : BitVec 32 := 8#32
  let v1331 : BitVec 32 := Scalar.maxsi v1319 c8_i32_777
  let c0_i32_778 : BitVec 32 := 0#32
  let v1332 : BitVec 32 := Scalar.select v1330 v1331 c0_i32_778
  let v1333 : BitVec 32 := Scalar.addi v1318 v1332
  let v1335 : Index := Scalar.indexCast v1333
  let c0_779 : Index := 0#32
  ![v1335.toNat, 0]

def k0_chk60 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (v1319 : BitVec 32) : Prop :=
  (∀ (k0_h3 : k0_cond3 i arg0 v487 = 1#1), ∀ a, (k0_off118 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319) a + S256x128.size a ≤ S16704x128.size a)
theorem k0_off118_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (v1319 : BitVec 32) (k0_hw60 : k0_chk60 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319), ∀ (k0_h3 : k0_cond3 i arg0 v487 = 1#1), ∀ a, (k0_off118 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 k0_hw60 k0_h3 => k0_hw60 k0_h3

def k0_off119 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (v1319 : BitVec 32) (v1334 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let c0_i32_648 : BitVec 32 := 0#32
  let v1090 : BitVec 1 := Scalar.cmpi .sgt v1079 c0_i32_648
  let c8_i32_649 : BitVec 32 := 8#32
  let v1091 : BitVec 32 := Scalar.maxsi v1079 c8_i32_649
  let c0_i32_650 : BitVec 32 := 0#32
  let v1092 : BitVec 32 := Scalar.select v1090 v1091 c0_i32_650
  let v1093 : BitVec 32 := Scalar.addi v1078 v1092
  let c0_i32_656 : BitVec 32 := 0#32
  let v1105 : BitVec 1 := Scalar.cmpi .sgt v1094 c0_i32_656
  let c8_i32_657 : BitVec 32 := 8#32
  let v1106 : BitVec 32 := Scalar.maxsi v1094 c8_i32_657
  let c0_i32_658 : BitVec 32 := 0#32
  let v1107 : BitVec 32 := Scalar.select v1105 v1106 c0_i32_658
  let v1108 : BitVec 32 := Scalar.addi v1093 v1107
  let c0_i32_664 : BitVec 32 := 0#32
  let v1120 : BitVec 1 := Scalar.cmpi .sgt v1109 c0_i32_664
  let c8_i32_665 : BitVec 32 := 8#32
  let v1121 : BitVec 32 := Scalar.maxsi v1109 c8_i32_665
  let c0_i32_666 : BitVec 32 := 0#32
  let v1122 : BitVec 32 := Scalar.select v1120 v1121 c0_i32_666
  let v1123 : BitVec 32 := Scalar.addi v1108 v1122
  let c0_i32_672 : BitVec 32 := 0#32
  let v1135 : BitVec 1 := Scalar.cmpi .sgt v1124 c0_i32_672
  let c8_i32_673 : BitVec 32 := 8#32
  let v1136 : BitVec 32 := Scalar.maxsi v1124 c8_i32_673
  let c0_i32_674 : BitVec 32 := 0#32
  let v1137 : BitVec 32 := Scalar.select v1135 v1136 c0_i32_674
  let v1138 : BitVec 32 := Scalar.addi v1123 v1137
  let c0_i32_680 : BitVec 32 := 0#32
  let v1150 : BitVec 1 := Scalar.cmpi .sgt v1139 c0_i32_680
  let c8_i32_681 : BitVec 32 := 8#32
  let v1151 : BitVec 32 := Scalar.maxsi v1139 c8_i32_681
  let c0_i32_682 : BitVec 32 := 0#32
  let v1152 : BitVec 32 := Scalar.select v1150 v1151 c0_i32_682
  let v1153 : BitVec 32 := Scalar.addi v1138 v1152
  let c0_i32_688 : BitVec 32 := 0#32
  let v1165 : BitVec 1 := Scalar.cmpi .sgt v1154 c0_i32_688
  let c8_i32_689 : BitVec 32 := 8#32
  let v1166 : BitVec 32 := Scalar.maxsi v1154 c8_i32_689
  let c0_i32_690 : BitVec 32 := 0#32
  let v1167 : BitVec 32 := Scalar.select v1165 v1166 c0_i32_690
  let v1168 : BitVec 32 := Scalar.addi v1153 v1167
  let c0_i32_696 : BitVec 32 := 0#32
  let v1180 : BitVec 1 := Scalar.cmpi .sgt v1169 c0_i32_696
  let c8_i32_697 : BitVec 32 := 8#32
  let v1181 : BitVec 32 := Scalar.maxsi v1169 c8_i32_697
  let c0_i32_698 : BitVec 32 := 0#32
  let v1182 : BitVec 32 := Scalar.select v1180 v1181 c0_i32_698
  let v1183 : BitVec 32 := Scalar.addi v1168 v1182
  let c0_i32_704 : BitVec 32 := 0#32
  let v1195 : BitVec 1 := Scalar.cmpi .sgt v1184 c0_i32_704
  let c8_i32_705 : BitVec 32 := 8#32
  let v1196 : BitVec 32 := Scalar.maxsi v1184 c8_i32_705
  let c0_i32_706 : BitVec 32 := 0#32
  let v1197 : BitVec 32 := Scalar.select v1195 v1196 c0_i32_706
  let v1198 : BitVec 32 := Scalar.addi v1183 v1197
  let c0_i32_712 : BitVec 32 := 0#32
  let v1210 : BitVec 1 := Scalar.cmpi .sgt v1199 c0_i32_712
  let c8_i32_713 : BitVec 32 := 8#32
  let v1211 : BitVec 32 := Scalar.maxsi v1199 c8_i32_713
  let c0_i32_714 : BitVec 32 := 0#32
  let v1212 : BitVec 32 := Scalar.select v1210 v1211 c0_i32_714
  let v1213 : BitVec 32 := Scalar.addi v1198 v1212
  let c0_i32_720 : BitVec 32 := 0#32
  let v1225 : BitVec 1 := Scalar.cmpi .sgt v1214 c0_i32_720
  let c8_i32_721 : BitVec 32 := 8#32
  let v1226 : BitVec 32 := Scalar.maxsi v1214 c8_i32_721
  let c0_i32_722 : BitVec 32 := 0#32
  let v1227 : BitVec 32 := Scalar.select v1225 v1226 c0_i32_722
  let v1228 : BitVec 32 := Scalar.addi v1213 v1227
  let c0_i32_728 : BitVec 32 := 0#32
  let v1240 : BitVec 1 := Scalar.cmpi .sgt v1229 c0_i32_728
  let c8_i32_729 : BitVec 32 := 8#32
  let v1241 : BitVec 32 := Scalar.maxsi v1229 c8_i32_729
  let c0_i32_730 : BitVec 32 := 0#32
  let v1242 : BitVec 32 := Scalar.select v1240 v1241 c0_i32_730
  let v1243 : BitVec 32 := Scalar.addi v1228 v1242
  let c0_i32_736 : BitVec 32 := 0#32
  let v1255 : BitVec 1 := Scalar.cmpi .sgt v1244 c0_i32_736
  let c8_i32_737 : BitVec 32 := 8#32
  let v1256 : BitVec 32 := Scalar.maxsi v1244 c8_i32_737
  let c0_i32_738 : BitVec 32 := 0#32
  let v1257 : BitVec 32 := Scalar.select v1255 v1256 c0_i32_738
  let v1258 : BitVec 32 := Scalar.addi v1243 v1257
  let c0_i32_744 : BitVec 32 := 0#32
  let v1270 : BitVec 1 := Scalar.cmpi .sgt v1259 c0_i32_744
  let c8_i32_745 : BitVec 32 := 8#32
  let v1271 : BitVec 32 := Scalar.maxsi v1259 c8_i32_745
  let c0_i32_746 : BitVec 32 := 0#32
  let v1272 : BitVec 32 := Scalar.select v1270 v1271 c0_i32_746
  let v1273 : BitVec 32 := Scalar.addi v1258 v1272
  let c0_i32_752 : BitVec 32 := 0#32
  let v1285 : BitVec 1 := Scalar.cmpi .sgt v1274 c0_i32_752
  let c8_i32_753 : BitVec 32 := 8#32
  let v1286 : BitVec 32 := Scalar.maxsi v1274 c8_i32_753
  let c0_i32_754 : BitVec 32 := 0#32
  let v1287 : BitVec 32 := Scalar.select v1285 v1286 c0_i32_754
  let v1288 : BitVec 32 := Scalar.addi v1273 v1287
  let c0_i32_760 : BitVec 32 := 0#32
  let v1300 : BitVec 1 := Scalar.cmpi .sgt v1289 c0_i32_760
  let c8_i32_761 : BitVec 32 := 8#32
  let v1301 : BitVec 32 := Scalar.maxsi v1289 c8_i32_761
  let c0_i32_762 : BitVec 32 := 0#32
  let v1302 : BitVec 32 := Scalar.select v1300 v1301 c0_i32_762
  let v1303 : BitVec 32 := Scalar.addi v1288 v1302
  let c0_i32_768 : BitVec 32 := 0#32
  let v1315 : BitVec 1 := Scalar.cmpi .sgt v1304 c0_i32_768
  let c8_i32_769 : BitVec 32 := 8#32
  let v1316 : BitVec 32 := Scalar.maxsi v1304 c8_i32_769
  let c0_i32_770 : BitVec 32 := 0#32
  let v1317 : BitVec 32 := Scalar.select v1315 v1316 c0_i32_770
  let v1318 : BitVec 32 := Scalar.addi v1303 v1317
  let c0_i32_776 : BitVec 32 := 0#32
  let v1330 : BitVec 1 := Scalar.cmpi .sgt v1319 c0_i32_776
  let c8_i32_777 : BitVec 32 := 8#32
  let v1331 : BitVec 32 := Scalar.maxsi v1319 c8_i32_777
  let c0_i32_778 : BitVec 32 := 0#32
  let v1332 : BitVec 32 := Scalar.select v1330 v1331 c0_i32_778
  let v1333 : BitVec 32 := Scalar.addi v1318 v1332
  let c0_i32_784 : BitVec 32 := 0#32
  let v1345 : BitVec 1 := Scalar.cmpi .sgt v1334 c0_i32_784
  let c8_i32_785 : BitVec 32 := 8#32
  let v1346 : BitVec 32 := Scalar.maxsi v1334 c8_i32_785
  let c0_i32_786 : BitVec 32 := 0#32
  let v1347 : BitVec 32 := Scalar.select v1345 v1346 c0_i32_786
  let v1348 : BitVec 32 := Scalar.addi v1333 v1347
  let v1350 : Index := Scalar.indexCast v1348
  let c0_787 : Index := 0#32
  ![v1350.toNat, 0]

def k0_chk61 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (v1319 : BitVec 32) (v1334 : BitVec 32) : Prop :=
  (∀ (k0_h3 : k0_cond3 i arg0 v487 = 1#1), ∀ a, (k0_off119 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334) a + S256x128.size a ≤ S16704x128.size a)
theorem k0_off119_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (v1319 : BitVec 32) (v1334 : BitVec 32) (k0_hw61 : k0_chk61 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334), ∀ (k0_h3 : k0_cond3 i arg0 v487 = 1#1), ∀ a, (k0_off119 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 k0_hw61 k0_h3 => k0_hw61 k0_h3

def k0_off120 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (v1319 : BitVec 32) (v1334 : BitVec 32) (v1349 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let c0_i32_648 : BitVec 32 := 0#32
  let v1090 : BitVec 1 := Scalar.cmpi .sgt v1079 c0_i32_648
  let c8_i32_649 : BitVec 32 := 8#32
  let v1091 : BitVec 32 := Scalar.maxsi v1079 c8_i32_649
  let c0_i32_650 : BitVec 32 := 0#32
  let v1092 : BitVec 32 := Scalar.select v1090 v1091 c0_i32_650
  let v1093 : BitVec 32 := Scalar.addi v1078 v1092
  let c0_i32_656 : BitVec 32 := 0#32
  let v1105 : BitVec 1 := Scalar.cmpi .sgt v1094 c0_i32_656
  let c8_i32_657 : BitVec 32 := 8#32
  let v1106 : BitVec 32 := Scalar.maxsi v1094 c8_i32_657
  let c0_i32_658 : BitVec 32 := 0#32
  let v1107 : BitVec 32 := Scalar.select v1105 v1106 c0_i32_658
  let v1108 : BitVec 32 := Scalar.addi v1093 v1107
  let c0_i32_664 : BitVec 32 := 0#32
  let v1120 : BitVec 1 := Scalar.cmpi .sgt v1109 c0_i32_664
  let c8_i32_665 : BitVec 32 := 8#32
  let v1121 : BitVec 32 := Scalar.maxsi v1109 c8_i32_665
  let c0_i32_666 : BitVec 32 := 0#32
  let v1122 : BitVec 32 := Scalar.select v1120 v1121 c0_i32_666
  let v1123 : BitVec 32 := Scalar.addi v1108 v1122
  let c0_i32_672 : BitVec 32 := 0#32
  let v1135 : BitVec 1 := Scalar.cmpi .sgt v1124 c0_i32_672
  let c8_i32_673 : BitVec 32 := 8#32
  let v1136 : BitVec 32 := Scalar.maxsi v1124 c8_i32_673
  let c0_i32_674 : BitVec 32 := 0#32
  let v1137 : BitVec 32 := Scalar.select v1135 v1136 c0_i32_674
  let v1138 : BitVec 32 := Scalar.addi v1123 v1137
  let c0_i32_680 : BitVec 32 := 0#32
  let v1150 : BitVec 1 := Scalar.cmpi .sgt v1139 c0_i32_680
  let c8_i32_681 : BitVec 32 := 8#32
  let v1151 : BitVec 32 := Scalar.maxsi v1139 c8_i32_681
  let c0_i32_682 : BitVec 32 := 0#32
  let v1152 : BitVec 32 := Scalar.select v1150 v1151 c0_i32_682
  let v1153 : BitVec 32 := Scalar.addi v1138 v1152
  let c0_i32_688 : BitVec 32 := 0#32
  let v1165 : BitVec 1 := Scalar.cmpi .sgt v1154 c0_i32_688
  let c8_i32_689 : BitVec 32 := 8#32
  let v1166 : BitVec 32 := Scalar.maxsi v1154 c8_i32_689
  let c0_i32_690 : BitVec 32 := 0#32
  let v1167 : BitVec 32 := Scalar.select v1165 v1166 c0_i32_690
  let v1168 : BitVec 32 := Scalar.addi v1153 v1167
  let c0_i32_696 : BitVec 32 := 0#32
  let v1180 : BitVec 1 := Scalar.cmpi .sgt v1169 c0_i32_696
  let c8_i32_697 : BitVec 32 := 8#32
  let v1181 : BitVec 32 := Scalar.maxsi v1169 c8_i32_697
  let c0_i32_698 : BitVec 32 := 0#32
  let v1182 : BitVec 32 := Scalar.select v1180 v1181 c0_i32_698
  let v1183 : BitVec 32 := Scalar.addi v1168 v1182
  let c0_i32_704 : BitVec 32 := 0#32
  let v1195 : BitVec 1 := Scalar.cmpi .sgt v1184 c0_i32_704
  let c8_i32_705 : BitVec 32 := 8#32
  let v1196 : BitVec 32 := Scalar.maxsi v1184 c8_i32_705
  let c0_i32_706 : BitVec 32 := 0#32
  let v1197 : BitVec 32 := Scalar.select v1195 v1196 c0_i32_706
  let v1198 : BitVec 32 := Scalar.addi v1183 v1197
  let c0_i32_712 : BitVec 32 := 0#32
  let v1210 : BitVec 1 := Scalar.cmpi .sgt v1199 c0_i32_712
  let c8_i32_713 : BitVec 32 := 8#32
  let v1211 : BitVec 32 := Scalar.maxsi v1199 c8_i32_713
  let c0_i32_714 : BitVec 32 := 0#32
  let v1212 : BitVec 32 := Scalar.select v1210 v1211 c0_i32_714
  let v1213 : BitVec 32 := Scalar.addi v1198 v1212
  let c0_i32_720 : BitVec 32 := 0#32
  let v1225 : BitVec 1 := Scalar.cmpi .sgt v1214 c0_i32_720
  let c8_i32_721 : BitVec 32 := 8#32
  let v1226 : BitVec 32 := Scalar.maxsi v1214 c8_i32_721
  let c0_i32_722 : BitVec 32 := 0#32
  let v1227 : BitVec 32 := Scalar.select v1225 v1226 c0_i32_722
  let v1228 : BitVec 32 := Scalar.addi v1213 v1227
  let c0_i32_728 : BitVec 32 := 0#32
  let v1240 : BitVec 1 := Scalar.cmpi .sgt v1229 c0_i32_728
  let c8_i32_729 : BitVec 32 := 8#32
  let v1241 : BitVec 32 := Scalar.maxsi v1229 c8_i32_729
  let c0_i32_730 : BitVec 32 := 0#32
  let v1242 : BitVec 32 := Scalar.select v1240 v1241 c0_i32_730
  let v1243 : BitVec 32 := Scalar.addi v1228 v1242
  let c0_i32_736 : BitVec 32 := 0#32
  let v1255 : BitVec 1 := Scalar.cmpi .sgt v1244 c0_i32_736
  let c8_i32_737 : BitVec 32 := 8#32
  let v1256 : BitVec 32 := Scalar.maxsi v1244 c8_i32_737
  let c0_i32_738 : BitVec 32 := 0#32
  let v1257 : BitVec 32 := Scalar.select v1255 v1256 c0_i32_738
  let v1258 : BitVec 32 := Scalar.addi v1243 v1257
  let c0_i32_744 : BitVec 32 := 0#32
  let v1270 : BitVec 1 := Scalar.cmpi .sgt v1259 c0_i32_744
  let c8_i32_745 : BitVec 32 := 8#32
  let v1271 : BitVec 32 := Scalar.maxsi v1259 c8_i32_745
  let c0_i32_746 : BitVec 32 := 0#32
  let v1272 : BitVec 32 := Scalar.select v1270 v1271 c0_i32_746
  let v1273 : BitVec 32 := Scalar.addi v1258 v1272
  let c0_i32_752 : BitVec 32 := 0#32
  let v1285 : BitVec 1 := Scalar.cmpi .sgt v1274 c0_i32_752
  let c8_i32_753 : BitVec 32 := 8#32
  let v1286 : BitVec 32 := Scalar.maxsi v1274 c8_i32_753
  let c0_i32_754 : BitVec 32 := 0#32
  let v1287 : BitVec 32 := Scalar.select v1285 v1286 c0_i32_754
  let v1288 : BitVec 32 := Scalar.addi v1273 v1287
  let c0_i32_760 : BitVec 32 := 0#32
  let v1300 : BitVec 1 := Scalar.cmpi .sgt v1289 c0_i32_760
  let c8_i32_761 : BitVec 32 := 8#32
  let v1301 : BitVec 32 := Scalar.maxsi v1289 c8_i32_761
  let c0_i32_762 : BitVec 32 := 0#32
  let v1302 : BitVec 32 := Scalar.select v1300 v1301 c0_i32_762
  let v1303 : BitVec 32 := Scalar.addi v1288 v1302
  let c0_i32_768 : BitVec 32 := 0#32
  let v1315 : BitVec 1 := Scalar.cmpi .sgt v1304 c0_i32_768
  let c8_i32_769 : BitVec 32 := 8#32
  let v1316 : BitVec 32 := Scalar.maxsi v1304 c8_i32_769
  let c0_i32_770 : BitVec 32 := 0#32
  let v1317 : BitVec 32 := Scalar.select v1315 v1316 c0_i32_770
  let v1318 : BitVec 32 := Scalar.addi v1303 v1317
  let c0_i32_776 : BitVec 32 := 0#32
  let v1330 : BitVec 1 := Scalar.cmpi .sgt v1319 c0_i32_776
  let c8_i32_777 : BitVec 32 := 8#32
  let v1331 : BitVec 32 := Scalar.maxsi v1319 c8_i32_777
  let c0_i32_778 : BitVec 32 := 0#32
  let v1332 : BitVec 32 := Scalar.select v1330 v1331 c0_i32_778
  let v1333 : BitVec 32 := Scalar.addi v1318 v1332
  let c0_i32_784 : BitVec 32 := 0#32
  let v1345 : BitVec 1 := Scalar.cmpi .sgt v1334 c0_i32_784
  let c8_i32_785 : BitVec 32 := 8#32
  let v1346 : BitVec 32 := Scalar.maxsi v1334 c8_i32_785
  let c0_i32_786 : BitVec 32 := 0#32
  let v1347 : BitVec 32 := Scalar.select v1345 v1346 c0_i32_786
  let v1348 : BitVec 32 := Scalar.addi v1333 v1347
  let c0_i32_792 : BitVec 32 := 0#32
  let v1360 : BitVec 1 := Scalar.cmpi .sgt v1349 c0_i32_792
  let c8_i32_793 : BitVec 32 := 8#32
  let v1361 : BitVec 32 := Scalar.maxsi v1349 c8_i32_793
  let c0_i32_794 : BitVec 32 := 0#32
  let v1362 : BitVec 32 := Scalar.select v1360 v1361 c0_i32_794
  let v1363 : BitVec 32 := Scalar.addi v1348 v1362
  let v1365 : Index := Scalar.indexCast v1363
  let c0_795 : Index := 0#32
  ![v1365.toNat, 0]

def k0_chk62 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (v1319 : BitVec 32) (v1334 : BitVec 32) (v1349 : BitVec 32) : Prop :=
  (∀ (k0_h3 : k0_cond3 i arg0 v487 = 1#1), ∀ a, (k0_off120 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 v1349) a + S256x128.size a ≤ S16704x128.size a)
theorem k0_off120_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (v1319 : BitVec 32) (v1334 : BitVec 32) (v1349 : BitVec 32) (k0_hw62 : k0_chk62 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 v1349), ∀ (k0_h3 : k0_cond3 i arg0 v487 = 1#1), ∀ a, (k0_off120 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 v1349) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 v1349 k0_hw62 k0_h3 => k0_hw62 k0_h3

def k0_off121 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (v1319 : BitVec 32) (v1334 : BitVec 32) (v1349 : BitVec 32) (v1364 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let c0_i32_648 : BitVec 32 := 0#32
  let v1090 : BitVec 1 := Scalar.cmpi .sgt v1079 c0_i32_648
  let c8_i32_649 : BitVec 32 := 8#32
  let v1091 : BitVec 32 := Scalar.maxsi v1079 c8_i32_649
  let c0_i32_650 : BitVec 32 := 0#32
  let v1092 : BitVec 32 := Scalar.select v1090 v1091 c0_i32_650
  let v1093 : BitVec 32 := Scalar.addi v1078 v1092
  let c0_i32_656 : BitVec 32 := 0#32
  let v1105 : BitVec 1 := Scalar.cmpi .sgt v1094 c0_i32_656
  let c8_i32_657 : BitVec 32 := 8#32
  let v1106 : BitVec 32 := Scalar.maxsi v1094 c8_i32_657
  let c0_i32_658 : BitVec 32 := 0#32
  let v1107 : BitVec 32 := Scalar.select v1105 v1106 c0_i32_658
  let v1108 : BitVec 32 := Scalar.addi v1093 v1107
  let c0_i32_664 : BitVec 32 := 0#32
  let v1120 : BitVec 1 := Scalar.cmpi .sgt v1109 c0_i32_664
  let c8_i32_665 : BitVec 32 := 8#32
  let v1121 : BitVec 32 := Scalar.maxsi v1109 c8_i32_665
  let c0_i32_666 : BitVec 32 := 0#32
  let v1122 : BitVec 32 := Scalar.select v1120 v1121 c0_i32_666
  let v1123 : BitVec 32 := Scalar.addi v1108 v1122
  let c0_i32_672 : BitVec 32 := 0#32
  let v1135 : BitVec 1 := Scalar.cmpi .sgt v1124 c0_i32_672
  let c8_i32_673 : BitVec 32 := 8#32
  let v1136 : BitVec 32 := Scalar.maxsi v1124 c8_i32_673
  let c0_i32_674 : BitVec 32 := 0#32
  let v1137 : BitVec 32 := Scalar.select v1135 v1136 c0_i32_674
  let v1138 : BitVec 32 := Scalar.addi v1123 v1137
  let c0_i32_680 : BitVec 32 := 0#32
  let v1150 : BitVec 1 := Scalar.cmpi .sgt v1139 c0_i32_680
  let c8_i32_681 : BitVec 32 := 8#32
  let v1151 : BitVec 32 := Scalar.maxsi v1139 c8_i32_681
  let c0_i32_682 : BitVec 32 := 0#32
  let v1152 : BitVec 32 := Scalar.select v1150 v1151 c0_i32_682
  let v1153 : BitVec 32 := Scalar.addi v1138 v1152
  let c0_i32_688 : BitVec 32 := 0#32
  let v1165 : BitVec 1 := Scalar.cmpi .sgt v1154 c0_i32_688
  let c8_i32_689 : BitVec 32 := 8#32
  let v1166 : BitVec 32 := Scalar.maxsi v1154 c8_i32_689
  let c0_i32_690 : BitVec 32 := 0#32
  let v1167 : BitVec 32 := Scalar.select v1165 v1166 c0_i32_690
  let v1168 : BitVec 32 := Scalar.addi v1153 v1167
  let c0_i32_696 : BitVec 32 := 0#32
  let v1180 : BitVec 1 := Scalar.cmpi .sgt v1169 c0_i32_696
  let c8_i32_697 : BitVec 32 := 8#32
  let v1181 : BitVec 32 := Scalar.maxsi v1169 c8_i32_697
  let c0_i32_698 : BitVec 32 := 0#32
  let v1182 : BitVec 32 := Scalar.select v1180 v1181 c0_i32_698
  let v1183 : BitVec 32 := Scalar.addi v1168 v1182
  let c0_i32_704 : BitVec 32 := 0#32
  let v1195 : BitVec 1 := Scalar.cmpi .sgt v1184 c0_i32_704
  let c8_i32_705 : BitVec 32 := 8#32
  let v1196 : BitVec 32 := Scalar.maxsi v1184 c8_i32_705
  let c0_i32_706 : BitVec 32 := 0#32
  let v1197 : BitVec 32 := Scalar.select v1195 v1196 c0_i32_706
  let v1198 : BitVec 32 := Scalar.addi v1183 v1197
  let c0_i32_712 : BitVec 32 := 0#32
  let v1210 : BitVec 1 := Scalar.cmpi .sgt v1199 c0_i32_712
  let c8_i32_713 : BitVec 32 := 8#32
  let v1211 : BitVec 32 := Scalar.maxsi v1199 c8_i32_713
  let c0_i32_714 : BitVec 32 := 0#32
  let v1212 : BitVec 32 := Scalar.select v1210 v1211 c0_i32_714
  let v1213 : BitVec 32 := Scalar.addi v1198 v1212
  let c0_i32_720 : BitVec 32 := 0#32
  let v1225 : BitVec 1 := Scalar.cmpi .sgt v1214 c0_i32_720
  let c8_i32_721 : BitVec 32 := 8#32
  let v1226 : BitVec 32 := Scalar.maxsi v1214 c8_i32_721
  let c0_i32_722 : BitVec 32 := 0#32
  let v1227 : BitVec 32 := Scalar.select v1225 v1226 c0_i32_722
  let v1228 : BitVec 32 := Scalar.addi v1213 v1227
  let c0_i32_728 : BitVec 32 := 0#32
  let v1240 : BitVec 1 := Scalar.cmpi .sgt v1229 c0_i32_728
  let c8_i32_729 : BitVec 32 := 8#32
  let v1241 : BitVec 32 := Scalar.maxsi v1229 c8_i32_729
  let c0_i32_730 : BitVec 32 := 0#32
  let v1242 : BitVec 32 := Scalar.select v1240 v1241 c0_i32_730
  let v1243 : BitVec 32 := Scalar.addi v1228 v1242
  let c0_i32_736 : BitVec 32 := 0#32
  let v1255 : BitVec 1 := Scalar.cmpi .sgt v1244 c0_i32_736
  let c8_i32_737 : BitVec 32 := 8#32
  let v1256 : BitVec 32 := Scalar.maxsi v1244 c8_i32_737
  let c0_i32_738 : BitVec 32 := 0#32
  let v1257 : BitVec 32 := Scalar.select v1255 v1256 c0_i32_738
  let v1258 : BitVec 32 := Scalar.addi v1243 v1257
  let c0_i32_744 : BitVec 32 := 0#32
  let v1270 : BitVec 1 := Scalar.cmpi .sgt v1259 c0_i32_744
  let c8_i32_745 : BitVec 32 := 8#32
  let v1271 : BitVec 32 := Scalar.maxsi v1259 c8_i32_745
  let c0_i32_746 : BitVec 32 := 0#32
  let v1272 : BitVec 32 := Scalar.select v1270 v1271 c0_i32_746
  let v1273 : BitVec 32 := Scalar.addi v1258 v1272
  let c0_i32_752 : BitVec 32 := 0#32
  let v1285 : BitVec 1 := Scalar.cmpi .sgt v1274 c0_i32_752
  let c8_i32_753 : BitVec 32 := 8#32
  let v1286 : BitVec 32 := Scalar.maxsi v1274 c8_i32_753
  let c0_i32_754 : BitVec 32 := 0#32
  let v1287 : BitVec 32 := Scalar.select v1285 v1286 c0_i32_754
  let v1288 : BitVec 32 := Scalar.addi v1273 v1287
  let c0_i32_760 : BitVec 32 := 0#32
  let v1300 : BitVec 1 := Scalar.cmpi .sgt v1289 c0_i32_760
  let c8_i32_761 : BitVec 32 := 8#32
  let v1301 : BitVec 32 := Scalar.maxsi v1289 c8_i32_761
  let c0_i32_762 : BitVec 32 := 0#32
  let v1302 : BitVec 32 := Scalar.select v1300 v1301 c0_i32_762
  let v1303 : BitVec 32 := Scalar.addi v1288 v1302
  let c0_i32_768 : BitVec 32 := 0#32
  let v1315 : BitVec 1 := Scalar.cmpi .sgt v1304 c0_i32_768
  let c8_i32_769 : BitVec 32 := 8#32
  let v1316 : BitVec 32 := Scalar.maxsi v1304 c8_i32_769
  let c0_i32_770 : BitVec 32 := 0#32
  let v1317 : BitVec 32 := Scalar.select v1315 v1316 c0_i32_770
  let v1318 : BitVec 32 := Scalar.addi v1303 v1317
  let c0_i32_776 : BitVec 32 := 0#32
  let v1330 : BitVec 1 := Scalar.cmpi .sgt v1319 c0_i32_776
  let c8_i32_777 : BitVec 32 := 8#32
  let v1331 : BitVec 32 := Scalar.maxsi v1319 c8_i32_777
  let c0_i32_778 : BitVec 32 := 0#32
  let v1332 : BitVec 32 := Scalar.select v1330 v1331 c0_i32_778
  let v1333 : BitVec 32 := Scalar.addi v1318 v1332
  let c0_i32_784 : BitVec 32 := 0#32
  let v1345 : BitVec 1 := Scalar.cmpi .sgt v1334 c0_i32_784
  let c8_i32_785 : BitVec 32 := 8#32
  let v1346 : BitVec 32 := Scalar.maxsi v1334 c8_i32_785
  let c0_i32_786 : BitVec 32 := 0#32
  let v1347 : BitVec 32 := Scalar.select v1345 v1346 c0_i32_786
  let v1348 : BitVec 32 := Scalar.addi v1333 v1347
  let c0_i32_792 : BitVec 32 := 0#32
  let v1360 : BitVec 1 := Scalar.cmpi .sgt v1349 c0_i32_792
  let c8_i32_793 : BitVec 32 := 8#32
  let v1361 : BitVec 32 := Scalar.maxsi v1349 c8_i32_793
  let c0_i32_794 : BitVec 32 := 0#32
  let v1362 : BitVec 32 := Scalar.select v1360 v1361 c0_i32_794
  let v1363 : BitVec 32 := Scalar.addi v1348 v1362
  let c0_i32_800 : BitVec 32 := 0#32
  let v1375 : BitVec 1 := Scalar.cmpi .sgt v1364 c0_i32_800
  let c8_i32_801 : BitVec 32 := 8#32
  let v1376 : BitVec 32 := Scalar.maxsi v1364 c8_i32_801
  let c0_i32_802 : BitVec 32 := 0#32
  let v1377 : BitVec 32 := Scalar.select v1375 v1376 c0_i32_802
  let v1378 : BitVec 32 := Scalar.addi v1363 v1377
  let v1380 : Index := Scalar.indexCast v1378
  let c0_803 : Index := 0#32
  ![v1380.toNat, 0]

def k0_chk63 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (v1319 : BitVec 32) (v1334 : BitVec 32) (v1349 : BitVec 32) (v1364 : BitVec 32) : Prop :=
  (∀ (k0_h3 : k0_cond3 i arg0 v487 = 1#1), ∀ a, (k0_off121 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 v1349 v1364) a + S256x128.size a ≤ S16704x128.size a)
theorem k0_off121_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (v1319 : BitVec 32) (v1334 : BitVec 32) (v1349 : BitVec 32) (v1364 : BitVec 32) (k0_hw63 : k0_chk63 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 v1349 v1364), ∀ (k0_h3 : k0_cond3 i arg0 v487 = 1#1), ∀ a, (k0_off121 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 v1349 v1364) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 v1349 v1364 k0_hw63 k0_h3 => k0_hw63 k0_h3

def k0_off122 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (v1319 : BitVec 32) (v1334 : BitVec 32) (v1349 : BitVec 32) (v1364 : BitVec 32) (v1379 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let c0_i32_648 : BitVec 32 := 0#32
  let v1090 : BitVec 1 := Scalar.cmpi .sgt v1079 c0_i32_648
  let c8_i32_649 : BitVec 32 := 8#32
  let v1091 : BitVec 32 := Scalar.maxsi v1079 c8_i32_649
  let c0_i32_650 : BitVec 32 := 0#32
  let v1092 : BitVec 32 := Scalar.select v1090 v1091 c0_i32_650
  let v1093 : BitVec 32 := Scalar.addi v1078 v1092
  let c0_i32_656 : BitVec 32 := 0#32
  let v1105 : BitVec 1 := Scalar.cmpi .sgt v1094 c0_i32_656
  let c8_i32_657 : BitVec 32 := 8#32
  let v1106 : BitVec 32 := Scalar.maxsi v1094 c8_i32_657
  let c0_i32_658 : BitVec 32 := 0#32
  let v1107 : BitVec 32 := Scalar.select v1105 v1106 c0_i32_658
  let v1108 : BitVec 32 := Scalar.addi v1093 v1107
  let c0_i32_664 : BitVec 32 := 0#32
  let v1120 : BitVec 1 := Scalar.cmpi .sgt v1109 c0_i32_664
  let c8_i32_665 : BitVec 32 := 8#32
  let v1121 : BitVec 32 := Scalar.maxsi v1109 c8_i32_665
  let c0_i32_666 : BitVec 32 := 0#32
  let v1122 : BitVec 32 := Scalar.select v1120 v1121 c0_i32_666
  let v1123 : BitVec 32 := Scalar.addi v1108 v1122
  let c0_i32_672 : BitVec 32 := 0#32
  let v1135 : BitVec 1 := Scalar.cmpi .sgt v1124 c0_i32_672
  let c8_i32_673 : BitVec 32 := 8#32
  let v1136 : BitVec 32 := Scalar.maxsi v1124 c8_i32_673
  let c0_i32_674 : BitVec 32 := 0#32
  let v1137 : BitVec 32 := Scalar.select v1135 v1136 c0_i32_674
  let v1138 : BitVec 32 := Scalar.addi v1123 v1137
  let c0_i32_680 : BitVec 32 := 0#32
  let v1150 : BitVec 1 := Scalar.cmpi .sgt v1139 c0_i32_680
  let c8_i32_681 : BitVec 32 := 8#32
  let v1151 : BitVec 32 := Scalar.maxsi v1139 c8_i32_681
  let c0_i32_682 : BitVec 32 := 0#32
  let v1152 : BitVec 32 := Scalar.select v1150 v1151 c0_i32_682
  let v1153 : BitVec 32 := Scalar.addi v1138 v1152
  let c0_i32_688 : BitVec 32 := 0#32
  let v1165 : BitVec 1 := Scalar.cmpi .sgt v1154 c0_i32_688
  let c8_i32_689 : BitVec 32 := 8#32
  let v1166 : BitVec 32 := Scalar.maxsi v1154 c8_i32_689
  let c0_i32_690 : BitVec 32 := 0#32
  let v1167 : BitVec 32 := Scalar.select v1165 v1166 c0_i32_690
  let v1168 : BitVec 32 := Scalar.addi v1153 v1167
  let c0_i32_696 : BitVec 32 := 0#32
  let v1180 : BitVec 1 := Scalar.cmpi .sgt v1169 c0_i32_696
  let c8_i32_697 : BitVec 32 := 8#32
  let v1181 : BitVec 32 := Scalar.maxsi v1169 c8_i32_697
  let c0_i32_698 : BitVec 32 := 0#32
  let v1182 : BitVec 32 := Scalar.select v1180 v1181 c0_i32_698
  let v1183 : BitVec 32 := Scalar.addi v1168 v1182
  let c0_i32_704 : BitVec 32 := 0#32
  let v1195 : BitVec 1 := Scalar.cmpi .sgt v1184 c0_i32_704
  let c8_i32_705 : BitVec 32 := 8#32
  let v1196 : BitVec 32 := Scalar.maxsi v1184 c8_i32_705
  let c0_i32_706 : BitVec 32 := 0#32
  let v1197 : BitVec 32 := Scalar.select v1195 v1196 c0_i32_706
  let v1198 : BitVec 32 := Scalar.addi v1183 v1197
  let c0_i32_712 : BitVec 32 := 0#32
  let v1210 : BitVec 1 := Scalar.cmpi .sgt v1199 c0_i32_712
  let c8_i32_713 : BitVec 32 := 8#32
  let v1211 : BitVec 32 := Scalar.maxsi v1199 c8_i32_713
  let c0_i32_714 : BitVec 32 := 0#32
  let v1212 : BitVec 32 := Scalar.select v1210 v1211 c0_i32_714
  let v1213 : BitVec 32 := Scalar.addi v1198 v1212
  let c0_i32_720 : BitVec 32 := 0#32
  let v1225 : BitVec 1 := Scalar.cmpi .sgt v1214 c0_i32_720
  let c8_i32_721 : BitVec 32 := 8#32
  let v1226 : BitVec 32 := Scalar.maxsi v1214 c8_i32_721
  let c0_i32_722 : BitVec 32 := 0#32
  let v1227 : BitVec 32 := Scalar.select v1225 v1226 c0_i32_722
  let v1228 : BitVec 32 := Scalar.addi v1213 v1227
  let c0_i32_728 : BitVec 32 := 0#32
  let v1240 : BitVec 1 := Scalar.cmpi .sgt v1229 c0_i32_728
  let c8_i32_729 : BitVec 32 := 8#32
  let v1241 : BitVec 32 := Scalar.maxsi v1229 c8_i32_729
  let c0_i32_730 : BitVec 32 := 0#32
  let v1242 : BitVec 32 := Scalar.select v1240 v1241 c0_i32_730
  let v1243 : BitVec 32 := Scalar.addi v1228 v1242
  let c0_i32_736 : BitVec 32 := 0#32
  let v1255 : BitVec 1 := Scalar.cmpi .sgt v1244 c0_i32_736
  let c8_i32_737 : BitVec 32 := 8#32
  let v1256 : BitVec 32 := Scalar.maxsi v1244 c8_i32_737
  let c0_i32_738 : BitVec 32 := 0#32
  let v1257 : BitVec 32 := Scalar.select v1255 v1256 c0_i32_738
  let v1258 : BitVec 32 := Scalar.addi v1243 v1257
  let c0_i32_744 : BitVec 32 := 0#32
  let v1270 : BitVec 1 := Scalar.cmpi .sgt v1259 c0_i32_744
  let c8_i32_745 : BitVec 32 := 8#32
  let v1271 : BitVec 32 := Scalar.maxsi v1259 c8_i32_745
  let c0_i32_746 : BitVec 32 := 0#32
  let v1272 : BitVec 32 := Scalar.select v1270 v1271 c0_i32_746
  let v1273 : BitVec 32 := Scalar.addi v1258 v1272
  let c0_i32_752 : BitVec 32 := 0#32
  let v1285 : BitVec 1 := Scalar.cmpi .sgt v1274 c0_i32_752
  let c8_i32_753 : BitVec 32 := 8#32
  let v1286 : BitVec 32 := Scalar.maxsi v1274 c8_i32_753
  let c0_i32_754 : BitVec 32 := 0#32
  let v1287 : BitVec 32 := Scalar.select v1285 v1286 c0_i32_754
  let v1288 : BitVec 32 := Scalar.addi v1273 v1287
  let c0_i32_760 : BitVec 32 := 0#32
  let v1300 : BitVec 1 := Scalar.cmpi .sgt v1289 c0_i32_760
  let c8_i32_761 : BitVec 32 := 8#32
  let v1301 : BitVec 32 := Scalar.maxsi v1289 c8_i32_761
  let c0_i32_762 : BitVec 32 := 0#32
  let v1302 : BitVec 32 := Scalar.select v1300 v1301 c0_i32_762
  let v1303 : BitVec 32 := Scalar.addi v1288 v1302
  let c0_i32_768 : BitVec 32 := 0#32
  let v1315 : BitVec 1 := Scalar.cmpi .sgt v1304 c0_i32_768
  let c8_i32_769 : BitVec 32 := 8#32
  let v1316 : BitVec 32 := Scalar.maxsi v1304 c8_i32_769
  let c0_i32_770 : BitVec 32 := 0#32
  let v1317 : BitVec 32 := Scalar.select v1315 v1316 c0_i32_770
  let v1318 : BitVec 32 := Scalar.addi v1303 v1317
  let c0_i32_776 : BitVec 32 := 0#32
  let v1330 : BitVec 1 := Scalar.cmpi .sgt v1319 c0_i32_776
  let c8_i32_777 : BitVec 32 := 8#32
  let v1331 : BitVec 32 := Scalar.maxsi v1319 c8_i32_777
  let c0_i32_778 : BitVec 32 := 0#32
  let v1332 : BitVec 32 := Scalar.select v1330 v1331 c0_i32_778
  let v1333 : BitVec 32 := Scalar.addi v1318 v1332
  let c0_i32_784 : BitVec 32 := 0#32
  let v1345 : BitVec 1 := Scalar.cmpi .sgt v1334 c0_i32_784
  let c8_i32_785 : BitVec 32 := 8#32
  let v1346 : BitVec 32 := Scalar.maxsi v1334 c8_i32_785
  let c0_i32_786 : BitVec 32 := 0#32
  let v1347 : BitVec 32 := Scalar.select v1345 v1346 c0_i32_786
  let v1348 : BitVec 32 := Scalar.addi v1333 v1347
  let c0_i32_792 : BitVec 32 := 0#32
  let v1360 : BitVec 1 := Scalar.cmpi .sgt v1349 c0_i32_792
  let c8_i32_793 : BitVec 32 := 8#32
  let v1361 : BitVec 32 := Scalar.maxsi v1349 c8_i32_793
  let c0_i32_794 : BitVec 32 := 0#32
  let v1362 : BitVec 32 := Scalar.select v1360 v1361 c0_i32_794
  let v1363 : BitVec 32 := Scalar.addi v1348 v1362
  let c0_i32_800 : BitVec 32 := 0#32
  let v1375 : BitVec 1 := Scalar.cmpi .sgt v1364 c0_i32_800
  let c8_i32_801 : BitVec 32 := 8#32
  let v1376 : BitVec 32 := Scalar.maxsi v1364 c8_i32_801
  let c0_i32_802 : BitVec 32 := 0#32
  let v1377 : BitVec 32 := Scalar.select v1375 v1376 c0_i32_802
  let v1378 : BitVec 32 := Scalar.addi v1363 v1377
  let c0_i32_808 : BitVec 32 := 0#32
  let v1390 : BitVec 1 := Scalar.cmpi .sgt v1379 c0_i32_808
  let c8_i32_809 : BitVec 32 := 8#32
  let v1391 : BitVec 32 := Scalar.maxsi v1379 c8_i32_809
  let c0_i32_810 : BitVec 32 := 0#32
  let v1392 : BitVec 32 := Scalar.select v1390 v1391 c0_i32_810
  let v1393 : BitVec 32 := Scalar.addi v1378 v1392
  let v1395 : Index := Scalar.indexCast v1393
  let c0_811 : Index := 0#32
  ![v1395.toNat, 0]

def k0_chk64 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (v1319 : BitVec 32) (v1334 : BitVec 32) (v1349 : BitVec 32) (v1364 : BitVec 32) (v1379 : BitVec 32) : Prop :=
  (∀ (k0_h3 : k0_cond3 i arg0 v487 = 1#1), ∀ a, (k0_off122 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 v1349 v1364 v1379) a + S256x128.size a ≤ S16704x128.size a)
theorem k0_off122_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (v1319 : BitVec 32) (v1334 : BitVec 32) (v1349 : BitVec 32) (v1364 : BitVec 32) (v1379 : BitVec 32) (k0_hw64 : k0_chk64 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 v1349 v1364 v1379), ∀ (k0_h3 : k0_cond3 i arg0 v487 = 1#1), ∀ a, (k0_off122 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 v1349 v1364 v1379) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 v1349 v1364 v1379 k0_hw64 k0_h3 => k0_hw64 k0_h3

def k0_off123 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (v1319 : BitVec 32) (v1334 : BitVec 32) (v1349 : BitVec 32) (v1364 : BitVec 32) (v1379 : BitVec 32) (v1394 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let c0_i32_648 : BitVec 32 := 0#32
  let v1090 : BitVec 1 := Scalar.cmpi .sgt v1079 c0_i32_648
  let c8_i32_649 : BitVec 32 := 8#32
  let v1091 : BitVec 32 := Scalar.maxsi v1079 c8_i32_649
  let c0_i32_650 : BitVec 32 := 0#32
  let v1092 : BitVec 32 := Scalar.select v1090 v1091 c0_i32_650
  let v1093 : BitVec 32 := Scalar.addi v1078 v1092
  let c0_i32_656 : BitVec 32 := 0#32
  let v1105 : BitVec 1 := Scalar.cmpi .sgt v1094 c0_i32_656
  let c8_i32_657 : BitVec 32 := 8#32
  let v1106 : BitVec 32 := Scalar.maxsi v1094 c8_i32_657
  let c0_i32_658 : BitVec 32 := 0#32
  let v1107 : BitVec 32 := Scalar.select v1105 v1106 c0_i32_658
  let v1108 : BitVec 32 := Scalar.addi v1093 v1107
  let c0_i32_664 : BitVec 32 := 0#32
  let v1120 : BitVec 1 := Scalar.cmpi .sgt v1109 c0_i32_664
  let c8_i32_665 : BitVec 32 := 8#32
  let v1121 : BitVec 32 := Scalar.maxsi v1109 c8_i32_665
  let c0_i32_666 : BitVec 32 := 0#32
  let v1122 : BitVec 32 := Scalar.select v1120 v1121 c0_i32_666
  let v1123 : BitVec 32 := Scalar.addi v1108 v1122
  let c0_i32_672 : BitVec 32 := 0#32
  let v1135 : BitVec 1 := Scalar.cmpi .sgt v1124 c0_i32_672
  let c8_i32_673 : BitVec 32 := 8#32
  let v1136 : BitVec 32 := Scalar.maxsi v1124 c8_i32_673
  let c0_i32_674 : BitVec 32 := 0#32
  let v1137 : BitVec 32 := Scalar.select v1135 v1136 c0_i32_674
  let v1138 : BitVec 32 := Scalar.addi v1123 v1137
  let c0_i32_680 : BitVec 32 := 0#32
  let v1150 : BitVec 1 := Scalar.cmpi .sgt v1139 c0_i32_680
  let c8_i32_681 : BitVec 32 := 8#32
  let v1151 : BitVec 32 := Scalar.maxsi v1139 c8_i32_681
  let c0_i32_682 : BitVec 32 := 0#32
  let v1152 : BitVec 32 := Scalar.select v1150 v1151 c0_i32_682
  let v1153 : BitVec 32 := Scalar.addi v1138 v1152
  let c0_i32_688 : BitVec 32 := 0#32
  let v1165 : BitVec 1 := Scalar.cmpi .sgt v1154 c0_i32_688
  let c8_i32_689 : BitVec 32 := 8#32
  let v1166 : BitVec 32 := Scalar.maxsi v1154 c8_i32_689
  let c0_i32_690 : BitVec 32 := 0#32
  let v1167 : BitVec 32 := Scalar.select v1165 v1166 c0_i32_690
  let v1168 : BitVec 32 := Scalar.addi v1153 v1167
  let c0_i32_696 : BitVec 32 := 0#32
  let v1180 : BitVec 1 := Scalar.cmpi .sgt v1169 c0_i32_696
  let c8_i32_697 : BitVec 32 := 8#32
  let v1181 : BitVec 32 := Scalar.maxsi v1169 c8_i32_697
  let c0_i32_698 : BitVec 32 := 0#32
  let v1182 : BitVec 32 := Scalar.select v1180 v1181 c0_i32_698
  let v1183 : BitVec 32 := Scalar.addi v1168 v1182
  let c0_i32_704 : BitVec 32 := 0#32
  let v1195 : BitVec 1 := Scalar.cmpi .sgt v1184 c0_i32_704
  let c8_i32_705 : BitVec 32 := 8#32
  let v1196 : BitVec 32 := Scalar.maxsi v1184 c8_i32_705
  let c0_i32_706 : BitVec 32 := 0#32
  let v1197 : BitVec 32 := Scalar.select v1195 v1196 c0_i32_706
  let v1198 : BitVec 32 := Scalar.addi v1183 v1197
  let c0_i32_712 : BitVec 32 := 0#32
  let v1210 : BitVec 1 := Scalar.cmpi .sgt v1199 c0_i32_712
  let c8_i32_713 : BitVec 32 := 8#32
  let v1211 : BitVec 32 := Scalar.maxsi v1199 c8_i32_713
  let c0_i32_714 : BitVec 32 := 0#32
  let v1212 : BitVec 32 := Scalar.select v1210 v1211 c0_i32_714
  let v1213 : BitVec 32 := Scalar.addi v1198 v1212
  let c0_i32_720 : BitVec 32 := 0#32
  let v1225 : BitVec 1 := Scalar.cmpi .sgt v1214 c0_i32_720
  let c8_i32_721 : BitVec 32 := 8#32
  let v1226 : BitVec 32 := Scalar.maxsi v1214 c8_i32_721
  let c0_i32_722 : BitVec 32 := 0#32
  let v1227 : BitVec 32 := Scalar.select v1225 v1226 c0_i32_722
  let v1228 : BitVec 32 := Scalar.addi v1213 v1227
  let c0_i32_728 : BitVec 32 := 0#32
  let v1240 : BitVec 1 := Scalar.cmpi .sgt v1229 c0_i32_728
  let c8_i32_729 : BitVec 32 := 8#32
  let v1241 : BitVec 32 := Scalar.maxsi v1229 c8_i32_729
  let c0_i32_730 : BitVec 32 := 0#32
  let v1242 : BitVec 32 := Scalar.select v1240 v1241 c0_i32_730
  let v1243 : BitVec 32 := Scalar.addi v1228 v1242
  let c0_i32_736 : BitVec 32 := 0#32
  let v1255 : BitVec 1 := Scalar.cmpi .sgt v1244 c0_i32_736
  let c8_i32_737 : BitVec 32 := 8#32
  let v1256 : BitVec 32 := Scalar.maxsi v1244 c8_i32_737
  let c0_i32_738 : BitVec 32 := 0#32
  let v1257 : BitVec 32 := Scalar.select v1255 v1256 c0_i32_738
  let v1258 : BitVec 32 := Scalar.addi v1243 v1257
  let c0_i32_744 : BitVec 32 := 0#32
  let v1270 : BitVec 1 := Scalar.cmpi .sgt v1259 c0_i32_744
  let c8_i32_745 : BitVec 32 := 8#32
  let v1271 : BitVec 32 := Scalar.maxsi v1259 c8_i32_745
  let c0_i32_746 : BitVec 32 := 0#32
  let v1272 : BitVec 32 := Scalar.select v1270 v1271 c0_i32_746
  let v1273 : BitVec 32 := Scalar.addi v1258 v1272
  let c0_i32_752 : BitVec 32 := 0#32
  let v1285 : BitVec 1 := Scalar.cmpi .sgt v1274 c0_i32_752
  let c8_i32_753 : BitVec 32 := 8#32
  let v1286 : BitVec 32 := Scalar.maxsi v1274 c8_i32_753
  let c0_i32_754 : BitVec 32 := 0#32
  let v1287 : BitVec 32 := Scalar.select v1285 v1286 c0_i32_754
  let v1288 : BitVec 32 := Scalar.addi v1273 v1287
  let c0_i32_760 : BitVec 32 := 0#32
  let v1300 : BitVec 1 := Scalar.cmpi .sgt v1289 c0_i32_760
  let c8_i32_761 : BitVec 32 := 8#32
  let v1301 : BitVec 32 := Scalar.maxsi v1289 c8_i32_761
  let c0_i32_762 : BitVec 32 := 0#32
  let v1302 : BitVec 32 := Scalar.select v1300 v1301 c0_i32_762
  let v1303 : BitVec 32 := Scalar.addi v1288 v1302
  let c0_i32_768 : BitVec 32 := 0#32
  let v1315 : BitVec 1 := Scalar.cmpi .sgt v1304 c0_i32_768
  let c8_i32_769 : BitVec 32 := 8#32
  let v1316 : BitVec 32 := Scalar.maxsi v1304 c8_i32_769
  let c0_i32_770 : BitVec 32 := 0#32
  let v1317 : BitVec 32 := Scalar.select v1315 v1316 c0_i32_770
  let v1318 : BitVec 32 := Scalar.addi v1303 v1317
  let c0_i32_776 : BitVec 32 := 0#32
  let v1330 : BitVec 1 := Scalar.cmpi .sgt v1319 c0_i32_776
  let c8_i32_777 : BitVec 32 := 8#32
  let v1331 : BitVec 32 := Scalar.maxsi v1319 c8_i32_777
  let c0_i32_778 : BitVec 32 := 0#32
  let v1332 : BitVec 32 := Scalar.select v1330 v1331 c0_i32_778
  let v1333 : BitVec 32 := Scalar.addi v1318 v1332
  let c0_i32_784 : BitVec 32 := 0#32
  let v1345 : BitVec 1 := Scalar.cmpi .sgt v1334 c0_i32_784
  let c8_i32_785 : BitVec 32 := 8#32
  let v1346 : BitVec 32 := Scalar.maxsi v1334 c8_i32_785
  let c0_i32_786 : BitVec 32 := 0#32
  let v1347 : BitVec 32 := Scalar.select v1345 v1346 c0_i32_786
  let v1348 : BitVec 32 := Scalar.addi v1333 v1347
  let c0_i32_792 : BitVec 32 := 0#32
  let v1360 : BitVec 1 := Scalar.cmpi .sgt v1349 c0_i32_792
  let c8_i32_793 : BitVec 32 := 8#32
  let v1361 : BitVec 32 := Scalar.maxsi v1349 c8_i32_793
  let c0_i32_794 : BitVec 32 := 0#32
  let v1362 : BitVec 32 := Scalar.select v1360 v1361 c0_i32_794
  let v1363 : BitVec 32 := Scalar.addi v1348 v1362
  let c0_i32_800 : BitVec 32 := 0#32
  let v1375 : BitVec 1 := Scalar.cmpi .sgt v1364 c0_i32_800
  let c8_i32_801 : BitVec 32 := 8#32
  let v1376 : BitVec 32 := Scalar.maxsi v1364 c8_i32_801
  let c0_i32_802 : BitVec 32 := 0#32
  let v1377 : BitVec 32 := Scalar.select v1375 v1376 c0_i32_802
  let v1378 : BitVec 32 := Scalar.addi v1363 v1377
  let c0_i32_808 : BitVec 32 := 0#32
  let v1390 : BitVec 1 := Scalar.cmpi .sgt v1379 c0_i32_808
  let c8_i32_809 : BitVec 32 := 8#32
  let v1391 : BitVec 32 := Scalar.maxsi v1379 c8_i32_809
  let c0_i32_810 : BitVec 32 := 0#32
  let v1392 : BitVec 32 := Scalar.select v1390 v1391 c0_i32_810
  let v1393 : BitVec 32 := Scalar.addi v1378 v1392
  let c0_i32_816 : BitVec 32 := 0#32
  let v1405 : BitVec 1 := Scalar.cmpi .sgt v1394 c0_i32_816
  let c8_i32_817 : BitVec 32 := 8#32
  let v1406 : BitVec 32 := Scalar.maxsi v1394 c8_i32_817
  let c0_i32_818 : BitVec 32 := 0#32
  let v1407 : BitVec 32 := Scalar.select v1405 v1406 c0_i32_818
  let v1408 : BitVec 32 := Scalar.addi v1393 v1407
  let v1410 : Index := Scalar.indexCast v1408
  let c0_819 : Index := 0#32
  ![v1410.toNat, 0]

def k0_chk65 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (v1319 : BitVec 32) (v1334 : BitVec 32) (v1349 : BitVec 32) (v1364 : BitVec 32) (v1379 : BitVec 32) (v1394 : BitVec 32) : Prop :=
  (∀ (k0_h3 : k0_cond3 i arg0 v487 = 1#1), ∀ a, (k0_off123 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 v1349 v1364 v1379 v1394) a + S256x128.size a ≤ S16704x128.size a)
theorem k0_off123_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (v1319 : BitVec 32) (v1334 : BitVec 32) (v1349 : BitVec 32) (v1364 : BitVec 32) (v1379 : BitVec 32) (v1394 : BitVec 32) (k0_hw65 : k0_chk65 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 v1349 v1364 v1379 v1394), ∀ (k0_h3 : k0_cond3 i arg0 v487 = 1#1), ∀ a, (k0_off123 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 v1349 v1364 v1379 v1394) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 v1349 v1364 v1379 v1394 k0_hw65 k0_h3 => k0_hw65 k0_h3

def k0_off124 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (v1319 : BitVec 32) (v1334 : BitVec 32) (v1349 : BitVec 32) (v1364 : BitVec 32) (v1379 : BitVec 32) (v1394 : BitVec 32) (v1409 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let c0_i32_648 : BitVec 32 := 0#32
  let v1090 : BitVec 1 := Scalar.cmpi .sgt v1079 c0_i32_648
  let c8_i32_649 : BitVec 32 := 8#32
  let v1091 : BitVec 32 := Scalar.maxsi v1079 c8_i32_649
  let c0_i32_650 : BitVec 32 := 0#32
  let v1092 : BitVec 32 := Scalar.select v1090 v1091 c0_i32_650
  let v1093 : BitVec 32 := Scalar.addi v1078 v1092
  let c0_i32_656 : BitVec 32 := 0#32
  let v1105 : BitVec 1 := Scalar.cmpi .sgt v1094 c0_i32_656
  let c8_i32_657 : BitVec 32 := 8#32
  let v1106 : BitVec 32 := Scalar.maxsi v1094 c8_i32_657
  let c0_i32_658 : BitVec 32 := 0#32
  let v1107 : BitVec 32 := Scalar.select v1105 v1106 c0_i32_658
  let v1108 : BitVec 32 := Scalar.addi v1093 v1107
  let c0_i32_664 : BitVec 32 := 0#32
  let v1120 : BitVec 1 := Scalar.cmpi .sgt v1109 c0_i32_664
  let c8_i32_665 : BitVec 32 := 8#32
  let v1121 : BitVec 32 := Scalar.maxsi v1109 c8_i32_665
  let c0_i32_666 : BitVec 32 := 0#32
  let v1122 : BitVec 32 := Scalar.select v1120 v1121 c0_i32_666
  let v1123 : BitVec 32 := Scalar.addi v1108 v1122
  let c0_i32_672 : BitVec 32 := 0#32
  let v1135 : BitVec 1 := Scalar.cmpi .sgt v1124 c0_i32_672
  let c8_i32_673 : BitVec 32 := 8#32
  let v1136 : BitVec 32 := Scalar.maxsi v1124 c8_i32_673
  let c0_i32_674 : BitVec 32 := 0#32
  let v1137 : BitVec 32 := Scalar.select v1135 v1136 c0_i32_674
  let v1138 : BitVec 32 := Scalar.addi v1123 v1137
  let c0_i32_680 : BitVec 32 := 0#32
  let v1150 : BitVec 1 := Scalar.cmpi .sgt v1139 c0_i32_680
  let c8_i32_681 : BitVec 32 := 8#32
  let v1151 : BitVec 32 := Scalar.maxsi v1139 c8_i32_681
  let c0_i32_682 : BitVec 32 := 0#32
  let v1152 : BitVec 32 := Scalar.select v1150 v1151 c0_i32_682
  let v1153 : BitVec 32 := Scalar.addi v1138 v1152
  let c0_i32_688 : BitVec 32 := 0#32
  let v1165 : BitVec 1 := Scalar.cmpi .sgt v1154 c0_i32_688
  let c8_i32_689 : BitVec 32 := 8#32
  let v1166 : BitVec 32 := Scalar.maxsi v1154 c8_i32_689
  let c0_i32_690 : BitVec 32 := 0#32
  let v1167 : BitVec 32 := Scalar.select v1165 v1166 c0_i32_690
  let v1168 : BitVec 32 := Scalar.addi v1153 v1167
  let c0_i32_696 : BitVec 32 := 0#32
  let v1180 : BitVec 1 := Scalar.cmpi .sgt v1169 c0_i32_696
  let c8_i32_697 : BitVec 32 := 8#32
  let v1181 : BitVec 32 := Scalar.maxsi v1169 c8_i32_697
  let c0_i32_698 : BitVec 32 := 0#32
  let v1182 : BitVec 32 := Scalar.select v1180 v1181 c0_i32_698
  let v1183 : BitVec 32 := Scalar.addi v1168 v1182
  let c0_i32_704 : BitVec 32 := 0#32
  let v1195 : BitVec 1 := Scalar.cmpi .sgt v1184 c0_i32_704
  let c8_i32_705 : BitVec 32 := 8#32
  let v1196 : BitVec 32 := Scalar.maxsi v1184 c8_i32_705
  let c0_i32_706 : BitVec 32 := 0#32
  let v1197 : BitVec 32 := Scalar.select v1195 v1196 c0_i32_706
  let v1198 : BitVec 32 := Scalar.addi v1183 v1197
  let c0_i32_712 : BitVec 32 := 0#32
  let v1210 : BitVec 1 := Scalar.cmpi .sgt v1199 c0_i32_712
  let c8_i32_713 : BitVec 32 := 8#32
  let v1211 : BitVec 32 := Scalar.maxsi v1199 c8_i32_713
  let c0_i32_714 : BitVec 32 := 0#32
  let v1212 : BitVec 32 := Scalar.select v1210 v1211 c0_i32_714
  let v1213 : BitVec 32 := Scalar.addi v1198 v1212
  let c0_i32_720 : BitVec 32 := 0#32
  let v1225 : BitVec 1 := Scalar.cmpi .sgt v1214 c0_i32_720
  let c8_i32_721 : BitVec 32 := 8#32
  let v1226 : BitVec 32 := Scalar.maxsi v1214 c8_i32_721
  let c0_i32_722 : BitVec 32 := 0#32
  let v1227 : BitVec 32 := Scalar.select v1225 v1226 c0_i32_722
  let v1228 : BitVec 32 := Scalar.addi v1213 v1227
  let c0_i32_728 : BitVec 32 := 0#32
  let v1240 : BitVec 1 := Scalar.cmpi .sgt v1229 c0_i32_728
  let c8_i32_729 : BitVec 32 := 8#32
  let v1241 : BitVec 32 := Scalar.maxsi v1229 c8_i32_729
  let c0_i32_730 : BitVec 32 := 0#32
  let v1242 : BitVec 32 := Scalar.select v1240 v1241 c0_i32_730
  let v1243 : BitVec 32 := Scalar.addi v1228 v1242
  let c0_i32_736 : BitVec 32 := 0#32
  let v1255 : BitVec 1 := Scalar.cmpi .sgt v1244 c0_i32_736
  let c8_i32_737 : BitVec 32 := 8#32
  let v1256 : BitVec 32 := Scalar.maxsi v1244 c8_i32_737
  let c0_i32_738 : BitVec 32 := 0#32
  let v1257 : BitVec 32 := Scalar.select v1255 v1256 c0_i32_738
  let v1258 : BitVec 32 := Scalar.addi v1243 v1257
  let c0_i32_744 : BitVec 32 := 0#32
  let v1270 : BitVec 1 := Scalar.cmpi .sgt v1259 c0_i32_744
  let c8_i32_745 : BitVec 32 := 8#32
  let v1271 : BitVec 32 := Scalar.maxsi v1259 c8_i32_745
  let c0_i32_746 : BitVec 32 := 0#32
  let v1272 : BitVec 32 := Scalar.select v1270 v1271 c0_i32_746
  let v1273 : BitVec 32 := Scalar.addi v1258 v1272
  let c0_i32_752 : BitVec 32 := 0#32
  let v1285 : BitVec 1 := Scalar.cmpi .sgt v1274 c0_i32_752
  let c8_i32_753 : BitVec 32 := 8#32
  let v1286 : BitVec 32 := Scalar.maxsi v1274 c8_i32_753
  let c0_i32_754 : BitVec 32 := 0#32
  let v1287 : BitVec 32 := Scalar.select v1285 v1286 c0_i32_754
  let v1288 : BitVec 32 := Scalar.addi v1273 v1287
  let c0_i32_760 : BitVec 32 := 0#32
  let v1300 : BitVec 1 := Scalar.cmpi .sgt v1289 c0_i32_760
  let c8_i32_761 : BitVec 32 := 8#32
  let v1301 : BitVec 32 := Scalar.maxsi v1289 c8_i32_761
  let c0_i32_762 : BitVec 32 := 0#32
  let v1302 : BitVec 32 := Scalar.select v1300 v1301 c0_i32_762
  let v1303 : BitVec 32 := Scalar.addi v1288 v1302
  let c0_i32_768 : BitVec 32 := 0#32
  let v1315 : BitVec 1 := Scalar.cmpi .sgt v1304 c0_i32_768
  let c8_i32_769 : BitVec 32 := 8#32
  let v1316 : BitVec 32 := Scalar.maxsi v1304 c8_i32_769
  let c0_i32_770 : BitVec 32 := 0#32
  let v1317 : BitVec 32 := Scalar.select v1315 v1316 c0_i32_770
  let v1318 : BitVec 32 := Scalar.addi v1303 v1317
  let c0_i32_776 : BitVec 32 := 0#32
  let v1330 : BitVec 1 := Scalar.cmpi .sgt v1319 c0_i32_776
  let c8_i32_777 : BitVec 32 := 8#32
  let v1331 : BitVec 32 := Scalar.maxsi v1319 c8_i32_777
  let c0_i32_778 : BitVec 32 := 0#32
  let v1332 : BitVec 32 := Scalar.select v1330 v1331 c0_i32_778
  let v1333 : BitVec 32 := Scalar.addi v1318 v1332
  let c0_i32_784 : BitVec 32 := 0#32
  let v1345 : BitVec 1 := Scalar.cmpi .sgt v1334 c0_i32_784
  let c8_i32_785 : BitVec 32 := 8#32
  let v1346 : BitVec 32 := Scalar.maxsi v1334 c8_i32_785
  let c0_i32_786 : BitVec 32 := 0#32
  let v1347 : BitVec 32 := Scalar.select v1345 v1346 c0_i32_786
  let v1348 : BitVec 32 := Scalar.addi v1333 v1347
  let c0_i32_792 : BitVec 32 := 0#32
  let v1360 : BitVec 1 := Scalar.cmpi .sgt v1349 c0_i32_792
  let c8_i32_793 : BitVec 32 := 8#32
  let v1361 : BitVec 32 := Scalar.maxsi v1349 c8_i32_793
  let c0_i32_794 : BitVec 32 := 0#32
  let v1362 : BitVec 32 := Scalar.select v1360 v1361 c0_i32_794
  let v1363 : BitVec 32 := Scalar.addi v1348 v1362
  let c0_i32_800 : BitVec 32 := 0#32
  let v1375 : BitVec 1 := Scalar.cmpi .sgt v1364 c0_i32_800
  let c8_i32_801 : BitVec 32 := 8#32
  let v1376 : BitVec 32 := Scalar.maxsi v1364 c8_i32_801
  let c0_i32_802 : BitVec 32 := 0#32
  let v1377 : BitVec 32 := Scalar.select v1375 v1376 c0_i32_802
  let v1378 : BitVec 32 := Scalar.addi v1363 v1377
  let c0_i32_808 : BitVec 32 := 0#32
  let v1390 : BitVec 1 := Scalar.cmpi .sgt v1379 c0_i32_808
  let c8_i32_809 : BitVec 32 := 8#32
  let v1391 : BitVec 32 := Scalar.maxsi v1379 c8_i32_809
  let c0_i32_810 : BitVec 32 := 0#32
  let v1392 : BitVec 32 := Scalar.select v1390 v1391 c0_i32_810
  let v1393 : BitVec 32 := Scalar.addi v1378 v1392
  let c0_i32_816 : BitVec 32 := 0#32
  let v1405 : BitVec 1 := Scalar.cmpi .sgt v1394 c0_i32_816
  let c8_i32_817 : BitVec 32 := 8#32
  let v1406 : BitVec 32 := Scalar.maxsi v1394 c8_i32_817
  let c0_i32_818 : BitVec 32 := 0#32
  let v1407 : BitVec 32 := Scalar.select v1405 v1406 c0_i32_818
  let v1408 : BitVec 32 := Scalar.addi v1393 v1407
  let c0_i32_824 : BitVec 32 := 0#32
  let v1420 : BitVec 1 := Scalar.cmpi .sgt v1409 c0_i32_824
  let c8_i32_825 : BitVec 32 := 8#32
  let v1421 : BitVec 32 := Scalar.maxsi v1409 c8_i32_825
  let c0_i32_826 : BitVec 32 := 0#32
  let v1422 : BitVec 32 := Scalar.select v1420 v1421 c0_i32_826
  let v1423 : BitVec 32 := Scalar.addi v1408 v1422
  let v1425 : Index := Scalar.indexCast v1423
  let c0_827 : Index := 0#32
  ![v1425.toNat, 0]

def k0_chk66 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (v1319 : BitVec 32) (v1334 : BitVec 32) (v1349 : BitVec 32) (v1364 : BitVec 32) (v1379 : BitVec 32) (v1394 : BitVec 32) (v1409 : BitVec 32) : Prop :=
  (∀ (k0_h3 : k0_cond3 i arg0 v487 = 1#1), ∀ a, (k0_off124 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 v1349 v1364 v1379 v1394 v1409) a + S256x128.size a ≤ S16704x128.size a)
theorem k0_off124_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (v1319 : BitVec 32) (v1334 : BitVec 32) (v1349 : BitVec 32) (v1364 : BitVec 32) (v1379 : BitVec 32) (v1394 : BitVec 32) (v1409 : BitVec 32) (k0_hw66 : k0_chk66 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 v1349 v1364 v1379 v1394 v1409), ∀ (k0_h3 : k0_cond3 i arg0 v487 = 1#1), ∀ a, (k0_off124 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 v1349 v1364 v1379 v1394 v1409) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 v1349 v1364 v1379 v1394 v1409 k0_hw66 k0_h3 => k0_hw66 k0_h3

def k0_off125 (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (v1319 : BitVec 32) (v1334 : BitVec 32) (v1349 : BitVec 32) (v1364 : BitVec 32) (v1379 : BitVec 32) (v1394 : BitVec 32) (v1409 : BitVec 32) (v1424 : BitVec 32) : Fin 2 → Nat :=
  let c0_i32_334 : BitVec 32 := 0#32
  let c0_i32_332 : BitVec 32 := 0#32
  let v505 : BitVec 1 := Scalar.cmpi .sgt v495 c0_i32_332
  let c8_i32 : BitVec 32 := 8#32
  let v506 : BitVec 32 := Scalar.maxsi v495 c8_i32
  let c0_i32_333 : BitVec 32 := 0#32
  let v507 : BitVec 32 := Scalar.select v505 v506 c0_i32_333
  let v508 : BitVec 32 := Scalar.addi c0_i32_334 v507
  let c0_i32_341 : BitVec 32 := 0#32
  let v520 : BitVec 1 := Scalar.cmpi .sgt v509 c0_i32_341
  let c8_i32_342 : BitVec 32 := 8#32
  let v521 : BitVec 32 := Scalar.maxsi v509 c8_i32_342
  let c0_i32_343 : BitVec 32 := 0#32
  let v522 : BitVec 32 := Scalar.select v520 v521 c0_i32_343
  let v523 : BitVec 32 := Scalar.addi v508 v522
  let c0_i32_350 : BitVec 32 := 0#32
  let v535 : BitVec 1 := Scalar.cmpi .sgt v524 c0_i32_350
  let c8_i32_351 : BitVec 32 := 8#32
  let v536 : BitVec 32 := Scalar.maxsi v524 c8_i32_351
  let c0_i32_352 : BitVec 32 := 0#32
  let v537 : BitVec 32 := Scalar.select v535 v536 c0_i32_352
  let v538 : BitVec 32 := Scalar.addi v523 v537
  let c0_i32_359 : BitVec 32 := 0#32
  let v550 : BitVec 1 := Scalar.cmpi .sgt v539 c0_i32_359
  let c8_i32_360 : BitVec 32 := 8#32
  let v551 : BitVec 32 := Scalar.maxsi v539 c8_i32_360
  let c0_i32_361 : BitVec 32 := 0#32
  let v552 : BitVec 32 := Scalar.select v550 v551 c0_i32_361
  let v553 : BitVec 32 := Scalar.addi v538 v552
  let c0_i32_368 : BitVec 32 := 0#32
  let v565 : BitVec 1 := Scalar.cmpi .sgt v554 c0_i32_368
  let c8_i32_369 : BitVec 32 := 8#32
  let v566 : BitVec 32 := Scalar.maxsi v554 c8_i32_369
  let c0_i32_370 : BitVec 32 := 0#32
  let v567 : BitVec 32 := Scalar.select v565 v566 c0_i32_370
  let v568 : BitVec 32 := Scalar.addi v553 v567
  let c0_i32_376 : BitVec 32 := 0#32
  let v580 : BitVec 1 := Scalar.cmpi .sgt v569 c0_i32_376
  let c8_i32_377 : BitVec 32 := 8#32
  let v581 : BitVec 32 := Scalar.maxsi v569 c8_i32_377
  let c0_i32_378 : BitVec 32 := 0#32
  let v582 : BitVec 32 := Scalar.select v580 v581 c0_i32_378
  let v583 : BitVec 32 := Scalar.addi v568 v582
  let c0_i32_384 : BitVec 32 := 0#32
  let v595 : BitVec 1 := Scalar.cmpi .sgt v584 c0_i32_384
  let c8_i32_385 : BitVec 32 := 8#32
  let v596 : BitVec 32 := Scalar.maxsi v584 c8_i32_385
  let c0_i32_386 : BitVec 32 := 0#32
  let v597 : BitVec 32 := Scalar.select v595 v596 c0_i32_386
  let v598 : BitVec 32 := Scalar.addi v583 v597
  let c0_i32_392 : BitVec 32 := 0#32
  let v610 : BitVec 1 := Scalar.cmpi .sgt v599 c0_i32_392
  let c8_i32_393 : BitVec 32 := 8#32
  let v611 : BitVec 32 := Scalar.maxsi v599 c8_i32_393
  let c0_i32_394 : BitVec 32 := 0#32
  let v612 : BitVec 32 := Scalar.select v610 v611 c0_i32_394
  let v613 : BitVec 32 := Scalar.addi v598 v612
  let c0_i32_400 : BitVec 32 := 0#32
  let v625 : BitVec 1 := Scalar.cmpi .sgt v614 c0_i32_400
  let c8_i32_401 : BitVec 32 := 8#32
  let v626 : BitVec 32 := Scalar.maxsi v614 c8_i32_401
  let c0_i32_402 : BitVec 32 := 0#32
  let v627 : BitVec 32 := Scalar.select v625 v626 c0_i32_402
  let v628 : BitVec 32 := Scalar.addi v613 v627
  let c0_i32_408 : BitVec 32 := 0#32
  let v640 : BitVec 1 := Scalar.cmpi .sgt v629 c0_i32_408
  let c8_i32_409 : BitVec 32 := 8#32
  let v641 : BitVec 32 := Scalar.maxsi v629 c8_i32_409
  let c0_i32_410 : BitVec 32 := 0#32
  let v642 : BitVec 32 := Scalar.select v640 v641 c0_i32_410
  let v643 : BitVec 32 := Scalar.addi v628 v642
  let c0_i32_416 : BitVec 32 := 0#32
  let v655 : BitVec 1 := Scalar.cmpi .sgt v644 c0_i32_416
  let c8_i32_417 : BitVec 32 := 8#32
  let v656 : BitVec 32 := Scalar.maxsi v644 c8_i32_417
  let c0_i32_418 : BitVec 32 := 0#32
  let v657 : BitVec 32 := Scalar.select v655 v656 c0_i32_418
  let v658 : BitVec 32 := Scalar.addi v643 v657
  let c0_i32_424 : BitVec 32 := 0#32
  let v670 : BitVec 1 := Scalar.cmpi .sgt v659 c0_i32_424
  let c8_i32_425 : BitVec 32 := 8#32
  let v671 : BitVec 32 := Scalar.maxsi v659 c8_i32_425
  let c0_i32_426 : BitVec 32 := 0#32
  let v672 : BitVec 32 := Scalar.select v670 v671 c0_i32_426
  let v673 : BitVec 32 := Scalar.addi v658 v672
  let c0_i32_432 : BitVec 32 := 0#32
  let v685 : BitVec 1 := Scalar.cmpi .sgt v674 c0_i32_432
  let c8_i32_433 : BitVec 32 := 8#32
  let v686 : BitVec 32 := Scalar.maxsi v674 c8_i32_433
  let c0_i32_434 : BitVec 32 := 0#32
  let v687 : BitVec 32 := Scalar.select v685 v686 c0_i32_434
  let v688 : BitVec 32 := Scalar.addi v673 v687
  let c0_i32_440 : BitVec 32 := 0#32
  let v700 : BitVec 1 := Scalar.cmpi .sgt v689 c0_i32_440
  let c8_i32_441 : BitVec 32 := 8#32
  let v701 : BitVec 32 := Scalar.maxsi v689 c8_i32_441
  let c0_i32_442 : BitVec 32 := 0#32
  let v702 : BitVec 32 := Scalar.select v700 v701 c0_i32_442
  let v703 : BitVec 32 := Scalar.addi v688 v702
  let c0_i32_448 : BitVec 32 := 0#32
  let v715 : BitVec 1 := Scalar.cmpi .sgt v704 c0_i32_448
  let c8_i32_449 : BitVec 32 := 8#32
  let v716 : BitVec 32 := Scalar.maxsi v704 c8_i32_449
  let c0_i32_450 : BitVec 32 := 0#32
  let v717 : BitVec 32 := Scalar.select v715 v716 c0_i32_450
  let v718 : BitVec 32 := Scalar.addi v703 v717
  let c0_i32_456 : BitVec 32 := 0#32
  let v730 : BitVec 1 := Scalar.cmpi .sgt v719 c0_i32_456
  let c8_i32_457 : BitVec 32 := 8#32
  let v731 : BitVec 32 := Scalar.maxsi v719 c8_i32_457
  let c0_i32_458 : BitVec 32 := 0#32
  let v732 : BitVec 32 := Scalar.select v730 v731 c0_i32_458
  let v733 : BitVec 32 := Scalar.addi v718 v732
  let c0_i32_464 : BitVec 32 := 0#32
  let v745 : BitVec 1 := Scalar.cmpi .sgt v734 c0_i32_464
  let c8_i32_465 : BitVec 32 := 8#32
  let v746 : BitVec 32 := Scalar.maxsi v734 c8_i32_465
  let c0_i32_466 : BitVec 32 := 0#32
  let v747 : BitVec 32 := Scalar.select v745 v746 c0_i32_466
  let v748 : BitVec 32 := Scalar.addi v733 v747
  let c0_i32_472 : BitVec 32 := 0#32
  let v760 : BitVec 1 := Scalar.cmpi .sgt v749 c0_i32_472
  let c8_i32_473 : BitVec 32 := 8#32
  let v761 : BitVec 32 := Scalar.maxsi v749 c8_i32_473
  let c0_i32_474 : BitVec 32 := 0#32
  let v762 : BitVec 32 := Scalar.select v760 v761 c0_i32_474
  let v763 : BitVec 32 := Scalar.addi v748 v762
  let c0_i32_480 : BitVec 32 := 0#32
  let v775 : BitVec 1 := Scalar.cmpi .sgt v764 c0_i32_480
  let c8_i32_481 : BitVec 32 := 8#32
  let v776 : BitVec 32 := Scalar.maxsi v764 c8_i32_481
  let c0_i32_482 : BitVec 32 := 0#32
  let v777 : BitVec 32 := Scalar.select v775 v776 c0_i32_482
  let v778 : BitVec 32 := Scalar.addi v763 v777
  let c0_i32_488 : BitVec 32 := 0#32
  let v790 : BitVec 1 := Scalar.cmpi .sgt v779 c0_i32_488
  let c8_i32_489 : BitVec 32 := 8#32
  let v791 : BitVec 32 := Scalar.maxsi v779 c8_i32_489
  let c0_i32_490 : BitVec 32 := 0#32
  let v792 : BitVec 32 := Scalar.select v790 v791 c0_i32_490
  let v793 : BitVec 32 := Scalar.addi v778 v792
  let c0_i32_496 : BitVec 32 := 0#32
  let v805 : BitVec 1 := Scalar.cmpi .sgt v794 c0_i32_496
  let c8_i32_497 : BitVec 32 := 8#32
  let v806 : BitVec 32 := Scalar.maxsi v794 c8_i32_497
  let c0_i32_498 : BitVec 32 := 0#32
  let v807 : BitVec 32 := Scalar.select v805 v806 c0_i32_498
  let v808 : BitVec 32 := Scalar.addi v793 v807
  let c0_i32_504 : BitVec 32 := 0#32
  let v820 : BitVec 1 := Scalar.cmpi .sgt v809 c0_i32_504
  let c8_i32_505 : BitVec 32 := 8#32
  let v821 : BitVec 32 := Scalar.maxsi v809 c8_i32_505
  let c0_i32_506 : BitVec 32 := 0#32
  let v822 : BitVec 32 := Scalar.select v820 v821 c0_i32_506
  let v823 : BitVec 32 := Scalar.addi v808 v822
  let c0_i32_512 : BitVec 32 := 0#32
  let v835 : BitVec 1 := Scalar.cmpi .sgt v824 c0_i32_512
  let c8_i32_513 : BitVec 32 := 8#32
  let v836 : BitVec 32 := Scalar.maxsi v824 c8_i32_513
  let c0_i32_514 : BitVec 32 := 0#32
  let v837 : BitVec 32 := Scalar.select v835 v836 c0_i32_514
  let v838 : BitVec 32 := Scalar.addi v823 v837
  let c0_i32_520 : BitVec 32 := 0#32
  let v850 : BitVec 1 := Scalar.cmpi .sgt v839 c0_i32_520
  let c8_i32_521 : BitVec 32 := 8#32
  let v851 : BitVec 32 := Scalar.maxsi v839 c8_i32_521
  let c0_i32_522 : BitVec 32 := 0#32
  let v852 : BitVec 32 := Scalar.select v850 v851 c0_i32_522
  let v853 : BitVec 32 := Scalar.addi v838 v852
  let c0_i32_528 : BitVec 32 := 0#32
  let v865 : BitVec 1 := Scalar.cmpi .sgt v854 c0_i32_528
  let c8_i32_529 : BitVec 32 := 8#32
  let v866 : BitVec 32 := Scalar.maxsi v854 c8_i32_529
  let c0_i32_530 : BitVec 32 := 0#32
  let v867 : BitVec 32 := Scalar.select v865 v866 c0_i32_530
  let v868 : BitVec 32 := Scalar.addi v853 v867
  let c0_i32_536 : BitVec 32 := 0#32
  let v880 : BitVec 1 := Scalar.cmpi .sgt v869 c0_i32_536
  let c8_i32_537 : BitVec 32 := 8#32
  let v881 : BitVec 32 := Scalar.maxsi v869 c8_i32_537
  let c0_i32_538 : BitVec 32 := 0#32
  let v882 : BitVec 32 := Scalar.select v880 v881 c0_i32_538
  let v883 : BitVec 32 := Scalar.addi v868 v882
  let c0_i32_544 : BitVec 32 := 0#32
  let v895 : BitVec 1 := Scalar.cmpi .sgt v884 c0_i32_544
  let c8_i32_545 : BitVec 32 := 8#32
  let v896 : BitVec 32 := Scalar.maxsi v884 c8_i32_545
  let c0_i32_546 : BitVec 32 := 0#32
  let v897 : BitVec 32 := Scalar.select v895 v896 c0_i32_546
  let v898 : BitVec 32 := Scalar.addi v883 v897
  let c0_i32_552 : BitVec 32 := 0#32
  let v910 : BitVec 1 := Scalar.cmpi .sgt v899 c0_i32_552
  let c8_i32_553 : BitVec 32 := 8#32
  let v911 : BitVec 32 := Scalar.maxsi v899 c8_i32_553
  let c0_i32_554 : BitVec 32 := 0#32
  let v912 : BitVec 32 := Scalar.select v910 v911 c0_i32_554
  let v913 : BitVec 32 := Scalar.addi v898 v912
  let c0_i32_560 : BitVec 32 := 0#32
  let v925 : BitVec 1 := Scalar.cmpi .sgt v914 c0_i32_560
  let c8_i32_561 : BitVec 32 := 8#32
  let v926 : BitVec 32 := Scalar.maxsi v914 c8_i32_561
  let c0_i32_562 : BitVec 32 := 0#32
  let v927 : BitVec 32 := Scalar.select v925 v926 c0_i32_562
  let v928 : BitVec 32 := Scalar.addi v913 v927
  let c0_i32_568 : BitVec 32 := 0#32
  let v940 : BitVec 1 := Scalar.cmpi .sgt v929 c0_i32_568
  let c8_i32_569 : BitVec 32 := 8#32
  let v941 : BitVec 32 := Scalar.maxsi v929 c8_i32_569
  let c0_i32_570 : BitVec 32 := 0#32
  let v942 : BitVec 32 := Scalar.select v940 v941 c0_i32_570
  let v943 : BitVec 32 := Scalar.addi v928 v942
  let c0_i32_576 : BitVec 32 := 0#32
  let v955 : BitVec 1 := Scalar.cmpi .sgt v944 c0_i32_576
  let c8_i32_577 : BitVec 32 := 8#32
  let v956 : BitVec 32 := Scalar.maxsi v944 c8_i32_577
  let c0_i32_578 : BitVec 32 := 0#32
  let v957 : BitVec 32 := Scalar.select v955 v956 c0_i32_578
  let v958 : BitVec 32 := Scalar.addi v943 v957
  let c0_i32_584 : BitVec 32 := 0#32
  let v970 : BitVec 1 := Scalar.cmpi .sgt v959 c0_i32_584
  let c8_i32_585 : BitVec 32 := 8#32
  let v971 : BitVec 32 := Scalar.maxsi v959 c8_i32_585
  let c0_i32_586 : BitVec 32 := 0#32
  let v972 : BitVec 32 := Scalar.select v970 v971 c0_i32_586
  let v973 : BitVec 32 := Scalar.addi v958 v972
  let c0_i32_592 : BitVec 32 := 0#32
  let v985 : BitVec 1 := Scalar.cmpi .sgt v974 c0_i32_592
  let c8_i32_593 : BitVec 32 := 8#32
  let v986 : BitVec 32 := Scalar.maxsi v974 c8_i32_593
  let c0_i32_594 : BitVec 32 := 0#32
  let v987 : BitVec 32 := Scalar.select v985 v986 c0_i32_594
  let v988 : BitVec 32 := Scalar.addi v973 v987
  let c0_i32_600 : BitVec 32 := 0#32
  let v1000 : BitVec 1 := Scalar.cmpi .sgt v989 c0_i32_600
  let c8_i32_601 : BitVec 32 := 8#32
  let v1001 : BitVec 32 := Scalar.maxsi v989 c8_i32_601
  let c0_i32_602 : BitVec 32 := 0#32
  let v1002 : BitVec 32 := Scalar.select v1000 v1001 c0_i32_602
  let v1003 : BitVec 32 := Scalar.addi v988 v1002
  let c0_i32_608 : BitVec 32 := 0#32
  let v1015 : BitVec 1 := Scalar.cmpi .sgt v1004 c0_i32_608
  let c8_i32_609 : BitVec 32 := 8#32
  let v1016 : BitVec 32 := Scalar.maxsi v1004 c8_i32_609
  let c0_i32_610 : BitVec 32 := 0#32
  let v1017 : BitVec 32 := Scalar.select v1015 v1016 c0_i32_610
  let v1018 : BitVec 32 := Scalar.addi v1003 v1017
  let c0_i32_616 : BitVec 32 := 0#32
  let v1030 : BitVec 1 := Scalar.cmpi .sgt v1019 c0_i32_616
  let c8_i32_617 : BitVec 32 := 8#32
  let v1031 : BitVec 32 := Scalar.maxsi v1019 c8_i32_617
  let c0_i32_618 : BitVec 32 := 0#32
  let v1032 : BitVec 32 := Scalar.select v1030 v1031 c0_i32_618
  let v1033 : BitVec 32 := Scalar.addi v1018 v1032
  let c0_i32_624 : BitVec 32 := 0#32
  let v1045 : BitVec 1 := Scalar.cmpi .sgt v1034 c0_i32_624
  let c8_i32_625 : BitVec 32 := 8#32
  let v1046 : BitVec 32 := Scalar.maxsi v1034 c8_i32_625
  let c0_i32_626 : BitVec 32 := 0#32
  let v1047 : BitVec 32 := Scalar.select v1045 v1046 c0_i32_626
  let v1048 : BitVec 32 := Scalar.addi v1033 v1047
  let c0_i32_632 : BitVec 32 := 0#32
  let v1060 : BitVec 1 := Scalar.cmpi .sgt v1049 c0_i32_632
  let c8_i32_633 : BitVec 32 := 8#32
  let v1061 : BitVec 32 := Scalar.maxsi v1049 c8_i32_633
  let c0_i32_634 : BitVec 32 := 0#32
  let v1062 : BitVec 32 := Scalar.select v1060 v1061 c0_i32_634
  let v1063 : BitVec 32 := Scalar.addi v1048 v1062
  let c0_i32_640 : BitVec 32 := 0#32
  let v1075 : BitVec 1 := Scalar.cmpi .sgt v1064 c0_i32_640
  let c8_i32_641 : BitVec 32 := 8#32
  let v1076 : BitVec 32 := Scalar.maxsi v1064 c8_i32_641
  let c0_i32_642 : BitVec 32 := 0#32
  let v1077 : BitVec 32 := Scalar.select v1075 v1076 c0_i32_642
  let v1078 : BitVec 32 := Scalar.addi v1063 v1077
  let c0_i32_648 : BitVec 32 := 0#32
  let v1090 : BitVec 1 := Scalar.cmpi .sgt v1079 c0_i32_648
  let c8_i32_649 : BitVec 32 := 8#32
  let v1091 : BitVec 32 := Scalar.maxsi v1079 c8_i32_649
  let c0_i32_650 : BitVec 32 := 0#32
  let v1092 : BitVec 32 := Scalar.select v1090 v1091 c0_i32_650
  let v1093 : BitVec 32 := Scalar.addi v1078 v1092
  let c0_i32_656 : BitVec 32 := 0#32
  let v1105 : BitVec 1 := Scalar.cmpi .sgt v1094 c0_i32_656
  let c8_i32_657 : BitVec 32 := 8#32
  let v1106 : BitVec 32 := Scalar.maxsi v1094 c8_i32_657
  let c0_i32_658 : BitVec 32 := 0#32
  let v1107 : BitVec 32 := Scalar.select v1105 v1106 c0_i32_658
  let v1108 : BitVec 32 := Scalar.addi v1093 v1107
  let c0_i32_664 : BitVec 32 := 0#32
  let v1120 : BitVec 1 := Scalar.cmpi .sgt v1109 c0_i32_664
  let c8_i32_665 : BitVec 32 := 8#32
  let v1121 : BitVec 32 := Scalar.maxsi v1109 c8_i32_665
  let c0_i32_666 : BitVec 32 := 0#32
  let v1122 : BitVec 32 := Scalar.select v1120 v1121 c0_i32_666
  let v1123 : BitVec 32 := Scalar.addi v1108 v1122
  let c0_i32_672 : BitVec 32 := 0#32
  let v1135 : BitVec 1 := Scalar.cmpi .sgt v1124 c0_i32_672
  let c8_i32_673 : BitVec 32 := 8#32
  let v1136 : BitVec 32 := Scalar.maxsi v1124 c8_i32_673
  let c0_i32_674 : BitVec 32 := 0#32
  let v1137 : BitVec 32 := Scalar.select v1135 v1136 c0_i32_674
  let v1138 : BitVec 32 := Scalar.addi v1123 v1137
  let c0_i32_680 : BitVec 32 := 0#32
  let v1150 : BitVec 1 := Scalar.cmpi .sgt v1139 c0_i32_680
  let c8_i32_681 : BitVec 32 := 8#32
  let v1151 : BitVec 32 := Scalar.maxsi v1139 c8_i32_681
  let c0_i32_682 : BitVec 32 := 0#32
  let v1152 : BitVec 32 := Scalar.select v1150 v1151 c0_i32_682
  let v1153 : BitVec 32 := Scalar.addi v1138 v1152
  let c0_i32_688 : BitVec 32 := 0#32
  let v1165 : BitVec 1 := Scalar.cmpi .sgt v1154 c0_i32_688
  let c8_i32_689 : BitVec 32 := 8#32
  let v1166 : BitVec 32 := Scalar.maxsi v1154 c8_i32_689
  let c0_i32_690 : BitVec 32 := 0#32
  let v1167 : BitVec 32 := Scalar.select v1165 v1166 c0_i32_690
  let v1168 : BitVec 32 := Scalar.addi v1153 v1167
  let c0_i32_696 : BitVec 32 := 0#32
  let v1180 : BitVec 1 := Scalar.cmpi .sgt v1169 c0_i32_696
  let c8_i32_697 : BitVec 32 := 8#32
  let v1181 : BitVec 32 := Scalar.maxsi v1169 c8_i32_697
  let c0_i32_698 : BitVec 32 := 0#32
  let v1182 : BitVec 32 := Scalar.select v1180 v1181 c0_i32_698
  let v1183 : BitVec 32 := Scalar.addi v1168 v1182
  let c0_i32_704 : BitVec 32 := 0#32
  let v1195 : BitVec 1 := Scalar.cmpi .sgt v1184 c0_i32_704
  let c8_i32_705 : BitVec 32 := 8#32
  let v1196 : BitVec 32 := Scalar.maxsi v1184 c8_i32_705
  let c0_i32_706 : BitVec 32 := 0#32
  let v1197 : BitVec 32 := Scalar.select v1195 v1196 c0_i32_706
  let v1198 : BitVec 32 := Scalar.addi v1183 v1197
  let c0_i32_712 : BitVec 32 := 0#32
  let v1210 : BitVec 1 := Scalar.cmpi .sgt v1199 c0_i32_712
  let c8_i32_713 : BitVec 32 := 8#32
  let v1211 : BitVec 32 := Scalar.maxsi v1199 c8_i32_713
  let c0_i32_714 : BitVec 32 := 0#32
  let v1212 : BitVec 32 := Scalar.select v1210 v1211 c0_i32_714
  let v1213 : BitVec 32 := Scalar.addi v1198 v1212
  let c0_i32_720 : BitVec 32 := 0#32
  let v1225 : BitVec 1 := Scalar.cmpi .sgt v1214 c0_i32_720
  let c8_i32_721 : BitVec 32 := 8#32
  let v1226 : BitVec 32 := Scalar.maxsi v1214 c8_i32_721
  let c0_i32_722 : BitVec 32 := 0#32
  let v1227 : BitVec 32 := Scalar.select v1225 v1226 c0_i32_722
  let v1228 : BitVec 32 := Scalar.addi v1213 v1227
  let c0_i32_728 : BitVec 32 := 0#32
  let v1240 : BitVec 1 := Scalar.cmpi .sgt v1229 c0_i32_728
  let c8_i32_729 : BitVec 32 := 8#32
  let v1241 : BitVec 32 := Scalar.maxsi v1229 c8_i32_729
  let c0_i32_730 : BitVec 32 := 0#32
  let v1242 : BitVec 32 := Scalar.select v1240 v1241 c0_i32_730
  let v1243 : BitVec 32 := Scalar.addi v1228 v1242
  let c0_i32_736 : BitVec 32 := 0#32
  let v1255 : BitVec 1 := Scalar.cmpi .sgt v1244 c0_i32_736
  let c8_i32_737 : BitVec 32 := 8#32
  let v1256 : BitVec 32 := Scalar.maxsi v1244 c8_i32_737
  let c0_i32_738 : BitVec 32 := 0#32
  let v1257 : BitVec 32 := Scalar.select v1255 v1256 c0_i32_738
  let v1258 : BitVec 32 := Scalar.addi v1243 v1257
  let c0_i32_744 : BitVec 32 := 0#32
  let v1270 : BitVec 1 := Scalar.cmpi .sgt v1259 c0_i32_744
  let c8_i32_745 : BitVec 32 := 8#32
  let v1271 : BitVec 32 := Scalar.maxsi v1259 c8_i32_745
  let c0_i32_746 : BitVec 32 := 0#32
  let v1272 : BitVec 32 := Scalar.select v1270 v1271 c0_i32_746
  let v1273 : BitVec 32 := Scalar.addi v1258 v1272
  let c0_i32_752 : BitVec 32 := 0#32
  let v1285 : BitVec 1 := Scalar.cmpi .sgt v1274 c0_i32_752
  let c8_i32_753 : BitVec 32 := 8#32
  let v1286 : BitVec 32 := Scalar.maxsi v1274 c8_i32_753
  let c0_i32_754 : BitVec 32 := 0#32
  let v1287 : BitVec 32 := Scalar.select v1285 v1286 c0_i32_754
  let v1288 : BitVec 32 := Scalar.addi v1273 v1287
  let c0_i32_760 : BitVec 32 := 0#32
  let v1300 : BitVec 1 := Scalar.cmpi .sgt v1289 c0_i32_760
  let c8_i32_761 : BitVec 32 := 8#32
  let v1301 : BitVec 32 := Scalar.maxsi v1289 c8_i32_761
  let c0_i32_762 : BitVec 32 := 0#32
  let v1302 : BitVec 32 := Scalar.select v1300 v1301 c0_i32_762
  let v1303 : BitVec 32 := Scalar.addi v1288 v1302
  let c0_i32_768 : BitVec 32 := 0#32
  let v1315 : BitVec 1 := Scalar.cmpi .sgt v1304 c0_i32_768
  let c8_i32_769 : BitVec 32 := 8#32
  let v1316 : BitVec 32 := Scalar.maxsi v1304 c8_i32_769
  let c0_i32_770 : BitVec 32 := 0#32
  let v1317 : BitVec 32 := Scalar.select v1315 v1316 c0_i32_770
  let v1318 : BitVec 32 := Scalar.addi v1303 v1317
  let c0_i32_776 : BitVec 32 := 0#32
  let v1330 : BitVec 1 := Scalar.cmpi .sgt v1319 c0_i32_776
  let c8_i32_777 : BitVec 32 := 8#32
  let v1331 : BitVec 32 := Scalar.maxsi v1319 c8_i32_777
  let c0_i32_778 : BitVec 32 := 0#32
  let v1332 : BitVec 32 := Scalar.select v1330 v1331 c0_i32_778
  let v1333 : BitVec 32 := Scalar.addi v1318 v1332
  let c0_i32_784 : BitVec 32 := 0#32
  let v1345 : BitVec 1 := Scalar.cmpi .sgt v1334 c0_i32_784
  let c8_i32_785 : BitVec 32 := 8#32
  let v1346 : BitVec 32 := Scalar.maxsi v1334 c8_i32_785
  let c0_i32_786 : BitVec 32 := 0#32
  let v1347 : BitVec 32 := Scalar.select v1345 v1346 c0_i32_786
  let v1348 : BitVec 32 := Scalar.addi v1333 v1347
  let c0_i32_792 : BitVec 32 := 0#32
  let v1360 : BitVec 1 := Scalar.cmpi .sgt v1349 c0_i32_792
  let c8_i32_793 : BitVec 32 := 8#32
  let v1361 : BitVec 32 := Scalar.maxsi v1349 c8_i32_793
  let c0_i32_794 : BitVec 32 := 0#32
  let v1362 : BitVec 32 := Scalar.select v1360 v1361 c0_i32_794
  let v1363 : BitVec 32 := Scalar.addi v1348 v1362
  let c0_i32_800 : BitVec 32 := 0#32
  let v1375 : BitVec 1 := Scalar.cmpi .sgt v1364 c0_i32_800
  let c8_i32_801 : BitVec 32 := 8#32
  let v1376 : BitVec 32 := Scalar.maxsi v1364 c8_i32_801
  let c0_i32_802 : BitVec 32 := 0#32
  let v1377 : BitVec 32 := Scalar.select v1375 v1376 c0_i32_802
  let v1378 : BitVec 32 := Scalar.addi v1363 v1377
  let c0_i32_808 : BitVec 32 := 0#32
  let v1390 : BitVec 1 := Scalar.cmpi .sgt v1379 c0_i32_808
  let c8_i32_809 : BitVec 32 := 8#32
  let v1391 : BitVec 32 := Scalar.maxsi v1379 c8_i32_809
  let c0_i32_810 : BitVec 32 := 0#32
  let v1392 : BitVec 32 := Scalar.select v1390 v1391 c0_i32_810
  let v1393 : BitVec 32 := Scalar.addi v1378 v1392
  let c0_i32_816 : BitVec 32 := 0#32
  let v1405 : BitVec 1 := Scalar.cmpi .sgt v1394 c0_i32_816
  let c8_i32_817 : BitVec 32 := 8#32
  let v1406 : BitVec 32 := Scalar.maxsi v1394 c8_i32_817
  let c0_i32_818 : BitVec 32 := 0#32
  let v1407 : BitVec 32 := Scalar.select v1405 v1406 c0_i32_818
  let v1408 : BitVec 32 := Scalar.addi v1393 v1407
  let c0_i32_824 : BitVec 32 := 0#32
  let v1420 : BitVec 1 := Scalar.cmpi .sgt v1409 c0_i32_824
  let c8_i32_825 : BitVec 32 := 8#32
  let v1421 : BitVec 32 := Scalar.maxsi v1409 c8_i32_825
  let c0_i32_826 : BitVec 32 := 0#32
  let v1422 : BitVec 32 := Scalar.select v1420 v1421 c0_i32_826
  let v1423 : BitVec 32 := Scalar.addi v1408 v1422
  let c0_i32_832 : BitVec 32 := 0#32
  let v1435 : BitVec 1 := Scalar.cmpi .sgt v1424 c0_i32_832
  let c8_i32_833 : BitVec 32 := 8#32
  let v1436 : BitVec 32 := Scalar.maxsi v1424 c8_i32_833
  let c0_i32_834 : BitVec 32 := 0#32
  let v1437 : BitVec 32 := Scalar.select v1435 v1436 c0_i32_834
  let v1438 : BitVec 32 := Scalar.addi v1423 v1437
  let v1440 : Index := Scalar.indexCast v1438
  let c0_835 : Index := 0#32
  ![v1440.toNat, 0]

def k0_chk67 (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (v1319 : BitVec 32) (v1334 : BitVec 32) (v1349 : BitVec 32) (v1364 : BitVec 32) (v1379 : BitVec 32) (v1394 : BitVec 32) (v1409 : BitVec 32) (v1424 : BitVec 32) : Prop :=
  (∀ (k0_h3 : k0_cond3 i arg0 v487 = 1#1), ∀ a, (k0_off125 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 v1349 v1364 v1379 v1394 v1409 v1424) a + S256x128.size a ≤ S16704x128.size a)
theorem k0_off125_inb : ∀ (i : grid0.Static) (arg0 : BitVec 32) (v487 : BitVec 32) (v495 : BitVec 32) (v509 : BitVec 32) (v524 : BitVec 32) (v539 : BitVec 32) (v554 : BitVec 32) (v569 : BitVec 32) (v584 : BitVec 32) (v599 : BitVec 32) (v614 : BitVec 32) (v629 : BitVec 32) (v644 : BitVec 32) (v659 : BitVec 32) (v674 : BitVec 32) (v689 : BitVec 32) (v704 : BitVec 32) (v719 : BitVec 32) (v734 : BitVec 32) (v749 : BitVec 32) (v764 : BitVec 32) (v779 : BitVec 32) (v794 : BitVec 32) (v809 : BitVec 32) (v824 : BitVec 32) (v839 : BitVec 32) (v854 : BitVec 32) (v869 : BitVec 32) (v884 : BitVec 32) (v899 : BitVec 32) (v914 : BitVec 32) (v929 : BitVec 32) (v944 : BitVec 32) (v959 : BitVec 32) (v974 : BitVec 32) (v989 : BitVec 32) (v1004 : BitVec 32) (v1019 : BitVec 32) (v1034 : BitVec 32) (v1049 : BitVec 32) (v1064 : BitVec 32) (v1079 : BitVec 32) (v1094 : BitVec 32) (v1109 : BitVec 32) (v1124 : BitVec 32) (v1139 : BitVec 32) (v1154 : BitVec 32) (v1169 : BitVec 32) (v1184 : BitVec 32) (v1199 : BitVec 32) (v1214 : BitVec 32) (v1229 : BitVec 32) (v1244 : BitVec 32) (v1259 : BitVec 32) (v1274 : BitVec 32) (v1289 : BitVec 32) (v1304 : BitVec 32) (v1319 : BitVec 32) (v1334 : BitVec 32) (v1349 : BitVec 32) (v1364 : BitVec 32) (v1379 : BitVec 32) (v1394 : BitVec 32) (v1409 : BitVec 32) (v1424 : BitVec 32) (k0_hw67 : k0_chk67 i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 v1349 v1364 v1379 v1394 v1409 v1424), ∀ (k0_h3 : k0_cond3 i arg0 v487 = 1#1), ∀ a, (k0_off125 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 v1349 v1364 v1379 v1394 v1409 v1424) a + S256x128.size a ≤ S16704x128.size a := fun i arg0 v487 v495 v509 v524 v539 v554 v569 v584 v599 v614 v629 v644 v659 v674 v689 v704 v719 v734 v749 v764 v779 v794 v809 v824 v839 v854 v869 v884 v899 v914 v929 v944 v959 v974 v989 v1004 v1019 v1034 v1049 v1064 v1079 v1094 v1109 v1124 v1139 v1154 v1169 v1184 v1199 v1214 v1229 v1244 v1259 v1274 v1289 v1304 v1319 v1334 v1349 v1364 v1379 v1394 v1409 v1424 k0_hw67 k0_h3 => k0_hw67 k0_h3

def cc0_transform_0 (b : grid0.Bounds) (i : (grid0.at b).Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (b : grid0.Bounds) (i : (grid0.at b).Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (b : grid0.Bounds) (i : (grid0.at b).Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (b : grid0.Bounds) (i : (grid0.at b).Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (b : grid0.Bounds) (i : (grid0.at b).Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (b : grid0.Bounds) (i : (grid0.at b).Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (b : grid0.Bounds) (i : (grid0.at b).Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (b : grid0.Bounds) (i : (grid0.at b).Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S928x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S928x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x3584 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S64x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S_ : Shape := ⟨0, ![]⟩
abbrev S64 : Shape := ⟨1, ![64]⟩
abbrev S6144 : Shape := ⟨1, ![6144]⟩
abbrev S16704x3584 : Shape := ⟨2, ![16704, 3584]⟩
abbrev S16704x128 : Shape := ⟨2, ![16704, 128]⟩
abbrev S30522x3584 : Shape := ⟨2, ![30522, 3584]⟩
abbrev S30522 : Shape := ⟨1, ![30522]⟩
abbrev S64x128 : Shape := ⟨2, ![64, 128]⟩
abbrev S16704x30522 : Shape := ⟨2, ![16704, 30522]⟩
abbrev S16704x1 : Shape := ⟨2, ![16704, 1]⟩
abbrev S1x30522 : Shape := ⟨2, ![1, 30522]⟩
abbrev S16704 : Shape := ⟨1, ![16704]⟩
abbrev S64x64 : Shape := ⟨2, ![64, 64]⟩
abbrev S1x64 : Shape := ⟨2, ![1, 64]⟩
abbrev S64x256 : Shape := ⟨2, ![64, 256]⟩
abbrev S64x1 : Shape := ⟨2, ![64, 1]⟩
abbrev S64x256x1 : Shape := ⟨3, ![64, 256, 1]⟩

abbrev nBuf : Space → Nat
  | .hbm => 64
  | .vmem => 0
  | .smem => 0
  | _ => 0

abbrev bufTy : (tb : Table) → Fin (tcTables nBuf tb) → BufTy
  | .hbm, ⟨0, _⟩ => ⟨S_, .i32⟩
  | .hbm, ⟨1, _⟩ => ⟨S64, .i32⟩
  | .hbm, ⟨2, _⟩ => ⟨S6144, .i32⟩
  | .hbm, ⟨3, _⟩ => ⟨S16704x3584, .bf16⟩
  | .hbm, ⟨4, _⟩ => ⟨S16704x128, .f32⟩
  | .hbm, ⟨5, _⟩ => ⟨S30522x3584, .i8⟩
  | .hbm, ⟨6, _⟩ => ⟨S30522, .f32⟩
  | .hbm, ⟨7, _⟩ => ⟨S30522, .f32⟩
  | .hbm, ⟨8, _⟩ => ⟨S64x128, .i32⟩
  | .hbm, ⟨9, _⟩ => ⟨S30522x3584, .i32⟩
  | .hbm, ⟨10, _⟩ => ⟨S30522x3584, .f32⟩
  | .hbm, ⟨11, _⟩ => ⟨S30522x3584, .bf16⟩
  | .hbm, ⟨12, _⟩ => ⟨S16704x30522, .f32⟩
  | .hbm, ⟨13, _⟩ => ⟨S16704x1, .f32⟩
  | .hbm, ⟨14, _⟩ => ⟨S16704x30522, .f32⟩
  | .hbm, ⟨15, _⟩ => ⟨S16704x30522, .f32⟩
  | .hbm, ⟨16, _⟩ => ⟨S1x30522, .f32⟩
  | .hbm, ⟨17, _⟩ => ⟨S16704x30522, .f32⟩
  | .hbm, ⟨18, _⟩ => ⟨S16704x30522, .f32⟩
  | .hbm, ⟨19, _⟩ => ⟨S1x30522, .f32⟩
  | .hbm, ⟨20, _⟩ => ⟨S16704x30522, .f32⟩
  | .hbm, ⟨21, _⟩ => ⟨S16704x30522, .f32⟩
  | .hbm, ⟨22, _⟩ => ⟨S_, .f32⟩
  | .hbm, ⟨23, _⟩ => ⟨S16704x30522, .f32⟩
  | .hbm, ⟨24, _⟩ => ⟨S16704x30522, .f32⟩
  | .hbm, ⟨25, _⟩ => ⟨S16704x30522, .f32⟩
  | .hbm, ⟨26, _⟩ => ⟨S_, .f32⟩
  | .hbm, ⟨27, _⟩ => ⟨S16704, .f32⟩
  | .hbm, ⟨28, _⟩ => ⟨S_, .i32⟩
  | .hbm, ⟨29, _⟩ => ⟨S64, .i32⟩
  | .hbm, ⟨30, _⟩ => ⟨S64, .i1⟩
  | .hbm, ⟨31, _⟩ => ⟨S_, .i32⟩
  | .hbm, ⟨32, _⟩ => ⟨S64, .i32⟩
  | .hbm, ⟨33, _⟩ => ⟨S64, .i32⟩
  | .hbm, ⟨34, _⟩ => ⟨S64, .i32⟩
  | .hbm, ⟨35, _⟩ => ⟨S64x64, .i32⟩
  | .hbm, ⟨36, _⟩ => ⟨S64x64, .i32⟩
  | .hbm, ⟨37, _⟩ => ⟨S64x64, .i1⟩
  | .hbm, ⟨38, _⟩ => ⟨S1x64, .i32⟩
  | .hbm, ⟨39, _⟩ => ⟨S64x64, .i32⟩
  | .hbm, ⟨40, _⟩ => ⟨S_, .i32⟩
  | .hbm, ⟨41, _⟩ => ⟨S64x64, .i32⟩
  | .hbm, ⟨42, _⟩ => ⟨S64x64, .i32⟩
  | .hbm, ⟨43, _⟩ => ⟨S_, .i32⟩
  | .hbm, ⟨44, _⟩ => ⟨S64, .i32⟩
  | .hbm, ⟨45, _⟩ => ⟨S64x256, .i32⟩
  | .hbm, ⟨46, _⟩ => ⟨S64x1, .i32⟩
  | .hbm, ⟨47, _⟩ => ⟨S64x256, .i32⟩
  | .hbm, ⟨48, _⟩ => ⟨S64x256, .i32⟩
  | .hbm, ⟨49, _⟩ => ⟨S_, .i32⟩
  | .hbm, ⟨50, _⟩ => ⟨S64x256, .i32⟩
  | .hbm, ⟨51, _⟩ => ⟨S64x256, .i1⟩
  | .hbm, ⟨52, _⟩ => ⟨S_, .i32⟩
  | .hbm, ⟨53, _⟩ => ⟨S64x256, .i32⟩
  | .hbm, ⟨54, _⟩ => ⟨S64x256, .i32⟩
  | .hbm, ⟨55, _⟩ => ⟨S64x256, .i32⟩
  | .hbm, ⟨56, _⟩ => ⟨S64x256x1, .i32⟩
  | .hbm, ⟨57, _⟩ => ⟨S64x256, .f32⟩
  | .hbm, ⟨58, _⟩ => ⟨S64x1, .i32⟩
  | .hbm, ⟨59, _⟩ => ⟨S64x256, .i32⟩
  | .hbm, ⟨60, _⟩ => ⟨S64x256, .i1⟩
  | .hbm, ⟨61, _⟩ => ⟨S_, .f32⟩
  | .hbm, ⟨62, _⟩ => ⟨S64x256, .f32⟩
  | .hbm, ⟨63, _⟩ => ⟨S64x256, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_2 : Ref sig .tc := ⟨.hbm, 40, rfl⟩
abbrev main_v27 : Ref sig .tc := ⟨.hbm, 41, rfl⟩
abbrev main_v28 : Ref sig .tc := ⟨.hbm, 42, rfl⟩
abbrev main_c_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_4 : Ref sig .tc := ⟨.hbm, 49, rfl⟩
abbrev main_v34 : Ref sig .tc := ⟨.hbm, 50, rfl⟩
abbrev main_v35 : Ref sig .tc := ⟨.hbm, 51, rfl⟩
abbrev main_c_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Proof.KLoops.lean ====
module

public import proofs.«01_k».proof.Proof.Gen.Kernel.Loops

@[expose] public section

set_option warn.classDefReducibility false

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev UU (nD : Nat) (τ : Topo) : Type := UR sig nD τ
abbrev 𝒱₀ : Variants := Variants.none

set_option backward.proofsInPublic true in
set_option maxHeartbeats 8000000 in
/-- The invariant of the tile loop 1: the tables and the buffers it reads at fixed contents, the two it writes at some. -/
@[sl_loop] noncomputable def loopInv_k0_t1 (c : Dev nD) (b : grid0.Bounds) (i : grid0.Static) (arg0 : BitVec 32) (arg2 : Memref sig .tc .smem S1 .i32) (harg2 : arg2.IsWhole) (arg3 : Memref sig .tc .smem S64 .i32) (harg3 : arg3.IsWhole) (arg4 : Memref sig .tc .smem S6144 .i32) (harg4 : arg4.IsWhole) (arg5 : Memref sig .tc .vmem S928x3584 .bf16) (harg5 : arg5.IsWhole) (arg6 : Memref sig .tc .vmem S928x128 .f32) (harg6 : arg6.IsWhole) (arg7 : Memref sig .tc .vmem S1024x3584 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S64x128 .i32) (harg10 : arg10.IsWhole) (arg11 : Memref sig .tc .vmem S64x1024 .bf16) (harg11 : arg11.IsWhole) (arg12 : Memref sig .tc .vmem S64x256 .f32) (harg12 : arg12.IsWhole) (arg13 : Memref sig .tc .vmem S5x464x1792 .bf16) (harg13 : arg13.IsWhole) (arg14 : Memref sig .tc .vmem S512x1792 .bf16) (harg14 : arg14.IsWhole) (arg15 : Memref sig .tc .vmem S2x2x464x512 .f32) (harg15 : arg15.IsWhole) (arg16 : Memref sig .tc .vmem S65x8x1024 .f32) (harg16 : arg16.IsWhole) (arg17 : Memref sig .tc .vmem S30x64x1024 .f32) (harg17 : arg17.IsWhole) (arg18 : Memref sig .tc .vmem S16704x128 .f32) (harg18 : arg18.IsWhole) (k0_hw1 : k0_chk1 i arg0) (arg1 : BitVec 32) (v259 : FVec F S464x512 .f32) (v261 : FVec F S464x1792 .bf16) (v262 : Vec F S512x1792 .bf16) (v274 : Vec F S1x1024 .f32) (v278 : Vec F S1x1024 .f32) (v282 : IVec S8x128 32) (v283 : BitVec 32) (T : Buf (Elt F) (arg4.view.loc (c : Thread nD τ))) (hT : ∀ k : Fin k0_t1_loop.trips, k0_chk2 (arg4.view.readAt (Elt F) (Rect.unit (s := S6144) (k0_off2 arg0 k) S1.size (k0_off2_inb i arg0 k0_hw1 k)).toLoadRect T (Shape.Idx.first (numel1_S1.symm ▸ Nat.one_pos)))) (f6 : Buf (Elt F) (arg6.view.loc (c : Thread nD τ))) (f15 : Buf (Elt F) (arg15.view.loc (c : Thread nD τ))) (init : FVec F S8x128 .f32 × FVec F S8x128 .f32 × FVec F S8x128 .f32 × FVec F S8x128 .f32 × FVec F S8x128 .f32 × FVec F S8x128 .f32 × FVec F S8x128 .f32 × FVec F S8x128 .f32) :
    Cert.Kernel.Gen.LoopInvTy_k0_t1 (F := F) Unit ℕ (UU nD τ) ℕ 𝒱₀ c none Set.univ b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_hw1 arg1 v259 v261 v262 v274 v278 v282 v283 init where
  inv := fun k acc => iprop((arg4.view.loc (c : Thread nD τ) ↦[arg4.view.set]{fullShare.right} T)
      ∗ (arg6.view.loc (c : Thread nD τ) ↦[arg6.view.set]{fullShare} f6)
      ∗ (arg15.view.loc (c : Thread nD τ) ↦[arg15.view.set]{fullShare} f15)
      ∗ (∃ f, (arg16.view.loc (c : Thread nD τ) ↦[arg16.view.set]{fullShare} f))
      ∗ (∃ f, (arg18.view.loc (c : Thread nD τ) ↦[arg18.view.set]{fullShare} f)))
  step := fun k acc => by
    obtain ⟨a0, a1, a2, a3, a4, a5, a6, a7⟩ := acc
    have hTk := hT k
    iintro ⟨H4, H6, H15, ⟨%f16, H16⟩, ⟨%f18, H18⟩⟩
    unfold k0_t1_body
    simp only [k0_part2_eq_skeleton, k0_part3_eq_skeleton, k0_part4_eq_skeleton, k0_part5_eq_skeleton, k0_part6_eq_skeleton]
    sl_exec_parts
    sl_step
    isplitl [H4]; · iexact H4
    isplitl [H6]; · iexact H6
    isplitl [H15]; · iexact H15
    isplitl [H16]; · iexists _; iexact H16
    iexists _; iexact H18

set_option backward.proofsInPublic true in
set_option maxHeartbeats 8000000 in
/-- The invariant of the tile loop 2: the tables and the buffers it reads at fixed contents, the two it writes at some. -/
@[sl_loop] noncomputable def loopInv_k0_t2 (c : Dev nD) (b : grid0.Bounds) (i : grid0.Static) (arg0 : BitVec 32) (arg2 : Memref sig .tc .smem S1 .i32) (harg2 : arg2.IsWhole) (arg3 : Memref sig .tc .smem S64 .i32) (harg3 : arg3.IsWhole) (arg4 : Memref sig .tc .smem S6144 .i32) (harg4 : arg4.IsWhole) (arg5 : Memref sig .tc .vmem S928x3584 .bf16) (harg5 : arg5.IsWhole) (arg6 : Memref sig .tc .vmem S928x128 .f32) (harg6 : arg6.IsWhole) (arg7 : Memref sig .tc .vmem S1024x3584 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S64x128 .i32) (harg10 : arg10.IsWhole) (arg11 : Memref sig .tc .vmem S64x1024 .bf16) (harg11 : arg11.IsWhole) (arg12 : Memref sig .tc .vmem S64x256 .f32) (harg12 : arg12.IsWhole) (arg13 : Memref sig .tc .vmem S5x464x1792 .bf16) (harg13 : arg13.IsWhole) (arg14 : Memref sig .tc .vmem S512x1792 .bf16) (harg14 : arg14.IsWhole) (arg15 : Memref sig .tc .vmem S2x2x464x512 .f32) (harg15 : arg15.IsWhole) (arg16 : Memref sig .tc .vmem S65x8x1024 .f32) (harg16 : arg16.IsWhole) (arg17 : Memref sig .tc .vmem S30x64x1024 .f32) (harg17 : arg17.IsWhole) (arg18 : Memref sig .tc .vmem S16704x128 .f32) (harg18 : arg18.IsWhole) (k0_hw1 : k0_chk1 i arg0) (v273 : IVec S1x1024 1) (v277 : FVec F S1x1024 .f32) (v281 : FVec F S1x1024 .f32) (v282 : IVec S8x128 32) (v283 : BitVec 32) (v293_0 : FVec F S8x128 .f32) (v293_1 : FVec F S8x128 .f32) (v293_2 : FVec F S8x128 .f32) (v293_3 : FVec F S8x128 .f32) (v293_4 : FVec F S8x128 .f32) (v293_5 : FVec F S8x128 .f32) (v293_6 : FVec F S8x128 .f32) (v293_7 : FVec F S8x128 .f32) (c0_i32_205 : BitVec 32) (c58_i32_206 : BitVec 32) (T : Buf (Elt F) (arg4.view.loc (c : Thread nD τ))) (hT : ∀ k : Fin k0_t2_loop.trips, k0_chk3 (arg4.view.readAt (Elt F) (Rect.unit (s := S6144) (k0_off24 arg0 k) S1.size (k0_off24_inb i arg0 k0_hw1 k)).toLoadRect T (Shape.Idx.first (numel1_S1.symm ▸ Nat.one_pos)))) (f6 : Buf (Elt F) (arg6.view.loc (c : Thread nD τ))) (f15 : Buf (Elt F) (arg15.view.loc (c : Thread nD τ))) (init : FVec F S8x128 .f32 × FVec F S8x128 .f32 × FVec F S8x128 .f32 × FVec F S8x128 .f32 × FVec F S8x128 .f32 × FVec F S8x128 .f32 × FVec F S8x128 .f32 × FVec F S8x128 .f32) :
    Cert.Kernel.Gen.LoopInvTy_k0_t2 (F := F) Unit ℕ (UU nD τ) ℕ 𝒱₀ c none Set.univ b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_hw1 v273 v277 v281 v282 v283 v293_0 v293_1 v293_2 v293_3 v293_4 v293_5 v293_6 v293_7 c0_i32_205 c58_i32_206 init where
  inv := fun k acc => iprop((arg4.view.loc (c : Thread nD τ) ↦[arg4.view.set]{fullShare.right} T)
      ∗ (arg6.view.loc (c : Thread nD τ) ↦[arg6.view.set]{fullShare} f6)
      ∗ (arg15.view.loc (c : Thread nD τ) ↦[arg15.view.set]{fullShare} f15)
      ∗ (∃ f, (arg16.view.loc (c : Thread nD τ) ↦[arg16.view.set]{fullShare} f))
      ∗ (∃ f, (arg18.view.loc (c : Thread nD τ) ↦[arg18.view.set]{fullShare} f)))
  step := fun k acc => by
    obtain ⟨a0, a1, a2, a3, a4, a5, a6, a7⟩ := acc
    have hTk := hT k
    iintro ⟨H4, H6, H15, ⟨%f16, H16⟩, ⟨%f18, H18⟩⟩
    unfold k0_t2_body
    simp only [k0_part7_eq_skeleton, k0_part8_eq_skeleton, k0_part9_eq_skeleton, k0_part10_eq_skeleton, k0_part11_eq_skeleton]
    sl_exec_parts
    sl_step
    isplitl [H4]; · iexact H4
    isplitl [H6]; · iexact H6
    isplitl [H15]; · iexact H15
    isplitl [H16]; · iexists _; iexact H16
    iexists _; iexact H18

end Cert.Proof.Kernel
-- ==== Proof.KHeadA.lean ====
module

public import proofs.«01_k».proof.Proof.KLoops

@[expose] public section

set_option warn.classDefReducibility false

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option backward.proofsInPublic true in
set_option maxHeartbeats 20000000 in
theorem headA (c : Dev nD) (b : grid0.Bounds) (i : grid0.Static) (arg0 : BitVec 32) (arg2 : Memref sig .tc .smem S1 .i32) (harg2 : arg2.IsWhole) (arg3 : Memref sig .tc .smem S64 .i32) (harg3 : arg3.IsWhole) (arg4 : Memref sig .tc .smem S6144 .i32) (harg4 : arg4.IsWhole) (arg5 : Memref sig .tc .vmem S928x3584 .bf16) (harg5 : arg5.IsWhole) (arg6 : Memref sig .tc .vmem S928x128 .f32) (harg6 : arg6.IsWhole) (arg7 : Memref sig .tc .vmem S1024x3584 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S64x128 .i32) (harg10 : arg10.IsWhole) (arg11 : Memref sig .tc .vmem S64x1024 .bf16) (harg11 : arg11.IsWhole) (arg12 : Memref sig .tc .vmem S64x256 .f32) (harg12 : arg12.IsWhole) (arg13 : Memref sig .tc .vmem S5x464x1792 .bf16) (harg13 : arg13.IsWhole) (arg14 : Memref sig .tc .vmem S512x1792 .bf16) (harg14 : arg14.IsWhole) (arg15 : Memref sig .tc .vmem S2x2x464x512 .f32) (harg15 : arg15.IsWhole) (arg16 : Memref sig .tc .vmem S65x8x1024 .f32) (harg16 : arg16.IsWhole) (arg17 : Memref sig .tc .vmem S30x64x1024 .f32) (harg17 : arg17.IsWhole) (arg18 : Memref sig .tc .vmem S16704x128 .f32) (harg18 : arg18.IsWhole)  (T2 : Buf (Elt F) (arg2.view.loc (c : Thread nD τ))) (T3 : Buf (Elt F) (arg3.view.loc (c : Thread nD τ))) (T4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (k0_hw1 : k0_chk1 i arg0)
    (hT1 : ∀ k : Fin k0_t1_loop.trips, k0_chk2 (arg4.view.readAt (Elt F) (Rect.unit (s := S6144) (k0_off2 arg0 k) S1.size (k0_off2_inb i arg0 k0_hw1 k)).toLoadRect T4 (Shape.Idx.first (numel1_S1.symm ▸ Nat.one_pos)))) (hT2 : ∀ k : Fin k0_t2_loop.trips, k0_chk3 (arg4.view.readAt (Elt F) (Rect.unit (s := S6144) (k0_off24 arg0 k) S1.size (k0_off24_inb i arg0 k0_hw1 k)).toLoadRect T4 (Shape.Idx.first (numel1_S1.symm ▸ Nat.one_pos)))) (hw4 : k0_chk4 (arg4.view.readAt (Elt F) (Rect.unit (s := S6144) (k0_off46 arg0) S1.size (k0_off46_inb i arg0 k0_hw1)).toLoadRect T4 (Shape.Idx.first (numel1_S1.symm ▸ Nat.one_pos))))
    (hc1 : (k0_cond1 i = 1#1)) (hc2 : (Scalar.cmpi .ne (Scalar.extui (Scalar.andi (Scalar.cmpi .eq arg0 0#32) (Scalar.cmpi .eq (BitVec.ofNat 32 (i 1).val) 0#32))) 0#32 = 1#1)) (hc3 : ¬(k0_cond3 i arg0 (arg2.view.readAt (Elt F) (Rect.unit (s := S1) ![0] S1.size inb_S1_S1_0).toLoadRect T2 (Shape.Idx.first (numel1_S1.symm ▸ Nat.one_pos))) = 1#1))  (K : PUnit → sProp 𝕄) :
    iprop((arg2.view.loc (c : Thread nD τ) ↦[arg2.view.set]{fullShare.right} T2) ∗ (arg3.view.loc (c : Thread nD τ) ↦[arg3.view.set]{fullShare.right} T3) ∗ (arg4.view.loc (c : Thread nD τ) ↦[arg4.view.set]{fullShare.right} T4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (iprop((arg2.view.loc (c : Thread nD τ) ↦[arg2.view.set]{fullShare.right} T2) ∗ (arg3.view.loc (c : Thread nD τ) ↦[arg3.view.set]{fullShare.right} T3) ∗ (arg4.view.loc (c : Thread nD τ) ↦[arg4.view.set]{fullShare.right} T4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f))) -∗ K ⟨⟩))
      ⊢ wp frame (wpE (defs₀ (F := F)) Variants.none c none) Set.univ (cc0_head b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_head_eq_skeleton]; unfold cc0_head_skel
  iintro ⟨H2, H3, H4, H5, H6, H7, H8, H9, H10, ⟨%f11, H11⟩, ⟨%f12, H12⟩, ⟨%f13, H13⟩, ⟨%f14, H14⟩, ⟨%f15, H15⟩, ⟨%f16, H16⟩, ⟨%f17, H17⟩, ⟨%f18, H18⟩, Hk⟩
  sl_exec_parts (disch := first | assumption)
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.Proof.Kernel
-- ==== Proof.KHeadB.lean ====
module

public import proofs.«01_k».proof.Proof.KLoops

@[expose] public section

set_option warn.classDefReducibility false

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option backward.proofsInPublic true in
set_option maxHeartbeats 20000000 in
theorem headB (c : Dev nD) (b : grid0.Bounds) (i : grid0.Static) (arg0 : BitVec 32) (arg2 : Memref sig .tc .smem S1 .i32) (harg2 : arg2.IsWhole) (arg3 : Memref sig .tc .smem S64 .i32) (harg3 : arg3.IsWhole) (arg4 : Memref sig .tc .smem S6144 .i32) (harg4 : arg4.IsWhole) (arg5 : Memref sig .tc .vmem S928x3584 .bf16) (harg5 : arg5.IsWhole) (arg6 : Memref sig .tc .vmem S928x128 .f32) (harg6 : arg6.IsWhole) (arg7 : Memref sig .tc .vmem S1024x3584 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S64x128 .i32) (harg10 : arg10.IsWhole) (arg11 : Memref sig .tc .vmem S64x1024 .bf16) (harg11 : arg11.IsWhole) (arg12 : Memref sig .tc .vmem S64x256 .f32) (harg12 : arg12.IsWhole) (arg13 : Memref sig .tc .vmem S5x464x1792 .bf16) (harg13 : arg13.IsWhole) (arg14 : Memref sig .tc .vmem S512x1792 .bf16) (harg14 : arg14.IsWhole) (arg15 : Memref sig .tc .vmem S2x2x464x512 .f32) (harg15 : arg15.IsWhole) (arg16 : Memref sig .tc .vmem S65x8x1024 .f32) (harg16 : arg16.IsWhole) (arg17 : Memref sig .tc .vmem S30x64x1024 .f32) (harg17 : arg17.IsWhole) (arg18 : Memref sig .tc .vmem S16704x128 .f32) (harg18 : arg18.IsWhole)  (T2 : Buf (Elt F) (arg2.view.loc (c : Thread nD τ))) (T3 : Buf (Elt F) (arg3.view.loc (c : Thread nD τ))) (T4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (k0_hw1 : k0_chk1 i arg0)
    (hT1 : ∀ k : Fin k0_t1_loop.trips, k0_chk2 (arg4.view.readAt (Elt F) (Rect.unit (s := S6144) (k0_off2 arg0 k) S1.size (k0_off2_inb i arg0 k0_hw1 k)).toLoadRect T4 (Shape.Idx.first (numel1_S1.symm ▸ Nat.one_pos)))) (hT2 : ∀ k : Fin k0_t2_loop.trips, k0_chk3 (arg4.view.readAt (Elt F) (Rect.unit (s := S6144) (k0_off24 arg0 k) S1.size (k0_off24_inb i arg0 k0_hw1 k)).toLoadRect T4 (Shape.Idx.first (numel1_S1.symm ▸ Nat.one_pos)))) (hw4 : k0_chk4 (arg4.view.readAt (Elt F) (Rect.unit (s := S6144) (k0_off46 arg0) S1.size (k0_off46_inb i arg0 k0_hw1)).toLoadRect T4 (Shape.Idx.first (numel1_S1.symm ▸ Nat.one_pos))))
    (hc1 : (k0_cond1 i = 1#1)) (hc2 : ¬(Scalar.cmpi .ne (Scalar.extui (Scalar.andi (Scalar.cmpi .eq arg0 0#32) (Scalar.cmpi .eq (BitVec.ofNat 32 (i 1).val) 0#32))) 0#32 = 1#1)) (hc3 : ¬(k0_cond3 i arg0 (arg2.view.readAt (Elt F) (Rect.unit (s := S1) ![0] S1.size inb_S1_S1_0).toLoadRect T2 (Shape.Idx.first (numel1_S1.symm ▸ Nat.one_pos))) = 1#1))  (K : PUnit → sProp 𝕄) :
    iprop((arg2.view.loc (c : Thread nD τ) ↦[arg2.view.set]{fullShare.right} T2) ∗ (arg3.view.loc (c : Thread nD τ) ↦[arg3.view.set]{fullShare.right} T3) ∗ (arg4.view.loc (c : Thread nD τ) ↦[arg4.view.set]{fullShare.right} T4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (iprop((arg2.view.loc (c : Thread nD τ) ↦[arg2.view.set]{fullShare.right} T2) ∗ (arg3.view.loc (c : Thread nD τ) ↦[arg3.view.set]{fullShare.right} T3) ∗ (arg4.view.loc (c : Thread nD τ) ↦[arg4.view.set]{fullShare.right} T4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f))) -∗ K ⟨⟩))
      ⊢ wp frame (wpE (defs₀ (F := F)) Variants.none c none) Set.univ (cc0_head b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_head_eq_skeleton]; unfold cc0_head_skel
  iintro ⟨H2, H3, H4, H5, H6, H7, H8, H9, H10, ⟨%f11, H11⟩, ⟨%f12, H12⟩, ⟨%f13, H13⟩, ⟨%f14, H14⟩, ⟨%f15, H15⟩, ⟨%f16, H16⟩, ⟨%f17, H17⟩, ⟨%f18, H18⟩, Hk⟩
  sl_exec_parts (disch := first | assumption)
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.Proof.Kernel
-- ==== Proof.KOff.lean ====
module

public import proofs.«01_k».proof.Proof.KLoops

@[expose] public section

set_option warn.classDefReducibility false

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The rows the final gather reads start inside the buffer -/

/-- The word `o` is a row number of the first `k` segments. -/
def Off (k : ℕ) (o : BitVec 32) : Prop := o.toNat ≤ 256 * k

theorem off_step {k : ℕ} {o w : BitVec 32} (ho : Off k o) (hk : k ≤ 63) (hw : w.toInt ≤ 256) :
    Off (k + 1) (Scalar.addi o (Scalar.select (Scalar.cmpi .sgt w 0#32) (Scalar.maxsi w 8#32) 0#32)) := by
  have hs : (Scalar.select (Scalar.cmpi .sgt w 0#32) (Scalar.maxsi w 8#32) 0#32).toNat ≤ 256 := by
    have h8 : (8#32 : BitVec 32).toInt = 8 := by decide
    have hx := w.isLt
    have ht := BitVec.toInt_eq_toNat_cond w
    simp only [Scalar.select, Scalar.cmpi, Scalar.maxsi, IntOp.cmpi, IntOp.maxsi, BitVec.slt, h8]
    split at ht <;> split_ifs <;> simp_all <;> omega
  unfold Off at *
  show (o + Scalar.select (Scalar.cmpi .sgt w 0#32) (Scalar.maxsi w 8#32) 0#32).toNat ≤ _
  rw [BitVec.toNat_add]
  have := Nat.mod_le (o.toNat + (Scalar.select (Scalar.cmpi .sgt w 0#32) (Scalar.maxsi w 8#32) 0#32).toNat) (2 ^ 32)
  omega

theorem off_ok {k : ℕ} {o : BitVec 32} (ho : Off k o) (hk : k ≤ 63) : ∀ a, (![o.toNat, 0] : Fin 2 → ℕ) a + S256x128.size a ≤ S16704x128.size a := by
  intro a
  unfold Off at ho
  fin_cases a
  · show o.toNat + 256 ≤ 16704
    omega
  · show 0 + 128 ≤ 128
    omega

set_option maxHeartbeats 4000000 in
theorem chks_unpack (i : grid0.Static) (arg0 v : BitVec 32)
    (w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 w55 w56 w57 w58 w59 w60 w61 w62 : BitVec 32)
    (h0 : w0.toInt ≤ 256) (h1 : w1.toInt ≤ 256) (h2 : w2.toInt ≤ 256) (h3 : w3.toInt ≤ 256) (h4 : w4.toInt ≤ 256) (h5 : w5.toInt ≤ 256) (h6 : w6.toInt ≤ 256) (h7 : w7.toInt ≤ 256) (h8 : w8.toInt ≤ 256) (h9 : w9.toInt ≤ 256) (h10 : w10.toInt ≤ 256) (h11 : w11.toInt ≤ 256) (h12 : w12.toInt ≤ 256) (h13 : w13.toInt ≤ 256) (h14 : w14.toInt ≤ 256) (h15 : w15.toInt ≤ 256) (h16 : w16.toInt ≤ 256) (h17 : w17.toInt ≤ 256) (h18 : w18.toInt ≤ 256) (h19 : w19.toInt ≤ 256) (h20 : w20.toInt ≤ 256) (h21 : w21.toInt ≤ 256) (h22 : w22.toInt ≤ 256) (h23 : w23.toInt ≤ 256) (h24 : w24.toInt ≤ 256) (h25 : w25.toInt ≤ 256) (h26 : w26.toInt ≤ 256) (h27 : w27.toInt ≤ 256) (h28 : w28.toInt ≤ 256) (h29 : w29.toInt ≤ 256) (h30 : w30.toInt ≤ 256) (h31 : w31.toInt ≤ 256) (h32 : w32.toInt ≤ 256) (h33 : w33.toInt ≤ 256) (h34 : w34.toInt ≤ 256) (h35 : w35.toInt ≤ 256) (h36 : w36.toInt ≤ 256) (h37 : w37.toInt ≤ 256) (h38 : w38.toInt ≤ 256) (h39 : w39.toInt ≤ 256) (h40 : w40.toInt ≤ 256) (h41 : w41.toInt ≤ 256) (h42 : w42.toInt ≤ 256) (h43 : w43.toInt ≤ 256) (h44 : w44.toInt ≤ 256) (h45 : w45.toInt ≤ 256) (h46 : w46.toInt ≤ 256) (h47 : w47.toInt ≤ 256) (h48 : w48.toInt ≤ 256) (h49 : w49.toInt ≤ 256) (h50 : w50.toInt ≤ 256) (h51 : w51.toInt ≤ 256) (h52 : w52.toInt ≤ 256) (h53 : w53.toInt ≤ 256) (h54 : w54.toInt ≤ 256) (h55 : w55.toInt ≤ 256) (h56 : w56.toInt ≤ 256) (h57 : w57.toInt ≤ 256) (h58 : w58.toInt ≤ 256) (h59 : w59.toInt ≤ 256) (h60 : w60.toInt ≤ 256) (h61 : w61.toInt ≤ 256) (h62 : w62.toInt ≤ 256) :
    k0_chk5 i arg0 v w0 ∧ k0_chk6 i arg0 v w0 w1 ∧ k0_chk7 i arg0 v w0 w1 w2 ∧ k0_chk8 i arg0 v w0 w1 w2 w3 ∧ k0_chk9 i arg0 v w0 w1 w2 w3 w4 ∧ k0_chk10 i arg0 v w0 w1 w2 w3 w4 w5 ∧ k0_chk11 i arg0 v w0 w1 w2 w3 w4 w5 w6 ∧ k0_chk12 i arg0 v w0 w1 w2 w3 w4 w5 w6 w7 ∧ k0_chk13 i arg0 v w0 w1 w2 w3 w4 w5 w6 w7 w8 ∧ k0_chk14 i arg0 v w0 w1 w2 w3 w4 w5 w6 w7 w8 w9 ∧ k0_chk15 i arg0 v w0 w1 w2 w3 w4 w5 w6 w7 w8 w9 w10 ∧ k0_chk16 i arg0 v w0 w1 w2 w3 w4 w5 w6 w7 w8 w9 w10 w11 ∧ k0_chk17 i arg0 v w0 w1 w2 w3 w4 w5 w6 w7 w8 w9 w10 w11 w12 ∧ k0_chk18 i arg0 v w0 w1 w2 w3 w4 w5 w6 w7 w8 w9 w10 w11 w12 w13 ∧ k0_chk19 i arg0 v w0 w1 w2 w3 w4 w5 w6 w7 w8 w9 w10 w11 w12 w13 w14 ∧ k0_chk20 i arg0 v w0 w1 w2 w3 w4 w5 w6 w7 w8 w9 w10 w11 w12 w13 w14 w15 ∧ k0_chk21 i arg0 v w0 w1 w2 w3 w4 w5 w6 w7 w8 w9 w10 w11 w12 w13 w14 w15 w16 ∧ k0_chk22 i arg0 v w0 w1 w2 w3 w4 w5 w6 w7 w8 w9 w10 w11 w12 w13 w14 w15 w16 w17 ∧ k0_chk23 i arg0 v w0 w1 w2 w3 w4 w5 w6 w7 w8 w9 w10 w11 w12 w13 w14 w15 w16 w17 w18 ∧ k0_chk24 i arg0 v w0 w1 w2 w3 w4 w5 w6 w7 w8 w9 w10 w11 w12 w13 w14 w15 w16 w17 w18 w19 ∧ k0_chk25 i arg0 v w0 w1 w2 w3 w4 w5 w6 w7 w8 w9 w10 w11 w12 w13 w14 w15 w16 w17 w18 w19 w20 ∧ k0_chk26 i arg0 v w0 w1 w2 w3 w4 w5 w6 w7 w8 w9 w10 w11 w12 w13 w14 w15 w16 w17 w18 w19 w20 w21 ∧ k0_chk27 i arg0 v w0 w1 w2 w3 w4 w5 w6 w7 w8 w9 w10 w11 w12 w13 w14 w15 w16 w17 w18 w19 w20 w21 w22 ∧ k0_chk28 i arg0 v w0 w1 w2 w3 w4 w5 w6 w7 w8 w9 w10 w11 w12 w13 w14 w15 w16 w17 w18 w19 w20 w21 w22 w23 ∧ k0_chk29 i arg0 v w0 w1 w2 w3 w4 w5 w6 w7 w8 w9 w10 w11 w12 w13 w14 w15 w16 w17 w18 w19 w20 w21 w22 w23 w24 ∧ k0_chk30 i arg0 v w0 w1 w2 w3 w4 w5 w6 w7 w8 w9 w10 w11 w12 w13 w14 w15 w16 w17 w18 w19 w20 w21 w22 w23 w24 w25 ∧ k0_chk31 i arg0 v w0 w1 w2 w3 w4 w5 w6 w7 w8 w9 w10 w11 w12 w13 w14 w15 w16 w17 w18 w19 w20 w21 w22 w23 w24 w25 w26 ∧ k0_chk32 i arg0 v w0 w1 w2 w3 w4 w5 w6 w7 w8 w9 w10 w11 w12 w13 w14 w15 w16 w17 w18 w19 w20 w21 w22 w23 w24 w25 w26 w27 ∧ k0_chk33 i arg0 v w0 w1 w2 w3 w4 w5 w6 w7 w8 w9 w10 w11 w12 w13 w14 w15 w16 w17 w18 w19 w20 w21 w22 w23 w24 w25 w26 w27 w28 ∧ k0_chk34 i arg0 v w0 w1 w2 w3 w4 w5 w6 w7 w8 w9 w10 w11 w12 w13 w14 w15 w16 w17 w18 w19 w20 w21 w22 w23 w24 w25 w26 w27 w28 w29 ∧ k0_chk35 i arg0 v w0 w1 w2 w3 w4 w5 w6 w7 w8 w9 w10 w11 w12 w13 w14 w15 w16 w17 w18 w19 w20 w21 w22 w23 w24 w25 w26 w27 w28 w29 w30 ∧ k0_chk36 i arg0 v w0 w1 w2 w3 w4 w5 w6 w7 w8 w9 w10 w11 w12 w13 w14 w15 w16 w17 w18 w19 w20 w21 w22 w23 w24 w25 w26 w27 w28 w29 w30 w31 ∧ k0_chk37 i arg0 v w0 w1 w2 w3 w4 w5 w6 w7 w8 w9 w10 w11 w12 w13 w14 w15 w16 w17 w18 w19 w20 w21 w22 w23 w24 w25 w26 w27 w28 w29 w30 w31 w32 ∧ k0_chk38 i arg0 v w0 w1 w2 w3 w4 w5 w6 w7 w8 w9 w10 w11 w12 w13 w14 w15 w16 w17 w18 w19 w20 w21 w22 w23 w24 w25 w26 w27 w28 w29 w30 w31 w32 w33 ∧ k0_chk39 i arg0 v w0 w1 w2 w3 w4 w5 w6 w7 w8 w9 w10 w11 w12 w13 w14 w15 w16 w17 w18 w19 w20 w21 w22 w23 w24 w25 w26 w27 w28 w29 w30 w31 w32 w33 w34 ∧ k0_chk40 i arg0 v w0 w1 w2 w3 w4 w5 w6 w7 w8 w9 w10 w11 w12 w13 w14 w15 w16 w17 w18 w19 w20 w21 w22 w23 w24 w25 w26 w27 w28 w29 w30 w31 w32 w33 w34 w35 ∧ k0_chk41 i arg0 v w0 w1 w2 w3 w4 w5 w6 w7 w8 w9 w10 w11 w12 w13 w14 w15 w16 w17 w18 w19 w20 w21 w22 w23 w24 w25 w26 w27 w28 w29 w30 w31 w32 w33 w34 w35 w36 ∧ k0_chk42 i arg0 v w0 w1 w2 w3 w4 w5 w6 w7 w8 w9 w10 w11 w12 w13 w14 w15 w16 w17 w18 w19 w20 w21 w22 w23 w24 w25 w26 w27 w28 w29 w30 w31 w32 w33 w34 w35 w36 w37 ∧ k0_chk43 i arg0 v w0 w1 w2 w3 w4 w5 w6 w7 w8 w9 w10 w11 w12 w13 w14 w15 w16 w17 w18 w19 w20 w21 w22 w23 w24 w25 w26 w27 w28 w29 w30 w31 w32 w33 w34 w35 w36 w37 w38 ∧ k0_chk44 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 ∧ k0_chk45 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 ∧ k0_chk46 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 ∧ k0_chk47 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 ∧ k0_chk48 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 ∧ k0_chk49 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 ∧ k0_chk50 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 ∧ k0_chk51 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 ∧ k0_chk52 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 ∧ k0_chk53 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 ∧ k0_chk54 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 ∧ k0_chk55 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 ∧ k0_chk56 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 ∧ k0_chk57 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 ∧ k0_chk58 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 ∧ k0_chk59 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 ∧ k0_chk60 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 w55 ∧ k0_chk61 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 w55 w56 ∧ k0_chk62 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 w55 w56 w57 ∧ k0_chk63 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 w55 w56 w57 w58 ∧ k0_chk64 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 w55 w56 w57 w58 w59 ∧ k0_chk65 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 w55 w56 w57 w58 w59 w60 ∧ k0_chk66 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 w55 w56 w57 w58 w59 w60 w61 ∧ k0_chk67 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 w55 w56 w57 w58 w59 w60 w61 w62 := by
  have o0 : Off 0 0#32 := Nat.le_refl _
  have o1 := off_step o0 (by decide) h0
  have o2 := off_step o1 (by decide) h1
  have o3 := off_step o2 (by decide) h2
  have o4 := off_step o3 (by decide) h3
  have o5 := off_step o4 (by decide) h4
  have o6 := off_step o5 (by decide) h5
  have o7 := off_step o6 (by decide) h6
  have o8 := off_step o7 (by decide) h7
  have o9 := off_step o8 (by decide) h8
  have o10 := off_step o9 (by decide) h9
  have o11 := off_step o10 (by decide) h10
  have o12 := off_step o11 (by decide) h11
  have o13 := off_step o12 (by decide) h12
  have o14 := off_step o13 (by decide) h13
  have o15 := off_step o14 (by decide) h14
  have o16 := off_step o15 (by decide) h15
  have o17 := off_step o16 (by decide) h16
  have o18 := off_step o17 (by decide) h17
  have o19 := off_step o18 (by decide) h18
  have o20 := off_step o19 (by decide) h19
  have o21 := off_step o20 (by decide) h20
  have o22 := off_step o21 (by decide) h21
  have o23 := off_step o22 (by decide) h22
  have o24 := off_step o23 (by decide) h23
  have o25 := off_step o24 (by decide) h24
  have o26 := off_step o25 (by decide) h25
  have o27 := off_step o26 (by decide) h26
  have o28 := off_step o27 (by decide) h27
  have o29 := off_step o28 (by decide) h28
  have o30 := off_step o29 (by decide) h29
  have o31 := off_step o30 (by decide) h30
  have o32 := off_step o31 (by decide) h31
  have o33 := off_step o32 (by decide) h32
  have o34 := off_step o33 (by decide) h33
  have o35 := off_step o34 (by decide) h34
  have o36 := off_step o35 (by decide) h35
  have o37 := off_step o36 (by decide) h36
  have o38 := off_step o37 (by decide) h37
  have o39 := off_step o38 (by decide) h38
  have o40 := off_step o39 (by decide) h39
  have o41 := off_step o40 (by decide) h40
  have o42 := off_step o41 (by decide) h41
  have o43 := off_step o42 (by decide) h42
  have o44 := off_step o43 (by decide) h43
  have o45 := off_step o44 (by decide) h44
  have o46 := off_step o45 (by decide) h45
  have o47 := off_step o46 (by decide) h46
  have o48 := off_step o47 (by decide) h47
  have o49 := off_step o48 (by decide) h48
  have o50 := off_step o49 (by decide) h49
  have o51 := off_step o50 (by decide) h50
  have o52 := off_step o51 (by decide) h51
  have o53 := off_step o52 (by decide) h52
  have o54 := off_step o53 (by decide) h53
  have o55 := off_step o54 (by decide) h54
  have o56 := off_step o55 (by decide) h55
  have o57 := off_step o56 (by decide) h56
  have o58 := off_step o57 (by decide) h57
  have o59 := off_step o58 (by decide) h58
  have o60 := off_step o59 (by decide) h59
  have o61 := off_step o60 (by decide) h60
  have o62 := off_step o61 (by decide) h61
  have o63 := off_step o62 (by decide) h62
  exact ⟨fun _ => off_ok o1 (by decide), fun _ => off_ok o2 (by decide), fun _ => off_ok o3 (by decide), fun _ => off_ok o4 (by decide), fun _ => off_ok o5 (by decide), fun _ => off_ok o6 (by decide), fun _ => off_ok o7 (by decide), fun _ => off_ok o8 (by decide), fun _ => off_ok o9 (by decide), fun _ => off_ok o10 (by decide), fun _ => off_ok o11 (by decide), fun _ => off_ok o12 (by decide), fun _ => off_ok o13 (by decide), fun _ => off_ok o14 (by decide), fun _ => off_ok o15 (by decide), fun _ => off_ok o16 (by decide), fun _ => off_ok o17 (by decide), fun _ => off_ok o18 (by decide), fun _ => off_ok o19 (by decide), fun _ => off_ok o20 (by decide), fun _ => off_ok o21 (by decide), fun _ => off_ok o22 (by decide), fun _ => off_ok o23 (by decide), fun _ => off_ok o24 (by decide), fun _ => off_ok o25 (by decide), fun _ => off_ok o26 (by decide), fun _ => off_ok o27 (by decide), fun _ => off_ok o28 (by decide), fun _ => off_ok o29 (by decide), fun _ => off_ok o30 (by decide), fun _ => off_ok o31 (by decide), fun _ => off_ok o32 (by decide), fun _ => off_ok o33 (by decide), fun _ => off_ok o34 (by decide), fun _ => off_ok o35 (by decide), fun _ => off_ok o36 (by decide), fun _ => off_ok o37 (by decide), fun _ => off_ok o38 (by decide), fun _ => off_ok o39 (by decide), fun _ => off_ok o40 (by decide), fun _ => off_ok o41 (by decide), fun _ => off_ok o42 (by decide), fun _ => off_ok o43 (by decide), fun _ => off_ok o44 (by decide), fun _ => off_ok o45 (by decide), fun _ => off_ok o46 (by decide), fun _ => off_ok o47 (by decide), fun _ => off_ok o48 (by decide), fun _ => off_ok o49 (by decide), fun _ => off_ok o50 (by decide), fun _ => off_ok o51 (by decide), fun _ => off_ok o52 (by decide), fun _ => off_ok o53 (by decide), fun _ => off_ok o54 (by decide), fun _ => off_ok o55 (by decide), fun _ => off_ok o56 (by decide), fun _ => off_ok o57 (by decide), fun _ => off_ok o58 (by decide), fun _ => off_ok o59 (by decide), fun _ => off_ok o60 (by decide), fun _ => off_ok o61 (by decide), fun _ => off_ok o62 (by decide), fun _ => off_ok o63 (by decide)⟩

end Cert.Proof.Kernel
-- ==== Proof.KHeadD.lean ====
module

public import proofs.«01_k».proof.Proof.KOff

@[expose] public section

set_option warn.classDefReducibility false

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option backward.proofsInPublic true in
set_option maxHeartbeats 20000000 in
theorem headD (c : Dev nD) (b : grid0.Bounds) (i : grid0.Static) (arg0 : BitVec 32) (arg2 : Memref sig .tc .smem S1 .i32) (harg2 : arg2.IsWhole) (arg3 : Memref sig .tc .smem S64 .i32) (harg3 : arg3.IsWhole) (arg4 : Memref sig .tc .smem S6144 .i32) (harg4 : arg4.IsWhole) (arg5 : Memref sig .tc .vmem S928x3584 .bf16) (harg5 : arg5.IsWhole) (arg6 : Memref sig .tc .vmem S928x128 .f32) (harg6 : arg6.IsWhole) (arg7 : Memref sig .tc .vmem S1024x3584 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S64x128 .i32) (harg10 : arg10.IsWhole) (arg11 : Memref sig .tc .vmem S64x1024 .bf16) (harg11 : arg11.IsWhole) (arg12 : Memref sig .tc .vmem S64x256 .f32) (harg12 : arg12.IsWhole) (arg13 : Memref sig .tc .vmem S5x464x1792 .bf16) (harg13 : arg13.IsWhole) (arg14 : Memref sig .tc .vmem S512x1792 .bf16) (harg14 : arg14.IsWhole) (arg15 : Memref sig .tc .vmem S2x2x464x512 .f32) (harg15 : arg15.IsWhole) (arg16 : Memref sig .tc .vmem S65x8x1024 .f32) (harg16 : arg16.IsWhole) (arg17 : Memref sig .tc .vmem S30x64x1024 .f32) (harg17 : arg17.IsWhole) (arg18 : Memref sig .tc .vmem S16704x128 .f32) (harg18 : arg18.IsWhole)  (T2 : Buf (Elt F) (arg2.view.loc (c : Thread nD τ))) (T3 : Buf (Elt F) (arg3.view.loc (c : Thread nD τ))) (T4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (k0_hw1 : k0_chk1 i arg0)
    (hT1 : ∀ k : Fin k0_t1_loop.trips, k0_chk2 (arg4.view.readAt (Elt F) (Rect.unit (s := S6144) (k0_off2 arg0 k) S1.size (k0_off2_inb i arg0 k0_hw1 k)).toLoadRect T4 (Shape.Idx.first (numel1_S1.symm ▸ Nat.one_pos)))) (hT2 : ∀ k : Fin k0_t2_loop.trips, k0_chk3 (arg4.view.readAt (Elt F) (Rect.unit (s := S6144) (k0_off24 arg0 k) S1.size (k0_off24_inb i arg0 k0_hw1 k)).toLoadRect T4 (Shape.Idx.first (numel1_S1.symm ▸ Nat.one_pos)))) (hw4 : k0_chk4 (arg4.view.readAt (Elt F) (Rect.unit (s := S6144) (k0_off46 arg0) S1.size (k0_off46_inb i arg0 k0_hw1)).toLoadRect T4 (Shape.Idx.first (numel1_S1.symm ▸ Nat.one_pos))))
    (hc1 : ¬(k0_cond1 i = 1#1)) (hc2 : ¬(Scalar.cmpi .ne (Scalar.extui (Scalar.andi (Scalar.cmpi .eq arg0 0#32) (Scalar.cmpi .eq (BitVec.ofNat 32 (i 1).val) 0#32))) 0#32 = 1#1)) (hc3 : (k0_cond3 i arg0 (arg2.view.readAt (Elt F) (Rect.unit (s := S1) ![0] S1.size inb_S1_S1_0).toLoadRect T2 (Shape.Idx.first (numel1_S1.symm ▸ Nat.one_pos))) = 1#1))
    (hlen : ∀ (o : Fin 1 → ℕ) (hb : ∀ a, o a + S1.size a ≤ S64.size a), (arg3.view.readAt (Elt F) (Rect.unit (s := S64) o S1.size hb).toLoadRect T3 (Shape.Idx.first (numel1_S1.symm ▸ Nat.one_pos))).toInt ≤ 256) (K : PUnit → sProp 𝕄) :
    iprop((arg2.view.loc (c : Thread nD τ) ↦[arg2.view.set]{fullShare.right} T2) ∗ (arg3.view.loc (c : Thread nD τ) ↦[arg3.view.set]{fullShare.right} T3) ∗ (arg4.view.loc (c : Thread nD τ) ↦[arg4.view.set]{fullShare.right} T4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (iprop((arg2.view.loc (c : Thread nD τ) ↦[arg2.view.set]{fullShare.right} T2) ∗ (arg3.view.loc (c : Thread nD τ) ↦[arg3.view.set]{fullShare.right} T3) ∗ (arg4.view.loc (c : Thread nD τ) ↦[arg4.view.set]{fullShare.right} T4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f))) -∗ K ⟨⟩))
      ⊢ wp frame (wpE (defs₀ (F := F)) Variants.none c none) Set.univ (cc0_head b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_head_eq_skeleton]; unfold cc0_head_skel
  iintro ⟨H2, H3, H4, H5, H6, H7, H8, H9, H10, ⟨%f11, H11⟩, ⟨%f12, H12⟩, ⟨%f13, H13⟩, ⟨%f14, H14⟩, ⟨%f15, H15⟩, ⟨%f16, H16⟩, ⟨%f17, H17⟩, ⟨%f18, H18⟩, Hk⟩
  obtain ⟨hc5, hc6, hc7, hc8, hc9, hc10, hc11, hc12, hc13, hc14, hc15, hc16, hc17, hc18, hc19, hc20, hc21, hc22, hc23, hc24, hc25, hc26, hc27, hc28, hc29, hc30, hc31, hc32, hc33, hc34, hc35, hc36, hc37, hc38, hc39, hc40, hc41, hc42, hc43, hc44, hc45, hc46, hc47, hc48, hc49, hc50, hc51, hc52, hc53, hc54, hc55, hc56, hc57, hc58, hc59, hc60, hc61, hc62, hc63, hc64, hc65, hc66, hc67⟩ := chks_unpack i arg0 (arg2.view.readAt (Elt F) (Rect.unit (s := S1) ![0] S1.size inb_S1_S1_0).toLoadRect T2 (Shape.Idx.first (numel1_S1.symm ▸ Nat.one_pos)))
    (arg3.view.readAt (Elt F) (Rect.unit (s := S64) ![0] S1.size inb_S64_S1_0).toLoadRect T3 (Shape.Idx.first (numel1_S1.symm ▸ Nat.one_pos)))
    (arg3.view.readAt (Elt F) (Rect.unit (s := S64) ![1] S1.size inb_S64_S1_1).toLoadRect T3 (Shape.Idx.first (numel1_S1.symm ▸ Nat.one_pos)))
    (arg3.view.readAt (Elt F) (Rect.unit (s := S64) ![2] S1.size inb_S64_S1_2).toLoadRect T3 (Shape.Idx.first (numel1_S1.symm ▸ Nat.one_pos)))
    (arg3.view.readAt (Elt F) (Rect.unit (s := S64) ![3] S1.size inb_S64_S1_3).toLoadRect T3 (Shape.Idx.first (numel1_S1.symm ▸ Nat.one_pos)))
    (arg3.view.readAt (Elt F) (Rect.unit (s := S64) ![4] S1.size inb_S64_S1_4).toLoadRect T3 (Shape.Idx.first (numel1_S1.symm ▸ Nat.one_pos)))
    (arg3.view.readAt (Elt F) (Rect.unit (s := S64) ![5] S1.size inb_S64_S1_5).toLoadRect T3 (Shape.Idx.first (numel1_S1.symm ▸ Nat.one_pos)))
    (arg3.view.readAt (Elt F) (Rect.unit (s := S64) ![6] S1.size inb_S64_S1_6).toLoadRect T3 (Shape.Idx.first (numel1_S1.symm ▸ Nat.one_pos)))
    (arg3.view.readAt (Elt F) (Rect.unit (s := S64) ![7] S1.size inb_S64_S1_7).toLoadRect T3 (Shape.Idx.first (numel1_S1.symm ▸ Nat.one_pos)))
    (arg3.view.readAt (Elt F) (Rect.unit (s := S64) ![8] S1.size inb_S64_S1_8).toLoadRect T3 (Shape.Idx.first (numel1_S1.symm ▸ Nat.one_pos)))
    (arg3.view.readAt (Elt F) (Rect.unit (s := S64) ![9] S1.size inb_S64_S1_9).toLoadRect T3 (Shape.Idx.first (numel1_S1.symm ▸ Nat.one_pos)))
    (arg3.view.readAt (Elt F) (Rect.unit (s := S64) ![10] S1.size inb_S64_S1_10).toLoadRect T3 (Shape.Idx.first (numel1_S1.symm ▸ Nat.one_pos)))
    (arg3.view.readAt (Elt F) (Rect.unit (s := S64) ![11] S1.size inb_S64_S1_11).toLoadRect T3 (Shape.Idx.first (numel1_S1.symm ▸ Nat.one_pos)))
    (arg3.view.readAt (Elt F) (Rect.unit (s := S64) ![12] S1.size inb_S64_S1_12).toLoadRect T3 (Shape.Idx.first (numel1_S1.symm ▸ Nat.one_pos)))
    (arg3.view.readAt (Elt F) (Rect.unit (s := S64) ![13] S1.size inb_S64_S1_13).toLoadRect T3 (Shape.Idx.first (numel1_S1.symm ▸ Nat.one_pos)))
    (arg3.view.readAt (Elt F) (Rect.unit (s := S64) ![14] S1.size inb_S64_S1_14).toLoadRect T3 (Shape.Idx.first (numel1_S1.symm ▸ Nat.one_pos)))
    (arg3.view.readAt (Elt F) (Rect.unit (s := S64) ![15] S1.size inb_S64_S1_15).toLoadRect T3 (Shape.Idx.first (numel1_S1.symm ▸ Nat.one_pos)))
    (arg3.view.readAt (Elt F) (Rect.unit (s := S64) ![16] S1.size inb_S64_S1_16).toLoadRect T3 (Shape.Idx.first (numel1_S1.symm ▸ Nat.one_pos)))
    (arg3.view.readAt (Elt F) (Rect.unit (s := S64) ![17] S1.size inb_S64_S1_17).toLoadRect T3 (Shape.Idx.first (numel1_S1.symm ▸ Nat.one_pos)))
    (arg3.view.readAt (Elt F) (Rect.unit (s := S64) ![18] S1.size inb_S64_S1_18).toLoadRect T3 (Shape.Idx.first (numel1_S1.symm ▸ Nat.one_pos)))
    (arg3.view.readAt (Elt F) (Rect.unit (s := S64) ![19] S1.size inb_S64_S1_19).toLoadRect T3 (Shape.Idx.first (numel1_S1.symm ▸ Nat.one_pos)))
    (arg3.view.readAt (Elt F) (Rect.unit (s := S64) ![20] S1.size inb_S64_S1_20).toLoadRect T3 (Shape.Idx.first (numel1_S1.symm ▸ Nat.one_pos)))
    (arg3.view.readAt (Elt F) (Rect.unit (s := S64) ![21] S1.size inb_S64_S1_21).toLoadRect T3 (Shape.Idx.first (numel1_S1.symm ▸ Nat.one_pos)))
    (arg3.view.readAt (Elt F) (Rect.unit (s := S64) ![22] S1.size inb_S64_S1_22).toLoadRect T3 (Shape.Idx.first (numel1_S1.symm ▸ Nat.one_pos)))
    (arg3.view.readAt (Elt F) (Rect.unit (s := S64) ![23] S1.size inb_S64_S1_23).toLoadRect T3 (Shape.Idx.first (numel1_S1.symm ▸ Nat.one_pos)))
    (arg3.view.readAt (Elt F) (Rect.unit (s := S64) ![24] S1.size inb_S64_S1_24).toLoadRect T3 (Shape.Idx.first (numel1_S1.symm ▸ Nat.one_pos)))
    (arg3.view.readAt (Elt F) (Rect.unit (s := S64) ![25] S1.size inb_S64_S1_25).toLoadRect T3 (Shape.Idx.first (numel1_S1.symm ▸ Nat.one_pos)))
    (arg3.view.readAt (Elt F) (Rect.unit (s := S64) ![26] S1.size inb_S64_S1_26).toLoadRect T3 (Shape.Idx.first (numel1_S1.symm ▸ Nat.one_pos)))
    (arg3.view.readAt (Elt F) (Rect.unit (s := S64) ![27] S1.size inb_S64_S1_27).toLoadRect T3 (Shape.Idx.first (numel1_S1.symm ▸ Nat.one_pos)))
    (arg3.view.readAt (Elt F) (Rect.unit (s := S64) ![28] S1.size inb_S64_S1_28).toLoadRect T3 (Shape.Idx.first (numel1_S1.symm ▸ Nat.one_pos)))
    (arg3.view.readAt (Elt F) (Rect.unit (s := S64) ![29] S1.size inb_S64_S1_29).toLoadRect T3 (Shape.Idx.first (numel1_S1.symm ▸ Nat.one_pos)))
    (arg3.view.readAt (Elt F) (Rect.unit (s := S64) ![30] S1.size inb_S64_S1_30).toLoadRect T3 (Shape.Idx.first (numel1_S1.symm ▸ Nat.one_pos)))
    (arg3.view.readAt (Elt F) (Rect.unit (s := S64) ![31] S1.size inb_S64_S1_31).toLoadRect T3 (Shape.Idx.first (numel1_S1.symm ▸ Nat.one_pos)))
    (arg3.view.readAt (Elt F) (Rect.unit (s := S64) ![32] S1.size inb_S64_S1_32).toLoadRect T3 (Shape.Idx.first (numel1_S1.symm ▸ Nat.one_pos)))
    (arg3.view.readAt (Elt F) (Rect.unit (s := S64) ![33] S1.size inb_S64_S1_33).toLoadRect T3 (Shape.Idx.first (numel1_S1.symm ▸ Nat.one_pos)))
    (arg3.view.readAt (Elt F) (Rect.unit (s := S64) ![34] S1.size inb_S64_S1_34).toLoadRect T3 (Shape.Idx.first (numel1_S1.symm ▸ Nat.one_pos)))
    (arg3.view.readAt (Elt F) (Rect.unit (s := S64) ![35] S1.size inb_S64_S1_35).toLoadRect T3 (Shape.Idx.first (numel1_S1.symm ▸ Nat.one_pos)))
    (arg3.view.readAt (Elt F) (Rect.unit (s := S64) ![36] S1.size inb_S64_S1_36).toLoadRect T3 (Shape.Idx.first (numel1_S1.symm ▸ Nat.one_pos)))
    (arg3.view.readAt (Elt F) (Rect.unit (s := S64) ![37] S1.size inb_S64_S1_37).toLoadRect T3 (Shape.Idx.first (numel1_S1.symm ▸ Nat.one_pos)))
    (arg3.view.readAt (Elt F) (Rect.unit (s := S64) ![38] S1.size inb_S64_S1_38).toLoadRect T3 (Shape.Idx.first (numel1_S1.symm ▸ Nat.one_pos)))
    (arg3.view.readAt (Elt F) (Rect.unit (s := S64) ![39] S1.size inb_S64_S1_39).toLoadRect T3 (Shape.Idx.first (numel1_S1.symm ▸ Nat.one_pos)))
    (arg3.view.readAt (Elt F) (Rect.unit (s := S64) ![40] S1.size inb_S64_S1_40).toLoadRect T3 (Shape.Idx.first (numel1_S1.symm ▸ Nat.one_pos)))
    (arg3.view.readAt (Elt F) (Rect.unit (s := S64) ![41] S1.size inb_S64_S1_41).toLoadRect T3 (Shape.Idx.first (numel1_S1.symm ▸ Nat.one_pos)))
    (arg3.view.readAt (Elt F) (Rect.unit (s := S64) ![42] S1.size inb_S64_S1_42).toLoadRect T3 (Shape.Idx.first (numel1_S1.symm ▸ Nat.one_pos)))
    (arg3.view.readAt (Elt F) (Rect.unit (s := S64) ![43] S1.size inb_S64_S1_43).toLoadRect T3 (Shape.Idx.first (numel1_S1.symm ▸ Nat.one_pos)))
    (arg3.view.readAt (Elt F) (Rect.unit (s := S64) ![44] S1.size inb_S64_S1_44).toLoadRect T3 (Shape.Idx.first (numel1_S1.symm ▸ Nat.one_pos)))
    (arg3.view.readAt (Elt F) (Rect.unit (s := S64) ![45] S1.size inb_S64_S1_45).toLoadRect T3 (Shape.Idx.first (numel1_S1.symm ▸ Nat.one_pos)))
    (arg3.view.readAt (Elt F) (Rect.unit (s := S64) ![46] S1.size inb_S64_S1_46).toLoadRect T3 (Shape.Idx.first (numel1_S1.symm ▸ Nat.one_pos)))
    (arg3.view.readAt (Elt F) (Rect.unit (s := S64) ![47] S1.size inb_S64_S1_47).toLoadRect T3 (Shape.Idx.first (numel1_S1.symm ▸ Nat.one_pos)))
    (arg3.view.readAt (Elt F) (Rect.unit (s := S64) ![48] S1.size inb_S64_S1_48).toLoadRect T3 (Shape.Idx.first (numel1_S1.symm ▸ Nat.one_pos)))
    (arg3.view.readAt (Elt F) (Rect.unit (s := S64) ![49] S1.size inb_S64_S1_49).toLoadRect T3 (Shape.Idx.first (numel1_S1.symm ▸ Nat.one_pos)))
    (arg3.view.readAt (Elt F) (Rect.unit (s := S64) ![50] S1.size inb_S64_S1_50).toLoadRect T3 (Shape.Idx.first (numel1_S1.symm ▸ Nat.one_pos)))
    (arg3.view.readAt (Elt F) (Rect.unit (s := S64) ![51] S1.size inb_S64_S1_51).toLoadRect T3 (Shape.Idx.first (numel1_S1.symm ▸ Nat.one_pos)))
    (arg3.view.readAt (Elt F) (Rect.unit (s := S64) ![52] S1.size inb_S64_S1_52).toLoadRect T3 (Shape.Idx.first (numel1_S1.symm ▸ Nat.one_pos)))
    (arg3.view.readAt (Elt F) (Rect.unit (s := S64) ![53] S1.size inb_S64_S1_53).toLoadRect T3 (Shape.Idx.first (numel1_S1.symm ▸ Nat.one_pos)))
    (arg3.view.readAt (Elt F) (Rect.unit (s := S64) ![54] S1.size inb_S64_S1_54).toLoadRect T3 (Shape.Idx.first (numel1_S1.symm ▸ Nat.one_pos)))
    (arg3.view.readAt (Elt F) (Rect.unit (s := S64) ![55] S1.size inb_S64_S1_55).toLoadRect T3 (Shape.Idx.first (numel1_S1.symm ▸ Nat.one_pos)))
    (arg3.view.readAt (Elt F) (Rect.unit (s := S64) ![56] S1.size inb_S64_S1_56).toLoadRect T3 (Shape.Idx.first (numel1_S1.symm ▸ Nat.one_pos)))
    (arg3.view.readAt (Elt F) (Rect.unit (s := S64) ![57] S1.size inb_S64_S1_57).toLoadRect T3 (Shape.Idx.first (numel1_S1.symm ▸ Nat.one_pos)))
    (arg3.view.readAt (Elt F) (Rect.unit (s := S64) ![58] S1.size inb_S64_S1_58).toLoadRect T3 (Shape.Idx.first (numel1_S1.symm ▸ Nat.one_pos)))
    (arg3.view.readAt (Elt F) (Rect.unit (s := S64) ![59] S1.size inb_S64_S1_59).toLoadRect T3 (Shape.Idx.first (numel1_S1.symm ▸ Nat.one_pos)))
    (arg3.view.readAt (Elt F) (Rect.unit (s := S64) ![60] S1.size inb_S64_S1_60).toLoadRect T3 (Shape.Idx.first (numel1_S1.symm ▸ Nat.one_pos)))
    (arg3.view.readAt (Elt F) (Rect.unit (s := S64) ![61] S1.size inb_S64_S1_61).toLoadRect T3 (Shape.Idx.first (numel1_S1.symm ▸ Nat.one_pos)))
    (arg3.view.readAt (Elt F) (Rect.unit (s := S64) ![62] S1.size inb_S64_S1_62).toLoadRect T3 (Shape.Idx.first (numel1_S1.symm ▸ Nat.one_pos)))
    (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _)
  sl_exec_parts (disch := first | assumption)
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.Proof.Kernel
-- ==== Proof.KHeadC.lean ====
module

public import proofs.«01_k».proof.Proof.KLoops

@[expose] public section

set_option warn.classDefReducibility false

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option backward.proofsInPublic true in
set_option maxHeartbeats 20000000 in
theorem headC (c : Dev nD) (b : grid0.Bounds) (i : grid0.Static) (arg0 : BitVec 32) (arg2 : Memref sig .tc .smem S1 .i32) (harg2 : arg2.IsWhole) (arg3 : Memref sig .tc .smem S64 .i32) (harg3 : arg3.IsWhole) (arg4 : Memref sig .tc .smem S6144 .i32) (harg4 : arg4.IsWhole) (arg5 : Memref sig .tc .vmem S928x3584 .bf16) (harg5 : arg5.IsWhole) (arg6 : Memref sig .tc .vmem S928x128 .f32) (harg6 : arg6.IsWhole) (arg7 : Memref sig .tc .vmem S1024x3584 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S64x128 .i32) (harg10 : arg10.IsWhole) (arg11 : Memref sig .tc .vmem S64x1024 .bf16) (harg11 : arg11.IsWhole) (arg12 : Memref sig .tc .vmem S64x256 .f32) (harg12 : arg12.IsWhole) (arg13 : Memref sig .tc .vmem S5x464x1792 .bf16) (harg13 : arg13.IsWhole) (arg14 : Memref sig .tc .vmem S512x1792 .bf16) (harg14 : arg14.IsWhole) (arg15 : Memref sig .tc .vmem S2x2x464x512 .f32) (harg15 : arg15.IsWhole) (arg16 : Memref sig .tc .vmem S65x8x1024 .f32) (harg16 : arg16.IsWhole) (arg17 : Memref sig .tc .vmem S30x64x1024 .f32) (harg17 : arg17.IsWhole) (arg18 : Memref sig .tc .vmem S16704x128 .f32) (harg18 : arg18.IsWhole)  (T2 : Buf (Elt F) (arg2.view.loc (c : Thread nD τ))) (T3 : Buf (Elt F) (arg3.view.loc (c : Thread nD τ))) (T4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (k0_hw1 : k0_chk1 i arg0)
    (hT1 : ∀ k : Fin k0_t1_loop.trips, k0_chk2 (arg4.view.readAt (Elt F) (Rect.unit (s := S6144) (k0_off2 arg0 k) S1.size (k0_off2_inb i arg0 k0_hw1 k)).toLoadRect T4 (Shape.Idx.first (numel1_S1.symm ▸ Nat.one_pos)))) (hT2 : ∀ k : Fin k0_t2_loop.trips, k0_chk3 (arg4.view.readAt (Elt F) (Rect.unit (s := S6144) (k0_off24 arg0 k) S1.size (k0_off24_inb i arg0 k0_hw1 k)).toLoadRect T4 (Shape.Idx.first (numel1_S1.symm ▸ Nat.one_pos)))) (hw4 : k0_chk4 (arg4.view.readAt (Elt F) (Rect.unit (s := S6144) (k0_off46 arg0) S1.size (k0_off46_inb i arg0 k0_hw1)).toLoadRect T4 (Shape.Idx.first (numel1_S1.symm ▸ Nat.one_pos))))
    (hc1 : ¬(k0_cond1 i = 1#1)) (hc2 : ¬(Scalar.cmpi .ne (Scalar.extui (Scalar.andi (Scalar.cmpi .eq arg0 0#32) (Scalar.cmpi .eq (BitVec.ofNat 32 (i 1).val) 0#32))) 0#32 = 1#1)) (hc3 : ¬(k0_cond3 i arg0 (arg2.view.readAt (Elt F) (Rect.unit (s := S1) ![0] S1.size inb_S1_S1_0).toLoadRect T2 (Shape.Idx.first (numel1_S1.symm ▸ Nat.one_pos))) = 1#1))  (K : PUnit → sProp 𝕄) :
    iprop((arg2.view.loc (c : Thread nD τ) ↦[arg2.view.set]{fullShare.right} T2) ∗ (arg3.view.loc (c : Thread nD τ) ↦[arg3.view.set]{fullShare.right} T3) ∗ (arg4.view.loc (c : Thread nD τ) ↦[arg4.view.set]{fullShare.right} T4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (iprop((arg2.view.loc (c : Thread nD τ) ↦[arg2.view.set]{fullShare.right} T2) ∗ (arg3.view.loc (c : Thread nD τ) ↦[arg3.view.set]{fullShare.right} T3) ∗ (arg4.view.loc (c : Thread nD τ) ↦[arg4.view.set]{fullShare.right} T4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f))) -∗ K ⟨⟩))
      ⊢ wp frame (wpE (defs₀ (F := F)) Variants.none c none) Set.univ (cc0_head b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_head_eq_skeleton]; unfold cc0_head_skel
  iintro ⟨H2, H3, H4, H5, H6, H7, H8, H9, H10, ⟨%f11, H11⟩, ⟨%f12, H12⟩, ⟨%f13, H13⟩, ⟨%f14, H14⟩, ⟨%f15, H15⟩, ⟨%f16, H16⟩, ⟨%f17, H17⟩, ⟨%f18, H18⟩, Hk⟩
  sl_exec_parts (disch := first | assumption)
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.Proof.Kernel
-- ==== Proof.KBase.lean ====
module

public import proofs.«01_k».proof.Proof.KHeadC
public import proofs.«01_k».proof.Proof.Gen.Kernel.Launch
public import proofs.«01_k».proof.Proof.Gen.Pre_pre
public import Idealize.ShloMosaic.Lib.ReduceAll
public import Idealize.ShloMosaic.Lib.WordCmp
public import Idealize.ShloMosaic.Lib.Pipeline.Frame

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the precondition says of the tables -/

/-- The bounds the run needs: the chunk count, the sequence lengths, the sequence numbers of the tiles. -/
structure Tabs (n : S_.Idx → BitVec 32) (len : S64.Idx → BitVec 32) (meta' : S6144.Idx → BitVec 32) : Prop where
  n_lo : 1 ≤ (n fun a => a.elim0).toNat
  n_hi : (n fun a => a.elim0).toNat ≤ 18
  len_hi : ∀ j, (len j).toInt ≤ 256
  seq_hi : ∀ j : S6144.Idx, (j 0).val < 2089 → (meta' j).toNat ≤ 64

theorem and1 {x y : BitVec 1} (h : IntOp.andi x y = 1#1) : x = 1#1 ∧ y = 1#1 := by revert x y; decide

theorem sle1 {x y : BitVec 32} (h : IntOp.cmpi .sle x y = 1#1) : x.toInt ≤ y.toInt := by
  unfold IntOp.cmpi at h
  by_contra hc
  simp [BitVec.sle, hc] at h

theorem sge1 {x y : BitVec 32} (h : IntOp.cmpi .sge x y = 1#1) : y.toInt ≤ x.toInt := by
  unfold IntOp.cmpi at h
  by_contra hc
  simp [BitVec.sle, hc] at h

theorem nat_of_toInt {x : BitVec 32} {k l : ℕ} (h : (k : ℤ) ≤ x.toInt) (h' : x.toInt ≤ (l : ℤ)) : k ≤ x.toNat ∧ x.toNat ≤ l := by
  have := x.isLt
  rw [BitVec.toInt_eq_toNat_cond] at h h'
  split at h <;> omega

theorem tabs_of_pre (a0 : IVec S_ 32) (a1 : IVec S64 32) (a2 : IVec S6144 32) (a3 : FVec F S16704x3584 .bf16) (a4 : FVec F S16704x128 .f32)
    (a5 : IVec S30522x3584 8) (a6 : FVec F S30522 .f32) (a7 : FVec F S30522 .f32) (a8 : IVec S64x128 32)
    (h : Cert.Pre_pre.fn (F := F) a0 a1 a2 a3 a4 a5 a6 a7 a8 = fun _ => 1#1) : Tabs a0 a1 a2 := by
  have h0 := congrFun h (fun a => a.elim0)
  obtain ⟨h1, hps⟩ := and1 (show IntOp.andi _ _ = 1#1 from h0)
  obtain ⟨h2, hp⟩ := and1 (show IntOp.andi _ _ = 1#1 from h1)
  obtain ⟨h3, hm⟩ := and1 (show IntOp.andi _ _ = 1#1 from h2)
  obtain ⟨h4, hs⟩ := and1 (show IntOp.andi _ _ = 1#1 from h3)
  obtain ⟨h5, hl⟩ := and1 (show IntOp.andi _ _ = 1#1 from h4)
  obtain ⟨hlo, hhi⟩ := and1 (show IntOp.andi _ _ = 1#1 from h5)
  have hsub : Subsingleton Cert.Pre_pre.S_.Idx := ⟨fun i j => funext fun a => a.elim0⟩
  have hn : 1 ≤ (a0 fun a => a.elim0).toNat ∧ (a0 fun a => a.elim0).toNat ≤ 18 :=
    nat_of_toInt (sge1 (show IntOp.cmpi .sge _ 1#32 = 1#1 from hlo)) (sle1 (show IntOp.cmpi .sle _ 18#32 = 1#1 from hhi))
  refine ⟨hn.1, hn.2, fun j => ?_, fun j hj => ?_⟩
  · exact sle1 (show IntOp.cmpi .sle _ 256#32 = 1#1 from Host.reduce_andi_all _ _ _ _ _ hl j)
  · have hk := Host.reduce_andi_all _ _ _ _ _ hm (fun a => ⟨(j 0).val, by fin_cases a; exact hj⟩)
    obtain ⟨h1, h2⟩ := and1 (show IntOp.andi _ _ = 1#1 from hk)
    have e : ∀ x : S6144.Idx, (x 0).val = (j 0).val → x = j := fun x hx => funext fun a => by
      fin_cases a; exact Fin.ext hx
    have key := nat_of_toInt (k := 0) (l := 64) (sge1 (show IntOp.cmpi .sge _ 0#32 = 1#1 from h1)) (sle1 (show IntOp.cmpi .sle _ 64#32 = 1#1 from h2))
    have hx := key.2
    have e2 : ∀ x : S6144.Idx, (a2 x).toNat ≤ 64 → (x 0).val = (j 0).val → (a2 j).toNat ≤ 64 := fun x h hx => by rwa [e x hx] at h
    exact e2 _ hx (Nat.zero_add _)

/-! ## The checks of one grid point -/

theorem chk1_cc : ∀ cc : Fin 18,
    (∀ a, (k0_off1 (BitVec.ofNat 32 cc.val)) a + S928x128.size a ≤ S16704x128.size a) ∧
    (∀ t : Fin k0_t1_loop.trips, ∀ a, (k0_off2 (BitVec.ofNat 32 cc.val) t) a + S1.size a ≤ S6144.size a) ∧
    (∀ t : Fin k0_t1_loop.trips, ∀ a, (k0_off3 (BitVec.ofNat 32 cc.val) t) a + S1.size a ≤ S6144.size a) ∧
    (∀ t : Fin k0_t1_loop.trips, ∀ a, (k0_off4 (BitVec.ofNat 32 cc.val) t) a + S1.size a ≤ S6144.size a) ∧
    (∀ t : Fin k0_t1_loop.trips, 8 ∣ (k0_mult3 (BitVec.ofNat 32 cc.val) t).toNat) ∧
    (∀ t : Fin k0_t1_loop.trips, ∀ a, (k0_off6 (BitVec.ofNat 32 cc.val) t) a + S8x128.size a ≤ S16704x128.size a) ∧
    (∀ t : Fin k0_t1_loop.trips, ∀ a, (k0_off23 (BitVec.ofNat 32 cc.val) t) a + S8x128.size a ≤ S16704x128.size a) ∧
    (∀ t : Fin k0_t2_loop.trips, ∀ a, (k0_off24 (BitVec.ofNat 32 cc.val) t) a + S1.size a ≤ S6144.size a) ∧
    (∀ t : Fin k0_t2_loop.trips, ∀ a, (k0_off25 (BitVec.ofNat 32 cc.val) t) a + S1.size a ≤ S6144.size a) ∧
    (∀ t : Fin k0_t2_loop.trips, ∀ a, (k0_off26 (BitVec.ofNat 32 cc.val) t) a + S1.size a ≤ S6144.size a) ∧
    (∀ t : Fin k0_t2_loop.trips, 8 ∣ (k0_mult6 (BitVec.ofNat 32 cc.val) t).toNat) ∧
    (∀ t : Fin k0_t2_loop.trips, ∀ a, (k0_off28 (BitVec.ofNat 32 cc.val) t) a + S8x128.size a ≤ S16704x128.size a) ∧
    (∀ t : Fin k0_t2_loop.trips, ∀ a, (k0_off45 (BitVec.ofNat 32 cc.val) t) a + S8x128.size a ≤ S16704x128.size a) ∧
    (∀ a, (k0_off46 (BitVec.ofNat 32 cc.val)) a + S1.size a ≤ S6144.size a) := by
  decide +kernel

theorem chk1_of (i : grid0.Static) {n : ℕ} (h : n < 18) : k0_chk1 i (BitVec.ofNat 32 n) :=
  ⟨fun _ => (chk1_cc ⟨n, h⟩).1, (chk1_cc ⟨n, h⟩).2⟩

theorem seq_lt : ∀ cc : Fin 18, (∀ t : Fin k0_t1_loop.trips, (k0_off2 (BitVec.ofNat 32 cc.val) t) 0 < 2089)
    ∧ (∀ t : Fin k0_t2_loop.trips, (k0_off24 (BitVec.ofNat 32 cc.val) t) 0 < 2089) ∧ (k0_off46 (BitVec.ofNat 32 cc.val)) 0 < 2089 := by
  decide +kernel

theorem chk234_fin : ∀ v : Fin 65, k0_chk2 (BitVec.ofNat 32 v.val) ∧ k0_chk3 (BitVec.ofNat 32 v.val) ∧ k0_chk4 (BitVec.ofNat 32 v.val) := by
  decide +kernel

theorem chk234_of {v : BitVec 32} (h : v.toNat ≤ 64) : k0_chk2 v ∧ k0_chk3 v ∧ k0_chk4 v := by
  have := chk234_fin ⟨v.toNat, by omega⟩
  simpa using this

end Cert.Proof.Kernel
-- ==== Proof.KOk.lean ====
module

public import proofs.«01_k».proof.Proof.KBase

@[expose] public section

set_option warn.classDefReducibility false

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The side conditions of the windows -/

/-- The grid at the largest chunk count. -/
abbrev b18 : grid0.Bounds := ![18, 30]

set_option maxRecDepth 100000 in
theorem okw0 : (∀ i : (grid0.at b18).Coords, ∃ h : (∀ a, (cc0_transform_0 b18 i a + 1) * S928x3584.size a ≤ S16704x3584.size a), EltTy.bits .bf16 = 32 ∨ (Rect.block (s := S16704x3584) S928x3584.size (cc0_transform_0 b18 i) h).WholeWords (EltTy.packing .bf16)) := by
  decide +kernel

set_option maxRecDepth 100000 in
theorem okw1 : (∀ i : (grid0.at b18).Coords, ∃ h : (∀ a, (cc0_transform_1 b18 i a + 1) * S928x128.size a ≤ S16704x128.size a), EltTy.bits .f32 = 32 ∨ (Rect.block (s := S16704x128) S928x128.size (cc0_transform_1 b18 i) h).WholeWords (EltTy.packing .f32)) := by
  decide +kernel

set_option maxRecDepth 100000 in
theorem okw2 : (∀ i : (grid0.at b18).Coords, ∃ h : (∀ a, (cc0_transform_2 b18 i a + 1) * S1024x3584.size a ≤ S30720x3584.size a), EltTy.bits .i8 = 32 ∨ (Rect.block (s := S30720x3584) S1024x3584.size (cc0_transform_2 b18 i) h).WholeWords (EltTy.packing .i8)) := by
  decide +kernel

set_option maxRecDepth 100000 in
theorem okw3 : (∀ i : (grid0.at b18).Coords, ∃ h : (∀ a, cc0_transform_3 b18 i a * S1x1024.size a < S1x30522.size a), (EltTy.bits .f32 = 32 ∨ (Rect.unit (s := S1x30522) (fun a => cc0_transform_3 b18 i a * S1x1024.size a) (fun a => (Pipeline.Clip.of (cc0_transform_3 b18 i a) (S1x1024.size a) (S1x30522.size a)).extent (S1x1024.size a)) fun a => Pipeline.Clip.inb (Pipeline.Clip.ok_of (h a))).WholeWords (EltTy.packing .f32)) ∧ (EltTy.bits .f32 = 32 ∨ (Rect.unit (s := S1x1024) (fun _ => 0) (fun a => (Pipeline.Clip.of (cc0_transform_3 b18 i a) (S1x1024.size a) (S1x30522.size a)).extent (S1x1024.size a)) fun a => (Nat.zero_add _).trans_le (Pipeline.Clip.extent_le (Pipeline.Clip.ok_of (h a)))).WholeWords (EltTy.packing .f32))) := by
  decide +kernel

set_option maxRecDepth 100000 in
theorem okw4 : (∀ i : (grid0.at b18).Coords, ∃ h : (∀ a, cc0_transform_4 b18 i a * S1x1024.size a < S1x30522.size a), (EltTy.bits .f32 = 32 ∨ (Rect.unit (s := S1x30522) (fun a => cc0_transform_4 b18 i a * S1x1024.size a) (fun a => (Pipeline.Clip.of (cc0_transform_4 b18 i a) (S1x1024.size a) (S1x30522.size a)).extent (S1x1024.size a)) fun a => Pipeline.Clip.inb (Pipeline.Clip.ok_of (h a))).WholeWords (EltTy.packing .f32)) ∧ (EltTy.bits .f32 = 32 ∨ (Rect.unit (s := S1x1024) (fun _ => 0) (fun a => (Pipeline.Clip.of (cc0_transform_4 b18 i a) (S1x1024.size a) (S1x30522.size a)).extent (S1x1024.size a)) fun a => (Nat.zero_add _).trans_le (Pipeline.Clip.extent_le (Pipeline.Clip.ok_of (h a)))).WholeWords (EltTy.packing .f32))) := by
  decide +kernel

set_option maxRecDepth 100000 in
theorem okw5 : (∀ i : (grid0.at b18).Coords, ∃ h : (∀ a, (cc0_transform_5 b18 i a + 1) * S64x128.size a ≤ S64x128.size a), EltTy.bits .i32 = 32 ∨ (Rect.block (s := S64x128) S64x128.size (cc0_transform_5 b18 i) h).WholeWords (EltTy.packing .i32)) := by
  decide +kernel

set_option maxRecDepth 100000 in
theorem okw6 : (∀ i : (grid0.at b18).Coords, ∃ h : (∀ a, cc0_transform_6 b18 i a * S64x1024.size a < S64x30522.size a), (EltTy.bits .bf16 = 32 ∨ (Rect.unit (s := S64x30522) (fun a => cc0_transform_6 b18 i a * S64x1024.size a) (fun a => (Pipeline.Clip.of (cc0_transform_6 b18 i a) (S64x1024.size a) (S64x30522.size a)).extent (S64x1024.size a)) fun a => Pipeline.Clip.inb (Pipeline.Clip.ok_of (h a))).WholeWords (EltTy.packing .bf16)) ∧ (EltTy.bits .bf16 = 32 ∨ (Rect.unit (s := S64x1024) (fun _ => 0) (fun a => (Pipeline.Clip.of (cc0_transform_6 b18 i a) (S64x1024.size a) (S64x30522.size a)).extent (S64x1024.size a)) fun a => (Nat.zero_add _).trans_le (Pipeline.Clip.extent_le (Pipeline.Clip.ok_of (h a)))).WholeWords (EltTy.packing .bf16))) := by
  decide +kernel

set_option maxRecDepth 100000 in
theorem okw7 : (∀ i : (grid0.at b18).Coords, ∃ h : (∀ a, (cc0_transform_7 b18 i a + 1) * S64x256.size a ≤ S64x256.size a), EltTy.bits .f32 = 32 ∨ (Rect.block (s := S64x256) S64x256.size (cc0_transform_7 b18 i) h).WholeWords (EltTy.packing .f32)) := by
  decide +kernel

/-- A point of the grid at `n ≤ 18` chunks as a point of the largest grid. -/
def up (b : grid0.Bounds) (h0 : b 0 ≤ 18) (h1 : b 1 = 30) (i : (grid0.at b).Coords) : (grid0.at b18).Coords :=
  fun | 0 => ⟨(i 0).val, Nat.lt_of_lt_of_le (i 0).isLt h0⟩ | 1 => ⟨(i 1).val, (i 1).isLt⟩

theorem ok_of (pf : pre0.Contents (Elt F)) (h : (pf 0 fun a => a.elim0).toNat ≤ 18) : ok0 pf := by
  have h0 : dynb0 pf 0 ≤ 18 := h
  refine ⟨?_, fun i => okw0 (up _ h0 rfl i), fun i => okw1 (up _ h0 rfl i), fun i => okw2 (up _ h0 rfl i), fun i => okw3 (up _ h0 rfl i), fun i => okw4 (up _ h0 rfl i), fun i => okw5 (up _ h0 rfl i), fun i => okw6 (up _ h0 rfl i), fun i => okw7 (up _ h0 rfl i)⟩
  have : (grid0.at (dynb0 pf)).N = (pf 0 fun a => a.elim0).toNat * 30 := by
    show _ * (30 * 1) = _
    rfl
  unfold Pipeline.Grid.Admits
  rw [this]; omega

end Cert.Proof.Kernel
-- ==== Proof.KBody.lean ====
module

public import proofs.«01_k».proof.Proof.KHeadA
public import proofs.«01_k».proof.Proof.KHeadB
public import proofs.«01_k».proof.Proof.KHeadD
public import proofs.«01_k».proof.Proof.KOk

@[expose] public section

set_option warn.classDefReducibility false

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem flag1 (v : BitVec 1) : (Scalar.cmpi .ne (Scalar.extui v) (0#32 : BitVec 32) = 1#1) ↔ v = 1#1 := by
  revert v; decide

theorem first_col (i : grid0.Static) : k0_cond1 i = 1#1 ↔ (i 1).val = 0 := by
  have key : ∀ y : Fin 30, Scalar.cmpi .eq (BitVec.ofNat 32 y.val) 0#32 = 1#1 ↔ y.val = 0 := by decide +kernel
  exact (flag1 _).trans (key (i 1))

theorem last_col (i : grid0.Static) (a v : BitVec 32) (h : k0_cond3 i a v = 1#1) : (i 1).val = 29 := by
  have key : ∀ y : Fin 30, Scalar.cmpi .eq (BitVec.ofNat 32 y.val) 29#32 = 1#1 ↔ y.val = 29 := by decide +kernel
  exact (key (i 1)).mp (and1 (show IntOp.andi _ _ = 1#1 from (flag1 _).mp h)).2

set_option maxHeartbeats 4000000 in
/-- The body at a grid point, whichever of its branches the point takes, on the buffers' raw contents. -/
theorem head_raw (c : Dev nD) (b : grid0.Bounds) (i : grid0.Static) (n : ℕ) (hn : n < 18) (arg2 : Memref sig .tc .smem S1 .i32) (harg2 : arg2.IsWhole) (arg3 : Memref sig .tc .smem S64 .i32) (harg3 : arg3.IsWhole) (arg4 : Memref sig .tc .smem S6144 .i32) (harg4 : arg4.IsWhole) (arg5 : Memref sig .tc .vmem S928x3584 .bf16) (harg5 : arg5.IsWhole) (arg6 : Memref sig .tc .vmem S928x128 .f32) (harg6 : arg6.IsWhole) (arg7 : Memref sig .tc .vmem S1024x3584 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S64x128 .i32) (harg10 : arg10.IsWhole) (arg11 : Memref sig .tc .vmem S64x1024 .bf16) (harg11 : arg11.IsWhole) (arg12 : Memref sig .tc .vmem S64x256 .f32) (harg12 : arg12.IsWhole) (arg13 : Memref sig .tc .vmem S5x464x1792 .bf16) (harg13 : arg13.IsWhole) (arg14 : Memref sig .tc .vmem S512x1792 .bf16) (harg14 : arg14.IsWhole) (arg15 : Memref sig .tc .vmem S2x2x464x512 .f32) (harg15 : arg15.IsWhole) (arg16 : Memref sig .tc .vmem S65x8x1024 .f32) (harg16 : arg16.IsWhole) (arg17 : Memref sig .tc .vmem S30x64x1024 .f32) (harg17 : arg17.IsWhole) (arg18 : Memref sig .tc .vmem S16704x128 .f32) (harg18 : arg18.IsWhole)  (T2 : Buf (Elt F) (arg2.view.loc (c : Thread nD τ))) (T3 : Buf (Elt F) (arg3.view.loc (c : Thread nD τ))) (T4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ)))
    (hseq : ∀ (o : Fin 1 → ℕ) (hb : ∀ a, o a + S1.size a ≤ S6144.size a), o 0 < 2089 → (arg4.view.readAt (Elt F) (Rect.unit (s := S6144) o S1.size hb).toLoadRect T4 (Shape.Idx.first (numel1_S1.symm ▸ Nat.one_pos))).toNat ≤ 64)
    (hlen : ∀ (o : Fin 1 → ℕ) (hb : ∀ a, o a + S1.size a ≤ S64.size a), (arg3.view.readAt (Elt F) (Rect.unit (s := S64) o S1.size hb).toLoadRect T3 (Shape.Idx.first (numel1_S1.symm ▸ Nat.one_pos))).toInt ≤ 256) (K : PUnit → sProp 𝕄) :
    iprop((arg2.view.loc (c : Thread nD τ) ↦[arg2.view.set]{fullShare.right} T2) ∗ (arg3.view.loc (c : Thread nD τ) ↦[arg3.view.set]{fullShare.right} T3) ∗ (arg4.view.loc (c : Thread nD τ) ↦[arg4.view.set]{fullShare.right} T4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (iprop((arg2.view.loc (c : Thread nD τ) ↦[arg2.view.set]{fullShare.right} T2) ∗ (arg3.view.loc (c : Thread nD τ) ↦[arg3.view.set]{fullShare.right} T3) ∗ (arg4.view.loc (c : Thread nD τ) ↦[arg4.view.set]{fullShare.right} T4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f))) -∗ K ⟨⟩))
      ⊢ wp frame (wpE (defs₀ (F := F)) Variants.none c none) Set.univ (cc0_head b i (BitVec.ofNat 32 n) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  by_cases hc1 : k0_cond1 i = 1#1
  · have hc3 : ∀ v, ¬(k0_cond3 i (BitVec.ofNat 32 n) v = 1#1) := fun v h => by
      have h1 := (first_col i).mp hc1
      have h2 := last_col i _ v h
      omega
    by_cases hc2 : (Scalar.cmpi .ne (Scalar.extui (Scalar.andi (Scalar.cmpi .eq (BitVec.ofNat 32 n) 0#32) (Scalar.cmpi .eq (BitVec.ofNat 32 (i 1).val) 0#32))) 0#32 = 1#1)
    · exact headA c b i _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 T2 T3 T4 f5 f6 f7 f8 f9 f10 (chk1_of i hn)
              (fun k => (chk234_of (hseq _ _ ((seq_lt ⟨n, hn⟩).1 k))).1) (fun k => (chk234_of (hseq _ _ ((seq_lt ⟨n, hn⟩).2.1 k))).2.1) (chk234_of (hseq _ _ (seq_lt ⟨n, hn⟩).2.2)).2.2 hc1 hc2 (hc3 _) K
    · exact headB c b i _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 T2 T3 T4 f5 f6 f7 f8 f9 f10 (chk1_of i hn)
              (fun k => (chk234_of (hseq _ _ ((seq_lt ⟨n, hn⟩).1 k))).1) (fun k => (chk234_of (hseq _ _ ((seq_lt ⟨n, hn⟩).2.1 k))).2.1) (chk234_of (hseq _ _ (seq_lt ⟨n, hn⟩).2.2)).2.2 hc1 hc2 (hc3 _) K
  · have hc2 : ¬(Scalar.cmpi .ne (Scalar.extui (Scalar.andi (Scalar.cmpi .eq (BitVec.ofNat 32 n) 0#32) (Scalar.cmpi .eq (BitVec.ofNat 32 (i 1).val) 0#32))) 0#32 = 1#1) := fun h =>
      hc1 ((flag1 _).mpr (and1 (show IntOp.andi _ _ = 1#1 from (flag1 _).mp h)).2)
    by_cases hc3 : k0_cond3 i (BitVec.ofNat 32 n) (arg2.view.readAt (Elt F) (Rect.unit (s := S1) ![0] S1.size inb_S1_S1_0).toLoadRect T2 (Shape.Idx.first (numel1_S1.symm ▸ Nat.one_pos))) = 1#1
    · exact headD c b i _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 T2 T3 T4 f5 f6 f7 f8 f9 f10 (chk1_of i hn)
              (fun k => (chk234_of (hseq _ _ ((seq_lt ⟨n, hn⟩).1 k))).1) (fun k => (chk234_of (hseq _ _ ((seq_lt ⟨n, hn⟩).2.1 k))).2.1) (chk234_of (hseq _ _ (seq_lt ⟨n, hn⟩).2.2)).2.2 hc1 hc2 hc3 hlen K
    · exact headC c b i _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 T2 T3 T4 f5 f6 f7 f8 f9 f10 (chk1_of i hn)
              (fun k => (chk234_of (hseq _ _ ((seq_lt ⟨n, hn⟩).1 k))).1) (fun k => (chk234_of (hseq _ _ ((seq_lt ⟨n, hn⟩).2.1 k))).2.1) (chk234_of (hseq _ _ (seq_lt ⟨n, hn⟩).2.2)).2.2 hc1 hc2 hc3 K

set_option maxHeartbeats 4000000 in
/-- The body at a grid point: the input windows stay as found, the outputs and the scratch buffers come back at some contents. -/
theorem head_any (c : Dev nD) (b : grid0.Bounds) (i : grid0.Static) (n : ℕ) (hn : n < 18) (arg2 : Memref sig .tc .smem S1 .i32) (harg2 : arg2.IsWhole) (arg3 : Memref sig .tc .smem S64 .i32) (harg3 : arg3.IsWhole) (arg4 : Memref sig .tc .smem S6144 .i32) (harg4 : arg4.IsWhole) (arg5 : Memref sig .tc .vmem S928x3584 .bf16) (harg5 : arg5.IsWhole) (arg6 : Memref sig .tc .vmem S928x128 .f32) (harg6 : arg6.IsWhole) (arg7 : Memref sig .tc .vmem S1024x3584 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S64x128 .i32) (harg10 : arg10.IsWhole) (arg11 : Memref sig .tc .vmem S64x1024 .bf16) (harg11 : arg11.IsWhole) (arg12 : Memref sig .tc .vmem S64x256 .f32) (harg12 : arg12.IsWhole) (arg13 : Memref sig .tc .vmem S5x464x1792 .bf16) (harg13 : arg13.IsWhole) (arg14 : Memref sig .tc .vmem S512x1792 .bf16) (harg14 : arg14.IsWhole) (arg15 : Memref sig .tc .vmem S2x2x464x512 .f32) (harg15 : arg15.IsWhole) (arg16 : Memref sig .tc .vmem S65x8x1024 .f32) (harg16 : arg16.IsWhole) (arg17 : Memref sig .tc .vmem S30x64x1024 .f32) (harg17 : arg17.IsWhole) (arg18 : Memref sig .tc .vmem S16704x128 .f32) (harg18 : arg18.IsWhole)  (T2 : Buf (Elt F) (arg2.view.loc (c : Thread nD τ))) (T3 : Buf (Elt F) (arg3.view.loc (c : Thread nD τ))) (T4 : Buf (Elt F) (arg4.view.loc (c : Thread nD τ))) (X5 : S928x3584.Idx → Elt F .bf16) (X6 : S928x128.Idx → Elt F .f32) (X7 : S1024x3584.Idx → Elt F .i8) (X8 : S1x1024.Idx → Elt F .f32) (X9 : S1x1024.Idx → Elt F .f32) (X10 : S64x128.Idx → Elt F .i32)
    (hseq : ∀ (o : Fin 1 → ℕ) (hb : ∀ a, o a + S1.size a ≤ S6144.size a), o 0 < 2089 → (arg4.view.readAt (Elt F) (Rect.unit (s := S6144) o S1.size hb).toLoadRect T4 (Shape.Idx.first (numel1_S1.symm ▸ Nat.one_pos))).toNat ≤ 64)
    (hlen : ∀ (o : Fin 1 → ℕ) (hb : ∀ a, o a + S1.size a ≤ S64.size a), (arg3.view.readAt (Elt F) (Rect.unit (s := S64) o S1.size hb).toLoadRect T3 (Shape.Idx.first (numel1_S1.symm ▸ Nat.one_pos))).toInt ≤ 256) (K : PUnit → sProp 𝕄) :
    iprop((arg2.view.loc (c : Thread nD τ) ↦[arg2.view.set]{fullShare.right} T2) ∗ (arg3.view.loc (c : Thread nD τ) ↦[arg3.view.set]{fullShare.right} T3) ∗ (arg4.view.loc (c : Thread nD τ) ↦[arg4.view.set]{fullShare.right} T4) ∗ (owns (c : Thread nD τ) arg5 fullShare X5) ∗ (owns (c : Thread nD τ) arg6 fullShare X6) ∗ (owns (c : Thread nD τ) arg7 fullShare X7) ∗ (owns (c : Thread nD τ) arg8 fullShare X8) ∗ (owns (c : Thread nD τ) arg9 fullShare X9) ∗ (owns (c : Thread nD τ) arg10 fullShare X10) ∗ (∃ X, (owns (c : Thread nD τ) arg11 fullShare X)) ∗ (∃ X, (owns (c : Thread nD τ) arg12 fullShare X)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (iprop((arg2.view.loc (c : Thread nD τ) ↦[arg2.view.set]{fullShare.right} T2) ∗ (arg3.view.loc (c : Thread nD τ) ↦[arg3.view.set]{fullShare.right} T3) ∗ (arg4.view.loc (c : Thread nD τ) ↦[arg4.view.set]{fullShare.right} T4) ∗ (owns (c : Thread nD τ) arg5 fullShare X5) ∗ (owns (c : Thread nD τ) arg6 fullShare X6) ∗ (owns (c : Thread nD τ) arg7 fullShare X7) ∗ (owns (c : Thread nD τ) arg8 fullShare X8) ∗ (owns (c : Thread nD τ) arg9 fullShare X9) ∗ (owns (c : Thread nD τ) arg10 fullShare X10) ∗ (∃ X, (owns (c : Thread nD τ) arg11 fullShare X)) ∗ (∃ X, (owns (c : Thread nD τ) arg12 fullShare X)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f))) -∗ K ⟨⟩))
      ⊢ wp frame (wpE (defs₀ (F := F)) Variants.none c none) Set.univ (cc0_head b i (BitVec.ofNat 32 n) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold owns
  iintro ⟨H2, H3, H4, ⟨%f5, %h5, H5⟩, ⟨%f6, %h6, H6⟩, ⟨%f7, %h7, H7⟩, ⟨%f8, %h8, H8⟩, ⟨%f9, %h9, H9⟩, ⟨%f10, %h10, H10⟩, ⟨%X11, %f11, %h11, H11⟩, ⟨%X12, %f12, %h12, H12⟩, H13, H14, H15, H16, H17, H18, Hk⟩
  iapply (head_raw c b i n hn arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 T2 T3 T4 f5 f6 f7 f8 f9 f10 hseq hlen K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexact H13
  isplitl [H14]; · iexact H14
  isplitl [H15]; · iexact H15
  isplitl [H16]; · iexact H16
  isplitl [H17]; · iexact H17
  isplitl [H18]; · iexact H18
  iintro ⟨H2, H3, H4, H5, H6, H7, H8, H9, H10, ⟨%g11, H11⟩, ⟨%g12, H12⟩, H13, H14, H15, H16, H17, H18⟩
  iapply Hk
  isplitl [H2]; · iexact H2
  isplitl [H3]; · iexact H3
  isplitl [H4]; · iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists f9; isplitr; · ipureintro; exact h9
    iexact H9
  isplitl [H10]
  · iexists f10; isplitr; · ipureintro; exact h10
    iexact H10
  isplitl [H11]
  · iexists _, g11; isplitr; · ipureintro; rfl
    iexact H11
  isplitl [H12]
  · iexists _, g12; isplitr; · ipureintro; rfl
    iexact H12
  isplitl [H13]; · iexact H13
  isplitl [H14]; · iexact H14
  isplitl [H15]; · iexact H15
  isplitl [H16]; · iexact H16
  isplitl [H17]; · iexact H17
  iexact H18

end Cert.Proof.Kernel
-- ==== Proof.KLaunch.lean ====
module

public import proofs.«01_k».proof.Proof.KBody
public import Idealize.ShloMosaic.Lib.StableHlo.RunRead
public import Idealize.ShloMosaic.Lib.Pipeline.ArrRel

@[expose] public section

set_option warn.classDefReducibility false

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (RDat Cfg)

/-! ## The contents the region starts from -/

/-- The core's buffers after the host operations before the call. -/
abbrev Vm (m : (ℓ : Loc nD τ sig) → Buf (Elt F) ℓ) (c : Dev nD) (b : Ref sig .tc) : Buf (Elt F) ((c.tc : Thread nD τ).loc b) :=
  StableHlo.after (hostOps0 (F := F)) (fun b => m (c, b)) b

theorem Vm_arg (m : (ℓ : Loc nD τ sig) → Buf (Elt F) ℓ) (c : Dev nD) (r : Ref sig .tc)
    (hr : r ∉ [main_v0, main_c, main_v1, main_v2, main_v3]) : Vm m c r = m ((c.tc : Thread nD τ).loc r) :=
  StableHlo.after_unwritten (ops := hostOps0 (F := F)) [main_v0, main_c, main_v1, main_v2, main_v3] rfl hr _

/-- The tables' contents at the region's entry. -/
def pfN (m : (ℓ : Loc nD τ sig) → Buf (Elt F) ℓ) : pre0.Contents (Elt F) := fun k => Vm m 0 (pre0.ref k)

/-- The tables of the run are in their bounds. -/
def TabsM (m : (ℓ : Loc nD τ sig) → Buf (Elt F) ℓ) : Prop :=
  Tabs (m ((0 : Dev nD).tc.loc main_arg0)) (m ((0 : Dev nD).tc.loc main_arg1)) (m ((0 : Dev nD).tc.loc main_arg2))

variable (m : (ℓ : Loc nD τ sig) → Buf (Elt F) ℓ) (h : TabsM m)

theorem pf0_eq : pfN m 0 = m ((0 : Dev nD).tc.loc main_arg0) := Vm_arg m 0 main_arg0 (by decide)
theorem pf2_eq : pfN m 2 = m ((0 : Dev nD).tc.loc main_arg1) := Vm_arg m 0 main_arg1 (by decide)
theorem pf3_eq : pfN m 3 = m ((0 : Dev nD).tc.loc main_arg2) := Vm_arg m 0 main_arg2 (by decide)

include h in
theorem cnt_le : (pfN m 0 fun a => a.elim0).toNat ≤ 18 := by rw [pf0_eq]; exact h.n_hi

/-- The tables as contents the pipeline admits. -/
def adm : (pcfg0 (F := F)).Adm := ⟨pfN m, ok_of _ (cnt_le m h)⟩

abbrev cfgm : Cfg sig Λ₀ := cfg0 (adm m h)

/-! ## The operands of the body at a grid point -/

abbrev ms0 (t : Fin (cfgm m h).N) : Memref sig .tc .vmem S928x3584 .bf16 := spec0_0.stage ((cfgm m h).slots t 0)
theorem hs0 (t : Fin (cfgm m h).N) : (ms0 m h t).IsWhole := hstage0_0 (((cfgm m h).slots t 0).cast nbuf0_0)
abbrev ms1 (t : Fin (cfgm m h).N) : Memref sig .tc .vmem S928x128 .f32 := spec0_1.stage ((cfgm m h).slots t 1)
theorem hs1 (t : Fin (cfgm m h).N) : (ms1 m h t).IsWhole := hstage0_1 (((cfgm m h).slots t 1).cast nbuf0_1)
abbrev ms2 (t : Fin (cfgm m h).N) : Memref sig .tc .vmem S1024x3584 .i8 := spec0_2.stage ((cfgm m h).slots t 2)
theorem hs2 (t : Fin (cfgm m h).N) : (ms2 m h t).IsWhole := hstage0_2 (((cfgm m h).slots t 2).cast nbuf0_2)
abbrev ms3 (t : Fin (cfgm m h).N) : Memref sig .tc .vmem S1x1024 .f32 := spec0_3.stage ((cfgm m h).slots t 3)
theorem hs3 (t : Fin (cfgm m h).N) : (ms3 m h t).IsWhole := hstage0_3 (((cfgm m h).slots t 3).cast nbuf0_3)
abbrev ms4 (t : Fin (cfgm m h).N) : Memref sig .tc .vmem S1x1024 .f32 := spec0_4.stage ((cfgm m h).slots t 4)
theorem hs4 (t : Fin (cfgm m h).N) : (ms4 m h t).IsWhole := hstage0_4 (((cfgm m h).slots t 4).cast nbuf0_4)
abbrev ms5 (t : Fin (cfgm m h).N) : Memref sig .tc .vmem S64x128 .i32 := spec0_5.stage ((cfgm m h).slots t 5)
theorem hs5 (t : Fin (cfgm m h).N) : (ms5 m h t).IsWhole := hstage0_5 (((cfgm m h).slots t 5).cast nbuf0_5)
abbrev ms6 (t : Fin (cfgm m h).N) : Memref sig .tc .vmem S64x1024 .bf16 := spec0_6.stage ((cfgm m h).slots t 6)
theorem hs6 (t : Fin (cfgm m h).N) : (ms6 m h t).IsWhole := hstage0_6 (((cfgm m h).slots t 6).cast nbuf0_6)
abbrev ms7 (t : Fin (cfgm m h).N) : Memref sig .tc .vmem S64x256 .f32 := spec0_7.stage ((cfgm m h).slots t 7)
theorem hs7 (t : Fin (cfgm m h).N) : (ms7 m h t).IsWhole := hstage0_7 (((cfgm m h).slots t 7).cast nbuf0_7)

/-- The body the pipeline runs at a grid point. -/
abbrev bodyAt (t : Fin (cfgm m h).N) : Prog (TpuEff nD τ sig (Elt F) Λ₀ .tc) PUnit :=
  cc0_head (dynb0 (pfN m)) (Pipeline.Grid.Coords.static grid0 ((cfgm m h).grid.coords t)) (BitVec.ofNat 32 ((cfgm m h).grid.coords t (0 : Fin 2)).val) (Memref.whole main_v0) (Memref.isWhole_whole _) (Memref.whole main_arg1) (Memref.isWhole_whole _) (Memref.whole main_arg2) (Memref.isWhole_whole _) (ms0 m h t) (hs0 m h t) (ms1 m h t) (hs1 m h t) (ms2 m h t) (hs2 m h t) (ms3 m h t) (hs3 m h t) (ms4 m h t) (hs4 m h t) (ms5 m h t) (hs5 m h t) (ms6 m h t) (hs6 m h t) (ms7 m h t) (hs7 m h t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

theorem row_eq (t : Fin (cfgm m h).N) : defs₀ (F := F) .tc (cfgm m h).body ((cfgm m h).bodyArgs t ((cfgm m h).slots t)) = bodyAt m h t := by
  unfold defs₀; rw [Defs.onTc_tc]; rfl

theorem row_lt (t : Fin (cfgm m h).N) : ((cfgm m h).grid.coords t (0 : Fin 2)).val < 18 :=
  Nat.lt_of_lt_of_le ((cfgm m h).grid.coords t (0 : Fin 2)).isLt (cnt_le m h)

/-! ## The invariant, conjunct by conjunct -/

theorem tabs_eq (c : Dev nD) : (Pipeline.ΦT (U := UR sig nD τ) pre0 (pfN m) c : sProp 𝕄)
    = iprop((((c : Thread nD τ).loc main_arg0) ↦{fullShare.right} pfN m 0) ∗ (((Memref.whole main_v0).view.loc (c : Thread nD τ)) ↦[(Memref.whole main_v0).view.set]{fullShare.right} (pfN m 1)) ∗ (((Memref.whole main_arg1).view.loc (c : Thread nD τ)) ↦[(Memref.whole main_arg1).view.set]{fullShare.right} (pfN m 2)) ∗ (((Memref.whole main_arg2).view.loc (c : Thread nD τ)) ↦[(Memref.whole main_arg2).view.set]{fullShare.right} (pfN m 3))) := by
  unfold Pipeline.ΦT Pipeline.prefHeld
  rw [bigSep_univ_eq_bigSepL [(0 : Fin 4), (1 : Fin 4), (2 : Fin 4), (3 : Fin 4)] (by decide) (by decide)]
  simp only [Memref.view_whole, View.set_whole]
  rfl

theorem rest_eq (c : Dev nD) : (Pipeline.scopedRest (Ix := Unit) (Name := ℕ) (U := UR sig nD τ) (Lvl := ℕ) (Val := Elt F) spec0 c : sProp 𝕄)
    = iprop((∃ f, ((Memref.whole cc0_scratch0).view.loc (c : Thread nD τ)) ↦[(Memref.whole cc0_scratch0).view.set]{fullShare} f) ∗ (∃ f, ((Memref.whole cc0_scratch1).view.loc (c : Thread nD τ)) ↦[(Memref.whole cc0_scratch1).view.set]{fullShare} f) ∗ (∃ f, ((Memref.whole cc0_scratch2).view.loc (c : Thread nD τ)) ↦[(Memref.whole cc0_scratch2).view.set]{fullShare} f) ∗ (∃ f, ((Memref.whole cc0_scratch3).view.loc (c : Thread nD τ)) ↦[(Memref.whole cc0_scratch3).view.set]{fullShare} f) ∗ (∃ f, ((Memref.whole cc0_scratch4).view.loc (c : Thread nD τ)) ↦[(Memref.whole cc0_scratch4).view.set]{fullShare} f) ∗ (∃ f, ((Memref.whole cc0_scratch5).view.loc (c : Thread nD τ)) ↦[(Memref.whole cc0_scratch5).view.set]{fullShare} f)) := by
  rw [scopedRest0_eq]
  simp only [Memref.view_whole, View.set_whole]

/-! ## The frame: proof data saying nothing of the outputs -/

/-- Inputs stay as found; nothing is said of the outputs. -/
def rdat (c : Dev nD) : RDat τ (Elt F) Unit ℕ (UR sig nD τ) ℕ (cfgm m h) c where
  A w := Vm m c (Pipeline.arrRef spec0 w)
  after w _ Y X := w.val < 6 → X = Y
  Φ _ := iprop(Pipeline.ΦA (U := UR sig nD τ) spec0 c ∗ Pipeline.ΦT (U := UR sig nD τ) pre0 (pfN m) c)
  q _ := fullShare
  owed _ := 0

include h in
theorem seq_of (o : Fin 1 → ℕ) (hb : ∀ a, o a + S1.size a ≤ S6144.size a) (ho : o 0 < 2089) :
    ((Memref.whole main_arg2).view.readAt (Elt F) (Rect.unit (s := S6144) o S1.size hb).toLoadRect (pfN m 3) (Shape.Idx.first (numel1_S1.symm ▸ Nat.one_pos))).toNat ≤ 64 := by
  have key : ∀ T : S6144.Idx → BitVec 32, (∀ j, (j 0).val < 2089 → (T j).toNat ≤ 64) →
      ((Memref.whole main_arg2).view.readAt (Elt F) (Rect.unit (s := S6144) o S1.size hb).toLoadRect T (Shape.Idx.first (numel1_S1.symm ▸ Nat.one_pos))).toNat ≤ 64 := by
    intro T hT
    refine hT ((Rect.unit (s := S6144) o S1.size hb).emb (Shape.Idx.first (numel1_S1.symm ▸ Nat.one_pos))) ?_
    show o 0 + _ < 2089
    have : ((Shape.Idx.first (numel1_S1.symm ▸ Nat.one_pos) : S1.Idx) 0).val < 1 := (Shape.Idx.first (numel1_S1.symm ▸ Nat.one_pos) : S1.Idx) 0 |>.isLt
    simp only [Rect.unit]
    omega
  rw [pf3_eq]
  exact key _ h.seq_hi

include h in
theorem len_of (o : Fin 1 → ℕ) (hb : ∀ a, o a + S1.size a ≤ S64.size a) :
    ((Memref.whole main_arg1).view.readAt (Elt F) (Rect.unit (s := S64) o S1.size hb).toLoadRect (pfN m 2) (Shape.Idx.first (numel1_S1.symm ▸ Nat.one_pos))).toInt ≤ 256 := by
  have key : ∀ T : S64.Idx → BitVec 32, (∀ j, (T j).toInt ≤ 256) →
      ((Memref.whole main_arg1).view.readAt (Elt F) (Rect.unit (s := S64) o S1.size hb).toLoadRect T (Shape.Idx.first (numel1_S1.symm ▸ Nat.one_pos))).toInt ≤ 256 :=
    fun T hT => hT _
  rw [pf2_eq]
  exact key _ h.len_hi

set_option maxHeartbeats 4000000 in
/-- The body keeps the invariant at every point, whatever the windows hold. -/
theorem body_ok (c : Dev nD) : (rdat m h c).BodyObligation (defs₀ (F := F)) 𝒱₀ () Set.univ := by
  intro t Y hY
  rw [bigSep_W0, bigSep_W0, row_eq]
  rw [show (rdat m h c).Φ t.succ = (rdat m h c).Φ t.castSucc from rfl,
    show (rdat m h c).owesAt () t.succ = (rdat m h c).owesAt () t.castSucc from rfl,
    show (rdat m h c).Φ t.castSucc = iprop(Pipeline.ΦA (U := UR sig nD τ) spec0 c ∗ Pipeline.ΦT (U := UR sig nD τ) pre0 (pfN m) c) from rfl,
    tabs_eq]
  unfold Pipeline.ΦA
  rw [rest_eq]
  iintro ⟨⟨⟨⟨S0, S1, S2, S3, S4, S5⟩, Hg⟩, ⟨T0, T1, T2, T3⟩⟩, HO, ⟨W0, W1, W2, W3, W4, W5, W6, W7⟩⟩
  iapply (head_any c (dynb0 (pfN m)) (Pipeline.Grid.Coords.static grid0 ((cfgm m h).grid.coords t)) ((cfgm m h).grid.coords t (0 : Fin 2)).val (row_lt m h t) (Memref.whole main_v0) (Memref.isWhole_whole _) (Memref.whole main_arg1) (Memref.isWhole_whole _) (Memref.whole main_arg2) (Memref.isWhole_whole _) (ms0 m h t) (hs0 m h t) (ms1 m h t) (hs1 m h t) (ms2 m h t) (hs2 m h t) (ms3 m h t) (hs3 m h t) (ms4 m h t) (hs4 m h t) (ms5 m h t) (hs5 m h t) (ms6 m h t) (hs6 m h t) (ms7 m h t) (hs7 m h t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    (pfN m 1) (pfN m 2) (pfN m 3) (Y 0) (Y 1) (Y 2) (Y 3) (Y 4) (Y 5) (seq_of m h) (len_of m h) _)
  isplitl [T1]; · iexact T1
  isplitl [T2]; · iexact T2
  isplitl [T3]; · iexact T3
  isplitl [W0]; · iexact W0
  isplitl [W1]; · iexact W1
  isplitl [W2]; · iexact W2
  isplitl [W3]; · iexact W3
  isplitl [W4]; · iexact W4
  isplitl [W5]; · iexact W5
  isplitl [W6]; · iexists _; iexact W6
  isplitl [W7]; · iexists _; iexact W7
  isplitl [S0]; · iexact S0
  isplitl [S1]; · iexact S1
  isplitl [S2]; · iexact S2
  isplitl [S3]; · iexact S3
  isplitl [S4]; · iexact S4
  isplitl [S5]; · iexact S5
  iintro ⟨T1, T2, T3, W0, W1, W2, W3, W4, W5, ⟨%X6, W6⟩, ⟨%X7, W7⟩, S0, S1, S2, S3, S4, S5⟩
  isplitl [S0 S1 S2 S3 S4 S5 Hg T0 T1 T2 T3]
  · isplitl [S0 S1 S2 S3 S4 S5 Hg]
    · isplitl [S0 S1 S2 S3 S4 S5]
      · isplitl [S0]; · iexact S0
        isplitl [S1]; · iexact S1
        isplitl [S2]; · iexact S2
        isplitl [S3]; · iexact S3
        isplitl [S4]; · iexact S4
        iexact S5
      iexact Hg
    · isplitl [T0]; · iexact T0
      isplitl [T1]; · iexact T1
      isplitl [T2]; · iexact T2
      iexact T3
  isplitl [HO]; · iexact HO
  isplitl [W0]
  · iexists _; isplitr; · ipureintro; exact fun _ => rfl
    iexact W0
  isplitl [W1]
  · iexists _; isplitr; · ipureintro; exact fun _ => rfl
    iexact W1
  isplitl [W2]
  · iexists _; isplitr; · ipureintro; exact fun _ => rfl
    iexact W2
  isplitl [W3]
  · iexists _; isplitr; · ipureintro; exact fun _ => rfl
    iexact W3
  isplitl [W4]
  · iexists _; isplitr; · ipureintro; exact fun _ => rfl
    iexact W4
  isplitl [W5]
  · iexists _; isplitr; · ipureintro; exact fun _ => rfl
    iexact W5
  isplitl [W6]
  · iexists X6; isplitr; · ipureintro; exact fun hh => absurd (show 6 < 6 from hh) (by decide)
    iexact W6
  iexists X7; isplitr; · ipureintro; exact fun hh => absurd (show 7 < 6 from hh) (by decide)
  iexact W7

/-! ## The launch -/

theorem hmain_ok : Pipeline.HMainP (Ix := Unit) (Name := ℕ) (U := UR sig nD τ) (Lvl := ℕ) (pcfgs (F := F)) 0 defs₀ 𝒱₀ m (main (F := F)) (Vm m) :=
  Pipeline.hmainP_prefix (pcfgs (F := F)) 0 defs₀ 𝒱₀ m main hostOps0 hostOps0_sub ⟨rfl, rfl, rfl, rfl, rfl⟩ fun c => (main_chain c).trans rfl

set_option backward.isDefEq.respectTransparency.types false in
theorem run_main (g : Dev nD → PrngReg) :
    θ_run defs (onTc (τ := τ) (main (F := F))) (s₀ m g)
      (fun r => Pipeline.RDat.FramePost (cfgm m h) (rdat m h) (Vm m) r ∧ r.2.sem = fun _ => 0) :=
  Pipeline.RDat.θ_run_frameP_track (pcfgs (F := F)) (fun _ => adm m h) 0 launch0 defs₀ 𝒱₀ (rdat m h) m g main
    (hbody := body_ok m h) (hshare := fun c w => by simp only [RDat.share, rdat, ite_self]) (howed := fun _ _ => rfl) (V := Vm m)
    (hmain := hmain_ok m) (hA := fun _ _ => rfl) (hpf := fun c k => by fin_cases c; rfl)
    (hin := fun _ => .rfl) (hout := fun c => show iprop(Pipeline.ΦA (U := UR sig nD τ) spec0 c ∗ Pipeline.ΦT (U := UR sig nD τ) pre0 (pfN m) c) ⊢ _ by iintro ⟨H, -⟩; iexact H) (Q' := _) (hQ' := fun _ h => h)

/-- The arguments stand as at launch at the end. -/
theorem args_kept {r : PUnit × MemSt nD τ sig (Elt F)} (hr : Pipeline.RDat.FramePost (cfgm m h) (rdat m h) (Vm m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) := by
  have rest : ∀ b : Ref sig .tc, b ∉ [main_v0, main_c, main_v1, main_v2, main_v3] → b.isScoped = false → (∀ w, (spec0 w).arr.view.ref ≠ b) →
      r.2.mem ((c.tc : Thread nD τ).loc b) = m ((c.tc : Thread nD τ).loc b) := fun b hb hs ha =>
    ((hr c).2 b (Pipeline.mem_restRefs_of b hs ha)).trans (Vm_arg m c b hb)
  refine ⟨rest _ (by decide) (by decide) (by decide), rest _ (by decide) (by decide) (by decide), rest _ (by decide) (by decide) (by decide), ?_, ?_,
    rest _ (by decide) (by decide) (by decide), rest _ (by decide) (by decide) (by decide), rest _ (by decide) (by decide) (by decide), ?_⟩
  · exact (Pipeline.RDat.FramePost.arr_in hr c (0 : Fin 8) rfl).trans (Vm_arg m c main_arg3 (by decide))
  · exact (Pipeline.RDat.FramePost.arr_in hr c (1 : Fin 8) rfl).trans (Vm_arg m c main_arg4 (by decide))
  · exact (Pipeline.RDat.FramePost.arr_in hr c (5 : Fin 8) rfl).trans (Vm_arg m c main_arg8 (by decide))

end Cert.Proof.Kernel
-- ==== Proof.ILoops.lean ====
module

public import proofs.«01_k».proof.Proof.Gen.KernelIdeal.Loops

@[expose] public section

set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev UU (nD : Nat) (τ : Topo) : Type := UR sig nD τ
abbrev 𝒱₀ : Variants := Variants.none

/-- What tile `k` of loop 1 adds to and stores: the token sums it finds, the eight lane groups' terms added one after another. -/
def tokPay1 (c : Dev nD) (i : grid0.Static) (arg0 : BitVec 32) (arg6 : Memref sig .tc .vmem S928x128 .f32) (arg15 : Memref sig .tc .vmem S2x2x464x512 .f32) (arg18 : Memref sig .tc .vmem S16704x128 .f32) (k0_hw1 : k0_chk1 i arg0) (arg1 : BitVec 32) (v274 v278 : Vec F S1x1024 .f32)
    (f6 : Buf (Elt F) (arg6.view.loc (c : Thread nD τ))) (f15 : Buf (Elt F) (arg15.view.loc (c : Thread nD τ))) (k : Fin k0_t1_loop.trips) (G : Buf (Elt F) (arg18.view.loc (c : Thread nD τ))) : FVec F S8x128 .f32 :=
  let xs : Vec F S8x128 .f32 := arg6.view.readAt (Elt F) (Rect.unit (s := S928x128) (k0_off5 k) S8x128.size (k0_off5_inb k)).toLoadRect f6
  k0_pay215 arg1 v274 v278 xs
    (k0_pay41 (k0_pay198 arg1) (k0_pay199 arg1 v274) (k0_pay200 arg1 v278) xs
      (k0_pay30 (k0_pay198 arg1) (k0_pay199 arg1 v274) (k0_pay200 arg1 v278) xs
        (k0_pay24 (k0_pay198 arg1) (k0_pay199 arg1 v274) (k0_pay200 arg1 v278) xs
          (k0_pay14 (k0_pay198 arg1) (k0_pay199 arg1 v274) (k0_pay200 arg1 v278) xs
            (k0_pay9 (k0_pay198 arg1) (k0_pay199 arg1 v274) (k0_pay200 arg1 v278) xs
              (arg18.view.readAt (Elt F) (Rect.unit (s := S16704x128) (k0_off6 arg0 k) S8x128.size (k0_off6_inb i arg0 k0_hw1 k)).toLoadRect G)
              (arg15.view.readAt (Elt F) (Rect.unit (s := S2x2x464x512) (k0_off7 k) S1x1x8x128.size (k0_off7_inb k)).toLoadRect f15))
            (arg15.view.readAt (Elt F) (Rect.unit (s := S2x2x464x512) (k0_off9 k) S1x1x8x128.size (k0_off9_inb k)).toLoadRect f15))
          (k0_pay18 (arg15.view.readAt (Elt F) (Rect.unit (s := S2x2x464x512) (k0_off11 k) S1x1x8x128.size (k0_off11_inb k)).toLoadRect f15))
          (arg15.view.readAt (Elt F) (Rect.unit (s := S2x2x464x512) (k0_off13 k) S1x1x8x128.size (k0_off13_inb k)).toLoadRect f15))
        (arg15.view.readAt (Elt F) (Rect.unit (s := S2x2x464x512) (k0_off15 k) S1x1x8x128.size (k0_off15_inb k)).toLoadRect f15))
      (k0_pay34 xs (arg15.view.readAt (Elt F) (Rect.unit (s := S2x2x464x512) (k0_off17 k) S1x1x8x128.size (k0_off17_inb k)).toLoadRect f15))
      (k0_pay35 (k0_pay199 arg1 v274))
      (arg15.view.readAt (Elt F) (Rect.unit (s := S2x2x464x512) (k0_off19 k) S1x1x8x128.size (k0_off19_inb k)).toLoadRect f15))
    (arg15.view.readAt (Elt F) (Rect.unit (s := S2x2x464x512) (k0_off21 k) S1x1x8x128.size (k0_off21_inb k)).toLoadRect f15)

/-- The token sums after tile `k` of loop 1. -/
def tokNext1 (c : Dev nD) (i : grid0.Static) (arg0 : BitVec 32) (arg6 : Memref sig .tc .vmem S928x128 .f32) (arg15 : Memref sig .tc .vmem S2x2x464x512 .f32) (arg18 : Memref sig .tc .vmem S16704x128 .f32) (k0_hw1 : k0_chk1 i arg0) (arg1 : BitVec 32) (v274 v278 : Vec F S1x1024 .f32)
    (f6 : Buf (Elt F) (arg6.view.loc (c : Thread nD τ))) (f15 : Buf (Elt F) (arg15.view.loc (c : Thread nD τ))) (k : Fin k0_t1_loop.trips) (G : Buf (Elt F) (arg18.view.loc (c : Thread nD τ))) : Buf (Elt F) (arg18.view.loc (c : Thread nD τ)) :=
  arg18.view.writes (Elt F) G [⟨Rect.unit (s := S16704x128) (k0_off23 arg0 k) S8x128.size (k0_off23_inb i arg0 k0_hw1 k), tokPay1 c i arg0 arg6 arg15 arg18 k0_hw1 arg1 v274 v278 f6 f15 k G⟩]

/-- The token sums before tile `n` of loop 1, from those it starts with. -/
def tokAt1 (c : Dev nD) (i : grid0.Static) (arg0 : BitVec 32) (arg6 : Memref sig .tc .vmem S928x128 .f32) (arg15 : Memref sig .tc .vmem S2x2x464x512 .f32) (arg18 : Memref sig .tc .vmem S16704x128 .f32) (k0_hw1 : k0_chk1 i arg0) (arg1 : BitVec 32) (v274 v278 : Vec F S1x1024 .f32)
    (f6 : Buf (Elt F) (arg6.view.loc (c : Thread nD τ))) (f15 : Buf (Elt F) (arg15.view.loc (c : Thread nD τ))) (G : Buf (Elt F) (arg18.view.loc (c : Thread nD τ))) : ℕ → Buf (Elt F) (arg18.view.loc (c : Thread nD τ))
  | 0 => G
  | n + 1 => if h : n < k0_t1_loop.trips then tokNext1 c i arg0 arg6 arg15 arg18 k0_hw1 arg1 v274 v278 f6 f15 ⟨n, h⟩ (tokAt1 c i arg0 arg6 arg15 arg18 k0_hw1 arg1 v274 v278 f6 f15 G n)
    else tokAt1 c i arg0 arg6 arg15 arg18 k0_hw1 arg1 v274 v278 f6 f15 G n

theorem tokAt1_succ (c : Dev nD) (i : grid0.Static) (arg0 : BitVec 32) (arg6 : Memref sig .tc .vmem S928x128 .f32) (arg15 : Memref sig .tc .vmem S2x2x464x512 .f32) (arg18 : Memref sig .tc .vmem S16704x128 .f32) (k0_hw1 : k0_chk1 i arg0) (arg1 : BitVec 32) (v274 v278 : Vec F S1x1024 .f32)
    (f6 : Buf (Elt F) (arg6.view.loc (c : Thread nD τ))) (f15 : Buf (Elt F) (arg15.view.loc (c : Thread nD τ))) (G : Buf (Elt F) (arg18.view.loc (c : Thread nD τ))) (k : Fin k0_t1_loop.trips) :
    tokAt1 c i arg0 arg6 arg15 arg18 k0_hw1 arg1 v274 v278 f6 f15 G (k.val + 1) = tokNext1 c i arg0 arg6 arg15 arg18 k0_hw1 arg1 v274 v278 f6 f15 k (tokAt1 c i arg0 arg6 arg15 arg18 k0_hw1 arg1 v274 v278 f6 f15 G k.val) := by
  rw [tokAt1]; exact dif_pos k.isLt

set_option backward.proofsInPublic true in
set_option maxHeartbeats 8000000 in
/-- The invariant of the tile loop 1: the tables and the buffers it reads at fixed contents, the token sums at `tokAt1`, the running maxima at some. -/
@[sl_loop] noncomputable def loopInv_k0_t1 (c : Dev nD) (b : grid0.Bounds) (i : grid0.Static) (arg0 : BitVec 32) (arg2 : Memref sig .tc .smem S1 .i32) (harg2 : arg2.IsWhole) (arg3 : Memref sig .tc .smem S64 .i32) (harg3 : arg3.IsWhole) (arg4 : Memref sig .tc .smem S6144 .i32) (harg4 : arg4.IsWhole) (arg5 : Memref sig .tc .vmem S928x3584 .bf16) (harg5 : arg5.IsWhole) (arg6 : Memref sig .tc .vmem S928x128 .f32) (harg6 : arg6.IsWhole) (arg7 : Memref sig .tc .vmem S1024x3584 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S64x128 .i32) (harg10 : arg10.IsWhole) (arg11 : Memref sig .tc .vmem S64x1024 .bf16) (harg11 : arg11.IsWhole) (arg12 : Memref sig .tc .vmem S64x256 .f32) (harg12 : arg12.IsWhole) (arg13 : Memref sig .tc .vmem S5x464x1792 .bf16) (harg13 : arg13.IsWhole) (arg14 : Memref sig .tc .vmem S512x1792 .bf16) (harg14 : arg14.IsWhole) (arg15 : Memref sig .tc .vmem S2x2x464x512 .f32) (harg15 : arg15.IsWhole) (arg16 : Memref sig .tc .vmem S65x8x1024 .f32) (harg16 : arg16.IsWhole) (arg17 : Memref sig .tc .vmem S30x64x1024 .f32) (harg17 : arg17.IsWhole) (arg18 : Memref sig .tc .vmem S16704x128 .f32) (harg18 : arg18.IsWhole) (k0_hw1 : k0_chk1 i arg0) (arg1 : BitVec 32) (v259 : FVec F S464x512 .f32) (v261 : FVec F S464x1792 .bf16) (v262 : Vec F S512x1792 .bf16) (v274 : Vec F S1x1024 .f32) (v278 : Vec F S1x1024 .f32) (v282 : IVec S8x128 32) (v283 : BitVec 32) (T : Buf (Elt F) (arg4.view.loc (c : Thread nD τ))) (hT : ∀ k : Fin k0_t1_loop.trips, k0_chk2 (arg4.view.readAt (Elt F) (Rect.unit (s := S6144) (k0_off2 arg0 k) S1.size (k0_off2_inb i arg0 k0_hw1 k)).toLoadRect T (Shape.Idx.first (numel1_S1.symm ▸ Nat.one_pos)))) (f6 : Buf (Elt F) (arg6.view.loc (c : Thread nD τ))) (f15 : Buf (Elt F) (arg15.view.loc (c : Thread nD τ))) (G18 : Buf (Elt F) (arg18.view.loc (c : Thread nD τ))) (init : FVec F S8x128 .f32 × FVec F S8x128 .f32 × FVec F S8x128 .f32 × FVec F S8x128 .f32 × FVec F S8x128 .f32 × FVec F S8x128 .f32 × FVec F S8x128 .f32 × FVec F S8x128 .f32) :
    Cert.KernelIdeal.Gen.LoopInvTy_k0_t1 (F := F) Unit ℕ (UU nD τ) ℕ 𝒱₀ c none Set.univ b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_hw1 arg1 v259 v261 v262 v274 v278 v282 v283 init where
  inv := fun k acc => iprop((arg4.view.loc (c : Thread nD τ) ↦[arg4.view.set]{fullShare.right} T)
      ∗ (arg6.view.loc (c : Thread nD τ) ↦[arg6.view.set]{fullShare} f6)
      ∗ (arg15.view.loc (c : Thread nD τ) ↦[arg15.view.set]{fullShare} f15)
      ∗ (∃ f, (arg16.view.loc (c : Thread nD τ) ↦[arg16.view.set]{fullShare} f))
      ∗ (arg18.view.loc (c : Thread nD τ) ↦[arg18.view.set]{fullShare} tokAt1 c i arg0 arg6 arg15 arg18 k0_hw1 arg1 v274 v278 f6 f15 G18 k))
  step := fun k acc => by
    obtain ⟨a0, a1, a2, a3, a4, a5, a6, a7⟩ := acc
    have hTk := hT k
    iintro ⟨H4, H6, H15, ⟨%f16, H16⟩, H18⟩
    unfold k0_t1_body
    simp only [k0_part2_eq_skeleton, k0_part3_eq_skeleton, k0_part4_eq_skeleton, k0_part5_eq_skeleton, k0_part6_eq_skeleton]
    sl_exec_parts
    sl_step
    isplitl [H4]; · iexact H4
    isplitl [H6]; · iexact H6
    isplitl [H15]; · iexact H15
    isplitl [H16]; · iexists _; iexact H16
    rw [tokAt1_succ]; iexact H18

/-- What tile `k` of loop 2 adds to and stores: the token sums it finds, the eight lane groups' terms added one after another. -/
def tokPay2 (c : Dev nD) (i : grid0.Static) (arg0 : BitVec 32) (arg6 : Memref sig .tc .vmem S928x128 .f32) (arg15 : Memref sig .tc .vmem S2x2x464x512 .f32) (arg18 : Memref sig .tc .vmem S16704x128 .f32) (k0_hw1 : k0_chk1 i arg0) (v273 : IVec S1x1024 1) (v277 v281 : FVec F S1x1024 .f32)
    (f6 : Buf (Elt F) (arg6.view.loc (c : Thread nD τ))) (f15 : Buf (Elt F) (arg15.view.loc (c : Thread nD τ))) (k : Fin k0_t2_loop.trips) (G : Buf (Elt F) (arg18.view.loc (c : Thread nD τ))) : FVec F S8x128 .f32 :=
  let xs : Vec F S8x128 .f32 := arg6.view.readAt (Elt F) (Rect.unit (s := S928x128) (k0_off27 k) S8x128.size (k0_off27_inb k)).toLoadRect f6
  k0_pay222 v273 v277 v281 xs
    (k0_pay78 v273 v277 v281 xs
      (k0_pay67 v273 v277 v281 xs
        (k0_pay61 v273 v277 v281 xs
          (k0_pay51 v273 v277 v281 xs
            (k0_pay46 v273 v277 v281 xs
              (arg18.view.readAt (Elt F) (Rect.unit (s := S16704x128) (k0_off28 arg0 k) S8x128.size (k0_off28_inb i arg0 k0_hw1 k)).toLoadRect G)
              (arg15.view.readAt (Elt F) (Rect.unit (s := S2x2x464x512) (k0_off29 k) S1x1x8x128.size (k0_off29_inb k)).toLoadRect f15))
            (arg15.view.readAt (Elt F) (Rect.unit (s := S2x2x464x512) (k0_off31 k) S1x1x8x128.size (k0_off31_inb k)).toLoadRect f15))
          (k0_pay55 (arg15.view.readAt (Elt F) (Rect.unit (s := S2x2x464x512) (k0_off33 k) S1x1x8x128.size (k0_off33_inb k)).toLoadRect f15))
          (arg15.view.readAt (Elt F) (Rect.unit (s := S2x2x464x512) (k0_off35 k) S1x1x8x128.size (k0_off35_inb k)).toLoadRect f15))
        (arg15.view.readAt (Elt F) (Rect.unit (s := S2x2x464x512) (k0_off37 k) S1x1x8x128.size (k0_off37_inb k)).toLoadRect f15))
      (k0_pay71 xs (arg15.view.readAt (Elt F) (Rect.unit (s := S2x2x464x512) (k0_off39 k) S1x1x8x128.size (k0_off39_inb k)).toLoadRect f15))
      (k0_pay72 v277)
      (arg15.view.readAt (Elt F) (Rect.unit (s := S2x2x464x512) (k0_off41 k) S1x1x8x128.size (k0_off41_inb k)).toLoadRect f15))
    (arg15.view.readAt (Elt F) (Rect.unit (s := S2x2x464x512) (k0_off43 k) S1x1x8x128.size (k0_off43_inb k)).toLoadRect f15)

/-- The token sums after tile `k` of loop 2. -/
def tokNext2 (c : Dev nD) (i : grid0.Static) (arg0 : BitVec 32) (arg6 : Memref sig .tc .vmem S928x128 .f32) (arg15 : Memref sig .tc .vmem S2x2x464x512 .f32) (arg18 : Memref sig .tc .vmem S16704x128 .f32) (k0_hw1 : k0_chk1 i arg0) (v273 : IVec S1x1024 1) (v277 v281 : FVec F S1x1024 .f32)
    (f6 : Buf (Elt F) (arg6.view.loc (c : Thread nD τ))) (f15 : Buf (Elt F) (arg15.view.loc (c : Thread nD τ))) (k : Fin k0_t2_loop.trips) (G : Buf (Elt F) (arg18.view.loc (c : Thread nD τ))) : Buf (Elt F) (arg18.view.loc (c : Thread nD τ)) :=
  arg18.view.writes (Elt F) G [⟨Rect.unit (s := S16704x128) (k0_off45 arg0 k) S8x128.size (k0_off45_inb i arg0 k0_hw1 k), tokPay2 c i arg0 arg6 arg15 arg18 k0_hw1 v273 v277 v281 f6 f15 k G⟩]

/-- The token sums before tile `n` of loop 2, from those it starts with. -/
def tokAt2 (c : Dev nD) (i : grid0.Static) (arg0 : BitVec 32) (arg6 : Memref sig .tc .vmem S928x128 .f32) (arg15 : Memref sig .tc .vmem S2x2x464x512 .f32) (arg18 : Memref sig .tc .vmem S16704x128 .f32) (k0_hw1 : k0_chk1 i arg0) (v273 : IVec S1x1024 1) (v277 v281 : FVec F S1x1024 .f32)
    (f6 : Buf (Elt F) (arg6.view.loc (c : Thread nD τ))) (f15 : Buf (Elt F) (arg15.view.loc (c : Thread nD τ))) (G : Buf (Elt F) (arg18.view.loc (c : Thread nD τ))) : ℕ → Buf (Elt F) (arg18.view.loc (c : Thread nD τ))
  | 0 => G
  | n + 1 => if h : n < k0_t2_loop.trips then tokNext2 c i arg0 arg6 arg15 arg18 k0_hw1 v273 v277 v281 f6 f15 ⟨n, h⟩ (tokAt2 c i arg0 arg6 arg15 arg18 k0_hw1 v273 v277 v281 f6 f15 G n)
    else tokAt2 c i arg0 arg6 arg15 arg18 k0_hw1 v273 v277 v281 f6 f15 G n

theorem tokAt2_succ (c : Dev nD) (i : grid0.Static) (arg0 : BitVec 32) (arg6 : Memref sig .tc .vmem S928x128 .f32) (arg15 : Memref sig .tc .vmem S2x2x464x512 .f32) (arg18 : Memref sig .tc .vmem S16704x128 .f32) (k0_hw1 : k0_chk1 i arg0) (v273 : IVec S1x1024 1) (v277 v281 : FVec F S1x1024 .f32)
    (f6 : Buf (Elt F) (arg6.view.loc (c : Thread nD τ))) (f15 : Buf (Elt F) (arg15.view.loc (c : Thread nD τ))) (G : Buf (Elt F) (arg18.view.loc (c : Thread nD τ))) (k : Fin k0_t2_loop.trips) :
    tokAt2 c i arg0 arg6 arg15 arg18 k0_hw1 v273 v277 v281 f6 f15 G (k.val + 1) = tokNext2 c i arg0 arg6 arg15 arg18 k0_hw1 v273 v277 v281 f6 f15 k (tokAt2 c i arg0 arg6 arg15 arg18 k0_hw1 v273 v277 v281 f6 f15 G k.val) := by
  rw [tokAt2]; exact dif_pos k.isLt

set_option backward.proofsInPublic true in
set_option maxHeartbeats 8000000 in
/-- The invariant of the tile loop 2: the tables and the buffers it reads at fixed contents, the token sums at `tokAt2`, the running maxima at some. -/
@[sl_loop] noncomputable def loopInv_k0_t2 (c : Dev nD) (b : grid0.Bounds) (i : grid0.Static) (arg0 : BitVec 32) (arg2 : Memref sig .tc .smem S1 .i32) (harg2 : arg2.IsWhole) (arg3 : Memref sig .tc .smem S64 .i32) (harg3 : arg3.IsWhole) (arg4 : Memref sig .tc .smem S6144 .i32) (harg4 : arg4.IsWhole) (arg5 : Memref sig .tc .vmem S928x3584 .bf16) (harg5 : arg5.IsWhole) (arg6 : Memref sig .tc .vmem S928x128 .f32) (harg6 : arg6.IsWhole) (arg7 : Memref sig .tc .vmem S1024x3584 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S64x128 .i32) (harg10 : arg10.IsWhole) (arg11 : Memref sig .tc .vmem S64x1024 .bf16) (harg11 : arg11.IsWhole) (arg12 : Memref sig .tc .vmem S64x256 .f32) (harg12 : arg12.IsWhole) (arg13 : Memref sig .tc .vmem S5x464x1792 .bf16) (harg13 : arg13.IsWhole) (arg14 : Memref sig .tc .vmem S512x1792 .bf16) (harg14 : arg14.IsWhole) (arg15 : Memref sig .tc .vmem S2x2x464x512 .f32) (harg15 : arg15.IsWhole) (arg16 : Memref sig .tc .vmem S65x8x1024 .f32) (harg16 : arg16.IsWhole) (arg17 : Memref sig .tc .vmem S30x64x1024 .f32) (harg17 : arg17.IsWhole) (arg18 : Memref sig .tc .vmem S16704x128 .f32) (harg18 : arg18.IsWhole) (k0_hw1 : k0_chk1 i arg0) (v273 : IVec S1x1024 1) (v277 : FVec F S1x1024 .f32) (v281 : FVec F S1x1024 .f32) (v282 : IVec S8x128 32) (v283 : BitVec 32) (v293_0 : FVec F S8x128 .f32) (v293_1 : FVec F S8x128 .f32) (v293_2 : FVec F S8x128 .f32) (v293_3 : FVec F S8x128 .f32) (v293_4 : FVec F S8x128 .f32) (v293_5 : FVec F S8x128 .f32) (v293_6 : FVec F S8x128 .f32) (v293_7 : FVec F S8x128 .f32) (c0_i32_205 : BitVec 32) (c58_i32_206 : BitVec 32) (T : Buf (Elt F) (arg4.view.loc (c : Thread nD τ))) (hT : ∀ k : Fin k0_t2_loop.trips, k0_chk3 (arg4.view.readAt (Elt F) (Rect.unit (s := S6144) (k0_off24 arg0 k) S1.size (k0_off24_inb i arg0 k0_hw1 k)).toLoadRect T (Shape.Idx.first (numel1_S1.symm ▸ Nat.one_pos)))) (f6 : Buf (Elt F) (arg6.view.loc (c : Thread nD τ))) (f15 : Buf (Elt F) (arg15.view.loc (c : Thread nD τ))) (G18 : Buf (Elt F) (arg18.view.loc (c : Thread nD τ))) (init : FVec F S8x128 .f32 × FVec F S8x128 .f32 × FVec F S8x128 .f32 × FVec F S8x128 .f32 × FVec F S8x128 .f32 × FVec F S8x128 .f32 × FVec F S8x128 .f32 × FVec F S8x128 .f32) :
    Cert.KernelIdeal.Gen.LoopInvTy_k0_t2 (F := F) Unit ℕ (UU nD τ) ℕ 𝒱₀ c none Set.univ b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_hw1 v273 v277 v281 v282 v283 v293_0 v293_1 v293_2 v293_3 v293_4 v293_5 v293_6 v293_7 c0_i32_205 c58_i32_206 init where
  inv := fun k acc => iprop((arg4.view.loc (c : Thread nD τ) ↦[arg4.view.set]{fullShare.right} T)
      ∗ (arg6.view.loc (c : Thread nD τ) ↦[arg6.view.set]{fullShare} f6)
      ∗ (arg15.view.loc (c : Thread nD τ) ↦[arg15.view.set]{fullShare} f15)
      ∗ (∃ f, (arg16.view.loc (c : Thread nD τ) ↦[arg16.view.set]{fullShare} f))
      ∗ (arg18.view.loc (c : Thread nD τ) ↦[arg18.view.set]{fullShare} tokAt2 c i arg0 arg6 arg15 arg18 k0_hw1 v273 v277 v281 f6 f15 G18 k))
  step := fun k acc => by
    obtain ⟨a0, a1, a2, a3, a4, a5, a6, a7⟩ := acc
    have hTk := hT k
    iintro ⟨H4, H6, H15, ⟨%f16, H16⟩, H18⟩
    unfold k0_t2_body
    simp only [k0_part7_eq_skeleton, k0_part8_eq_skeleton, k0_part9_eq_skeleton, k0_part10_eq_skeleton, k0_part11_eq_skeleton]
    sl_exec_parts
    sl_step
    isplitl [H4]; · iexact H4
    isplitl [H6]; · iexact H6
    isplitl [H15]; · iexact H15
    isplitl [H16]; · iexists _; iexact H16
    rw [tokAt2_succ]; iexact H18

end Cert.Proof.KernelIdeal
-- ==== Proof.ICval.lean ====
module

public import proofs.«01_k».proof.Proof.ILoops
public import Idealize.ShloMosaic.Lib.Pipeline.FrameBody
public import Idealize.ShloMosaic.Lib.Pipeline.ReadBack
public import Idealize.ShloMosaic.Lib.WritesUnit

@[expose] public section

set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A block read of listed writes over junk is the covered read of the list. -/
theorem ld_writes {κ : Kind} {sp : Space} {s : Shape} {e : EltTy} (v : View sig κ sp s e) (L : List (View.Piece (Elt F) s e)) (r : Rect s) :
    View.ld (v.read (Elt F) (v.writes (Elt F) v.junk L)) r = v.readCov L r.toLoadRect := rfl

/-- A block read through the newest write's rectangle is that write's payload. -/
theorem ld_writes_hit {κ : Kind} {sp : Space} {s : Shape} {e : EltTy} (v : View sig κ sp s e) (f : v.ty.Contents (Elt F)) (r : Rect s)
    (w : r.shape.Idx → Elt F e) (L : List (View.Piece (Elt F) s e)) : View.ld (v.read (Elt F) (v.writes (Elt F) f (⟨r, w⟩ :: L))) r = w :=
  funext fun x => View.read_writes_cons_emb v f r w L x

/-- A block read apart from the newest write's rectangle reads the earlier writes. -/
theorem ld_writes_skip {κ : Kind} {sp : Space} {s : Shape} {e : EltTy} (v : View sig κ sp s e) (f : v.ty.Contents (Elt F)) (r B : Rect s)
    (w : r.shape.Idx → Elt F e) (L : List (View.Piece (Elt F) s e)) (h : LoadRect.disj r B.toLoadRect = true) :
    View.ld (v.read (Elt F) (v.writes (Elt F) f (⟨r, w⟩ :: L))) B = View.ld (v.read (Elt F) (v.writes (Elt F) f L)) B := by
  funext x
  refine View.read_slice_write_of_not_mem _ _ _ _ ?_
  rw [Rect.map_emb_univ]
  exact LoadRect.idx_not_mem_of_disj h x

/-- What a fill of the whole buffer leaves. -/
theorem read_writes_fill {κ : Kind} {sp : Space} {s : Shape} {e : EltTy} (v : View sig κ sp s e) (f : v.ty.Contents (Elt F)) (off : Fin s.rank → ℕ) (h : off = fun _ => 0)
    (inb : ∀ a, off a + s.size a ≤ s.size a) (w : s.Idx → Elt F e) (L : List (View.Piece (Elt F) s e)) :
    v.read (Elt F) (v.writes (Elt F) f ((⟨Rect.unit off s.size inb, w⟩ : View.Piece (Elt F) s e) :: L)) = w := by
  funext y
  exact View.read_writes_cons_unit_of_mem v f inb w L y y h (fun a => (Nat.zero_add _).symm)

/-- The scratch of left-hand sums holds the five sums of quarters of the codes that the seven products take. -/
def SIs (X5 : S928x3584.Idx → Elt F .bf16) (X13 : S5x464x1792.Idx → Elt F .bf16) : Prop :=
  (View.ld X13 (Rect.unit (s := S5x464x1792) ![0, 0, 0] S1x464x1792.size inb_S5x464x1792_S1x464x1792_0_0_0)) = k0_pay2 (View.ld X5 (Rect.unit (s := S928x3584) ![0, 0] S464x1792.size inb_S928x3584_S464x1792_0_0)) (View.ld X5 (Rect.unit (s := S928x3584) ![464, 1792] S464x1792.size inb_S928x3584_S464x1792_464_1792))
  ∧ (View.ld X13 (Rect.unit (s := S5x464x1792) ![1, 0, 0] S1x464x1792.size inb_S5x464x1792_S1x464x1792_1_0_0)) = k0_pay3 (View.ld X5 (Rect.unit (s := S928x3584) ![464, 0] S464x1792.size inb_S928x3584_S464x1792_464_0)) (View.ld X5 (Rect.unit (s := S928x3584) ![464, 1792] S464x1792.size inb_S928x3584_S464x1792_464_1792))
  ∧ (View.ld X13 (Rect.unit (s := S5x464x1792) ![2, 0, 0] S1x464x1792.size inb_S5x464x1792_S1x464x1792_2_0_0)) = k0_pay4 (View.ld X5 (Rect.unit (s := S928x3584) ![0, 0] S464x1792.size inb_S928x3584_S464x1792_0_0)) (View.ld X5 (Rect.unit (s := S928x3584) ![0, 1792] S464x1792.size inb_S928x3584_S464x1792_0_1792))
  ∧ (View.ld X13 (Rect.unit (s := S5x464x1792) ![3, 0, 0] S1x464x1792.size inb_S5x464x1792_S1x464x1792_3_0_0)) = k0_pay5 (View.ld X5 (Rect.unit (s := S928x3584) ![464, 0] S464x1792.size inb_S928x3584_S464x1792_464_0)) (View.ld X5 (Rect.unit (s := S928x3584) ![0, 0] S464x1792.size inb_S928x3584_S464x1792_0_0))
  ∧ (View.ld X13 (Rect.unit (s := S5x464x1792) ![4, 0, 0] S1x464x1792.size inb_S5x464x1792_S1x464x1792_4_0_0)) = k0_pay160 (View.ld X5 (Rect.unit (s := S928x3584) ![0, 1792] S464x1792.size inb_S928x3584_S464x1792_0_1792)) (View.ld X5 (Rect.unit (s := S928x3584) ![464, 1792] S464x1792.size inb_S928x3584_S464x1792_464_1792))

/-! The right-hand sums of the seven products, from the quarters of the weight block. -/
section
variable (i : grid0.Static) (X7 : S1024x3584.Idx → Elt F .i8)
def rhs1 : FVec F S512x1792 .bf16 := k0_pay166 (k0_pay165 i (View.ld X7 (Rect.unit (s := S1024x3584) ![0, 0] S512x1792.size inb_S1024x3584_S512x1792_0_0)) (View.ld X7 (Rect.unit (s := S1024x3584) ![512, 1792] S512x1792.size inb_S1024x3584_S512x1792_512_1792)))
def rhs2 : FVec F S512x1792 .bf16 := k0_pay170 (k0_pay164 i) (View.ld X7 (Rect.unit (s := S1024x3584) ![0, 0] S512x1792.size inb_S1024x3584_S512x1792_0_0))
def rhs3 : FVec F S512x1792 .bf16 := k0_pay176 (k0_pay175 (k0_pay164 i) (View.ld X7 (Rect.unit (s := S1024x3584) ![512, 0] S512x1792.size inb_S1024x3584_S512x1792_512_0)) (View.ld X7 (Rect.unit (s := S1024x3584) ![512, 1792] S512x1792.size inb_S1024x3584_S512x1792_512_1792)))
def rhs4 : FVec F S512x1792 .bf16 := k0_pay182 (k0_pay164 i) (k0_pay180 (k0_pay164 i) (View.ld X7 (Rect.unit (s := S1024x3584) ![0, 1792] S512x1792.size inb_S1024x3584_S512x1792_0_1792))) (k0_pay181 (View.ld X7 (Rect.unit (s := S1024x3584) ![0, 0] S512x1792.size inb_S1024x3584_S512x1792_0_0))) 0#32
def rhs5 : FVec F S512x1792 .bf16 := k0_pay187 (k0_pay164 i) (k0_pay186 (View.ld X7 (Rect.unit (s := S1024x3584) ![512, 1792] S512x1792.size inb_S1024x3584_S512x1792_512_1792)))
def rhs6 : FVec F S512x1792 .bf16 := k0_pay191 (k0_pay164 i) (View.ld X7 (Rect.unit (s := S1024x3584) ![0, 0] S512x1792.size inb_S1024x3584_S512x1792_0_0)) (View.ld X7 (Rect.unit (s := S1024x3584) ![512, 0] S512x1792.size inb_S1024x3584_S512x1792_512_0))
def rhs7 : FVec F S512x1792 .bf16 := k0_pay194 (k0_pay164 i) (View.ld X7 (Rect.unit (s := S1024x3584) ![0, 1792] S512x1792.size inb_S1024x3584_S512x1792_0_1792)) (View.ld X7 (Rect.unit (s := S1024x3584) ![512, 1792] S512x1792.size inb_S1024x3584_S512x1792_512_1792))
end

/-- The product scratch holds the four blocks the seven products are put together to. -/
def CIs (i : grid0.Static) (X5 : S928x3584.Idx → Elt F .bf16) (X7 : S1024x3584.Idx → Elt F .i8) (X13 : S5x464x1792.Idx → Elt F .bf16)
    (R : S2x2x464x512.Idx → Elt F .f32) : Prop :=
  View.ld R (Rect.unit (s := S2x2x464x512) ![0, 0, 0, 0] S1x1x464x512.size inb_S2x2x464x512_S1x1x464x512_0_0_0_0) = k0_pay197 (k0_pay195 (k0_pay189 (View.ld X13 (Rect.unit (s := S5x464x1792) ![2, 0, 0] S1x464x1792.size inb_S5x464x1792_S1x464x1792_2_0_0)) (rhs5 i X7) (k0_pay184 (View.ld X5 (Rect.unit (s := S928x3584) ![464, 1792] S464x1792.size inb_S928x3584_S464x1792_464_1792)) (rhs4 i X7) (k0_pay168 (View.ld X13 (Rect.unit (s := S5x464x1792) ![0, 0, 0] S1x464x1792.size inb_S5x464x1792_S1x464x1792_0_0_0)) (rhs1 i X7))))) (k0_pay196 (View.ld X13 (Rect.unit (s := S5x464x1792) ![4, 0, 0] S1x464x1792.size inb_S5x464x1792_S1x464x1792_4_0_0))) (rhs7 i X7)
  ∧ View.ld R (Rect.unit (s := S2x2x464x512) ![0, 1, 0, 0] S1x1x464x512.size inb_S2x2x464x512_S1x1x464x512_0_1_0_0) = k0_pay190 (View.ld X13 (Rect.unit (s := S5x464x1792) ![2, 0, 0] S1x464x1792.size inb_S5x464x1792_S1x464x1792_2_0_0)) (rhs5 i X7) (k0_pay178 (View.ld X5 (Rect.unit (s := S928x3584) ![0, 0] S464x1792.size inb_S928x3584_S464x1792_0_0)) (rhs3 i X7))
  ∧ View.ld R (Rect.unit (s := S2x2x464x512) ![1, 0, 0, 0] S1x1x464x512.size inb_S2x2x464x512_S1x1x464x512_1_0_0_0) = k0_pay185 (View.ld X5 (Rect.unit (s := S928x3584) ![464, 1792] S464x1792.size inb_S928x3584_S464x1792_464_1792)) (rhs4 i X7) (k0_pay173 (k0_pay171 (View.ld X13 (Rect.unit (s := S5x464x1792) ![1, 0, 0] S1x464x1792.size inb_S5x464x1792_S1x464x1792_1_0_0))) (rhs2 i X7))
  ∧ View.ld R (Rect.unit (s := S2x2x464x512) ![1, 1, 0, 0] S1x1x464x512.size inb_S2x2x464x512_S1x1x464x512_1_1_0_0) = k0_pay193 (k0_pay192 (k0_pay179 (View.ld X5 (Rect.unit (s := S928x3584) ![0, 0] S464x1792.size inb_S928x3584_S464x1792_0_0)) (rhs3 i X7) (k0_pay174 (k0_pay171 (View.ld X13 (Rect.unit (s := S5x464x1792) ![1, 0, 0] S1x464x1792.size inb_S5x464x1792_S1x464x1792_1_0_0))) (rhs2 i X7) (k0_pay169 (View.ld X13 (Rect.unit (s := S5x464x1792) ![0, 0, 0] S1x464x1792.size inb_S5x464x1792_S1x464x1792_0_0_0)) (rhs1 i X7)))) (View.ld X13 (Rect.unit (s := S5x464x1792) ![3, 0, 0] S1x464x1792.size inb_S5x464x1792_S1x464x1792_3_0_0)) (rhs6 i X7))

/-! ## The lengths' offsets and the rows of the second result -/

/-- The rows a sequence takes among the packed ones: its length, at least eight, nothing when it is empty. -/
def rowsOf (l : BitVec 32) : BitVec 32 := Scalar.select (Scalar.cmpi .sgt l 0#32) (Scalar.maxsi l 8#32) 0#32

/-- Where a sequence's packed rows start. -/
def offOf (len : ℕ → BitVec 32) : ℕ → BitVec 32
  | 0 => 0#32
  | b + 1 => Scalar.addi (offOf len b) (rowsOf (len b))

/-- A row of the second result: the lane sums of the sequence's packed rows, zero from its length on. -/
def RowIs (X18 : S16704x128.Idx → Elt F .f32) (len off : BitVec 32) (row : S1x256.Idx → Elt F .f32) : Prop :=
  ∃ inb : ∀ a, (![(Scalar.indexCast off).toNat, 0] : Fin 2 → ℕ) a + S256x128.size a ≤ S16704x128.size a,
    row = k0_pay88 (iota .tc S1x256 32 [1] iota_S1x256_d1_w32) len
      (View.ld X18 (Rect.unit (s := S16704x128) ![(Scalar.indexCast off).toNat, 0] S256x128.size inb))

theorem inb_row (b : ℕ) (hb : b < 64) : ∀ a, (![b, 0] : Fin 2 → ℕ) a + S1x256.size a ≤ S64x256.size a := by
  intro a; fin_cases a
  · show b + 1 ≤ 64; omega
  · exact Nat.le_refl 256

theorem inb_len (b : ℕ) : ∀ a, (![b % 64] : Fin 1 → ℕ) a + S1.size a ≤ S64.size a := by
  intro a; fin_cases a
  show b % 64 + 1 ≤ 64; omega

theorem RowIs.of {X18 : S16704x128.Idx → Elt F .f32} {len off : BitVec 32} {row : S1x256.Idx → Elt F .f32} {o : Fin 2 → ℕ}
    (ho : o = ![(Scalar.indexCast off).toNat, 0]) {inb : ∀ a, o a + S256x128.size a ≤ S16704x128.size a}
    (h : row = k0_pay88 (iota .tc S1x256 32 [1] iota_S1x256_d1_w32) len (View.ld X18 (Rect.unit (s := S16704x128) o S256x128.size inb))) :
    RowIs X18 len off row := by
  subst ho; exact ⟨inb, h⟩

/-- The second result's rows at the last point. -/
def L1Is (len : ℕ → BitVec 32) (X18 : S16704x128.Idx → Elt F .f32) (R : S64x256.Idx → Elt F .f32) : Prop :=
  ∀ b (hb : b < 64), RowIs X18 (len b) (offOf len b)
    (View.ld R (Rect.unit (s := S64x256) ![b, 0] S1x256.size (inb_row b hb)))
theorem off_eq_1 (len : ℕ → BitVec 32) : k0_off63 (len 0) = ![(Scalar.indexCast (offOf len 1)).toNat, 0] := rfl
theorem off_eq_2 (len : ℕ → BitVec 32) : k0_off64 (len 0) (len 1) = ![(Scalar.indexCast (offOf len 2)).toNat, 0] := rfl
theorem off_eq_3 (len : ℕ → BitVec 32) : k0_off65 (len 0) (len 1) (len 2) = ![(Scalar.indexCast (offOf len 3)).toNat, 0] := rfl
theorem off_eq_4 (len : ℕ → BitVec 32) : k0_off66 (len 0) (len 1) (len 2) (len 3) = ![(Scalar.indexCast (offOf len 4)).toNat, 0] := rfl
theorem off_eq_5 (len : ℕ → BitVec 32) : k0_off67 (len 0) (len 1) (len 2) (len 3) (len 4) = ![(Scalar.indexCast (offOf len 5)).toNat, 0] := rfl
theorem off_eq_6 (len : ℕ → BitVec 32) : k0_off68 (len 0) (len 1) (len 2) (len 3) (len 4) (len 5) = ![(Scalar.indexCast (offOf len 6)).toNat, 0] := rfl
theorem off_eq_7 (len : ℕ → BitVec 32) : k0_off69 (len 0) (len 1) (len 2) (len 3) (len 4) (len 5) (len 6) = ![(Scalar.indexCast (offOf len 7)).toNat, 0] := rfl
theorem off_eq_8 (len : ℕ → BitVec 32) : k0_off70 (len 0) (len 1) (len 2) (len 3) (len 4) (len 5) (len 6) (len 7) = ![(Scalar.indexCast (offOf len 8)).toNat, 0] := rfl
theorem off_eq_9 (len : ℕ → BitVec 32) : k0_off71 (len 0) (len 1) (len 2) (len 3) (len 4) (len 5) (len 6) (len 7) (len 8) = ![(Scalar.indexCast (offOf len 9)).toNat, 0] := rfl
theorem off_eq_10 (len : ℕ → BitVec 32) : k0_off72 (len 0) (len 1) (len 2) (len 3) (len 4) (len 5) (len 6) (len 7) (len 8) (len 9) = ![(Scalar.indexCast (offOf len 10)).toNat, 0] := rfl
theorem off_eq_11 (len : ℕ → BitVec 32) : k0_off73 (len 0) (len 1) (len 2) (len 3) (len 4) (len 5) (len 6) (len 7) (len 8) (len 9) (len 10) = ![(Scalar.indexCast (offOf len 11)).toNat, 0] := rfl
theorem off_eq_12 (len : ℕ → BitVec 32) : k0_off74 (len 0) (len 1) (len 2) (len 3) (len 4) (len 5) (len 6) (len 7) (len 8) (len 9) (len 10) (len 11) = ![(Scalar.indexCast (offOf len 12)).toNat, 0] := rfl
theorem off_eq_13 (len : ℕ → BitVec 32) : k0_off75 (len 0) (len 1) (len 2) (len 3) (len 4) (len 5) (len 6) (len 7) (len 8) (len 9) (len 10) (len 11) (len 12) = ![(Scalar.indexCast (offOf len 13)).toNat, 0] := rfl
theorem off_eq_14 (len : ℕ → BitVec 32) : k0_off76 (len 0) (len 1) (len 2) (len 3) (len 4) (len 5) (len 6) (len 7) (len 8) (len 9) (len 10) (len 11) (len 12) (len 13) = ![(Scalar.indexCast (offOf len 14)).toNat, 0] := rfl
theorem off_eq_15 (len : ℕ → BitVec 32) : k0_off77 (len 0) (len 1) (len 2) (len 3) (len 4) (len 5) (len 6) (len 7) (len 8) (len 9) (len 10) (len 11) (len 12) (len 13) (len 14) = ![(Scalar.indexCast (offOf len 15)).toNat, 0] := rfl
theorem off_eq_16 (len : ℕ → BitVec 32) : k0_off78 (len 0) (len 1) (len 2) (len 3) (len 4) (len 5) (len 6) (len 7) (len 8) (len 9) (len 10) (len 11) (len 12) (len 13) (len 14) (len 15) = ![(Scalar.indexCast (offOf len 16)).toNat, 0] := rfl
theorem off_eq_17 (len : ℕ → BitVec 32) : k0_off79 (len 0) (len 1) (len 2) (len 3) (len 4) (len 5) (len 6) (len 7) (len 8) (len 9) (len 10) (len 11) (len 12) (len 13) (len 14) (len 15) (len 16) = ![(Scalar.indexCast (offOf len 17)).toNat, 0] := rfl
theorem off_eq_18 (len : ℕ → BitVec 32) : k0_off80 (len 0) (len 1) (len 2) (len 3) (len 4) (len 5) (len 6) (len 7) (len 8) (len 9) (len 10) (len 11) (len 12) (len 13) (len 14) (len 15) (len 16) (len 17) = ![(Scalar.indexCast (offOf len 18)).toNat, 0] := rfl
theorem off_eq_19 (len : ℕ → BitVec 32) : k0_off81 (len 0) (len 1) (len 2) (len 3) (len 4) (len 5) (len 6) (len 7) (len 8) (len 9) (len 10) (len 11) (len 12) (len 13) (len 14) (len 15) (len 16) (len 17) (len 18) = ![(Scalar.indexCast (offOf len 19)).toNat, 0] := rfl
theorem off_eq_20 (len : ℕ → BitVec 32) : k0_off82 (len 0) (len 1) (len 2) (len 3) (len 4) (len 5) (len 6) (len 7) (len 8) (len 9) (len 10) (len 11) (len 12) (len 13) (len 14) (len 15) (len 16) (len 17) (len 18) (len 19) = ![(Scalar.indexCast (offOf len 20)).toNat, 0] := rfl
theorem off_eq_21 (len : ℕ → BitVec 32) : k0_off83 (len 0) (len 1) (len 2) (len 3) (len 4) (len 5) (len 6) (len 7) (len 8) (len 9) (len 10) (len 11) (len 12) (len 13) (len 14) (len 15) (len 16) (len 17) (len 18) (len 19) (len 20) = ![(Scalar.indexCast (offOf len 21)).toNat, 0] := rfl
theorem off_eq_22 (len : ℕ → BitVec 32) : k0_off84 (len 0) (len 1) (len 2) (len 3) (len 4) (len 5) (len 6) (len 7) (len 8) (len 9) (len 10) (len 11) (len 12) (len 13) (len 14) (len 15) (len 16) (len 17) (len 18) (len 19) (len 20) (len 21) = ![(Scalar.indexCast (offOf len 22)).toNat, 0] := rfl
theorem off_eq_23 (len : ℕ → BitVec 32) : k0_off85 (len 0) (len 1) (len 2) (len 3) (len 4) (len 5) (len 6) (len 7) (len 8) (len 9) (len 10) (len 11) (len 12) (len 13) (len 14) (len 15) (len 16) (len 17) (len 18) (len 19) (len 20) (len 21) (len 22) = ![(Scalar.indexCast (offOf len 23)).toNat, 0] := rfl
theorem off_eq_24 (len : ℕ → BitVec 32) : k0_off86 (len 0) (len 1) (len 2) (len 3) (len 4) (len 5) (len 6) (len 7) (len 8) (len 9) (len 10) (len 11) (len 12) (len 13) (len 14) (len 15) (len 16) (len 17) (len 18) (len 19) (len 20) (len 21) (len 22) (len 23) = ![(Scalar.indexCast (offOf len 24)).toNat, 0] := rfl
theorem off_eq_25 (len : ℕ → BitVec 32) : k0_off87 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) = ![(Scalar.indexCast (offOf len 25)).toNat, 0] := rfl
theorem off_eq_26 (len : ℕ → BitVec 32) : k0_off88 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) = ![(Scalar.indexCast (offOf len 26)).toNat, 0] := rfl
theorem off_eq_27 (len : ℕ → BitVec 32) : k0_off89 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) = ![(Scalar.indexCast (offOf len 27)).toNat, 0] := rfl
theorem off_eq_28 (len : ℕ → BitVec 32) : k0_off90 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) = ![(Scalar.indexCast (offOf len 28)).toNat, 0] := rfl
theorem off_eq_29 (len : ℕ → BitVec 32) : k0_off91 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) = ![(Scalar.indexCast (offOf len 29)).toNat, 0] := rfl
theorem off_eq_30 (len : ℕ → BitVec 32) : k0_off92 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) = ![(Scalar.indexCast (offOf len 30)).toNat, 0] := rfl
theorem off_eq_31 (len : ℕ → BitVec 32) : k0_off93 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) = ![(Scalar.indexCast (offOf len 31)).toNat, 0] := rfl
theorem off_eq_32 (len : ℕ → BitVec 32) : k0_off94 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) = ![(Scalar.indexCast (offOf len 32)).toNat, 0] := rfl
theorem off_eq_33 (len : ℕ → BitVec 32) : k0_off95 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) = ![(Scalar.indexCast (offOf len 33)).toNat, 0] := rfl
theorem off_eq_34 (len : ℕ → BitVec 32) : k0_off96 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) = ![(Scalar.indexCast (offOf len 34)).toNat, 0] := rfl
theorem off_eq_35 (len : ℕ → BitVec 32) : k0_off97 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) = ![(Scalar.indexCast (offOf len 35)).toNat, 0] := rfl
theorem off_eq_36 (len : ℕ → BitVec 32) : k0_off98 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) = ![(Scalar.indexCast (offOf len 36)).toNat, 0] := rfl
theorem off_eq_37 (len : ℕ → BitVec 32) : k0_off99 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) = ![(Scalar.indexCast (offOf len 37)).toNat, 0] := rfl
theorem off_eq_38 (len : ℕ → BitVec 32) : k0_off100 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) = ![(Scalar.indexCast (offOf len 38)).toNat, 0] := rfl
theorem off_eq_39 (len : ℕ → BitVec 32) : k0_off101 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) = ![(Scalar.indexCast (offOf len 39)).toNat, 0] := rfl
theorem off_eq_40 (len : ℕ → BitVec 32) : k0_off102 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) (len 39) = ![(Scalar.indexCast (offOf len 40)).toNat, 0] := rfl
theorem off_eq_41 (len : ℕ → BitVec 32) : k0_off103 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) (len 39) (len 40) = ![(Scalar.indexCast (offOf len 41)).toNat, 0] := rfl
theorem off_eq_42 (len : ℕ → BitVec 32) : k0_off104 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) (len 39) (len 40) (len 41) = ![(Scalar.indexCast (offOf len 42)).toNat, 0] := rfl
theorem off_eq_43 (len : ℕ → BitVec 32) : k0_off105 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) (len 39) (len 40) (len 41) (len 42) = ![(Scalar.indexCast (offOf len 43)).toNat, 0] := rfl
theorem off_eq_44 (len : ℕ → BitVec 32) : k0_off106 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) (len 39) (len 40) (len 41) (len 42) (len 43) = ![(Scalar.indexCast (offOf len 44)).toNat, 0] := rfl
theorem off_eq_45 (len : ℕ → BitVec 32) : k0_off107 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) (len 39) (len 40) (len 41) (len 42) (len 43) (len 44) = ![(Scalar.indexCast (offOf len 45)).toNat, 0] := rfl
theorem off_eq_46 (len : ℕ → BitVec 32) : k0_off108 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) (len 39) (len 40) (len 41) (len 42) (len 43) (len 44) (len 45) = ![(Scalar.indexCast (offOf len 46)).toNat, 0] := rfl
theorem off_eq_47 (len : ℕ → BitVec 32) : k0_off109 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) (len 39) (len 40) (len 41) (len 42) (len 43) (len 44) (len 45) (len 46) = ![(Scalar.indexCast (offOf len 47)).toNat, 0] := rfl
theorem off_eq_48 (len : ℕ → BitVec 32) : k0_off110 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) (len 39) (len 40) (len 41) (len 42) (len 43) (len 44) (len 45) (len 46) (len 47) = ![(Scalar.indexCast (offOf len 48)).toNat, 0] := rfl
theorem off_eq_49 (len : ℕ → BitVec 32) : k0_off111 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) (len 39) (len 40) (len 41) (len 42) (len 43) (len 44) (len 45) (len 46) (len 47) (len 48) = ![(Scalar.indexCast (offOf len 49)).toNat, 0] := rfl
theorem off_eq_50 (len : ℕ → BitVec 32) : k0_off112 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) (len 39) (len 40) (len 41) (len 42) (len 43) (len 44) (len 45) (len 46) (len 47) (len 48) (len 49) = ![(Scalar.indexCast (offOf len 50)).toNat, 0] := rfl
theorem off_eq_51 (len : ℕ → BitVec 32) : k0_off113 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) (len 39) (len 40) (len 41) (len 42) (len 43) (len 44) (len 45) (len 46) (len 47) (len 48) (len 49) (len 50) = ![(Scalar.indexCast (offOf len 51)).toNat, 0] := rfl
theorem off_eq_52 (len : ℕ → BitVec 32) : k0_off114 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) (len 39) (len 40) (len 41) (len 42) (len 43) (len 44) (len 45) (len 46) (len 47) (len 48) (len 49) (len 50) (len 51) = ![(Scalar.indexCast (offOf len 52)).toNat, 0] := rfl
theorem off_eq_53 (len : ℕ → BitVec 32) : k0_off115 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) (len 39) (len 40) (len 41) (len 42) (len 43) (len 44) (len 45) (len 46) (len 47) (len 48) (len 49) (len 50) (len 51) (len 52) = ![(Scalar.indexCast (offOf len 53)).toNat, 0] := rfl
theorem off_eq_54 (len : ℕ → BitVec 32) : k0_off116 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) (len 39) (len 40) (len 41) (len 42) (len 43) (len 44) (len 45) (len 46) (len 47) (len 48) (len 49) (len 50) (len 51) (len 52) (len 53) = ![(Scalar.indexCast (offOf len 54)).toNat, 0] := rfl
theorem off_eq_55 (len : ℕ → BitVec 32) : k0_off117 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) (len 39) (len 40) (len 41) (len 42) (len 43) (len 44) (len 45) (len 46) (len 47) (len 48) (len 49) (len 50) (len 51) (len 52) (len 53) (len 54) = ![(Scalar.indexCast (offOf len 55)).toNat, 0] := rfl
theorem off_eq_56 (len : ℕ → BitVec 32) : k0_off118 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) (len 39) (len 40) (len 41) (len 42) (len 43) (len 44) (len 45) (len 46) (len 47) (len 48) (len 49) (len 50) (len 51) (len 52) (len 53) (len 54) (len 55) = ![(Scalar.indexCast (offOf len 56)).toNat, 0] := rfl
theorem off_eq_57 (len : ℕ → BitVec 32) : k0_off119 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) (len 39) (len 40) (len 41) (len 42) (len 43) (len 44) (len 45) (len 46) (len 47) (len 48) (len 49) (len 50) (len 51) (len 52) (len 53) (len 54) (len 55) (len 56) = ![(Scalar.indexCast (offOf len 57)).toNat, 0] := rfl
theorem off_eq_58 (len : ℕ → BitVec 32) : k0_off120 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) (len 39) (len 40) (len 41) (len 42) (len 43) (len 44) (len 45) (len 46) (len 47) (len 48) (len 49) (len 50) (len 51) (len 52) (len 53) (len 54) (len 55) (len 56) (len 57) = ![(Scalar.indexCast (offOf len 58)).toNat, 0] := rfl
theorem off_eq_59 (len : ℕ → BitVec 32) : k0_off121 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) (len 39) (len 40) (len 41) (len 42) (len 43) (len 44) (len 45) (len 46) (len 47) (len 48) (len 49) (len 50) (len 51) (len 52) (len 53) (len 54) (len 55) (len 56) (len 57) (len 58) = ![(Scalar.indexCast (offOf len 59)).toNat, 0] := rfl
theorem off_eq_60 (len : ℕ → BitVec 32) : k0_off122 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) (len 39) (len 40) (len 41) (len 42) (len 43) (len 44) (len 45) (len 46) (len 47) (len 48) (len 49) (len 50) (len 51) (len 52) (len 53) (len 54) (len 55) (len 56) (len 57) (len 58) (len 59) = ![(Scalar.indexCast (offOf len 60)).toNat, 0] := rfl
theorem off_eq_61 (len : ℕ → BitVec 32) : k0_off123 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) (len 39) (len 40) (len 41) (len 42) (len 43) (len 44) (len 45) (len 46) (len 47) (len 48) (len 49) (len 50) (len 51) (len 52) (len 53) (len 54) (len 55) (len 56) (len 57) (len 58) (len 59) (len 60) = ![(Scalar.indexCast (offOf len 61)).toNat, 0] := rfl
theorem off_eq_62 (len : ℕ → BitVec 32) : k0_off124 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) (len 39) (len 40) (len 41) (len 42) (len 43) (len 44) (len 45) (len 46) (len 47) (len 48) (len 49) (len 50) (len 51) (len 52) (len 53) (len 54) (len 55) (len 56) (len 57) (len 58) (len 59) (len 60) (len 61) = ![(Scalar.indexCast (offOf len 62)).toNat, 0] := rfl
theorem off_eq_63 (len : ℕ → BitVec 32) : k0_off125 (len 0) (len 1) (len 2) (len 3) (len 4) (len 5) (len 6) (len 7) (len 8) (len 9) (len 10) (len 11) (len 12) (len 13) (len 14) (len 15) (len 16) (len 17) (len 18) (len 19) (len 20) (len 21) (len 22) (len 23) (len 24) (len 25) (len 26) (len 27) (len 28) (len 29) (len 30) (len 31) (len 32) (len 33) (len 34) (len 35) (len 36) (len 37) (len 38) (len 39) (len 40) (len 41) (len 42) (len 43) (len 44) (len 45) (len 46) (len 47) (len 48) (len 49) (len 50) (len 51) (len 52) (len 53) (len 54) (len 55) (len 56) (len 57) (len 58) (len 59) (len 60) (len 61) (len 62) = ![(Scalar.indexCast (offOf len 63)).toNat, 0] := rfl

/-- The first rows are there after some of the stores. -/
def L1UpTo (len : ℕ → BitVec 32) (X18 : S16704x128.Idx → Elt F .f32) (R : S64x256.Idx → Elt F .f32) (n : ℕ) : Prop :=
  ∀ b (hb : b < 64), b < n → RowIs X18 (len b) (offOf len b)
    (View.ld R (Rect.unit (s := S64x256) ![b, 0] S1x256.size (inb_row b hb)))

theorem l1_nil (len : ℕ → BitVec 32) (X18 : S16704x128.Idx → Elt F .f32) (R : S64x256.Idx → Elt F .f32) : L1UpTo len X18 R 0 :=
  fun _ _ h => absurd h (Nat.not_lt_zero _)

/-- A further row's store adds that row. -/
theorem l1_cons {κ : Kind} {sp : Space} (n : ℕ) {len : ℕ → BitVec 32} {X18 : S16704x128.Idx → Elt F .f32} {v : View sig κ sp S64x256 .f32} {f : v.ty.Contents (Elt F)}
    {L : List (View.Piece (Elt F) S64x256 .f32)} {inb : ∀ a, (![n, 0] : Fin 2 → ℕ) a + S1x256.size a ≤ S64x256.size a} {w : S1x256.Idx → Elt F .f32}
    (h : L1UpTo len X18 (v.read (Elt F) (v.writes (Elt F) f L)) n) (hw : RowIs X18 (len n) (offOf len n) w) :
    L1UpTo len X18 (v.read (Elt F) (v.writes (Elt F) f ((⟨Rect.unit ![n, 0] S1x256.size inb, w⟩ : View.Piece (Elt F) S64x256 .f32) :: L))) (n + 1) := by
  intro b hb hn
  by_cases e : b = n
  · subst e
    rw [ld_writes_hit]; exact hw
  · rw [ld_writes_skip _ _ _ _ _ _ (decide_eq_true ⟨0, Or.inr (Or.inr (Or.inr (show b + 1 * (1 - 1) < n by omega)))⟩)]
    exact h b hb (by omega)

theorem l1_all {len : ℕ → BitVec 32} {X18 : S16704x128.Idx → Elt F .f32} {R : S64x256.Idx → Elt F .f32} (h : L1UpTo len X18 R 64) : L1Is len X18 R :=
  fun b hb => h b hb hb

end Cert.Proof.KernelIdeal
-- ==== Proof.VHeadA.lean ====
module

public import proofs.«01_k».proof.Proof.ILoops
public import proofs.«01_k».proof.Proof.ICval

@[expose] public section

set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option backward.proofsInPublic true in
set_option maxHeartbeats 20000000 in
theorem headA (c : Dev nD) (b : grid0.Bounds) (i : grid0.Static) (arg0 : BitVec 32) (arg2 : Memref sig .tc .smem S1 .i32) (harg2 : arg2.IsWhole) (arg3 : Memref sig .tc .smem S64 .i32) (harg3 : arg3.IsWhole) (arg4 : Memref sig .tc .smem S6144 .i32) (harg4 : arg4.IsWhole) (arg5 : Memref sig .tc .vmem S928x3584 .bf16) (harg5 : arg5.IsWhole) (arg6 : Memref sig .tc .vmem S928x128 .f32) (harg6 : arg6.IsWhole) (arg7 : Memref sig .tc .vmem S1024x3584 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S64x128 .i32) (harg10 : arg10.IsWhole) (arg11 : Memref sig .tc .vmem S64x1024 .bf16) (harg11 : arg11.IsWhole) (arg12 : Memref sig .tc .vmem S64x256 .f32) (harg12 : arg12.IsWhole) (arg13 : Memref sig .tc .vmem S5x464x1792 .bf16) (harg13 : arg13.IsWhole) (arg14 : Memref sig .tc .vmem S512x1792 .bf16) (harg14 : arg14.IsWhole) (arg15 : Memref sig .tc .vmem S2x2x464x512 .f32) (harg15 : arg15.IsWhole) (arg16 : Memref sig .tc .vmem S65x8x1024 .f32) (harg16 : arg16.IsWhole) (arg17 : Memref sig .tc .vmem S30x64x1024 .f32) (harg17 : arg17.IsWhole) (arg18 : Memref sig .tc .vmem S16704x128 .f32) (harg18 : arg18.IsWhole)  (T2 : Buf (Elt F) (arg2.view.loc (c : Thread nD τ))) (T3 : Buf (Elt F) (arg3.view.loc (c : Thread nD τ))) (T4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f12 : Buf (Elt F) (arg12.view.loc (c : Thread nD τ))) (k0_hw1 : k0_chk1 i arg0)
    (hT1 : ∀ k : Fin k0_t1_loop.trips, k0_chk2 (arg4.view.readAt (Elt F) (Rect.unit (s := S6144) (k0_off2 arg0 k) S1.size (k0_off2_inb i arg0 k0_hw1 k)).toLoadRect T4 (Shape.Idx.first (numel1_S1.symm ▸ Nat.one_pos)))) (hT2 : ∀ k : Fin k0_t2_loop.trips, k0_chk3 (arg4.view.readAt (Elt F) (Rect.unit (s := S6144) (k0_off24 arg0 k) S1.size (k0_off24_inb i arg0 k0_hw1 k)).toLoadRect T4 (Shape.Idx.first (numel1_S1.symm ▸ Nat.one_pos)))) (hw4 : k0_chk4 (arg4.view.readAt (Elt F) (Rect.unit (s := S6144) (k0_off46 arg0) S1.size (k0_off46_inb i arg0 k0_hw1)).toLoadRect T4 (Shape.Idx.first (numel1_S1.symm ▸ Nat.one_pos))))
    (hc1 : (k0_cond1 i = 1#1)) (hc2 : (Scalar.cmpi .ne (Scalar.extui (Scalar.andi (Scalar.cmpi .eq arg0 0#32) (Scalar.cmpi .eq (BitVec.ofNat 32 (i 1).val) 0#32))) 0#32 = 1#1)) (hc3 : ¬(k0_cond3 i arg0 (arg2.view.readAt (Elt F) (Rect.unit (s := S1) ![0] S1.size inb_S1_S1_0).toLoadRect T2 (Shape.Idx.first (numel1_S1.symm ▸ Nat.one_pos))) = 1#1))  (K : PUnit → sProp 𝕄) :
    iprop((arg2.view.loc (c : Thread nD τ) ↦[arg2.view.set]{fullShare.right} T2) ∗ (arg3.view.loc (c : Thread nD τ) ↦[arg3.view.set]{fullShare.right} T3) ∗ (arg4.view.loc (c : Thread nD τ) ↦[arg4.view.set]{fullShare.right} T4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f, (arg11.view.loc (c : Thread nD τ) ↦[arg11.view.set]{fullShare} f)) ∗ (arg12.view.loc (c : Thread nD τ) ↦[arg12.view.set]{fullShare} f12) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (iprop((arg2.view.loc (c : Thread nD τ) ↦[arg2.view.set]{fullShare.right} T2) ∗ (arg3.view.loc (c : Thread nD τ) ↦[arg3.view.set]{fullShare.right} T3) ∗ (arg4.view.loc (c : Thread nD τ) ↦[arg4.view.set]{fullShare.right} T4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f, (arg11.view.loc (c : Thread nD τ) ↦[arg11.view.set]{fullShare} f)) ∗ (arg12.view.loc (c : Thread nD τ) ↦[arg12.view.set]{fullShare} f12) ∗ (∃ f, (arg14.view.loc (c : Thread nD τ) ↦[arg14.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f13' f15 f18', ⌜SIs (arg5.view.read (Elt F) f5) (arg13.view.read (Elt F) f13') ∧ arg18.view.read (Elt F) f18' = k0_pay163 ∧ CIs i (arg5.view.read (Elt F) f5) (arg7.view.read (Elt F) f7) (arg13.view.read (Elt F) f13') (arg15.view.read (Elt F) f15)⌝ ∗  (arg13.view.loc (c : Thread nD τ) ↦[arg13.view.set]{fullShare} f13') ∗ (arg15.view.loc (c : Thread nD τ) ↦[arg15.view.set]{fullShare} f15) ∗ (arg18.view.loc (c : Thread nD τ) ↦[arg18.view.set]{fullShare} (tokAt2 c i arg0 arg6 arg15 arg18 k0_hw1 (k0_pay198 (BitVec.ofNat 32 (i 1).val)) (k0_pay199 (BitVec.ofNat 32 (i 1).val) (arg8.view.readAt (Elt F) (Rect.unit (s := S1x1024) ![0, 0] S1x1024.size inb_S1x1024_S1x1024_0_0).toLoadRect f8)) (k0_pay200 (BitVec.ofNat 32 (i 1).val) (arg9.view.readAt (Elt F) (Rect.unit (s := S1x1024) ![0, 0] S1x1024.size inb_S1x1024_S1x1024_0_0).toLoadRect f9)) f6 f15 (tokAt1 c i arg0 arg6 arg15 arg18 k0_hw1 (BitVec.ofNat 32 (i 1).val) (arg8.view.readAt (Elt F) (Rect.unit (s := S1x1024) ![0, 0] S1x1024.size inb_S1x1024_S1x1024_0_0).toLoadRect f8) (arg9.view.readAt (Elt F) (Rect.unit (s := S1x1024) ![0, 0] S1x1024.size inb_S1x1024_S1x1024_0_0).toLoadRect f9) f6 f15 f18' 58) 58)))) -∗ K ⟨⟩))
      ⊢ wp frame (wpE (defs₀ (F := F)) Variants.none c none) Set.univ (cc0_head b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_head_eq_skeleton]; unfold cc0_head_skel
  iintro ⟨H2, H3, H4, H5, H6, H7, H8, H9, H10, ⟨%f11, H11⟩, H12, ⟨%f13, H13⟩, ⟨%f14, H14⟩, ⟨%f15, H15⟩, ⟨%f16, H16⟩, ⟨%f17, H17⟩, ⟨%f18, H18⟩, Hk⟩
  sl_exec_parts (disch := first | assumption)
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H14]; · iexists _; iexact H14
  isplitl [H16]; · iexists _; iexact H16
  isplitl [H17]; · iexists _; iexact H17
  iexists _, _, _
  isplitr
  rotate_left
  · isplitl [H13]; · iexact H13
    isplitl [H15]; · iexact H15
    iexact H18
  · ipureintro
    sl_unfold_words
    refine ⟨?_, read_writes_fill _ _ _ (by decide) _ _ _, ?_⟩
    all_goals simp (disch := decide) only [SIs, CIs, ld_writes, View.readCov_cons_toLoadRect, ↓View.readCov_skip]
    · exact ⟨rfl, rfl, rfl, rfl, rfl⟩
    exact ⟨rfl, rfl, rfl, rfl⟩

end Cert.Proof.KernelIdeal
-- ==== Proof.VHeadB.lean ====
module

public import proofs.«01_k».proof.Proof.ILoops
public import proofs.«01_k».proof.Proof.ICval

@[expose] public section

set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option backward.proofsInPublic true in
set_option maxHeartbeats 20000000 in
theorem headB (c : Dev nD) (b : grid0.Bounds) (i : grid0.Static) (arg0 : BitVec 32) (arg2 : Memref sig .tc .smem S1 .i32) (harg2 : arg2.IsWhole) (arg3 : Memref sig .tc .smem S64 .i32) (harg3 : arg3.IsWhole) (arg4 : Memref sig .tc .smem S6144 .i32) (harg4 : arg4.IsWhole) (arg5 : Memref sig .tc .vmem S928x3584 .bf16) (harg5 : arg5.IsWhole) (arg6 : Memref sig .tc .vmem S928x128 .f32) (harg6 : arg6.IsWhole) (arg7 : Memref sig .tc .vmem S1024x3584 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S64x128 .i32) (harg10 : arg10.IsWhole) (arg11 : Memref sig .tc .vmem S64x1024 .bf16) (harg11 : arg11.IsWhole) (arg12 : Memref sig .tc .vmem S64x256 .f32) (harg12 : arg12.IsWhole) (arg13 : Memref sig .tc .vmem S5x464x1792 .bf16) (harg13 : arg13.IsWhole) (arg14 : Memref sig .tc .vmem S512x1792 .bf16) (harg14 : arg14.IsWhole) (arg15 : Memref sig .tc .vmem S2x2x464x512 .f32) (harg15 : arg15.IsWhole) (arg16 : Memref sig .tc .vmem S65x8x1024 .f32) (harg16 : arg16.IsWhole) (arg17 : Memref sig .tc .vmem S30x64x1024 .f32) (harg17 : arg17.IsWhole) (arg18 : Memref sig .tc .vmem S16704x128 .f32) (harg18 : arg18.IsWhole)  (T2 : Buf (Elt F) (arg2.view.loc (c : Thread nD τ))) (T3 : Buf (Elt F) (arg3.view.loc (c : Thread nD τ))) (T4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f12 : Buf (Elt F) (arg12.view.loc (c : Thread nD τ))) (f18 : Buf (Elt F) (arg18.view.loc (c : Thread nD τ))) (k0_hw1 : k0_chk1 i arg0)
    (hT1 : ∀ k : Fin k0_t1_loop.trips, k0_chk2 (arg4.view.readAt (Elt F) (Rect.unit (s := S6144) (k0_off2 arg0 k) S1.size (k0_off2_inb i arg0 k0_hw1 k)).toLoadRect T4 (Shape.Idx.first (numel1_S1.symm ▸ Nat.one_pos)))) (hT2 : ∀ k : Fin k0_t2_loop.trips, k0_chk3 (arg4.view.readAt (Elt F) (Rect.unit (s := S6144) (k0_off24 arg0 k) S1.size (k0_off24_inb i arg0 k0_hw1 k)).toLoadRect T4 (Shape.Idx.first (numel1_S1.symm ▸ Nat.one_pos)))) (hw4 : k0_chk4 (arg4.view.readAt (Elt F) (Rect.unit (s := S6144) (k0_off46 arg0) S1.size (k0_off46_inb i arg0 k0_hw1)).toLoadRect T4 (Shape.Idx.first (numel1_S1.symm ▸ Nat.one_pos))))
    (hc1 : (k0_cond1 i = 1#1)) (hc2 : ¬(Scalar.cmpi .ne (Scalar.extui (Scalar.andi (Scalar.cmpi .eq arg0 0#32) (Scalar.cmpi .eq (BitVec.ofNat 32 (i 1).val) 0#32))) 0#32 = 1#1)) (hc3 : ¬(k0_cond3 i arg0 (arg2.view.readAt (Elt F) (Rect.unit (s := S1) ![0] S1.size inb_S1_S1_0).toLoadRect T2 (Shape.Idx.first (numel1_S1.symm ▸ Nat.one_pos))) = 1#1))  (K : PUnit → sProp 𝕄) :
    iprop((arg2.view.loc (c : Thread nD τ) ↦[arg2.view.set]{fullShare.right} T2) ∗ (arg3.view.loc (c : Thread nD τ) ↦[arg3.view.set]{fullShare.right} T3) ∗ (arg4.view.loc (c : Thread nD τ) ↦[arg4.view.set]{fullShare.right} T4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f, (arg11.view.loc (c : Thread nD τ) ↦[arg11.view.set]{fullShare} f)) ∗ (arg12.view.loc (c : Thread nD τ) ↦[arg12.view.set]{fullShare} f12) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (arg18.view.loc (c : Thread nD τ) ↦[arg18.view.set]{fullShare} f18) ∗ (iprop((arg2.view.loc (c : Thread nD τ) ↦[arg2.view.set]{fullShare.right} T2) ∗ (arg3.view.loc (c : Thread nD τ) ↦[arg3.view.set]{fullShare.right} T3) ∗ (arg4.view.loc (c : Thread nD τ) ↦[arg4.view.set]{fullShare.right} T4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f, (arg11.view.loc (c : Thread nD τ) ↦[arg11.view.set]{fullShare} f)) ∗ (arg12.view.loc (c : Thread nD τ) ↦[arg12.view.set]{fullShare} f12) ∗ (∃ f, (arg14.view.loc (c : Thread nD τ) ↦[arg14.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f13' f15, ⌜SIs (arg5.view.read (Elt F) f5) (arg13.view.read (Elt F) f13') ∧ CIs i (arg5.view.read (Elt F) f5) (arg7.view.read (Elt F) f7) (arg13.view.read (Elt F) f13') (arg15.view.read (Elt F) f15)⌝ ∗  (arg13.view.loc (c : Thread nD τ) ↦[arg13.view.set]{fullShare} f13') ∗ (arg15.view.loc (c : Thread nD τ) ↦[arg15.view.set]{fullShare} f15) ∗ (arg18.view.loc (c : Thread nD τ) ↦[arg18.view.set]{fullShare} (tokAt2 c i arg0 arg6 arg15 arg18 k0_hw1 (k0_pay198 (BitVec.ofNat 32 (i 1).val)) (k0_pay199 (BitVec.ofNat 32 (i 1).val) (arg8.view.readAt (Elt F) (Rect.unit (s := S1x1024) ![0, 0] S1x1024.size inb_S1x1024_S1x1024_0_0).toLoadRect f8)) (k0_pay200 (BitVec.ofNat 32 (i 1).val) (arg9.view.readAt (Elt F) (Rect.unit (s := S1x1024) ![0, 0] S1x1024.size inb_S1x1024_S1x1024_0_0).toLoadRect f9)) f6 f15 (tokAt1 c i arg0 arg6 arg15 arg18 k0_hw1 (BitVec.ofNat 32 (i 1).val) (arg8.view.readAt (Elt F) (Rect.unit (s := S1x1024) ![0, 0] S1x1024.size inb_S1x1024_S1x1024_0_0).toLoadRect f8) (arg9.view.readAt (Elt F) (Rect.unit (s := S1x1024) ![0, 0] S1x1024.size inb_S1x1024_S1x1024_0_0).toLoadRect f9) f6 f15 (arg18.view.writes (Elt F) f18 [⟨Rect.unit (s := S16704x128) (k0_off1 arg0) S928x128.size (k0_off1_inb i arg0 k0_hw1 hc1), k0_pay161⟩]) 58) 58)))) -∗ K ⟨⟩))
      ⊢ wp frame (wpE (defs₀ (F := F)) Variants.none c none) Set.univ (cc0_head b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_head_eq_skeleton]; unfold cc0_head_skel
  iintro ⟨H2, H3, H4, H5, H6, H7, H8, H9, H10, ⟨%f11, H11⟩, H12, ⟨%f13, H13⟩, ⟨%f14, H14⟩, ⟨%f15, H15⟩, ⟨%f16, H16⟩, ⟨%f17, H17⟩, H18, Hk⟩
  sl_exec_parts (disch := first | assumption)
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H14]; · iexists _; iexact H14
  isplitl [H16]; · iexists _; iexact H16
  isplitl [H17]; · iexists _; iexact H17
  iexists _, _
  isplitr
  rotate_left
  · isplitl [H13]; · iexact H13
    isplitl [H15]; · iexact H15
    iexact H18
  · ipureintro
    sl_unfold_words
    refine ⟨?_, ?_⟩
    all_goals simp (disch := decide) only [SIs, CIs, ld_writes, View.readCov_cons_toLoadRect, ↓View.readCov_skip]
    · exact ⟨rfl, rfl, rfl, rfl, rfl⟩
    exact ⟨rfl, rfl, rfl, rfl⟩

end Cert.Proof.KernelIdeal
-- ==== Proof.VHeadC.lean ====
module

public import proofs.«01_k».proof.Proof.ILoops
public import proofs.«01_k».proof.Proof.ICval

@[expose] public section

set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option backward.proofsInPublic true in
set_option maxHeartbeats 20000000 in
theorem headC (c : Dev nD) (b : grid0.Bounds) (i : grid0.Static) (arg0 : BitVec 32) (arg2 : Memref sig .tc .smem S1 .i32) (harg2 : arg2.IsWhole) (arg3 : Memref sig .tc .smem S64 .i32) (harg3 : arg3.IsWhole) (arg4 : Memref sig .tc .smem S6144 .i32) (harg4 : arg4.IsWhole) (arg5 : Memref sig .tc .vmem S928x3584 .bf16) (harg5 : arg5.IsWhole) (arg6 : Memref sig .tc .vmem S928x128 .f32) (harg6 : arg6.IsWhole) (arg7 : Memref sig .tc .vmem S1024x3584 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S64x128 .i32) (harg10 : arg10.IsWhole) (arg11 : Memref sig .tc .vmem S64x1024 .bf16) (harg11 : arg11.IsWhole) (arg12 : Memref sig .tc .vmem S64x256 .f32) (harg12 : arg12.IsWhole) (arg13 : Memref sig .tc .vmem S5x464x1792 .bf16) (harg13 : arg13.IsWhole) (arg14 : Memref sig .tc .vmem S512x1792 .bf16) (harg14 : arg14.IsWhole) (arg15 : Memref sig .tc .vmem S2x2x464x512 .f32) (harg15 : arg15.IsWhole) (arg16 : Memref sig .tc .vmem S65x8x1024 .f32) (harg16 : arg16.IsWhole) (arg17 : Memref sig .tc .vmem S30x64x1024 .f32) (harg17 : arg17.IsWhole) (arg18 : Memref sig .tc .vmem S16704x128 .f32) (harg18 : arg18.IsWhole)  (T2 : Buf (Elt F) (arg2.view.loc (c : Thread nD τ))) (T3 : Buf (Elt F) (arg3.view.loc (c : Thread nD τ))) (T4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f12 : Buf (Elt F) (arg12.view.loc (c : Thread nD τ))) (f13 : Buf (Elt F) (arg13.view.loc (c : Thread nD τ))) (f18 : Buf (Elt F) (arg18.view.loc (c : Thread nD τ))) (k0_hw1 : k0_chk1 i arg0)
    (hT1 : ∀ k : Fin k0_t1_loop.trips, k0_chk2 (arg4.view.readAt (Elt F) (Rect.unit (s := S6144) (k0_off2 arg0 k) S1.size (k0_off2_inb i arg0 k0_hw1 k)).toLoadRect T4 (Shape.Idx.first (numel1_S1.symm ▸ Nat.one_pos)))) (hT2 : ∀ k : Fin k0_t2_loop.trips, k0_chk3 (arg4.view.readAt (Elt F) (Rect.unit (s := S6144) (k0_off24 arg0 k) S1.size (k0_off24_inb i arg0 k0_hw1 k)).toLoadRect T4 (Shape.Idx.first (numel1_S1.symm ▸ Nat.one_pos)))) (hw4 : k0_chk4 (arg4.view.readAt (Elt F) (Rect.unit (s := S6144) (k0_off46 arg0) S1.size (k0_off46_inb i arg0 k0_hw1)).toLoadRect T4 (Shape.Idx.first (numel1_S1.symm ▸ Nat.one_pos))))
    (hc1 : ¬(k0_cond1 i = 1#1)) (hc2 : ¬(Scalar.cmpi .ne (Scalar.extui (Scalar.andi (Scalar.cmpi .eq arg0 0#32) (Scalar.cmpi .eq (BitVec.ofNat 32 (i 1).val) 0#32))) 0#32 = 1#1)) (hc3 : ¬(k0_cond3 i arg0 (arg2.view.readAt (Elt F) (Rect.unit (s := S1) ![0] S1.size inb_S1_S1_0).toLoadRect T2 (Shape.Idx.first (numel1_S1.symm ▸ Nat.one_pos))) = 1#1))  (K : PUnit → sProp 𝕄) :
    iprop((arg2.view.loc (c : Thread nD τ) ↦[arg2.view.set]{fullShare.right} T2) ∗ (arg3.view.loc (c : Thread nD τ) ↦[arg3.view.set]{fullShare.right} T3) ∗ (arg4.view.loc (c : Thread nD τ) ↦[arg4.view.set]{fullShare.right} T4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f, (arg11.view.loc (c : Thread nD τ) ↦[arg11.view.set]{fullShare} f)) ∗ (arg12.view.loc (c : Thread nD τ) ↦[arg12.view.set]{fullShare} f12) ∗ (arg13.view.loc (c : Thread nD τ) ↦[arg13.view.set]{fullShare} f13) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (arg18.view.loc (c : Thread nD τ) ↦[arg18.view.set]{fullShare} f18) ∗ (iprop((arg2.view.loc (c : Thread nD τ) ↦[arg2.view.set]{fullShare.right} T2) ∗ (arg3.view.loc (c : Thread nD τ) ↦[arg3.view.set]{fullShare.right} T3) ∗ (arg4.view.loc (c : Thread nD τ) ↦[arg4.view.set]{fullShare.right} T4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f, (arg11.view.loc (c : Thread nD τ) ↦[arg11.view.set]{fullShare} f)) ∗ (arg12.view.loc (c : Thread nD τ) ↦[arg12.view.set]{fullShare} f12) ∗ (∃ f, (arg14.view.loc (c : Thread nD τ) ↦[arg14.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f15, ⌜CIs i (arg5.view.read (Elt F) f5) (arg7.view.read (Elt F) f7) (arg13.view.read (Elt F) f13) (arg15.view.read (Elt F) f15)⌝ ∗ (arg13.view.loc (c : Thread nD τ) ↦[arg13.view.set]{fullShare} f13) ∗ (arg15.view.loc (c : Thread nD τ) ↦[arg15.view.set]{fullShare} f15) ∗ (arg18.view.loc (c : Thread nD τ) ↦[arg18.view.set]{fullShare} (tokAt2 c i arg0 arg6 arg15 arg18 k0_hw1 (k0_pay198 (BitVec.ofNat 32 (i 1).val)) (k0_pay199 (BitVec.ofNat 32 (i 1).val) (arg8.view.readAt (Elt F) (Rect.unit (s := S1x1024) ![0, 0] S1x1024.size inb_S1x1024_S1x1024_0_0).toLoadRect f8)) (k0_pay200 (BitVec.ofNat 32 (i 1).val) (arg9.view.readAt (Elt F) (Rect.unit (s := S1x1024) ![0, 0] S1x1024.size inb_S1x1024_S1x1024_0_0).toLoadRect f9)) f6 f15 (tokAt1 c i arg0 arg6 arg15 arg18 k0_hw1 (BitVec.ofNat 32 (i 1).val) (arg8.view.readAt (Elt F) (Rect.unit (s := S1x1024) ![0, 0] S1x1024.size inb_S1x1024_S1x1024_0_0).toLoadRect f8) (arg9.view.readAt (Elt F) (Rect.unit (s := S1x1024) ![0, 0] S1x1024.size inb_S1x1024_S1x1024_0_0).toLoadRect f9) f6 f15 f18 58) 58)))) -∗ K ⟨⟩))
      ⊢ wp frame (wpE (defs₀ (F := F)) Variants.none c none) Set.univ (cc0_head b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_head_eq_skeleton]; unfold cc0_head_skel
  iintro ⟨H2, H3, H4, H5, H6, H7, H8, H9, H10, ⟨%f11, H11⟩, H12, H13, ⟨%f14, H14⟩, ⟨%f15, H15⟩, ⟨%f16, H16⟩, ⟨%f17, H17⟩, H18, Hk⟩
  sl_exec_parts (disch := first | assumption)
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H14]; · iexists _; iexact H14
  isplitl [H16]; · iexists _; iexact H16
  isplitl [H17]; · iexists _; iexact H17
  iexists _
  isplitr
  rotate_left
  · isplitl [H13]; · iexact H13
    isplitl [H15]; · iexact H15
    iexact H18
  · ipureintro
    sl_unfold_words
    simp (disch := decide) only [CIs, ld_writes, View.readCov_cons_toLoadRect, ↓View.readCov_skip]
    exact ⟨rfl, rfl, rfl, rfl⟩

end Cert.Proof.KernelIdeal
-- ==== Proof.IOff.lean ====
module

public import proofs.«01_k».proof.Proof.ILoops

@[expose] public section

set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The rows the final gather reads start inside the buffer -/

/-- The word `o` is a row number of the first `k` segments. -/
def Off (k : ℕ) (o : BitVec 32) : Prop := o.toNat ≤ 256 * k

theorem off_step {k : ℕ} {o w : BitVec 32} (ho : Off k o) (hk : k ≤ 63) (hw : w.toInt ≤ 256) :
    Off (k + 1) (Scalar.addi o (Scalar.select (Scalar.cmpi .sgt w 0#32) (Scalar.maxsi w 8#32) 0#32)) := by
  have hs : (Scalar.select (Scalar.cmpi .sgt w 0#32) (Scalar.maxsi w 8#32) 0#32).toNat ≤ 256 := by
    have h8 : (8#32 : BitVec 32).toInt = 8 := by decide
    have hx := w.isLt
    have ht := BitVec.toInt_eq_toNat_cond w
    simp only [Scalar.select, Scalar.cmpi, Scalar.maxsi, IntOp.cmpi, IntOp.maxsi, BitVec.slt, h8]
    split at ht <;> split_ifs <;> simp_all <;> omega
  unfold Off at *
  show (o + Scalar.select (Scalar.cmpi .sgt w 0#32) (Scalar.maxsi w 8#32) 0#32).toNat ≤ _
  rw [BitVec.toNat_add]
  have := Nat.mod_le (o.toNat + (Scalar.select (Scalar.cmpi .sgt w 0#32) (Scalar.maxsi w 8#32) 0#32).toNat) (2 ^ 32)
  omega

theorem off_ok {k : ℕ} {o : BitVec 32} (ho : Off k o) (hk : k ≤ 63) : ∀ a, (![o.toNat, 0] : Fin 2 → ℕ) a + S256x128.size a ≤ S16704x128.size a := by
  intro a
  unfold Off at ho
  fin_cases a
  · show o.toNat + 256 ≤ 16704
    omega
  · show 0 + 128 ≤ 128
    omega

set_option maxHeartbeats 4000000 in
theorem chks_unpack (i : grid0.Static) (arg0 v : BitVec 32)
    (w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 w55 w56 w57 w58 w59 w60 w61 w62 : BitVec 32)
    (h0 : w0.toInt ≤ 256) (h1 : w1.toInt ≤ 256) (h2 : w2.toInt ≤ 256) (h3 : w3.toInt ≤ 256) (h4 : w4.toInt ≤ 256) (h5 : w5.toInt ≤ 256) (h6 : w6.toInt ≤ 256) (h7 : w7.toInt ≤ 256) (h8 : w8.toInt ≤ 256) (h9 : w9.toInt ≤ 256) (h10 : w10.toInt ≤ 256) (h11 : w11.toInt ≤ 256) (h12 : w12.toInt ≤ 256) (h13 : w13.toInt ≤ 256) (h14 : w14.toInt ≤ 256) (h15 : w15.toInt ≤ 256) (h16 : w16.toInt ≤ 256) (h17 : w17.toInt ≤ 256) (h18 : w18.toInt ≤ 256) (h19 : w19.toInt ≤ 256) (h20 : w20.toInt ≤ 256) (h21 : w21.toInt ≤ 256) (h22 : w22.toInt ≤ 256) (h23 : w23.toInt ≤ 256) (h24 : w24.toInt ≤ 256) (h25 : w25.toInt ≤ 256) (h26 : w26.toInt ≤ 256) (h27 : w27.toInt ≤ 256) (h28 : w28.toInt ≤ 256) (h29 : w29.toInt ≤ 256) (h30 : w30.toInt ≤ 256) (h31 : w31.toInt ≤ 256) (h32 : w32.toInt ≤ 256) (h33 : w33.toInt ≤ 256) (h34 : w34.toInt ≤ 256) (h35 : w35.toInt ≤ 256) (h36 : w36.toInt ≤ 256) (h37 : w37.toInt ≤ 256) (h38 : w38.toInt ≤ 256) (h39 : w39.toInt ≤ 256) (h40 : w40.toInt ≤ 256) (h41 : w41.toInt ≤ 256) (h42 : w42.toInt ≤ 256) (h43 : w43.toInt ≤ 256) (h44 : w44.toInt ≤ 256) (h45 : w45.toInt ≤ 256) (h46 : w46.toInt ≤ 256) (h47 : w47.toInt ≤ 256) (h48 : w48.toInt ≤ 256) (h49 : w49.toInt ≤ 256) (h50 : w50.toInt ≤ 256) (h51 : w51.toInt ≤ 256) (h52 : w52.toInt ≤ 256) (h53 : w53.toInt ≤ 256) (h54 : w54.toInt ≤ 256) (h55 : w55.toInt ≤ 256) (h56 : w56.toInt ≤ 256) (h57 : w57.toInt ≤ 256) (h58 : w58.toInt ≤ 256) (h59 : w59.toInt ≤ 256) (h60 : w60.toInt ≤ 256) (h61 : w61.toInt ≤ 256) (h62 : w62.toInt ≤ 256) :
    k0_chk5 i arg0 v w0 ∧ k0_chk6 i arg0 v w0 w1 ∧ k0_chk7 i arg0 v w0 w1 w2 ∧ k0_chk8 i arg0 v w0 w1 w2 w3 ∧ k0_chk9 i arg0 v w0 w1 w2 w3 w4 ∧ k0_chk10 i arg0 v w0 w1 w2 w3 w4 w5 ∧ k0_chk11 i arg0 v w0 w1 w2 w3 w4 w5 w6 ∧ k0_chk12 i arg0 v w0 w1 w2 w3 w4 w5 w6 w7 ∧ k0_chk13 i arg0 v w0 w1 w2 w3 w4 w5 w6 w7 w8 ∧ k0_chk14 i arg0 v w0 w1 w2 w3 w4 w5 w6 w7 w8 w9 ∧ k0_chk15 i arg0 v w0 w1 w2 w3 w4 w5 w6 w7 w8 w9 w10 ∧ k0_chk16 i arg0 v w0 w1 w2 w3 w4 w5 w6 w7 w8 w9 w10 w11 ∧ k0_chk17 i arg0 v w0 w1 w2 w3 w4 w5 w6 w7 w8 w9 w10 w11 w12 ∧ k0_chk18 i arg0 v w0 w1 w2 w3 w4 w5 w6 w7 w8 w9 w10 w11 w12 w13 ∧ k0_chk19 i arg0 v w0 w1 w2 w3 w4 w5 w6 w7 w8 w9 w10 w11 w12 w13 w14 ∧ k0_chk20 i arg0 v w0 w1 w2 w3 w4 w5 w6 w7 w8 w9 w10 w11 w12 w13 w14 w15 ∧ k0_chk21 i arg0 v w0 w1 w2 w3 w4 w5 w6 w7 w8 w9 w10 w11 w12 w13 w14 w15 w16 ∧ k0_chk22 i arg0 v w0 w1 w2 w3 w4 w5 w6 w7 w8 w9 w10 w11 w12 w13 w14 w15 w16 w17 ∧ k0_chk23 i arg0 v w0 w1 w2 w3 w4 w5 w6 w7 w8 w9 w10 w11 w12 w13 w14 w15 w16 w17 w18 ∧ k0_chk24 i arg0 v w0 w1 w2 w3 w4 w5 w6 w7 w8 w9 w10 w11 w12 w13 w14 w15 w16 w17 w18 w19 ∧ k0_chk25 i arg0 v w0 w1 w2 w3 w4 w5 w6 w7 w8 w9 w10 w11 w12 w13 w14 w15 w16 w17 w18 w19 w20 ∧ k0_chk26 i arg0 v w0 w1 w2 w3 w4 w5 w6 w7 w8 w9 w10 w11 w12 w13 w14 w15 w16 w17 w18 w19 w20 w21 ∧ k0_chk27 i arg0 v w0 w1 w2 w3 w4 w5 w6 w7 w8 w9 w10 w11 w12 w13 w14 w15 w16 w17 w18 w19 w20 w21 w22 ∧ k0_chk28 i arg0 v w0 w1 w2 w3 w4 w5 w6 w7 w8 w9 w10 w11 w12 w13 w14 w15 w16 w17 w18 w19 w20 w21 w22 w23 ∧ k0_chk29 i arg0 v w0 w1 w2 w3 w4 w5 w6 w7 w8 w9 w10 w11 w12 w13 w14 w15 w16 w17 w18 w19 w20 w21 w22 w23 w24 ∧ k0_chk30 i arg0 v w0 w1 w2 w3 w4 w5 w6 w7 w8 w9 w10 w11 w12 w13 w14 w15 w16 w17 w18 w19 w20 w21 w22 w23 w24 w25 ∧ k0_chk31 i arg0 v w0 w1 w2 w3 w4 w5 w6 w7 w8 w9 w10 w11 w12 w13 w14 w15 w16 w17 w18 w19 w20 w21 w22 w23 w24 w25 w26 ∧ k0_chk32 i arg0 v w0 w1 w2 w3 w4 w5 w6 w7 w8 w9 w10 w11 w12 w13 w14 w15 w16 w17 w18 w19 w20 w21 w22 w23 w24 w25 w26 w27 ∧ k0_chk33 i arg0 v w0 w1 w2 w3 w4 w5 w6 w7 w8 w9 w10 w11 w12 w13 w14 w15 w16 w17 w18 w19 w20 w21 w22 w23 w24 w25 w26 w27 w28 ∧ k0_chk34 i arg0 v w0 w1 w2 w3 w4 w5 w6 w7 w8 w9 w10 w11 w12 w13 w14 w15 w16 w17 w18 w19 w20 w21 w22 w23 w24 w25 w26 w27 w28 w29 ∧ k0_chk35 i arg0 v w0 w1 w2 w3 w4 w5 w6 w7 w8 w9 w10 w11 w12 w13 w14 w15 w16 w17 w18 w19 w20 w21 w22 w23 w24 w25 w26 w27 w28 w29 w30 ∧ k0_chk36 i arg0 v w0 w1 w2 w3 w4 w5 w6 w7 w8 w9 w10 w11 w12 w13 w14 w15 w16 w17 w18 w19 w20 w21 w22 w23 w24 w25 w26 w27 w28 w29 w30 w31 ∧ k0_chk37 i arg0 v w0 w1 w2 w3 w4 w5 w6 w7 w8 w9 w10 w11 w12 w13 w14 w15 w16 w17 w18 w19 w20 w21 w22 w23 w24 w25 w26 w27 w28 w29 w30 w31 w32 ∧ k0_chk38 i arg0 v w0 w1 w2 w3 w4 w5 w6 w7 w8 w9 w10 w11 w12 w13 w14 w15 w16 w17 w18 w19 w20 w21 w22 w23 w24 w25 w26 w27 w28 w29 w30 w31 w32 w33 ∧ k0_chk39 i arg0 v w0 w1 w2 w3 w4 w5 w6 w7 w8 w9 w10 w11 w12 w13 w14 w15 w16 w17 w18 w19 w20 w21 w22 w23 w24 w25 w26 w27 w28 w29 w30 w31 w32 w33 w34 ∧ k0_chk40 i arg0 v w0 w1 w2 w3 w4 w5 w6 w7 w8 w9 w10 w11 w12 w13 w14 w15 w16 w17 w18 w19 w20 w21 w22 w23 w24 w25 w26 w27 w28 w29 w30 w31 w32 w33 w34 w35 ∧ k0_chk41 i arg0 v w0 w1 w2 w3 w4 w5 w6 w7 w8 w9 w10 w11 w12 w13 w14 w15 w16 w17 w18 w19 w20 w21 w22 w23 w24 w25 w26 w27 w28 w29 w30 w31 w32 w33 w34 w35 w36 ∧ k0_chk42 i arg0 v w0 w1 w2 w3 w4 w5 w6 w7 w8 w9 w10 w11 w12 w13 w14 w15 w16 w17 w18 w19 w20 w21 w22 w23 w24 w25 w26 w27 w28 w29 w30 w31 w32 w33 w34 w35 w36 w37 ∧ k0_chk43 i arg0 v w0 w1 w2 w3 w4 w5 w6 w7 w8 w9 w10 w11 w12 w13 w14 w15 w16 w17 w18 w19 w20 w21 w22 w23 w24 w25 w26 w27 w28 w29 w30 w31 w32 w33 w34 w35 w36 w37 w38 ∧ k0_chk44 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 ∧ k0_chk45 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 ∧ k0_chk46 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 ∧ k0_chk47 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 ∧ k0_chk48 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 ∧ k0_chk49 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 ∧ k0_chk50 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 ∧ k0_chk51 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 ∧ k0_chk52 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 ∧ k0_chk53 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 ∧ k0_chk54 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 ∧ k0_chk55 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 ∧ k0_chk56 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 ∧ k0_chk57 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 ∧ k0_chk58 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 ∧ k0_chk59 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 ∧ k0_chk60 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 w55 ∧ k0_chk61 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 w55 w56 ∧ k0_chk62 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 w55 w56 w57 ∧ k0_chk63 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 w55 w56 w57 w58 ∧ k0_chk64 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 w55 w56 w57 w58 w59 ∧ k0_chk65 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 w55 w56 w57 w58 w59 w60 ∧ k0_chk66 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 w55 w56 w57 w58 w59 w60 w61 ∧ k0_chk67 i arg0 v w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 w55 w56 w57 w58 w59 w60 w61 w62 := by
  have o0 : Off 0 0#32 := Nat.le_refl _
  have o1 := off_step o0 (by decide) h0
  have o2 := off_step o1 (by decide) h1
  have o3 := off_step o2 (by decide) h2
  have o4 := off_step o3 (by decide) h3
  have o5 := off_step o4 (by decide) h4
  have o6 := off_step o5 (by decide) h5
  have o7 := off_step o6 (by decide) h6
  have o8 := off_step o7 (by decide) h7
  have o9 := off_step o8 (by decide) h8
  have o10 := off_step o9 (by decide) h9
  have o11 := off_step o10 (by decide) h10
  have o12 := off_step o11 (by decide) h11
  have o13 := off_step o12 (by decide) h12
  have o14 := off_step o13 (by decide) h13
  have o15 := off_step o14 (by decide) h14
  have o16 := off_step o15 (by decide) h15
  have o17 := off_step o16 (by decide) h16
  have o18 := off_step o17 (by decide) h17
  have o19 := off_step o18 (by decide) h18
  have o20 := off_step o19 (by decide) h19
  have o21 := off_step o20 (by decide) h20
  have o22 := off_step o21 (by decide) h21
  have o23 := off_step o22 (by decide) h22
  have o24 := off_step o23 (by decide) h23
  have o25 := off_step o24 (by decide) h24
  have o26 := off_step o25 (by decide) h25
  have o27 := off_step o26 (by decide) h26
  have o28 := off_step o27 (by decide) h27
  have o29 := off_step o28 (by decide) h28
  have o30 := off_step o29 (by decide) h29
  have o31 := off_step o30 (by decide) h30
  have o32 := off_step o31 (by decide) h31
  have o33 := off_step o32 (by decide) h32
  have o34 := off_step o33 (by decide) h33
  have o35 := off_step o34 (by decide) h34
  have o36 := off_step o35 (by decide) h35
  have o37 := off_step o36 (by decide) h36
  have o38 := off_step o37 (by decide) h37
  have o39 := off_step o38 (by decide) h38
  have o40 := off_step o39 (by decide) h39
  have o41 := off_step o40 (by decide) h40
  have o42 := off_step o41 (by decide) h41
  have o43 := off_step o42 (by decide) h42
  have o44 := off_step o43 (by decide) h43
  have o45 := off_step o44 (by decide) h44
  have o46 := off_step o45 (by decide) h45
  have o47 := off_step o46 (by decide) h46
  have o48 := off_step o47 (by decide) h47
  have o49 := off_step o48 (by decide) h48
  have o50 := off_step o49 (by decide) h49
  have o51 := off_step o50 (by decide) h50
  have o52 := off_step o51 (by decide) h51
  have o53 := off_step o52 (by decide) h52
  have o54 := off_step o53 (by decide) h53
  have o55 := off_step o54 (by decide) h54
  have o56 := off_step o55 (by decide) h55
  have o57 := off_step o56 (by decide) h56
  have o58 := off_step o57 (by decide) h57
  have o59 := off_step o58 (by decide) h58
  have o60 := off_step o59 (by decide) h59
  have o61 := off_step o60 (by decide) h60
  have o62 := off_step o61 (by decide) h61
  have o63 := off_step o62 (by decide) h62
  exact ⟨fun _ => off_ok o1 (by decide), fun _ => off_ok o2 (by decide), fun _ => off_ok o3 (by decide), fun _ => off_ok o4 (by decide), fun _ => off_ok o5 (by decide), fun _ => off_ok o6 (by decide), fun _ => off_ok o7 (by decide), fun _ => off_ok o8 (by decide), fun _ => off_ok o9 (by decide), fun _ => off_ok o10 (by decide), fun _ => off_ok o11 (by decide), fun _ => off_ok o12 (by decide), fun _ => off_ok o13 (by decide), fun _ => off_ok o14 (by decide), fun _ => off_ok o15 (by decide), fun _ => off_ok o16 (by decide), fun _ => off_ok o17 (by decide), fun _ => off_ok o18 (by decide), fun _ => off_ok o19 (by decide), fun _ => off_ok o20 (by decide), fun _ => off_ok o21 (by decide), fun _ => off_ok o22 (by decide), fun _ => off_ok o23 (by decide), fun _ => off_ok o24 (by decide), fun _ => off_ok o25 (by decide), fun _ => off_ok o26 (by decide), fun _ => off_ok o27 (by decide), fun _ => off_ok o28 (by decide), fun _ => off_ok o29 (by decide), fun _ => off_ok o30 (by decide), fun _ => off_ok o31 (by decide), fun _ => off_ok o32 (by decide), fun _ => off_ok o33 (by decide), fun _ => off_ok o34 (by decide), fun _ => off_ok o35 (by decide), fun _ => off_ok o36 (by decide), fun _ => off_ok o37 (by decide), fun _ => off_ok o38 (by decide), fun _ => off_ok o39 (by decide), fun _ => off_ok o40 (by decide), fun _ => off_ok o41 (by decide), fun _ => off_ok o42 (by decide), fun _ => off_ok o43 (by decide), fun _ => off_ok o44 (by decide), fun _ => off_ok o45 (by decide), fun _ => off_ok o46 (by decide), fun _ => off_ok o47 (by decide), fun _ => off_ok o48 (by decide), fun _ => off_ok o49 (by decide), fun _ => off_ok o50 (by decide), fun _ => off_ok o51 (by decide), fun _ => off_ok o52 (by decide), fun _ => off_ok o53 (by decide), fun _ => off_ok o54 (by decide), fun _ => off_ok o55 (by decide), fun _ => off_ok o56 (by decide), fun _ => off_ok o57 (by decide), fun _ => off_ok o58 (by decide), fun _ => off_ok o59 (by decide), fun _ => off_ok o60 (by decide), fun _ => off_ok o61 (by decide), fun _ => off_ok o62 (by decide), fun _ => off_ok o63 (by decide)⟩

end Cert.Proof.KernelIdeal
-- ==== Proof.VHeadD.lean ====
module

public import proofs.«01_k».proof.Proof.IOff
public import proofs.«01_k».proof.Proof.ICval

@[expose] public section

set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option backward.proofsInPublic true in
set_option maxHeartbeats 20000000 in
theorem headD (c : Dev nD) (b : grid0.Bounds) (i : grid0.Static) (arg0 : BitVec 32) (arg2 : Memref sig .tc .smem S1 .i32) (harg2 : arg2.IsWhole) (arg3 : Memref sig .tc .smem S64 .i32) (harg3 : arg3.IsWhole) (arg4 : Memref sig .tc .smem S6144 .i32) (harg4 : arg4.IsWhole) (arg5 : Memref sig .tc .vmem S928x3584 .bf16) (harg5 : arg5.IsWhole) (arg6 : Memref sig .tc .vmem S928x128 .f32) (harg6 : arg6.IsWhole) (arg7 : Memref sig .tc .vmem S1024x3584 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S64x128 .i32) (harg10 : arg10.IsWhole) (arg11 : Memref sig .tc .vmem S64x1024 .bf16) (harg11 : arg11.IsWhole) (arg12 : Memref sig .tc .vmem S64x256 .f32) (harg12 : arg12.IsWhole) (arg13 : Memref sig .tc .vmem S5x464x1792 .bf16) (harg13 : arg13.IsWhole) (arg14 : Memref sig .tc .vmem S512x1792 .bf16) (harg14 : arg14.IsWhole) (arg15 : Memref sig .tc .vmem S2x2x464x512 .f32) (harg15 : arg15.IsWhole) (arg16 : Memref sig .tc .vmem S65x8x1024 .f32) (harg16 : arg16.IsWhole) (arg17 : Memref sig .tc .vmem S30x64x1024 .f32) (harg17 : arg17.IsWhole) (arg18 : Memref sig .tc .vmem S16704x128 .f32) (harg18 : arg18.IsWhole)  (T2 : Buf (Elt F) (arg2.view.loc (c : Thread nD τ))) (T3 : Buf (Elt F) (arg3.view.loc (c : Thread nD τ))) (T4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f12 : Buf (Elt F) (arg12.view.loc (c : Thread nD τ))) (f13 : Buf (Elt F) (arg13.view.loc (c : Thread nD τ))) (f18 : Buf (Elt F) (arg18.view.loc (c : Thread nD τ))) (k0_hw1 : k0_chk1 i arg0)
    (hT1 : ∀ k : Fin k0_t1_loop.trips, k0_chk2 (arg4.view.readAt (Elt F) (Rect.unit (s := S6144) (k0_off2 arg0 k) S1.size (k0_off2_inb i arg0 k0_hw1 k)).toLoadRect T4 (Shape.Idx.first (numel1_S1.symm ▸ Nat.one_pos)))) (hT2 : ∀ k : Fin k0_t2_loop.trips, k0_chk3 (arg4.view.readAt (Elt F) (Rect.unit (s := S6144) (k0_off24 arg0 k) S1.size (k0_off24_inb i arg0 k0_hw1 k)).toLoadRect T4 (Shape.Idx.first (numel1_S1.symm ▸ Nat.one_pos)))) (hw4 : k0_chk4 (arg4.view.readAt (Elt F) (Rect.unit (s := S6144) (k0_off46 arg0) S1.size (k0_off46_inb i arg0 k0_hw1)).toLoadRect T4 (Shape.Idx.first (numel1_S1.symm ▸ Nat.one_pos))))
    (hc1 : ¬(k0_cond1 i = 1#1)) (hc2 : ¬(Scalar.cmpi .ne (Scalar.extui (Scalar.andi (Scalar.cmpi .eq arg0 0#32) (Scalar.cmpi .eq (BitVec.ofNat 32 (i 1).val) 0#32))) 0#32 = 1#1)) (hc3 : (k0_cond3 i arg0 (arg2.view.readAt (Elt F) (Rect.unit (s := S1) ![0] S1.size inb_S1_S1_0).toLoadRect T2 (Shape.Idx.first (numel1_S1.symm ▸ Nat.one_pos))) = 1#1))
    (hlen : ∀ (o : Fin 1 → ℕ) (hb : ∀ a, o a + S1.size a ≤ S64.size a), (arg3.view.readAt (Elt F) (Rect.unit (s := S64) o S1.size hb).toLoadRect T3 (Shape.Idx.first (numel1_S1.symm ▸ Nat.one_pos))).toInt ≤ 256) (K : PUnit → sProp 𝕄) :
    iprop((arg2.view.loc (c : Thread nD τ) ↦[arg2.view.set]{fullShare.right} T2) ∗ (arg3.view.loc (c : Thread nD τ) ↦[arg3.view.set]{fullShare.right} T3) ∗ (arg4.view.loc (c : Thread nD τ) ↦[arg4.view.set]{fullShare.right} T4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f, (arg11.view.loc (c : Thread nD τ) ↦[arg11.view.set]{fullShare} f)) ∗ (arg12.view.loc (c : Thread nD τ) ↦[arg12.view.set]{fullShare} f12) ∗ (arg13.view.loc (c : Thread nD τ) ↦[arg13.view.set]{fullShare} f13) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (arg18.view.loc (c : Thread nD τ) ↦[arg18.view.set]{fullShare} f18) ∗ (iprop((arg2.view.loc (c : Thread nD τ) ↦[arg2.view.set]{fullShare.right} T2) ∗ (arg3.view.loc (c : Thread nD τ) ↦[arg3.view.set]{fullShare.right} T3) ∗ (arg4.view.loc (c : Thread nD τ) ↦[arg4.view.set]{fullShare.right} T4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f, (arg11.view.loc (c : Thread nD τ) ↦[arg11.view.set]{fullShare} f)) ∗ (∃ f, (arg14.view.loc (c : Thread nD τ) ↦[arg14.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f15 g12, ⌜CIs i (arg5.view.read (Elt F) f5) (arg7.view.read (Elt F) f7) (arg13.view.read (Elt F) f13) (arg15.view.read (Elt F) f15) ∧ L1Is (fun b => arg3.view.readAt (Elt F) (Rect.unit (s := S64) ![b % 64] S1.size (inb_len b)).toLoadRect T3 (Shape.Idx.first (numel1_S1.symm ▸ Nat.one_pos))) (arg18.view.read (Elt F) (tokAt2 c i arg0 arg6 arg15 arg18 k0_hw1 (k0_pay198 (BitVec.ofNat 32 (i 1).val)) (k0_pay199 (BitVec.ofNat 32 (i 1).val) (arg8.view.readAt (Elt F) (Rect.unit (s := S1x1024) ![0, 0] S1x1024.size inb_S1x1024_S1x1024_0_0).toLoadRect f8)) (k0_pay200 (BitVec.ofNat 32 (i 1).val) (arg9.view.readAt (Elt F) (Rect.unit (s := S1x1024) ![0, 0] S1x1024.size inb_S1x1024_S1x1024_0_0).toLoadRect f9)) f6 f15 (tokAt1 c i arg0 arg6 arg15 arg18 k0_hw1 (BitVec.ofNat 32 (i 1).val) (arg8.view.readAt (Elt F) (Rect.unit (s := S1x1024) ![0, 0] S1x1024.size inb_S1x1024_S1x1024_0_0).toLoadRect f8) (arg9.view.readAt (Elt F) (Rect.unit (s := S1x1024) ![0, 0] S1x1024.size inb_S1x1024_S1x1024_0_0).toLoadRect f9) f6 f15 f18 58) 58)) (arg12.view.read (Elt F) g12)⌝ ∗ (arg12.view.loc (c : Thread nD τ) ↦[arg12.view.set]{fullShare} g12) ∗  (arg13.view.loc (c : Thread nD τ) ↦[arg13.view.set]{fullShare} f13) ∗ (arg15.view.loc (c : Thread nD τ) ↦[arg15.view.set]{fullShare} f15) ∗ (arg18.view.loc (c : Thread nD τ) ↦[arg18.view.set]{fullShare} (tokAt2 c i arg0 arg6 arg15 arg18 k0_hw1 (k0_pay198 (BitVec.ofNat 32 (i 1).val)) (k0_pay199 (BitVec.ofNat 32 (i 1).val) (arg8.view.readAt (Elt F) (Rect.unit (s := S1x1024) ![0, 0] S1x1024.size inb_S1x1024_S1x1024_0_0).toLoadRect f8)) (k0_pay200 (BitVec.ofNat 32 (i 1).val) (arg9.view.readAt (Elt F) (Rect.unit (s := S1x1024) ![0, 0] S1x1024.size inb_S1x1024_S1x1024_0_0).toLoadRect f9)) f6 f15 (tokAt1 c i arg0 arg6 arg15 arg18 k0_hw1 (BitVec.ofNat 32 (i 1).val) (arg8.view.readAt (Elt F) (Rect.unit (s := S1x1024) ![0, 0] S1x1024.size inb_S1x1024_S1x1024_0_0).toLoadRect f8) (arg9.view.readAt (Elt F) (Rect.unit (s := S1x1024) ![0, 0] S1x1024.size inb_S1x1024_S1x1024_0_0).toLoadRect f9) f6 f15 f18 58) 58)))) -∗ K ⟨⟩))
      ⊢ wp frame (wpE (defs₀ (F := F)) Variants.none c none) Set.univ (cc0_head b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_head_eq_skeleton]; unfold cc0_head_skel
  iintro ⟨H2, H3, H4, H5, H6, H7, H8, H9, H10, ⟨%f11, H11⟩, H12, H13, ⟨%f14, H14⟩, ⟨%f15, H15⟩, ⟨%f16, H16⟩, ⟨%f17, H17⟩, H18, Hk⟩
  obtain ⟨hc5, hc6, hc7, hc8, hc9, hc10, hc11, hc12, hc13, hc14, hc15, hc16, hc17, hc18, hc19, hc20, hc21, hc22, hc23, hc24, hc25, hc26, hc27, hc28, hc29, hc30, hc31, hc32, hc33, hc34, hc35, hc36, hc37, hc38, hc39, hc40, hc41, hc42, hc43, hc44, hc45, hc46, hc47, hc48, hc49, hc50, hc51, hc52, hc53, hc54, hc55, hc56, hc57, hc58, hc59, hc60, hc61, hc62, hc63, hc64, hc65, hc66, hc67⟩ := chks_unpack i arg0 (arg2.view.readAt (Elt F) (Rect.unit (s := S1) ![0] S1.size inb_S1_S1_0).toLoadRect T2 (Shape.Idx.first (numel1_S1.symm ▸ Nat.one_pos)))
    (arg3.view.readAt (Elt F) (Rect.unit (s := S64) ![0] S1.size inb_S64_S1_0).toLoadRect T3 (Shape.Idx.first (numel1_S1.symm ▸ Nat.one_pos)))
    (arg3.view.readAt (Elt F) (Rect.unit (s := S64) ![1] S1.size inb_S64_S1_1).toLoadRect T3 (Shape.Idx.first (numel1_S1.symm ▸ Nat.one_pos)))
    (arg3.view.readAt (Elt F) (Rect.unit (s := S64) ![2] S1.size inb_S64_S1_2).toLoadRect T3 (Shape.Idx.first (numel1_S1.symm ▸ Nat.one_pos)))
    (arg3.view.readAt (Elt F) (Rect.unit (s := S64) ![3] S1.size inb_S64_S1_3).toLoadRect T3 (Shape.Idx.first (numel1_S1.symm ▸ Nat.one_pos)))
    (arg3.view.readAt (Elt F) (Rect.unit (s := S64) ![4] S1.size inb_S64_S1_4).toLoadRect T3 (Shape.Idx.first (numel1_S1.symm ▸ Nat.one_pos)))
    (arg3.view.readAt (Elt F) (Rect.unit (s := S64) ![5] S1.size inb_S64_S1_5).toLoadRect T3 (Shape.Idx.first (numel1_S1.symm ▸ Nat.one_pos)))
    (arg3.view.readAt (Elt F) (Rect.unit (s := S64) ![6] S1.size inb_S64_S1_6).toLoadRect T3 (Shape.Idx.first (numel1_S1.symm ▸ Nat.one_pos)))
    (arg3.view.readAt (Elt F) (Rect.unit (s := S64) ![7] S1.size inb_S64_S1_7).toLoadRect T3 (Shape.Idx.first (numel1_S1.symm ▸ Nat.one_pos)))
    (arg3.view.readAt (Elt F) (Rect.unit (s := S64) ![8] S1.size inb_S64_S1_8).toLoadRect T3 (Shape.Idx.first (numel1_S1.symm ▸ Nat.one_pos)))
    (arg3.view.readAt (Elt F) (Rect.unit (s := S64) ![9] S1.size inb_S64_S1_9).toLoadRect T3 (Shape.Idx.first (numel1_S1.symm ▸ Nat.one_pos)))
    (arg3.view.readAt (Elt F) (Rect.unit (s := S64) ![10] S1.size inb_S64_S1_10).toLoadRect T3 (Shape.Idx.first (numel1_S1.symm ▸ Nat.one_pos)))
    (arg3.view.readAt (Elt F) (Rect.unit (s := S64) ![11] S1.size inb_S64_S1_11).toLoadRect T3 (Shape.Idx.first (numel1_S1.symm ▸ Nat.one_pos)))
    (arg3.view.readAt (Elt F) (Rect.unit (s := S64) ![12] S1.size inb_S64_S1_12).toLoadRect T3 (Shape.Idx.first (numel1_S1.symm ▸ Nat.one_pos)))
    (arg3.view.readAt (Elt F) (Rect.unit (s := S64) ![13] S1.size inb_S64_S1_13).toLoadRect T3 (Shape.Idx.first (numel1_S1.symm ▸ Nat.one_pos)))
    (arg3.view.readAt (Elt F) (Rect.unit (s := S64) ![14] S1.size inb_S64_S1_14).toLoadRect T3 (Shape.Idx.first (numel1_S1.symm ▸ Nat.one_pos)))
    (arg3.view.readAt (Elt F) (Rect.unit (s := S64) ![15] S1.size inb_S64_S1_15).toLoadRect T3 (Shape.Idx.first (numel1_S1.symm ▸ Nat.one_pos)))
    (arg3.view.readAt (Elt F) (Rect.unit (s := S64) ![16] S1.size inb_S64_S1_16).toLoadRect T3 (Shape.Idx.first (numel1_S1.symm ▸ Nat.one_pos)))
    (arg3.view.readAt (Elt F) (Rect.unit (s := S64) ![17] S1.size inb_S64_S1_17).toLoadRect T3 (Shape.Idx.first (numel1_S1.symm ▸ Nat.one_pos)))
    (arg3.view.readAt (Elt F) (Rect.unit (s := S64) ![18] S1.size inb_S64_S1_18).toLoadRect T3 (Shape.Idx.first (numel1_S1.symm ▸ Nat.one_pos)))
    (arg3.view.readAt (Elt F) (Rect.unit (s := S64) ![19] S1.size inb_S64_S1_19).toLoadRect T3 (Shape.Idx.first (numel1_S1.symm ▸ Nat.one_pos)))
    (arg3.view.readAt (Elt F) (Rect.unit (s := S64) ![20] S1.size inb_S64_S1_20).toLoadRect T3 (Shape.Idx.first (numel1_S1.symm ▸ Nat.one_pos)))
    (arg3.view.readAt (Elt F) (Rect.unit (s := S64) ![21] S1.size inb_S64_S1_21).toLoadRect T3 (Shape.Idx.first (numel1_S1.symm ▸ Nat.one_pos)))
    (arg3.view.readAt (Elt F) (Rect.unit (s := S64) ![22] S1.size inb_S64_S1_22).toLoadRect T3 (Shape.Idx.first (numel1_S1.symm ▸ Nat.one_pos)))
    (arg3.view.readAt (Elt F) (Rect.unit (s := S64) ![23] S1.size inb_S64_S1_23).toLoadRect T3 (Shape.Idx.first (numel1_S1.symm ▸ Nat.one_pos)))
    (arg3.view.readAt (Elt F) (Rect.unit (s := S64) ![24] S1.size inb_S64_S1_24).toLoadRect T3 (Shape.Idx.first (numel1_S1.symm ▸ Nat.one_pos)))
    (arg3.view.readAt (Elt F) (Rect.unit (s := S64) ![25] S1.size inb_S64_S1_25).toLoadRect T3 (Shape.Idx.first (numel1_S1.symm ▸ Nat.one_pos)))
    (arg3.view.readAt (Elt F) (Rect.unit (s := S64) ![26] S1.size inb_S64_S1_26).toLoadRect T3 (Shape.Idx.first (numel1_S1.symm ▸ Nat.one_pos)))
    (arg3.view.readAt (Elt F) (Rect.unit (s := S64) ![27] S1.size inb_S64_S1_27).toLoadRect T3 (Shape.Idx.first (numel1_S1.symm ▸ Nat.one_pos)))
    (arg3.view.readAt (Elt F) (Rect.unit (s := S64) ![28] S1.size inb_S64_S1_28).toLoadRect T3 (Shape.Idx.first (numel1_S1.symm ▸ Nat.one_pos)))
    (arg3.view.readAt (Elt F) (Rect.unit (s := S64) ![29] S1.size inb_S64_S1_29).toLoadRect T3 (Shape.Idx.first (numel1_S1.symm ▸ Nat.one_pos)))
    (arg3.view.readAt (Elt F) (Rect.unit (s := S64) ![30] S1.size inb_S64_S1_30).toLoadRect T3 (Shape.Idx.first (numel1_S1.symm ▸ Nat.one_pos)))
    (arg3.view.readAt (Elt F) (Rect.unit (s := S64) ![31] S1.size inb_S64_S1_31).toLoadRect T3 (Shape.Idx.first (numel1_S1.symm ▸ Nat.one_pos)))
    (arg3.view.readAt (Elt F) (Rect.unit (s := S64) ![32] S1.size inb_S64_S1_32).toLoadRect T3 (Shape.Idx.first (numel1_S1.symm ▸ Nat.one_pos)))
    (arg3.view.readAt (Elt F) (Rect.unit (s := S64) ![33] S1.size inb_S64_S1_33).toLoadRect T3 (Shape.Idx.first (numel1_S1.symm ▸ Nat.one_pos)))
    (arg3.view.readAt (Elt F) (Rect.unit (s := S64) ![34] S1.size inb_S64_S1_34).toLoadRect T3 (Shape.Idx.first (numel1_S1.symm ▸ Nat.one_pos)))
    (arg3.view.readAt (Elt F) (Rect.unit (s := S64) ![35] S1.size inb_S64_S1_35).toLoadRect T3 (Shape.Idx.first (numel1_S1.symm ▸ Nat.one_pos)))
    (arg3.view.readAt (Elt F) (Rect.unit (s := S64) ![36] S1.size inb_S64_S1_36).toLoadRect T3 (Shape.Idx.first (numel1_S1.symm ▸ Nat.one_pos)))
    (arg3.view.readAt (Elt F) (Rect.unit (s := S64) ![37] S1.size inb_S64_S1_37).toLoadRect T3 (Shape.Idx.first (numel1_S1.symm ▸ Nat.one_pos)))
    (arg3.view.readAt (Elt F) (Rect.unit (s := S64) ![38] S1.size inb_S64_S1_38).toLoadRect T3 (Shape.Idx.first (numel1_S1.symm ▸ Nat.one_pos)))
    (arg3.view.readAt (Elt F) (Rect.unit (s := S64) ![39] S1.size inb_S64_S1_39).toLoadRect T3 (Shape.Idx.first (numel1_S1.symm ▸ Nat.one_pos)))
    (arg3.view.readAt (Elt F) (Rect.unit (s := S64) ![40] S1.size inb_S64_S1_40).toLoadRect T3 (Shape.Idx.first (numel1_S1.symm ▸ Nat.one_pos)))
    (arg3.view.readAt (Elt F) (Rect.unit (s := S64) ![41] S1.size inb_S64_S1_41).toLoadRect T3 (Shape.Idx.first (numel1_S1.symm ▸ Nat.one_pos)))
    (arg3.view.readAt (Elt F) (Rect.unit (s := S64) ![42] S1.size inb_S64_S1_42).toLoadRect T3 (Shape.Idx.first (numel1_S1.symm ▸ Nat.one_pos)))
    (arg3.view.readAt (Elt F) (Rect.unit (s := S64) ![43] S1.size inb_S64_S1_43).toLoadRect T3 (Shape.Idx.first (numel1_S1.symm ▸ Nat.one_pos)))
    (arg3.view.readAt (Elt F) (Rect.unit (s := S64) ![44] S1.size inb_S64_S1_44).toLoadRect T3 (Shape.Idx.first (numel1_S1.symm ▸ Nat.one_pos)))
    (arg3.view.readAt (Elt F) (Rect.unit (s := S64) ![45] S1.size inb_S64_S1_45).toLoadRect T3 (Shape.Idx.first (numel1_S1.symm ▸ Nat.one_pos)))
    (arg3.view.readAt (Elt F) (Rect.unit (s := S64) ![46] S1.size inb_S64_S1_46).toLoadRect T3 (Shape.Idx.first (numel1_S1.symm ▸ Nat.one_pos)))
    (arg3.view.readAt (Elt F) (Rect.unit (s := S64) ![47] S1.size inb_S64_S1_47).toLoadRect T3 (Shape.Idx.first (numel1_S1.symm ▸ Nat.one_pos)))
    (arg3.view.readAt (Elt F) (Rect.unit (s := S64) ![48] S1.size inb_S64_S1_48).toLoadRect T3 (Shape.Idx.first (numel1_S1.symm ▸ Nat.one_pos)))
    (arg3.view.readAt (Elt F) (Rect.unit (s := S64) ![49] S1.size inb_S64_S1_49).toLoadRect T3 (Shape.Idx.first (numel1_S1.symm ▸ Nat.one_pos)))
    (arg3.view.readAt (Elt F) (Rect.unit (s := S64) ![50] S1.size inb_S64_S1_50).toLoadRect T3 (Shape.Idx.first (numel1_S1.symm ▸ Nat.one_pos)))
    (arg3.view.readAt (Elt F) (Rect.unit (s := S64) ![51] S1.size inb_S64_S1_51).toLoadRect T3 (Shape.Idx.first (numel1_S1.symm ▸ Nat.one_pos)))
    (arg3.view.readAt (Elt F) (Rect.unit (s := S64) ![52] S1.size inb_S64_S1_52).toLoadRect T3 (Shape.Idx.first (numel1_S1.symm ▸ Nat.one_pos)))
    (arg3.view.readAt (Elt F) (Rect.unit (s := S64) ![53] S1.size inb_S64_S1_53).toLoadRect T3 (Shape.Idx.first (numel1_S1.symm ▸ Nat.one_pos)))
    (arg3.view.readAt (Elt F) (Rect.unit (s := S64) ![54] S1.size inb_S64_S1_54).toLoadRect T3 (Shape.Idx.first (numel1_S1.symm ▸ Nat.one_pos)))
    (arg3.view.readAt (Elt F) (Rect.unit (s := S64) ![55] S1.size inb_S64_S1_55).toLoadRect T3 (Shape.Idx.first (numel1_S1.symm ▸ Nat.one_pos)))
    (arg3.view.readAt (Elt F) (Rect.unit (s := S64) ![56] S1.size inb_S64_S1_56).toLoadRect T3 (Shape.Idx.first (numel1_S1.symm ▸ Nat.one_pos)))
    (arg3.view.readAt (Elt F) (Rect.unit (s := S64) ![57] S1.size inb_S64_S1_57).toLoadRect T3 (Shape.Idx.first (numel1_S1.symm ▸ Nat.one_pos)))
    (arg3.view.readAt (Elt F) (Rect.unit (s := S64) ![58] S1.size inb_S64_S1_58).toLoadRect T3 (Shape.Idx.first (numel1_S1.symm ▸ Nat.one_pos)))
    (arg3.view.readAt (Elt F) (Rect.unit (s := S64) ![59] S1.size inb_S64_S1_59).toLoadRect T3 (Shape.Idx.first (numel1_S1.symm ▸ Nat.one_pos)))
    (arg3.view.readAt (Elt F) (Rect.unit (s := S64) ![60] S1.size inb_S64_S1_60).toLoadRect T3 (Shape.Idx.first (numel1_S1.symm ▸ Nat.one_pos)))
    (arg3.view.readAt (Elt F) (Rect.unit (s := S64) ![61] S1.size inb_S64_S1_61).toLoadRect T3 (Shape.Idx.first (numel1_S1.symm ▸ Nat.one_pos)))
    (arg3.view.readAt (Elt F) (Rect.unit (s := S64) ![62] S1.size inb_S64_S1_62).toLoadRect T3 (Shape.Idx.first (numel1_S1.symm ▸ Nat.one_pos)))
    (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _) (hlen _ _)
  sl_exec_parts (disch := first | assumption)
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H14]; · iexists _; iexact H14
  isplitl [H16]; · iexists _; iexact H16
  isplitl [H17]; · iexists _; iexact H17
  iexists _, _
  isplitr
  rotate_left
  · isplitl [H12]; · iexact H12
    isplitl [H13]; · iexact H13
    isplitl [H15]; · iexact H15
    iexact H18
  · ipureintro
    refine ⟨?_, ?_⟩
    swap
    · refine l1_all ?_
      refine l1_cons 63 ?_ (RowIs.of (off_eq_63 _) rfl)
      refine l1_cons 62 ?_ (RowIs.of (off_eq_62 _) rfl)
      refine l1_cons 61 ?_ (RowIs.of (off_eq_61 _) rfl)
      refine l1_cons 60 ?_ (RowIs.of (off_eq_60 _) rfl)
      refine l1_cons 59 ?_ (RowIs.of (off_eq_59 _) rfl)
      refine l1_cons 58 ?_ (RowIs.of (off_eq_58 _) rfl)
      refine l1_cons 57 ?_ (RowIs.of (off_eq_57 _) rfl)
      refine l1_cons 56 ?_ (RowIs.of (off_eq_56 _) rfl)
      refine l1_cons 55 ?_ (RowIs.of (off_eq_55 _) rfl)
      refine l1_cons 54 ?_ (RowIs.of (off_eq_54 _) rfl)
      refine l1_cons 53 ?_ (RowIs.of (off_eq_53 _) rfl)
      refine l1_cons 52 ?_ (RowIs.of (off_eq_52 _) rfl)
      refine l1_cons 51 ?_ (RowIs.of (off_eq_51 _) rfl)
      refine l1_cons 50 ?_ (RowIs.of (off_eq_50 _) rfl)
      refine l1_cons 49 ?_ (RowIs.of (off_eq_49 _) rfl)
      refine l1_cons 48 ?_ (RowIs.of (off_eq_48 _) rfl)
      refine l1_cons 47 ?_ (RowIs.of (off_eq_47 _) rfl)
      refine l1_cons 46 ?_ (RowIs.of (off_eq_46 _) rfl)
      refine l1_cons 45 ?_ (RowIs.of (off_eq_45 _) rfl)
      refine l1_cons 44 ?_ (RowIs.of (off_eq_44 _) rfl)
      refine l1_cons 43 ?_ (RowIs.of (off_eq_43 _) rfl)
      refine l1_cons 42 ?_ (RowIs.of (off_eq_42 _) rfl)
      refine l1_cons 41 ?_ (RowIs.of (off_eq_41 _) rfl)
      refine l1_cons 40 ?_ (RowIs.of (off_eq_40 _) rfl)
      refine l1_cons 39 ?_ (RowIs.of (off_eq_39 _) rfl)
      refine l1_cons 38 ?_ (RowIs.of (off_eq_38 _) rfl)
      refine l1_cons 37 ?_ (RowIs.of (off_eq_37 _) rfl)
      refine l1_cons 36 ?_ (RowIs.of (off_eq_36 _) rfl)
      refine l1_cons 35 ?_ (RowIs.of (off_eq_35 _) rfl)
      refine l1_cons 34 ?_ (RowIs.of (off_eq_34 _) rfl)
      refine l1_cons 33 ?_ (RowIs.of (off_eq_33 _) rfl)
      refine l1_cons 32 ?_ (RowIs.of (off_eq_32 _) rfl)
      refine l1_cons 31 ?_ (RowIs.of (off_eq_31 _) rfl)
      refine l1_cons 30 ?_ (RowIs.of (off_eq_30 _) rfl)
      refine l1_cons 29 ?_ (RowIs.of (off_eq_29 _) rfl)
      refine l1_cons 28 ?_ (RowIs.of (off_eq_28 _) rfl)
      refine l1_cons 27 ?_ (RowIs.of (off_eq_27 _) rfl)
      refine l1_cons 26 ?_ (RowIs.of (off_eq_26 _) rfl)
      refine l1_cons 25 ?_ (RowIs.of (off_eq_25 _) rfl)
      refine l1_cons 24 ?_ (RowIs.of (off_eq_24 _) rfl)
      refine l1_cons 23 ?_ (RowIs.of (off_eq_23 _) rfl)
      refine l1_cons 22 ?_ (RowIs.of (off_eq_22 _) rfl)
      refine l1_cons 21 ?_ (RowIs.of (off_eq_21 _) rfl)
      refine l1_cons 20 ?_ (RowIs.of (off_eq_20 _) rfl)
      refine l1_cons 19 ?_ (RowIs.of (off_eq_19 _) rfl)
      refine l1_cons 18 ?_ (RowIs.of (off_eq_18 _) rfl)
      refine l1_cons 17 ?_ (RowIs.of (off_eq_17 _) rfl)
      refine l1_cons 16 ?_ (RowIs.of (off_eq_16 _) rfl)
      refine l1_cons 15 ?_ (RowIs.of (off_eq_15 _) rfl)
      refine l1_cons 14 ?_ (RowIs.of (off_eq_14 _) rfl)
      refine l1_cons 13 ?_ (RowIs.of (off_eq_13 _) rfl)
      refine l1_cons 12 ?_ (RowIs.of (off_eq_12 _) rfl)
      refine l1_cons 11 ?_ (RowIs.of (off_eq_11 _) rfl)
      refine l1_cons 10 ?_ (RowIs.of (off_eq_10 _) rfl)
      refine l1_cons 9 ?_ (RowIs.of (off_eq_9 _) rfl)
      refine l1_cons 8 ?_ (RowIs.of (off_eq_8 _) rfl)
      refine l1_cons 7 ?_ (RowIs.of (off_eq_7 _) rfl)
      refine l1_cons 6 ?_ (RowIs.of (off_eq_6 _) rfl)
      refine l1_cons 5 ?_ (RowIs.of (off_eq_5 _) rfl)
      refine l1_cons 4 ?_ (RowIs.of (off_eq_4 _) rfl)
      refine l1_cons 3 ?_ (RowIs.of (off_eq_3 _) rfl)
      refine l1_cons 2 ?_ (RowIs.of (off_eq_2 _) rfl)
      refine l1_cons 1 ?_ (RowIs.of (off_eq_1 _) rfl)
      refine l1_cons 0 ?_ ⟨_, rfl⟩
      exact l1_nil _ _ _
    sl_unfold_words
    simp (disch := decide) only [CIs, ld_writes, View.readCov_cons_toLoadRect, ↓View.readCov_skip]
    exact ⟨rfl, rfl, rfl, rfl⟩

end Cert.Proof.KernelIdeal
-- ==== Proof.VStrassen.lean ====
module

public import proofs.«01_k».proof.Proof.ICval
public import Idealize.ShloMosaic.Lib.Pointwise

@[expose] public section

noncomputable section

namespace Cert.Proof.KernelIdeal

open Cert.KernelIdeal Cert.KernelIdeal.Gen
open Idealize.ShloMosaic Idealize.ShloMosaic.TcCoe
open scoped BigOperators

/-! ## The seven products put together are the block product -/

theorem coe_sum' {n : ℕ} (f : Fin n → ℝ) : (∑ k, (f k : EReal)) = ((∑ k, f k : ℝ) : EReal) := by
  induction (Finset.univ : Finset (Fin n)) using Finset.induction_on with
  | empty => simp
  | insert a s ha ih => rw [Finset.sum_insert ha, Finset.sum_insert ha, ih, EReal.coe_add]

/-- The codes as reals. -/
def cd (x : BitVec 8) : ℝ := (x.toInt : ℝ)

/-- A weight as the products take it: zero beyond the vocabulary. -/
def wN (i : grid0.Static) (X7 : S1024x3584.Idx → Elt Ideal .i8) (q k : ℕ) : ℝ :=
  if h : q < 1024 ∧ k < 3584 then (if 1024 * (i 1).val + q < 30522 then cd (X7 (ix2 ⟨q, h.1⟩ ⟨k, h.2⟩)) else 0) else 0

/-- The vocabulary test of a weight row. -/
theorem row_test (i : grid0.Static) (r : ℕ) (hr : r < 512) (o : ℕ) (ho : o ≤ 512) :
    IntOp.cmpi .slt (IntOp.addi (IntOp.addi (BitVec.ofNat 32 r) (Scalar.muli (BitVec.ofNat 32 (i 1).val) 1024#32)) (BitVec.ofNat 32 o)) 30522#32
      = if 1024 * (i 1).val + (o + r) < 30522 then 1#1 else 0#1 := by
  have hi : (i 1).val < 30 := (i 1).isLt
  generalize (i 1).val = j at hi
  have e : IntOp.addi (IntOp.addi (BitVec.ofNat 32 r) (Scalar.muli (BitVec.ofNat 32 j) 1024#32)) (BitVec.ofNat 32 o)
      = BitVec.ofNat 32 (1024 * j + (o + r)) := by
    apply BitVec.eq_of_toNat_eq
    simp [IntOp.addi, Scalar.muli, IntOp.muli]
    omega
  rw [e]
  have hx : (BitVec.ofNat 32 (1024 * j + (o + r))).toInt = (1024 * j + (o + r) : ℕ) := by
    rw [BitVec.toInt_eq_toNat_of_lt (by rw [BitVec.toNat_ofNat]; omega), BitVec.toNat_ofNat]; congr 1; omega
  unfold IntOp.cmpi
  have hy : (30522#32 : BitVec 32).toInt = (30522 : ℕ) := by decide
  simp only [BitVec.slt, hx, hy, Nat.cast_lt]
  split <;> rename_i h <;> simp [h]

/-- A weight read under its row's vocabulary test. -/
theorem sel_row (i : grid0.Static) (X7 : S1024x3584.Idx → Elt Ideal .i8) (r : ℕ) (hr : r < 512) (o : ℕ) (ho : o ≤ 512) (q : ℕ) (hq : q < 1024)
    (hqo : q = o + r) (k : ℕ) (hk : k < 3584) :
    Scalar.select (IntOp.cmpi .slt (IntOp.addi (IntOp.addi (BitVec.ofNat 32 r) (Scalar.muli (BitVec.ofNat 32 (i 1).val) 1024#32)) (BitVec.ofNat 32 o)) 30522#32)
      (FloatOps.sitofp (F := Ideal) FTy.bf16 (X7 (ix2 ⟨q, hq⟩ ⟨k, hk⟩))) (((0#32 : BitVec 32).toInt : ℝ) : EReal) = ((wN i X7 q k : ℝ) : EReal) := by
  subst hqo
  rw [row_test i r hr o ho, wN, dif_pos ⟨hq, hk⟩]
  split
  · exact (if_pos rfl).trans rfl
  · exact (if_neg (by decide)).trans (by simp)

section rhs
variable (i : grid0.Static) (X7 : S1024x3584.Idx → Elt Ideal .i8) (r : Fin 512) (k : Fin 1792)

theorem rhs1_at : rhs1 (F := Ideal) i X7 (ix2 r k) = ((wN i X7 r k + wN i X7 (512 + r) (1792 + k) : ℝ) : EReal) := by
  pointwise [rhs1, k0_pay166, k0_pay165, k0_pay164]
  rw [EReal.coe_add, ← sel_row i X7 r r.2 0 (by omega) r (by omega) (by omega) k (by omega), ← sel_row i X7 r r.2 512 (by omega) (512 + r) (by omega) (by omega) (1792 + k) (by omega)]
theorem rhs2_at : rhs2 (F := Ideal) i X7 (ix2 r k) = ((wN i X7 r k : ℝ) : EReal) := by
  pointwise [rhs2, k0_pay170, k0_pay164]
  rw [← sel_row i X7 r r.2 0 (by omega) r (by omega) (by omega) k (by omega)]
theorem rhs3_at : rhs3 (F := Ideal) i X7 (ix2 r k) = ((wN i X7 (512 + r) k - wN i X7 (512 + r) (1792 + k) : ℝ) : EReal) := by
  pointwise [rhs3, k0_pay176, k0_pay175, k0_pay164]
  rw [EReal.coe_sub, ← sel_row i X7 r r.2 512 (by omega) (512 + r) (by omega) (by omega) k (by omega), ← sel_row i X7 r r.2 512 (by omega) (512 + r) (by omega) (by omega) (1792 + k) (by omega)]
theorem rhs4_at : rhs4 (F := Ideal) i X7 (ix2 r k) = ((wN i X7 r (1792 + k) - wN i X7 r k : ℝ) : EReal) := by
  pointwise [rhs4, k0_pay180, k0_pay181, k0_pay182, k0_pay164]
  rw [EReal.coe_sub, ← sel_row i X7 r r.2 0 (by omega) r (by omega) (by omega) (1792 + k) (by omega), ← sel_row i X7 r r.2 0 (by omega) r (by omega) (by omega) k (by omega)]
theorem rhs5_at : rhs5 (F := Ideal) i X7 (ix2 r k) = ((wN i X7 (512 + r) (1792 + k) : ℝ) : EReal) := by
  pointwise [rhs5, k0_pay186, k0_pay187, k0_pay164]
  rw [← sel_row i X7 r r.2 512 (by omega) (512 + r) (by omega) (by omega) (1792 + k) (by omega)]
theorem rhs6_at : rhs6 (F := Ideal) i X7 (ix2 r k) = ((wN i X7 r k + wN i X7 (512 + r) k : ℝ) : EReal) := by
  pointwise [rhs6, k0_pay191, k0_pay164]
  rw [EReal.coe_add, ← sel_row i X7 r r.2 0 (by omega) r (by omega) (by omega) k (by omega), ← sel_row i X7 r r.2 512 (by omega) (512 + r) (by omega) (by omega) k (by omega)]
theorem rhs7_at : rhs7 (F := Ideal) i X7 (ix2 r k) = ((wN i X7 r (1792 + k) + wN i X7 (512 + r) (1792 + k) : ℝ) : EReal) := by
  pointwise [rhs7, k0_pay194, k0_pay164]
  rw [EReal.coe_add, ← sel_row i X7 r r.2 0 (by omega) r (by omega) (by omega) (1792 + k) (by omega), ← sel_row i X7 r r.2 512 (by omega) (512 + r) (by omega) (by omega) (1792 + k) (by omega)]
end rhs

/-- The left sums at an index, over the real codes of the chunk. -/
theorem sums_at (X5 : S928x3584.Idx → Elt Ideal .bf16) (X13 : S5x464x1792.Idx → Elt Ideal .bf16) (P : ℕ → ℕ → ℝ)
    (hP : ∀ (r k : ℕ) (hr : r < 928) (hk : k < 3584), X5 (ix2 ⟨r, hr⟩ ⟨k, hk⟩) = ((P r k : ℝ) : EReal)) (h : SIs X5 X13) (r : Fin 464) (k : Fin 1792) :
    X13 (ix3 0 r k) = ((P r k + P (464 + r) (1792 + k) : ℝ) : EReal)
    ∧ X13 (ix3 1 r k) = ((P (464 + r) k + P (464 + r) (1792 + k) : ℝ) : EReal)
    ∧ X13 (ix3 2 r k) = ((P r k + P r (1792 + k) : ℝ) : EReal)
    ∧ X13 (ix3 3 r k) = ((P (464 + r) k - P r k : ℝ) : EReal)
    ∧ X13 (ix3 4 r k) = ((P r (1792 + k) - P (464 + r) (1792 + k) : ℝ) : EReal) := by
  obtain ⟨h0, h1, h2, h3, h4⟩ := h
  have g0 := congrFun h0 (ix3 0 r k)
  have g1 := congrFun h1 (ix3 0 r k)
  have g2 := congrFun h2 (ix3 0 r k)
  have g3 := congrFun h3 (ix3 0 r k)
  have g4 := congrFun h4 (ix3 0 r k)
  pointwise [k0_pay2] at g0
  pointwise [k0_pay3] at g1
  pointwise [k0_pay4] at g2
  pointwise [k0_pay5] at g3
  pointwise [k0_pay160] at g4
  simp only [EReal.coe_add, EReal.coe_sub]
  rw [← hP r k (by omega) (by omega), ← hP r (1792 + k) (by omega) (by omega), ← hP (464 + r) k (by omega) (by omega), ← hP (464 + r) (1792 + k) (by omega) (by omega)]
  exact ⟨g0, g1, g2, g3, g4⟩

theorem sum_halves (f : ℕ → ℝ) : (∑ k ∈ Finset.range 3584, f k) = (∑ k : Fin 1792, f k) + ∑ k : Fin 1792, f (1792 + k) := by
  rw [← Finset.sum_range (fun k => f k), ← Finset.sum_range (fun k => f (1792 + k))]
  exact Finset.sum_range_add f 1792 1792

/-- The block product of the chunk's codes and the masked weights. -/
def accN (P W : ℕ → ℕ → ℝ) (r q : ℕ) : ℝ := ∑ k ∈ Finset.range 3584, P r k * W q k

theorem prod_at (i : grid0.Static) (X5 : S928x3584.Idx → Elt Ideal .bf16) (X7 : S1024x3584.Idx → Elt Ideal .i8) (X13 : S5x464x1792.Idx → Elt Ideal .bf16)
    (R : S2x2x464x512.Idx → Elt Ideal .f32) (P : ℕ → ℕ → ℝ)
    (hP : ∀ (r k : ℕ) (hr : r < 928) (hk : k < 3584), X5 (ix2 ⟨r, hr⟩ ⟨k, hk⟩) = ((P r k : ℝ) : EReal)) (h : SIs X5 X13) (hC : CIs i X5 X7 X13 R)
    (r : Fin 464) (q : Fin 512) :
    R (ix4 0 0 r q) = ((accN P (wN i X7) r q : ℝ) : EReal)
    ∧ R (ix4 0 1 r q) = ((accN P (wN i X7) r (512 + q) : ℝ) : EReal)
    ∧ R (ix4 1 0 r q) = ((accN P (wN i X7) (464 + r) q : ℝ) : EReal)
    ∧ R (ix4 1 1 r q) = ((accN P (wN i X7) (464 + r) (512 + q) : ℝ) : EReal) := by
  obtain ⟨h0, h1, h2, h3⟩ := hC
  have g0 := congrFun h0 (ix4 0 0 r q)
  have g1 := congrFun h1 (ix4 0 0 r q)
  have g2 := congrFun h2 (ix4 0 0 r q)
  have g3 := congrFun h3 (ix4 0 0 r q)
  have hS := sums_at X5 X13 P hP h
  pointwise [k0_pay197, k0_pay195, k0_pay189, k0_pay188, k0_pay184, k0_pay183, k0_pay168, k0_pay167, k0_pay196] at g0
  pointwise [k0_pay190, k0_pay188, k0_pay178, k0_pay177] at g1
  pointwise [k0_pay185, k0_pay183, k0_pay173, k0_pay171, k0_pay172] at g2
  pointwise [k0_pay193, k0_pay192, k0_pay179, k0_pay177, k0_pay174, k0_pay172, k0_pay171, k0_pay169, k0_pay167] at g3

  simp only [(hS _ _).1, (hS _ _).2.1, (hS _ _).2.2.1, (hS _ _).2.2.2.1, (hS _ _).2.2.2.2, rhs1_at, rhs2_at, rhs3_at, rhs4_at, rhs5_at, rhs6_at, rhs7_at, hP, ← EReal.coe_mul, coe_sum', ← EReal.coe_add, ← EReal.coe_sub] at g0 g1 g2 g3
  rw [g0, g1, g2, g3]
  simp only [EReal.coe_eq_coe_iff, accN, sum_halves]
  simp only [← Finset.sum_add_distrib, ← Finset.sum_sub_distrib]
  refine ⟨?_, ?_, ?_, ?_⟩ <;> exact Finset.sum_congr rfl fun k _ => by ring

end Cert.Proof.KernelIdeal
-- ==== Proof.VTok.lean ====
module

public import proofs.«01_k».proof.Proof.VStrassen

@[expose] public section

noncomputable section

namespace Cert.Proof.KernelIdeal

open Cert.KernelIdeal Cert.KernelIdeal.Gen
open Idealize.ShloMosaic Idealize.ShloMosaic.TcCoe
open scoped BigOperators

/-! ## One tile of the token sums -/

/-- What one column adds to a token's sum: `log1p` of the rectified logit, nothing beyond the vocabulary. -/
def tm (j : ℕ) (ws bi : S1x1024.Idx → EReal) (acc xs : EReal) (q : ℕ) : EReal :=
  if h : q < 1024 ∧ 1024 * j + q < 30522 then
    Ideal.log1p (max (acc * xs * ws (ix2 0 ⟨q, h.1⟩) + bi (ix2 0 ⟨q, h.1⟩)) 0) else 0

/-- The vocabulary test of a column. -/
theorem col_test (j : ℕ) (hj : j < 30) (q : ℕ) (hq : q < 1024) :
    IntOp.cmpi .slt (IntOp.addi (Scalar.muli (BitVec.ofNat 32 j) 1024#32) (BitVec.ofNat 32 q)) 30522#32
      = if 1024 * j + q < 30522 then 1#1 else 0#1 := by
  have e : IntOp.addi (Scalar.muli (BitVec.ofNat 32 j) 1024#32) (BitVec.ofNat 32 q)
      = BitVec.ofNat 32 (1024 * j + q) := by
    apply BitVec.eq_of_toNat_eq
    simp [IntOp.addi, Scalar.muli, IntOp.muli]
    omega
  rw [e]
  have hx : (BitVec.ofNat 32 (1024 * j + q)).toInt = (1024 * j + q : ℕ) := by
    rw [BitVec.toInt_eq_toNat_of_lt (by rw [BitVec.toNat_ofNat]; omega), BitVec.toNat_ofNat]; congr 1; omega
  unfold IntOp.cmpi
  have hy : (30522#32 : BitVec 32).toInt = (30522 : ℕ) := by decide
  simp only [BitVec.slt, hx, hy, Nat.cast_lt]
  split <;> rename_i h <;> simp [h]

/-- A column's term as the tile spells it. -/
theorem sel_col (j : ℕ) (hj : j < 30) (ws bi : S1x1024.Idx → EReal) (acc xs : EReal) (q : ℕ) (hq : q < 1024) :
    Scalar.select (IntOp.cmpi .slt (IntOp.addi (Scalar.muli (BitVec.ofNat 32 j) 1024#32) (BitVec.ofNat 32 q)) 30522#32)
      (Ideal.log1p (max (Scalar.select (IntOp.cmpi .slt (IntOp.addi (Scalar.muli (BitVec.ofNat 32 j) 1024#32) (BitVec.ofNat 32 q)) 30522#32) (acc * xs * ws (ix2 0 ⟨q, hq⟩)) 0
        + Scalar.select (IntOp.cmpi .slt (IntOp.addi (Scalar.muli (BitVec.ofNat 32 j) 1024#32) (BitVec.ofNat 32 q)) 30522#32) (bi (ix2 0 ⟨q, hq⟩)) 0) 0)) (0 : EReal)
      = tm j ws bi acc xs q := by
  rw [col_test j hj q hq, tm]
  by_cases h : 1024 * j + q < 30522
  · rw [if_pos h, dif_pos ⟨hq, h⟩]; rfl
  · rw [if_neg h, dif_neg (fun x => h x.2)]; rfl

set_option maxRecDepth 16384 in
set_option maxHeartbeats 4000000 in
/-- A tile's new token sums, loop 1. -/
theorem tile1_at (j : ℕ) (hj : j < 30) (ws bi : S1x1024.Idx → Elt Ideal .f32) (xs tok : S8x128.Idx → Elt Ideal .f32) (c0 c1 c2 c3 c4 c5 c6 c7 : S1x1x8x128.Idx → Elt Ideal .f32) (s : Fin 8) (l : Fin 128) :
    k0_pay215 (F := Ideal) (BitVec.ofNat 32 j) ws bi xs
      (k0_pay41 (k0_pay198 (BitVec.ofNat 32 j)) (k0_pay199 (BitVec.ofNat 32 j) ws) (k0_pay200 (BitVec.ofNat 32 j) bi) xs (k0_pay30 (k0_pay198 (BitVec.ofNat 32 j)) (k0_pay199 (BitVec.ofNat 32 j) ws) (k0_pay200 (BitVec.ofNat 32 j) bi) xs (k0_pay24 (k0_pay198 (BitVec.ofNat 32 j)) (k0_pay199 (BitVec.ofNat 32 j) ws) (k0_pay200 (BitVec.ofNat 32 j) bi) xs (k0_pay14 (k0_pay198 (BitVec.ofNat 32 j)) (k0_pay199 (BitVec.ofNat 32 j) ws) (k0_pay200 (BitVec.ofNat 32 j) bi) xs (k0_pay9 (k0_pay198 (BitVec.ofNat 32 j)) (k0_pay199 (BitVec.ofNat 32 j) ws) (k0_pay200 (BitVec.ofNat 32 j) bi) xs tok c0) c1) (k0_pay18 c2) c3) c4) (k0_pay34 xs c5) (k0_pay35 (k0_pay199 (BitVec.ofNat 32 j) ws)) c6) c7 (ix2 s l)
      = tok (ix2 s l) + tm j ws bi (c0 (ix4 0 0 s l)) (xs (ix2 s l)) (l) + tm j ws bi (c1 (ix4 0 0 s l)) (xs (ix2 s l)) (128 + l) + tm j ws bi (c2 (ix4 0 0 s l)) (xs (ix2 s l)) (256 + l) + tm j ws bi (c3 (ix4 0 0 s l)) (xs (ix2 s l)) (384 + l) + tm j ws bi (c4 (ix4 0 0 s l)) (xs (ix2 s l)) (512 + l) + tm j ws bi (c5 (ix4 0 0 s l)) (xs (ix2 s l)) (640 + l) + tm j ws bi (c6 (ix4 0 0 s l)) (xs (ix2 s l)) (768 + l) + tm j ws bi (c7 (ix4 0 0 s l)) (xs (ix2 s l)) (896 + l) := by
  pointwise [k0_pay8, k0_pay9, k0_pay13, k0_pay14, k0_pay18, k0_pay19, k0_pay23, k0_pay24, k0_pay29, k0_pay30, k0_pay34, k0_pay35, k0_pay36, k0_pay40, k0_pay41, k0_pay198, k0_pay199, k0_pay200, k0_pay211, k0_pay215]
  rw [← sel_col j hj ws bi (c0 (ix4 0 0 s l)) (xs (ix2 s l)) (l) (by omega)]
  rw [← sel_col j hj ws bi (c1 (ix4 0 0 s l)) (xs (ix2 s l)) (128 + l) (by omega)]
  rw [← sel_col j hj ws bi (c2 (ix4 0 0 s l)) (xs (ix2 s l)) (256 + l) (by omega)]
  rw [← sel_col j hj ws bi (c3 (ix4 0 0 s l)) (xs (ix2 s l)) (384 + l) (by omega)]
  rw [← sel_col j hj ws bi (c4 (ix4 0 0 s l)) (xs (ix2 s l)) (512 + l) (by omega)]
  rw [← sel_col j hj ws bi (c5 (ix4 0 0 s l)) (xs (ix2 s l)) (640 + l) (by omega)]
  rw [← sel_col j hj ws bi (c6 (ix4 0 0 s l)) (xs (ix2 s l)) (768 + l) (by omega)]
  rw [← sel_col j hj ws bi (c7 (ix4 0 0 s l)) (xs (ix2 s l)) (896 + l) (by omega)]

set_option maxRecDepth 16384 in
set_option maxHeartbeats 4000000 in
/-- A tile's new token sums, loop 2. -/
theorem tile2_at (j : ℕ) (hj : j < 30) (ws bi : S1x1024.Idx → Elt Ideal .f32) (xs tok : S8x128.Idx → Elt Ideal .f32) (c0 c1 c2 c3 c4 c5 c6 c7 : S1x1x8x128.Idx → Elt Ideal .f32) (s : Fin 8) (l : Fin 128) :
    k0_pay222 (F := Ideal) (k0_pay198 (BitVec.ofNat 32 j)) (k0_pay199 (BitVec.ofNat 32 j) ws) (k0_pay200 (BitVec.ofNat 32 j) bi) xs
      (k0_pay78 (k0_pay198 (BitVec.ofNat 32 j)) (k0_pay199 (BitVec.ofNat 32 j) ws) (k0_pay200 (BitVec.ofNat 32 j) bi) xs (k0_pay67 (k0_pay198 (BitVec.ofNat 32 j)) (k0_pay199 (BitVec.ofNat 32 j) ws) (k0_pay200 (BitVec.ofNat 32 j) bi) xs (k0_pay61 (k0_pay198 (BitVec.ofNat 32 j)) (k0_pay199 (BitVec.ofNat 32 j) ws) (k0_pay200 (BitVec.ofNat 32 j) bi) xs (k0_pay51 (k0_pay198 (BitVec.ofNat 32 j)) (k0_pay199 (BitVec.ofNat 32 j) ws) (k0_pay200 (BitVec.ofNat 32 j) bi) xs (k0_pay46 (k0_pay198 (BitVec.ofNat 32 j)) (k0_pay199 (BitVec.ofNat 32 j) ws) (k0_pay200 (BitVec.ofNat 32 j) bi) xs tok c0) c1) (k0_pay55 c2) c3) c4) (k0_pay71 xs c5) (k0_pay72 (k0_pay199 (BitVec.ofNat 32 j) ws)) c6) c7 (ix2 s l)
      = tok (ix2 s l) + tm j ws bi (c0 (ix4 0 0 s l)) (xs (ix2 s l)) (l) + tm j ws bi (c1 (ix4 0 0 s l)) (xs (ix2 s l)) (128 + l) + tm j ws bi (c2 (ix4 0 0 s l)) (xs (ix2 s l)) (256 + l) + tm j ws bi (c3 (ix4 0 0 s l)) (xs (ix2 s l)) (384 + l) + tm j ws bi (c4 (ix4 0 0 s l)) (xs (ix2 s l)) (512 + l) + tm j ws bi (c5 (ix4 0 0 s l)) (xs (ix2 s l)) (640 + l) + tm j ws bi (c6 (ix4 0 0 s l)) (xs (ix2 s l)) (768 + l) + tm j ws bi (c7 (ix4 0 0 s l)) (xs (ix2 s l)) (896 + l) := by
  pointwise [k0_pay45, k0_pay46, k0_pay50, k0_pay51, k0_pay55, k0_pay56, k0_pay60, k0_pay61, k0_pay66, k0_pay67, k0_pay71, k0_pay72, k0_pay73, k0_pay77, k0_pay78, k0_pay218, k0_pay222, k0_pay198, k0_pay199, k0_pay200]
  rw [← sel_col j hj ws bi (c0 (ix4 0 0 s l)) (xs (ix2 s l)) (l) (by omega)]
  rw [← sel_col j hj ws bi (c1 (ix4 0 0 s l)) (xs (ix2 s l)) (128 + l) (by omega)]
  rw [← sel_col j hj ws bi (c2 (ix4 0 0 s l)) (xs (ix2 s l)) (256 + l) (by omega)]
  rw [← sel_col j hj ws bi (c3 (ix4 0 0 s l)) (xs (ix2 s l)) (384 + l) (by omega)]
  rw [← sel_col j hj ws bi (c4 (ix4 0 0 s l)) (xs (ix2 s l)) (512 + l) (by omega)]
  rw [← sel_col j hj ws bi (c5 (ix4 0 0 s l)) (xs (ix2 s l)) (640 + l) (by omega)]
  rw [← sel_col j hj ws bi (c6 (ix4 0 0 s l)) (xs (ix2 s l)) (768 + l) (by omega)]
  rw [← sel_col j hj ws bi (c7 (ix4 0 0 s l)) (xs (ix2 s l)) (896 + l) (by omega)]

end Cert.Proof.KernelIdeal
-- ==== Proof.VTile.lean ====
module

public import proofs.«01_k».proof.Proof.VTok

@[expose] public section

noncomputable section

namespace Cert.Proof.KernelIdeal

open Cert.KernelIdeal Cert.KernelIdeal.Gen
open Idealize.ShloMosaic Idealize.ShloMosaic.TcCoe
open Idealize.SL Idealize.SL.Sem
open scoped BigOperators

/-! ## The token sums after a point's tiles -/

theorem off6_eq : ∀ n : Fin 18, ∀ k : Fin k0_t1_loop.trips, k0_off6 (BitVec.ofNat 32 n.val) k = ![928 * n.val + 8 * k.val, 0] := by decide +kernel
theorem off23_eq : ∀ n : Fin 18, ∀ k : Fin k0_t1_loop.trips, k0_off23 (BitVec.ofNat 32 n.val) k = ![928 * n.val + 8 * k.val, 0] := by decide +kernel
theorem off28_eq : ∀ n : Fin 18, ∀ k : Fin k0_t2_loop.trips, k0_off28 (BitVec.ofNat 32 n.val) k = ![928 * n.val + (464 + 8 * k.val), 0] := by decide +kernel
theorem off45_eq : ∀ n : Fin 18, ∀ k : Fin k0_t2_loop.trips, k0_off45 (BitVec.ofNat 32 n.val) k = ![928 * n.val + (464 + 8 * k.val), 0] := by decide +kernel

/-- A unit-stride load at a position is the buffer at the offsets plus the position. -/
theorem ld_eq {s : Shape} {Val : EltTy → Type} {e : EltTy} (X : s.Idx → Val e) {off off' size : Fin s.rank → ℕ} (inb : ∀ a, off a + size a ≤ s.size a)
    (y : (Rect.unit off size inb).shape.Idx) (z : s.Idx) (heq : off = off') (hz : ∀ a, (z a).val = off' a + (y a).val) :
    View.ld X (Rect.unit off size inb) y = X z := by
  subst heq
  have hy : (Rect.unit off size inb).emb y = z := funext fun a => Fin.ext (by
    show off a + 1 * (y a).val = (z a).val
    rw [hz a, Nat.one_mul])
  rw [← hy]
  rfl

/-- What the eight lane groups of one vocabulary block add to row `r`, lane `l` of the chunk. -/
def st (j : ℕ) (ws bi : S1x1024.Idx → EReal) (A X : ℕ → ℕ → EReal) (r l : ℕ) : EReal :=
  ∑ g ∈ Finset.range 8, tm j ws bi (A r (128 * g + l)) (X r l) (128 * g + l)

/-- The product scratch as one function of the chunk's row and the block's column. -/
structure AIs (R : S2x2x464x512.Idx → EReal) (A : ℕ → ℕ → EReal) : Prop where
  c00 : ∀ (r : Fin 464) (q : Fin 512), R (ix4 0 0 r q) = A r q
  c01 : ∀ (r : Fin 464) (q : Fin 512), R (ix4 0 1 r q) = A r (512 + q)
  c10 : ∀ (r : Fin 464) (q : Fin 512), R (ix4 1 0 r q) = A (464 + r) q
  c11 : ∀ (r : Fin 464) (q : Fin 512), R (ix4 1 1 r q) = A (464 + r) (512 + q)

set_option maxRecDepth 16384 in
set_option maxHeartbeats 4000000 in
/-- What tile `k` of loop 1 stores, at an index. -/
theorem pay1_at (c : Dev nD) (i : grid0.Static) (n : Fin 18) (j : ℕ) (hj : j < 30) (arg6 : Memref sig .tc .vmem S928x128 .f32) (arg15 : Memref sig .tc .vmem S2x2x464x512 .f32) (arg18 : Memref sig .tc .vmem S16704x128 .f32) (k0_hw1 : k0_chk1 i (BitVec.ofNat 32 n.val)) (ws bi : S1x1024.Idx → Elt Ideal .f32)
    (f6 : Buf (Elt Ideal) (arg6.view.loc (c : Thread nD τ))) (f15 : Buf (Elt Ideal) (arg15.view.loc (c : Thread nD τ))) (G : Buf (Elt Ideal) (arg18.view.loc (c : Thread nD τ)))
    (A X : ℕ → ℕ → EReal) (hA : AIs (arg15.view.read (Elt Ideal) f15) A) (hX : ∀ (r : Fin 928) (l : Fin 128), arg6.view.read (Elt Ideal) f6 (ix2 r l) = X r l) (k : Fin k0_t1_loop.trips) (s : Fin 8) (l : Fin 128) :
    tokPay1 c i (BitVec.ofNat 32 n.val) arg6 arg15 arg18 k0_hw1 (BitVec.ofNat 32 j) ws bi f6 f15 k G (ix2 s l) = arg18.view.read (Elt Ideal) G (ix2 ⟨928 * n.val + 8 * k.val + s.val, by have := k.isLt; have : k0_t1_loop.trips = 58 := rfl; omega⟩ l) + st j ws bi A X (8 * k.val + s) l := by
  have hk : k.val < 58 := k.isLt
  rw [tokPay1]
  refine (tile1_at j hj ws bi (View.ld (arg6.view.read (Elt Ideal) f6) (Rect.unit (s := S928x128) (k0_off5 k) S8x128.size (k0_off5_inb k)))
    (View.ld (arg18.view.read (Elt Ideal) G) (Rect.unit (s := S16704x128) (k0_off6 (BitVec.ofNat 32 n.val) k) S8x128.size (k0_off6_inb i (BitVec.ofNat 32 n.val) k0_hw1 k)))
    (View.ld (arg15.view.read (Elt Ideal) f15) (Rect.unit (s := S2x2x464x512) (k0_off7 k) S1x1x8x128.size (k0_off7_inb k)))
    (View.ld (arg15.view.read (Elt Ideal) f15) (Rect.unit (s := S2x2x464x512) (k0_off9 k) S1x1x8x128.size (k0_off9_inb k)))
    (View.ld (arg15.view.read (Elt Ideal) f15) (Rect.unit (s := S2x2x464x512) (k0_off11 k) S1x1x8x128.size (k0_off11_inb k)))
    (View.ld (arg15.view.read (Elt Ideal) f15) (Rect.unit (s := S2x2x464x512) (k0_off13 k) S1x1x8x128.size (k0_off13_inb k)))
    (View.ld (arg15.view.read (Elt Ideal) f15) (Rect.unit (s := S2x2x464x512) (k0_off15 k) S1x1x8x128.size (k0_off15_inb k)))
    (View.ld (arg15.view.read (Elt Ideal) f15) (Rect.unit (s := S2x2x464x512) (k0_off17 k) S1x1x8x128.size (k0_off17_inb k)))
    (View.ld (arg15.view.read (Elt Ideal) f15) (Rect.unit (s := S2x2x464x512) (k0_off19 k) S1x1x8x128.size (k0_off19_inb k)))
    (View.ld (arg15.view.read (Elt Ideal) f15) (Rect.unit (s := S2x2x464x512) (k0_off21 k) S1x1x8x128.size (k0_off21_inb k)))
    s l).trans ?_
  have hx : View.ld (arg6.view.read (Elt Ideal) f6) (Rect.unit (s := S928x128) (k0_off5 k) S8x128.size (k0_off5_inb k)) (ix2 s l) = X (8 * k.val + s) l := by
    refine (ld_eq _ _ _ (ix2 ⟨8 * k.val + s.val, by omega⟩ l) (k0_off5_eq k) ?_).trans (hX ⟨8 * k.val + s.val, by omega⟩ l)
    intro a; fin_cases a
    · show 8 * k.val + s.val = 8 * k.val + s.val; omega
    · show l.val = 0 + l.val; omega
  have ht : View.ld (arg18.view.read (Elt Ideal) G) (Rect.unit (s := S16704x128) (k0_off6 (BitVec.ofNat 32 n.val) k) S8x128.size (k0_off6_inb i (BitVec.ofNat 32 n.val) k0_hw1 k)) (ix2 s l)
      = arg18.view.read (Elt Ideal) G (ix2 ⟨928 * n.val + 8 * k.val + s.val, by omega⟩ l) := by
    refine ld_eq _ _ _ _ (off6_eq n k) ?_
    intro a; fin_cases a
    · rfl
    · show l.val = 0 + l.val; omega
  have h0 : View.ld (arg15.view.read (Elt Ideal) f15) (Rect.unit (s := S2x2x464x512) (k0_off7 k) S1x1x8x128.size (k0_off7_inb k)) (ix4 0 0 s l) = A (8 * k.val + s) (128 * 0 + l) := by
    refine (ld_eq _ _ _ (ix4 0 0 ⟨8 * k.val + s.val, by omega⟩ ⟨0 + l.val, by omega⟩) (k0_off7_eq k) ?_).trans ((hA.c00 ⟨8 * k.val + s.val, by omega⟩ ⟨0 + l.val, by omega⟩).trans ?_)
    · intro a; fin_cases a <;> rfl
    · congr 1 <;> (simp only []; omega)
  have h1 : View.ld (arg15.view.read (Elt Ideal) f15) (Rect.unit (s := S2x2x464x512) (k0_off9 k) S1x1x8x128.size (k0_off9_inb k)) (ix4 0 0 s l) = A (8 * k.val + s) (128 * 1 + l) := by
    refine (ld_eq _ _ _ (ix4 0 0 ⟨8 * k.val + s.val, by omega⟩ ⟨128 + l.val, by omega⟩) (k0_off9_eq k) ?_).trans ((hA.c00 ⟨8 * k.val + s.val, by omega⟩ ⟨128 + l.val, by omega⟩).trans ?_)
    · intro a; fin_cases a <;> rfl
    · congr 1 <;> (simp only []; omega)
  have h2 : View.ld (arg15.view.read (Elt Ideal) f15) (Rect.unit (s := S2x2x464x512) (k0_off11 k) S1x1x8x128.size (k0_off11_inb k)) (ix4 0 0 s l) = A (8 * k.val + s) (128 * 2 + l) := by
    refine (ld_eq _ _ _ (ix4 0 0 ⟨8 * k.val + s.val, by omega⟩ ⟨256 + l.val, by omega⟩) (k0_off11_eq k) ?_).trans ((hA.c00 ⟨8 * k.val + s.val, by omega⟩ ⟨256 + l.val, by omega⟩).trans ?_)
    · intro a; fin_cases a <;> rfl
    · congr 1 <;> (simp only []; omega)
  have h3 : View.ld (arg15.view.read (Elt Ideal) f15) (Rect.unit (s := S2x2x464x512) (k0_off13 k) S1x1x8x128.size (k0_off13_inb k)) (ix4 0 0 s l) = A (8 * k.val + s) (128 * 3 + l) := by
    refine (ld_eq _ _ _ (ix4 0 0 ⟨8 * k.val + s.val, by omega⟩ ⟨384 + l.val, by omega⟩) (k0_off13_eq k) ?_).trans ((hA.c00 ⟨8 * k.val + s.val, by omega⟩ ⟨384 + l.val, by omega⟩).trans ?_)
    · intro a; fin_cases a <;> rfl
    · congr 1 <;> (simp only []; omega)
  have h4 : View.ld (arg15.view.read (Elt Ideal) f15) (Rect.unit (s := S2x2x464x512) (k0_off15 k) S1x1x8x128.size (k0_off15_inb k)) (ix4 0 0 s l) = A (8 * k.val + s) (128 * 4 + l) := by
    refine (ld_eq _ _ _ (ix4 0 1 ⟨8 * k.val + s.val, by omega⟩ ⟨0 + l.val, by omega⟩) (k0_off15_eq k) ?_).trans ((hA.c01 ⟨8 * k.val + s.val, by omega⟩ ⟨0 + l.val, by omega⟩).trans ?_)
    · intro a; fin_cases a <;> rfl
    · congr 1 <;> (simp only []; omega)
  have h5 : View.ld (arg15.view.read (Elt Ideal) f15) (Rect.unit (s := S2x2x464x512) (k0_off17 k) S1x1x8x128.size (k0_off17_inb k)) (ix4 0 0 s l) = A (8 * k.val + s) (128 * 5 + l) := by
    refine (ld_eq _ _ _ (ix4 0 1 ⟨8 * k.val + s.val, by omega⟩ ⟨128 + l.val, by omega⟩) (k0_off17_eq k) ?_).trans ((hA.c01 ⟨8 * k.val + s.val, by omega⟩ ⟨128 + l.val, by omega⟩).trans ?_)
    · intro a; fin_cases a <;> rfl
    · congr 1 <;> (simp only []; omega)
  have h6 : View.ld (arg15.view.read (Elt Ideal) f15) (Rect.unit (s := S2x2x464x512) (k0_off19 k) S1x1x8x128.size (k0_off19_inb k)) (ix4 0 0 s l) = A (8 * k.val + s) (128 * 6 + l) := by
    refine (ld_eq _ _ _ (ix4 0 1 ⟨8 * k.val + s.val, by omega⟩ ⟨256 + l.val, by omega⟩) (k0_off19_eq k) ?_).trans ((hA.c01 ⟨8 * k.val + s.val, by omega⟩ ⟨256 + l.val, by omega⟩).trans ?_)
    · intro a; fin_cases a <;> rfl
    · congr 1 <;> (simp only []; omega)
  have h7 : View.ld (arg15.view.read (Elt Ideal) f15) (Rect.unit (s := S2x2x464x512) (k0_off21 k) S1x1x8x128.size (k0_off21_inb k)) (ix4 0 0 s l) = A (8 * k.val + s) (128 * 7 + l) := by
    refine (ld_eq _ _ _ (ix4 0 1 ⟨8 * k.val + s.val, by omega⟩ ⟨384 + l.val, by omega⟩) (k0_off21_eq k) ?_).trans ((hA.c01 ⟨8 * k.val + s.val, by omega⟩ ⟨384 + l.val, by omega⟩).trans ?_)
    · intro a; fin_cases a <;> rfl
    · congr 1 <;> (simp only []; omega)
  rw [hx, ht, h0, h1, h2, h3, h4, h5, h6, h7, st]
  simp only [Finset.sum_range_succ, Finset.sum_range_zero, Nat.mul_zero, Nat.zero_add, zero_add, add_assoc, Nat.reduceMul]

/-- One tile of loop 1 as the token sums read it. -/
theorem next1_at (c : Dev nD) (i : grid0.Static) (n : Fin 18) (j : ℕ) (hj : j < 30) (arg6 : Memref sig .tc .vmem S928x128 .f32) (arg15 : Memref sig .tc .vmem S2x2x464x512 .f32) (arg18 : Memref sig .tc .vmem S16704x128 .f32) (k0_hw1 : k0_chk1 i (BitVec.ofNat 32 n.val)) (ws bi : S1x1024.Idx → Elt Ideal .f32)
    (f6 : Buf (Elt Ideal) (arg6.view.loc (c : Thread nD τ))) (f15 : Buf (Elt Ideal) (arg15.view.loc (c : Thread nD τ))) (G : Buf (Elt Ideal) (arg18.view.loc (c : Thread nD τ)))
    (A X : ℕ → ℕ → EReal) (hA : AIs (arg15.view.read (Elt Ideal) f15) A) (hX : ∀ (r : Fin 928) (l : Fin 128), arg6.view.read (Elt Ideal) f6 (ix2 r l) = X r l) (k : Fin k0_t1_loop.trips) (row : Fin 16704) (l : Fin 128) :
    arg18.view.read (Elt Ideal) (tokNext1 c i (BitVec.ofNat 32 n.val) arg6 arg15 arg18 k0_hw1 (BitVec.ofNat 32 j) ws bi f6 f15 k G) (ix2 row l)
      = arg18.view.read (Elt Ideal) G (ix2 row l) + (if 928 * n.val + 8 * k.val ≤ row.val ∧ row.val < 928 * n.val + 8 * (k.val + 1) then st j ws bi A X (row.val - 928 * n.val) l else 0) := by
  have hk : k.val < 58 := k.isLt
  rw [tokNext1]
  by_cases h : 928 * n.val + 8 * k.val ≤ row.val ∧ row.val < 928 * n.val + 8 * (k.val + 1)
  · rw [if_pos h]
    have e := View.read_writes_cons_unit_of_mem (Val := Elt Ideal) arg18.view G (k0_off23_inb i (BitVec.ofNat 32 n.val) k0_hw1 k) (tokPay1 c i (BitVec.ofNat 32 n.val) arg6 arg15 arg18 k0_hw1 (BitVec.ofNat 32 j) ws bi f6 f15 k G) []
      (ix2 row l) (ix2 ⟨row.val - (928 * n.val + 8 * k.val), by omega⟩ l) (off23_eq n k) (by
        intro a; fin_cases a
        · show row.val = 928 * n.val + 8 * k.val + (row.val - (928 * n.val + 8 * k.val)); omega
        · show l.val = 0 + l.val; omega)
    refine e.trans ((pay1_at c i n j hj arg6 arg15 arg18 k0_hw1 ws bi f6 f15 G A X hA hX k _ l).trans ?_)
    have e1 : 928 * n.val + 8 * k.val + (row.val - (928 * n.val + 8 * k.val)) = row.val := by omega
    have e2 : 8 * k.val + (row.val - (928 * n.val + 8 * k.val)) = row.val - 928 * n.val := by omega
    simp only [e1, e2]
  · rw [if_neg h, add_zero]
    exact View.read_writes_cons_unit_of_not_mem (Val := Elt Ideal) arg18.view G (k0_off23_inb i (BitVec.ofNat 32 n.val) k0_hw1 k) (tokPay1 c i (BitVec.ofNat 32 n.val) arg6 arg15 arg18 k0_hw1 (BitVec.ofNat 32 j) ws bi f6 f15 k G) []
      (ix2 row l) (off23_eq n k) 0 (by
        show row.val < 928 * n.val + 8 * k.val ∨ 928 * n.val + 8 * k.val + 8 ≤ row.val; omega)

/-- The token sums after `m` tiles of loop 1. -/
theorem tokAt1_at (c : Dev nD) (i : grid0.Static) (n : Fin 18) (j : ℕ) (hj : j < 30) (arg6 : Memref sig .tc .vmem S928x128 .f32) (arg15 : Memref sig .tc .vmem S2x2x464x512 .f32) (arg18 : Memref sig .tc .vmem S16704x128 .f32) (k0_hw1 : k0_chk1 i (BitVec.ofNat 32 n.val)) (ws bi : S1x1024.Idx → Elt Ideal .f32)
    (f6 : Buf (Elt Ideal) (arg6.view.loc (c : Thread nD τ))) (f15 : Buf (Elt Ideal) (arg15.view.loc (c : Thread nD τ))) (G : Buf (Elt Ideal) (arg18.view.loc (c : Thread nD τ)))
    (A X : ℕ → ℕ → EReal) (hA : AIs (arg15.view.read (Elt Ideal) f15) A) (hX : ∀ (r : Fin 928) (l : Fin 128), arg6.view.read (Elt Ideal) f6 (ix2 r l) = X r l) (row : Fin 16704) (l : Fin 128) (m : ℕ) (hm : m ≤ 58) :
    arg18.view.read (Elt Ideal) (tokAt1 c i (BitVec.ofNat 32 n.val) arg6 arg15 arg18 k0_hw1 (BitVec.ofNat 32 j) ws bi f6 f15 G m) (ix2 row l)
      = arg18.view.read (Elt Ideal) G (ix2 row l) + (if 928 * n.val ≤ row.val ∧ row.val < 928 * n.val + 8 * m then st j ws bi A X (row.val - 928 * n.val) l else 0) := by
  induction m with
  | zero => rw [if_neg (by omega), add_zero]; rfl
  | succ m ih =>
    rw [show m + 1 = (⟨m, hm⟩ : Fin k0_t1_loop.trips).val + 1 from rfl, tokAt1_succ, next1_at c i n j hj arg6 arg15 arg18 k0_hw1 ws bi f6 f15 _ A X hA hX, ih (by omega), add_assoc]
    congr 1
    show (if _ then _ else _) + (if 928 * n.val + 8 * m ≤ row.val ∧ row.val < 928 * n.val + 8 * (m + 1) then _ else _) = (if 928 * n.val ≤ row.val ∧ row.val < 928 * n.val + 8 * (m + 1) then _ else _)
    by_cases h1 : 928 * n.val ≤ row.val ∧ row.val < 928 * n.val + 8 * m
    · rw [if_pos h1, if_neg (by omega), if_pos (by omega), add_zero]
    · by_cases h2 : 928 * n.val + 8 * m ≤ row.val ∧ row.val < 928 * n.val + 8 * (m + 1)
      · rw [if_neg h1, if_pos h2, if_pos (by omega), zero_add]
      · rw [if_neg h1, if_neg h2, if_neg (by omega), add_zero]

set_option maxRecDepth 16384 in
set_option maxHeartbeats 4000000 in
/-- What tile `k` of loop 2 stores, at an index. -/
theorem pay2_at (c : Dev nD) (i : grid0.Static) (n : Fin 18) (j : ℕ) (hj : j < 30) (arg6 : Memref sig .tc .vmem S928x128 .f32) (arg15 : Memref sig .tc .vmem S2x2x464x512 .f32) (arg18 : Memref sig .tc .vmem S16704x128 .f32) (k0_hw1 : k0_chk1 i (BitVec.ofNat 32 n.val)) (ws bi : S1x1024.Idx → Elt Ideal .f32)
    (f6 : Buf (Elt Ideal) (arg6.view.loc (c : Thread nD τ))) (f15 : Buf (Elt Ideal) (arg15.view.loc (c : Thread nD τ))) (G : Buf (Elt Ideal) (arg18.view.loc (c : Thread nD τ)))
    (A X : ℕ → ℕ → EReal) (hA : AIs (arg15.view.read (Elt Ideal) f15) A) (hX : ∀ (r : Fin 928) (l : Fin 128), arg6.view.read (Elt Ideal) f6 (ix2 r l) = X r l) (k : Fin k0_t2_loop.trips) (s : Fin 8) (l : Fin 128) :
    tokPay2 c i (BitVec.ofNat 32 n.val) arg6 arg15 arg18 k0_hw1 (k0_pay198 (BitVec.ofNat 32 j)) (k0_pay199 (BitVec.ofNat 32 j) ws) (k0_pay200 (BitVec.ofNat 32 j) bi) f6 f15 k G (ix2 s l) = arg18.view.read (Elt Ideal) G (ix2 ⟨928 * n.val + (464 + 8 * k.val) + s.val, by have := k.isLt; have : k0_t2_loop.trips = 58 := rfl; omega⟩ l) + st j ws bi A X (464 + 8 * k.val + s) l := by
  have hk : k.val < 58 := k.isLt
  rw [tokPay2]
  refine (tile2_at j hj ws bi (View.ld (arg6.view.read (Elt Ideal) f6) (Rect.unit (s := S928x128) (k0_off27 k) S8x128.size (k0_off27_inb k)))
    (View.ld (arg18.view.read (Elt Ideal) G) (Rect.unit (s := S16704x128) (k0_off28 (BitVec.ofNat 32 n.val) k) S8x128.size (k0_off28_inb i (BitVec.ofNat 32 n.val) k0_hw1 k)))
    (View.ld (arg15.view.read (Elt Ideal) f15) (Rect.unit (s := S2x2x464x512) (k0_off29 k) S1x1x8x128.size (k0_off29_inb k)))
    (View.ld (arg15.view.read (Elt Ideal) f15) (Rect.unit (s := S2x2x464x512) (k0_off31 k) S1x1x8x128.size (k0_off31_inb k)))
    (View.ld (arg15.view.read (Elt Ideal) f15) (Rect.unit (s := S2x2x464x512) (k0_off33 k) S1x1x8x128.size (k0_off33_inb k)))
    (View.ld (arg15.view.read (Elt Ideal) f15) (Rect.unit (s := S2x2x464x512) (k0_off35 k) S1x1x8x128.size (k0_off35_inb k)))
    (View.ld (arg15.view.read (Elt Ideal) f15) (Rect.unit (s := S2x2x464x512) (k0_off37 k) S1x1x8x128.size (k0_off37_inb k)))
    (View.ld (arg15.view.read (Elt Ideal) f15) (Rect.unit (s := S2x2x464x512) (k0_off39 k) S1x1x8x128.size (k0_off39_inb k)))
    (View.ld (arg15.view.read (Elt Ideal) f15) (Rect.unit (s := S2x2x464x512) (k0_off41 k) S1x1x8x128.size (k0_off41_inb k)))
    (View.ld (arg15.view.read (Elt Ideal) f15) (Rect.unit (s := S2x2x464x512) (k0_off43 k) S1x1x8x128.size (k0_off43_inb k)))
    s l).trans ?_
  have hx : View.ld (arg6.view.read (Elt Ideal) f6) (Rect.unit (s := S928x128) (k0_off27 k) S8x128.size (k0_off27_inb k)) (ix2 s l) = X (464 + 8 * k.val + s) l := by
    refine (ld_eq _ _ _ (ix2 ⟨464 + 8 * k.val + s.val, by omega⟩ l) (k0_off27_eq k) ?_).trans (hX ⟨464 + 8 * k.val + s.val, by omega⟩ l)
    intro a; fin_cases a
    · show 464 + 8 * k.val + s.val = 8 * k.val + 464 + s.val; omega
    · show l.val = 0 + l.val; omega
  have ht : View.ld (arg18.view.read (Elt Ideal) G) (Rect.unit (s := S16704x128) (k0_off28 (BitVec.ofNat 32 n.val) k) S8x128.size (k0_off28_inb i (BitVec.ofNat 32 n.val) k0_hw1 k)) (ix2 s l)
      = arg18.view.read (Elt Ideal) G (ix2 ⟨928 * n.val + (464 + 8 * k.val) + s.val, by omega⟩ l) := by
    refine ld_eq _ _ _ _ (off28_eq n k) ?_
    intro a; fin_cases a
    · rfl
    · show l.val = 0 + l.val; omega
  have h0 : View.ld (arg15.view.read (Elt Ideal) f15) (Rect.unit (s := S2x2x464x512) (k0_off29 k) S1x1x8x128.size (k0_off29_inb k)) (ix4 0 0 s l) = A (464 + 8 * k.val + s) (128 * 0 + l) := by
    refine (ld_eq _ _ _ (ix4 1 0 ⟨8 * k.val + s.val, by omega⟩ ⟨0 + l.val, by omega⟩) (k0_off29_eq k) ?_).trans ((hA.c10 ⟨8 * k.val + s.val, by omega⟩ ⟨0 + l.val, by omega⟩).trans ?_)
    · intro a; fin_cases a <;> rfl
    · congr 1 <;> (simp only []; omega)
  have h1 : View.ld (arg15.view.read (Elt Ideal) f15) (Rect.unit (s := S2x2x464x512) (k0_off31 k) S1x1x8x128.size (k0_off31_inb k)) (ix4 0 0 s l) = A (464 + 8 * k.val + s) (128 * 1 + l) := by
    refine (ld_eq _ _ _ (ix4 1 0 ⟨8 * k.val + s.val, by omega⟩ ⟨128 + l.val, by omega⟩) (k0_off31_eq k) ?_).trans ((hA.c10 ⟨8 * k.val + s.val, by omega⟩ ⟨128 + l.val, by omega⟩).trans ?_)
    · intro a; fin_cases a <;> rfl
    · congr 1 <;> (simp only []; omega)
  have h2 : View.ld (arg15.view.read (Elt Ideal) f15) (Rect.unit (s := S2x2x464x512) (k0_off33 k) S1x1x8x128.size (k0_off33_inb k)) (ix4 0 0 s l) = A (464 + 8 * k.val + s) (128 * 2 + l) := by
    refine (ld_eq _ _ _ (ix4 1 0 ⟨8 * k.val + s.val, by omega⟩ ⟨256 + l.val, by omega⟩) (k0_off33_eq k) ?_).trans ((hA.c10 ⟨8 * k.val + s.val, by omega⟩ ⟨256 + l.val, by omega⟩).trans ?_)
    · intro a; fin_cases a <;> rfl
    · congr 1 <;> (simp only []; omega)
  have h3 : View.ld (arg15.view.read (Elt Ideal) f15) (Rect.unit (s := S2x2x464x512) (k0_off35 k) S1x1x8x128.size (k0_off35_inb k)) (ix4 0 0 s l) = A (464 + 8 * k.val + s) (128 * 3 + l) := by
    refine (ld_eq _ _ _ (ix4 1 0 ⟨8 * k.val + s.val, by omega⟩ ⟨384 + l.val, by omega⟩) (k0_off35_eq k) ?_).trans ((hA.c10 ⟨8 * k.val + s.val, by omega⟩ ⟨384 + l.val, by omega⟩).trans ?_)
    · intro a; fin_cases a <;> rfl
    · congr 1 <;> (simp only []; omega)
  have h4 : View.ld (arg15.view.read (Elt Ideal) f15) (Rect.unit (s := S2x2x464x512) (k0_off37 k) S1x1x8x128.size (k0_off37_inb k)) (ix4 0 0 s l) = A (464 + 8 * k.val + s) (128 * 4 + l) := by
    refine (ld_eq _ _ _ (ix4 1 1 ⟨8 * k.val + s.val, by omega⟩ ⟨0 + l.val, by omega⟩) (k0_off37_eq k) ?_).trans ((hA.c11 ⟨8 * k.val + s.val, by omega⟩ ⟨0 + l.val, by omega⟩).trans ?_)
    · intro a; fin_cases a <;> rfl
    · congr 1 <;> (simp only []; omega)
  have h5 : View.ld (arg15.view.read (Elt Ideal) f15) (Rect.unit (s := S2x2x464x512) (k0_off39 k) S1x1x8x128.size (k0_off39_inb k)) (ix4 0 0 s l) = A (464 + 8 * k.val + s) (128 * 5 + l) := by
    refine (ld_eq _ _ _ (ix4 1 1 ⟨8 * k.val + s.val, by omega⟩ ⟨128 + l.val, by omega⟩) (k0_off39_eq k) ?_).trans ((hA.c11 ⟨8 * k.val + s.val, by omega⟩ ⟨128 + l.val, by omega⟩).trans ?_)
    · intro a; fin_cases a <;> rfl
    · congr 1 <;> (simp only []; omega)
  have h6 : View.ld (arg15.view.read (Elt Ideal) f15) (Rect.unit (s := S2x2x464x512) (k0_off41 k) S1x1x8x128.size (k0_off41_inb k)) (ix4 0 0 s l) = A (464 + 8 * k.val + s) (128 * 6 + l) := by
    refine (ld_eq _ _ _ (ix4 1 1 ⟨8 * k.val + s.val, by omega⟩ ⟨256 + l.val, by omega⟩) (k0_off41_eq k) ?_).trans ((hA.c11 ⟨8 * k.val + s.val, by omega⟩ ⟨256 + l.val, by omega⟩).trans ?_)
    · intro a; fin_cases a <;> rfl
    · congr 1 <;> (simp only []; omega)
  have h7 : View.ld (arg15.view.read (Elt Ideal) f15) (Rect.unit (s := S2x2x464x512) (k0_off43 k) S1x1x8x128.size (k0_off43_inb k)) (ix4 0 0 s l) = A (464 + 8 * k.val + s) (128 * 7 + l) := by
    refine (ld_eq _ _ _ (ix4 1 1 ⟨8 * k.val + s.val, by omega⟩ ⟨384 + l.val, by omega⟩) (k0_off43_eq k) ?_).trans ((hA.c11 ⟨8 * k.val + s.val, by omega⟩ ⟨384 + l.val, by omega⟩).trans ?_)
    · intro a; fin_cases a <;> rfl
    · congr 1 <;> (simp only []; omega)
  rw [hx, ht, h0, h1, h2, h3, h4, h5, h6, h7, st]
  simp only [Finset.sum_range_succ, Finset.sum_range_zero, Nat.mul_zero, Nat.zero_add, zero_add, add_assoc, Nat.reduceMul]

/-- One tile of loop 2 as the token sums read it. -/
theorem next2_at (c : Dev nD) (i : grid0.Static) (n : Fin 18) (j : ℕ) (hj : j < 30) (arg6 : Memref sig .tc .vmem S928x128 .f32) (arg15 : Memref sig .tc .vmem S2x2x464x512 .f32) (arg18 : Memref sig .tc .vmem S16704x128 .f32) (k0_hw1 : k0_chk1 i (BitVec.ofNat 32 n.val)) (ws bi : S1x1024.Idx → Elt Ideal .f32)
    (f6 : Buf (Elt Ideal) (arg6.view.loc (c : Thread nD τ))) (f15 : Buf (Elt Ideal) (arg15.view.loc (c : Thread nD τ))) (G : Buf (Elt Ideal) (arg18.view.loc (c : Thread nD τ)))
    (A X : ℕ → ℕ → EReal) (hA : AIs (arg15.view.read (Elt Ideal) f15) A) (hX : ∀ (r : Fin 928) (l : Fin 128), arg6.view.read (Elt Ideal) f6 (ix2 r l) = X r l) (k : Fin k0_t2_loop.trips) (row : Fin 16704) (l : Fin 128) :
    arg18.view.read (Elt Ideal) (tokNext2 c i (BitVec.ofNat 32 n.val) arg6 arg15 arg18 k0_hw1 (k0_pay198 (BitVec.ofNat 32 j)) (k0_pay199 (BitVec.ofNat 32 j) ws) (k0_pay200 (BitVec.ofNat 32 j) bi) f6 f15 k G) (ix2 row l)
      = arg18.view.read (Elt Ideal) G (ix2 row l) + (if 928 * n.val + 464 + 8 * k.val ≤ row.val ∧ row.val < 928 * n.val + 464 + 8 * (k.val + 1) then st j ws bi A X (row.val - 928 * n.val) l else 0) := by
  have hk : k.val < 58 := k.isLt
  rw [tokNext2]
  by_cases h : 928 * n.val + 464 + 8 * k.val ≤ row.val ∧ row.val < 928 * n.val + 464 + 8 * (k.val + 1)
  · rw [if_pos h]
    have e := View.read_writes_cons_unit_of_mem (Val := Elt Ideal) arg18.view G (k0_off45_inb i (BitVec.ofNat 32 n.val) k0_hw1 k) (tokPay2 c i (BitVec.ofNat 32 n.val) arg6 arg15 arg18 k0_hw1 (k0_pay198 (BitVec.ofNat 32 j)) (k0_pay199 (BitVec.ofNat 32 j) ws) (k0_pay200 (BitVec.ofNat 32 j) bi) f6 f15 k G) []
      (ix2 row l) (ix2 ⟨row.val - (928 * n.val + (464 + 8 * k.val)), by omega⟩ l) (off45_eq n k) (by
        intro a; fin_cases a
        · show row.val = 928 * n.val + (464 + 8 * k.val) + (row.val - (928 * n.val + (464 + 8 * k.val))); omega
        · show l.val = 0 + l.val; omega)
    refine e.trans ((pay2_at c i n j hj arg6 arg15 arg18 k0_hw1 ws bi f6 f15 G A X hA hX k _ l).trans ?_)
    have e1 : 928 * n.val + (464 + 8 * k.val) + (row.val - (928 * n.val + (464 + 8 * k.val))) = row.val := by omega
    have e2 : 464 + 8 * k.val + (row.val - (928 * n.val + (464 + 8 * k.val))) = row.val - 928 * n.val := by omega
    simp only [e1, e2]
  · rw [if_neg h, add_zero]
    exact View.read_writes_cons_unit_of_not_mem (Val := Elt Ideal) arg18.view G (k0_off45_inb i (BitVec.ofNat 32 n.val) k0_hw1 k) (tokPay2 c i (BitVec.ofNat 32 n.val) arg6 arg15 arg18 k0_hw1 (k0_pay198 (BitVec.ofNat 32 j)) (k0_pay199 (BitVec.ofNat 32 j) ws) (k0_pay200 (BitVec.ofNat 32 j) bi) f6 f15 k G) []
      (ix2 row l) (off45_eq n k) 0 (by
        show row.val < 928 * n.val + (464 + 8 * k.val) ∨ 928 * n.val + (464 + 8 * k.val) + 8 ≤ row.val; omega)

/-- The token sums after `m` tiles of loop 2. -/
theorem tokAt2_at (c : Dev nD) (i : grid0.Static) (n : Fin 18) (j : ℕ) (hj : j < 30) (arg6 : Memref sig .tc .vmem S928x128 .f32) (arg15 : Memref sig .tc .vmem S2x2x464x512 .f32) (arg18 : Memref sig .tc .vmem S16704x128 .f32) (k0_hw1 : k0_chk1 i (BitVec.ofNat 32 n.val)) (ws bi : S1x1024.Idx → Elt Ideal .f32)
    (f6 : Buf (Elt Ideal) (arg6.view.loc (c : Thread nD τ))) (f15 : Buf (Elt Ideal) (arg15.view.loc (c : Thread nD τ))) (G : Buf (Elt Ideal) (arg18.view.loc (c : Thread nD τ)))
    (A X : ℕ → ℕ → EReal) (hA : AIs (arg15.view.read (Elt Ideal) f15) A) (hX : ∀ (r : Fin 928) (l : Fin 128), arg6.view.read (Elt Ideal) f6 (ix2 r l) = X r l) (row : Fin 16704) (l : Fin 128) (m : ℕ) (hm : m ≤ 58) :
    arg18.view.read (Elt Ideal) (tokAt2 c i (BitVec.ofNat 32 n.val) arg6 arg15 arg18 k0_hw1 (k0_pay198 (BitVec.ofNat 32 j)) (k0_pay199 (BitVec.ofNat 32 j) ws) (k0_pay200 (BitVec.ofNat 32 j) bi) f6 f15 G m) (ix2 row l)
      = arg18.view.read (Elt Ideal) G (ix2 row l) + (if 928 * n.val + 464 ≤ row.val ∧ row.val < 928 * n.val + 464 + 8 * m then st j ws bi A X (row.val - 928 * n.val) l else 0) := by
  induction m with
  | zero => rw [if_neg (by omega), add_zero]; rfl
  | succ m ih =>
    rw [show m + 1 = (⟨m, hm⟩ : Fin k0_t2_loop.trips).val + 1 from rfl, tokAt2_succ, next2_at c i n j hj arg6 arg15 arg18 k0_hw1 ws bi f6 f15 _ A X hA hX, ih (by omega), add_assoc]
    congr 1
    show (if _ then _ else _) + (if 928 * n.val + 464 + 8 * m ≤ row.val ∧ row.val < 928 * n.val + 464 + 8 * (m + 1) then _ else _) = (if 928 * n.val + 464 ≤ row.val ∧ row.val < 928 * n.val + 464 + 8 * (m + 1) then _ else _)
    by_cases h1 : 928 * n.val + 464 ≤ row.val ∧ row.val < 928 * n.val + 464 + 8 * m
    · rw [if_pos h1, if_neg (by omega), if_pos (by omega), add_zero]
    · by_cases h2 : 928 * n.val + 464 + 8 * m ≤ row.val ∧ row.val < 928 * n.val + 464 + 8 * (m + 1)
      · rw [if_neg h1, if_pos h2, if_pos (by omega), zero_add]
      · rw [if_neg h1, if_neg h2, if_neg (by omega), add_zero]

/-- A point's tiles add the block's terms to every row of its chunk and leave the others. -/
theorem point_at (c : Dev nD) (i : grid0.Static) (n : Fin 18) (j : ℕ) (hj : j < 30) (arg6 : Memref sig .tc .vmem S928x128 .f32) (arg15 : Memref sig .tc .vmem S2x2x464x512 .f32) (arg18 : Memref sig .tc .vmem S16704x128 .f32) (k0_hw1 : k0_chk1 i (BitVec.ofNat 32 n.val)) (ws bi : S1x1024.Idx → Elt Ideal .f32)
    (f6 : Buf (Elt Ideal) (arg6.view.loc (c : Thread nD τ))) (f15 : Buf (Elt Ideal) (arg15.view.loc (c : Thread nD τ))) (G : Buf (Elt Ideal) (arg18.view.loc (c : Thread nD τ)))
    (A X : ℕ → ℕ → EReal) (hA : AIs (arg15.view.read (Elt Ideal) f15) A) (hX : ∀ (r : Fin 928) (l : Fin 128), arg6.view.read (Elt Ideal) f6 (ix2 r l) = X r l) (row : Fin 16704) (l : Fin 128) :
    arg18.view.read (Elt Ideal) (tokAt2 c i (BitVec.ofNat 32 n.val) arg6 arg15 arg18 k0_hw1  (k0_pay198 (BitVec.ofNat 32 j)) (k0_pay199 (BitVec.ofNat 32 j) ws) (k0_pay200 (BitVec.ofNat 32 j) bi) f6 f15
        (tokAt1 c i (BitVec.ofNat 32 n.val) arg6 arg15 arg18 k0_hw1  (BitVec.ofNat 32 j) ws bi f6 f15 G 58) 58) (ix2 row l)
      = arg18.view.read (Elt Ideal) G (ix2 row l) + (if 928 * n.val ≤ row.val ∧ row.val < 928 * (n.val + 1) then st j ws bi A X (row.val - 928 * n.val) l else 0) := by
  rw [tokAt2_at c i n j hj arg6 arg15 arg18 k0_hw1 ws bi f6 f15 _ A X hA hX row l 58 le_rfl, tokAt1_at c i n j hj arg6 arg15 arg18 k0_hw1 ws bi f6 f15 G A X hA hX row l 58 le_rfl, add_assoc]
  congr 1
  by_cases h1 : 928 * n.val ≤ row.val ∧ row.val < 928 * n.val + 8 * 58
  · rw [if_pos h1, if_neg (by omega), if_pos (by omega), add_zero]
  · by_cases h2 : 928 * n.val + 464 ≤ row.val ∧ row.val < 928 * n.val + 464 + 8 * 58
    · rw [if_neg h1, if_pos h2, if_pos (by omega), zero_add]
    · rw [if_neg h1, if_neg h2, if_neg (by omega), add_zero]

end Cert.Proof.KernelIdeal
-- ==== Proof.IBase.lean ====
module

public import proofs.«01_k».proof.Proof.VHeadC
public import proofs.«01_k».proof.Proof.Gen.KernelIdeal.Launch
public import proofs.«01_k».proof.Proof.Gen.Pre_pre
public import Idealize.ShloMosaic.Lib.ReduceAll
public import Idealize.ShloMosaic.Lib.WordCmp
public import Idealize.ShloMosaic.Lib.Pipeline.Frame

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the precondition says of the tables -/

/-- The bounds the run needs: the chunk count, the sequence lengths, the sequence numbers of the tiles. -/
structure Tabs (n : S_.Idx → BitVec 32) (len : S64.Idx → BitVec 32) (meta' : S6144.Idx → BitVec 32) : Prop where
  n_lo : 1 ≤ (n fun a => a.elim0).toNat
  n_hi : (n fun a => a.elim0).toNat ≤ 18
  len_hi : ∀ j, (len j).toInt ≤ 256
  seq_hi : ∀ j : S6144.Idx, (j 0).val < 2089 → (meta' j).toNat ≤ 64

theorem and1 {x y : BitVec 1} (h : IntOp.andi x y = 1#1) : x = 1#1 ∧ y = 1#1 := by revert x y; decide

theorem sle1 {x y : BitVec 32} (h : IntOp.cmpi .sle x y = 1#1) : x.toInt ≤ y.toInt := by
  unfold IntOp.cmpi at h
  by_contra hc
  simp [BitVec.sle, hc] at h

theorem sge1 {x y : BitVec 32} (h : IntOp.cmpi .sge x y = 1#1) : y.toInt ≤ x.toInt := by
  unfold IntOp.cmpi at h
  by_contra hc
  simp [BitVec.sle, hc] at h

theorem nat_of_toInt {x : BitVec 32} {k l : ℕ} (h : (k : ℤ) ≤ x.toInt) (h' : x.toInt ≤ (l : ℤ)) : k ≤ x.toNat ∧ x.toNat ≤ l := by
  have := x.isLt
  rw [BitVec.toInt_eq_toNat_cond] at h h'
  split at h <;> omega

theorem tabs_of_pre (a0 : IVec S_ 32) (a1 : IVec S64 32) (a2 : IVec S6144 32) (a3 : FVec F S16704x3584 .bf16) (a4 : FVec F S16704x128 .f32)
    (a5 : IVec S30522x3584 8) (a6 : FVec F S30522 .f32) (a7 : FVec F S30522 .f32) (a8 : IVec S64x128 32)
    (h : Cert.Pre_pre.fn (F := F) a0 a1 a2 a3 a4 a5 a6 a7 a8 = fun _ => 1#1) : Tabs a0 a1 a2 := by
  have h0 := congrFun h (fun a => a.elim0)
  obtain ⟨h1, hps⟩ := and1 (show IntOp.andi _ _ = 1#1 from h0)
  obtain ⟨h2, hp⟩ := and1 (show IntOp.andi _ _ = 1#1 from h1)
  obtain ⟨h3, hm⟩ := and1 (show IntOp.andi _ _ = 1#1 from h2)
  obtain ⟨h4, hs⟩ := and1 (show IntOp.andi _ _ = 1#1 from h3)
  obtain ⟨h5, hl⟩ := and1 (show IntOp.andi _ _ = 1#1 from h4)
  obtain ⟨hlo, hhi⟩ := and1 (show IntOp.andi _ _ = 1#1 from h5)
  have hsub : Subsingleton Cert.Pre_pre.S_.Idx := ⟨fun i j => funext fun a => a.elim0⟩
  have hn : 1 ≤ (a0 fun a => a.elim0).toNat ∧ (a0 fun a => a.elim0).toNat ≤ 18 :=
    nat_of_toInt (sge1 (show IntOp.cmpi .sge _ 1#32 = 1#1 from hlo)) (sle1 (show IntOp.cmpi .sle _ 18#32 = 1#1 from hhi))
  refine ⟨hn.1, hn.2, fun j => ?_, fun j hj => ?_⟩
  · exact sle1 (show IntOp.cmpi .sle _ 256#32 = 1#1 from Host.reduce_andi_all _ _ _ _ _ hl j)
  · have hk := Host.reduce_andi_all _ _ _ _ _ hm (fun a => ⟨(j 0).val, by fin_cases a; exact hj⟩)
    obtain ⟨h1, h2⟩ := and1 (show IntOp.andi _ _ = 1#1 from hk)
    have e : ∀ x : S6144.Idx, (x 0).val = (j 0).val → x = j := fun x hx => funext fun a => by
      fin_cases a; exact Fin.ext hx
    have key := nat_of_toInt (k := 0) (l := 64) (sge1 (show IntOp.cmpi .sge _ 0#32 = 1#1 from h1)) (sle1 (show IntOp.cmpi .sle _ 64#32 = 1#1 from h2))
    have hx := key.2
    have e2 : ∀ x : S6144.Idx, (a2 x).toNat ≤ 64 → (x 0).val = (j 0).val → (a2 j).toNat ≤ 64 := fun x h hx => by rwa [e x hx] at h
    exact e2 _ hx (Nat.zero_add _)

/-! ## The checks of one grid point -/

theorem chk1_cc : ∀ cc : Fin 18,
    (∀ a, (k0_off1 (BitVec.ofNat 32 cc.val)) a + S928x128.size a ≤ S16704x128.size a) ∧
    (∀ t : Fin k0_t1_loop.trips, ∀ a, (k0_off2 (BitVec.ofNat 32 cc.val) t) a + S1.size a ≤ S6144.size a) ∧
    (∀ t : Fin k0_t1_loop.trips, ∀ a, (k0_off3 (BitVec.ofNat 32 cc.val) t) a + S1.size a ≤ S6144.size a) ∧
    (∀ t : Fin k0_t1_loop.trips, ∀ a, (k0_off4 (BitVec.ofNat 32 cc.val) t) a + S1.size a ≤ S6144.size a) ∧
    (∀ t : Fin k0_t1_loop.trips, 8 ∣ (k0_mult3 (BitVec.ofNat 32 cc.val) t).toNat) ∧
    (∀ t : Fin k0_t1_loop.trips, ∀ a, (k0_off6 (BitVec.ofNat 32 cc.val) t) a + S8x128.size a ≤ S16704x128.size a) ∧
    (∀ t : Fin k0_t1_loop.trips, ∀ a, (k0_off23 (BitVec.ofNat 32 cc.val) t) a + S8x128.size a ≤ S16704x128.size a) ∧
    (∀ t : Fin k0_t2_loop.trips, ∀ a, (k0_off24 (BitVec.ofNat 32 cc.val) t) a + S1.size a ≤ S6144.size a) ∧
    (∀ t : Fin k0_t2_loop.trips, ∀ a, (k0_off25 (BitVec.ofNat 32 cc.val) t) a + S1.size a ≤ S6144.size a) ∧
    (∀ t : Fin k0_t2_loop.trips, ∀ a, (k0_off26 (BitVec.ofNat 32 cc.val) t) a + S1.size a ≤ S6144.size a) ∧
    (∀ t : Fin k0_t2_loop.trips, 8 ∣ (k0_mult6 (BitVec.ofNat 32 cc.val) t).toNat) ∧
    (∀ t : Fin k0_t2_loop.trips, ∀ a, (k0_off28 (BitVec.ofNat 32 cc.val) t) a + S8x128.size a ≤ S16704x128.size a) ∧
    (∀ t : Fin k0_t2_loop.trips, ∀ a, (k0_off45 (BitVec.ofNat 32 cc.val) t) a + S8x128.size a ≤ S16704x128.size a) ∧
    (∀ a, (k0_off46 (BitVec.ofNat 32 cc.val)) a + S1.size a ≤ S6144.size a) := by
  decide +kernel

theorem chk1_of (i : grid0.Static) {n : ℕ} (h : n < 18) : k0_chk1 i (BitVec.ofNat 32 n) :=
  ⟨fun _ => (chk1_cc ⟨n, h⟩).1, (chk1_cc ⟨n, h⟩).2⟩

theorem seq_lt : ∀ cc : Fin 18, (∀ t : Fin k0_t1_loop.trips, (k0_off2 (BitVec.ofNat 32 cc.val) t) 0 < 2089)
    ∧ (∀ t : Fin k0_t2_loop.trips, (k0_off24 (BitVec.ofNat 32 cc.val) t) 0 < 2089) ∧ (k0_off46 (BitVec.ofNat 32 cc.val)) 0 < 2089 := by
  decide +kernel

theorem chk234_fin : ∀ v : Fin 65, k0_chk2 (BitVec.ofNat 32 v.val) ∧ k0_chk3 (BitVec.ofNat 32 v.val) ∧ k0_chk4 (BitVec.ofNat 32 v.val) := by
  decide +kernel

theorem chk234_of {v : BitVec 32} (h : v.toNat ≤ 64) : k0_chk2 v ∧ k0_chk3 v ∧ k0_chk4 v := by
  have := chk234_fin ⟨v.toNat, by omega⟩
  simpa using this

end Cert.Proof.KernelIdeal
-- ==== Proof.IOk.lean ====
module

public import proofs.«01_k».proof.Proof.IBase

@[expose] public section

set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The side conditions of the windows -/

/-- The grid at the largest chunk count. -/
abbrev b18 : grid0.Bounds := ![18, 30]

set_option maxRecDepth 100000 in
theorem okw0 : (∀ i : (grid0.at b18).Coords, ∃ h : (∀ a, (cc0_transform_0 b18 i a + 1) * S928x3584.size a ≤ S16704x3584.size a), EltTy.bits .bf16 = 32 ∨ (Rect.block (s := S16704x3584) S928x3584.size (cc0_transform_0 b18 i) h).WholeWords (EltTy.packing .bf16)) := by
  decide +kernel

set_option maxRecDepth 100000 in
theorem okw1 : (∀ i : (grid0.at b18).Coords, ∃ h : (∀ a, (cc0_transform_1 b18 i a + 1) * S928x128.size a ≤ S16704x128.size a), EltTy.bits .f32 = 32 ∨ (Rect.block (s := S16704x128) S928x128.size (cc0_transform_1 b18 i) h).WholeWords (EltTy.packing .f32)) := by
  decide +kernel

set_option maxRecDepth 100000 in
theorem okw2 : (∀ i : (grid0.at b18).Coords, ∃ h : (∀ a, (cc0_transform_2 b18 i a + 1) * S1024x3584.size a ≤ S30720x3584.size a), EltTy.bits .i8 = 32 ∨ (Rect.block (s := S30720x3584) S1024x3584.size (cc0_transform_2 b18 i) h).WholeWords (EltTy.packing .i8)) := by
  decide +kernel

set_option maxRecDepth 100000 in
theorem okw3 : (∀ i : (grid0.at b18).Coords, ∃ h : (∀ a, cc0_transform_3 b18 i a * S1x1024.size a < S1x30522.size a), (EltTy.bits .f32 = 32 ∨ (Rect.unit (s := S1x30522) (fun a => cc0_transform_3 b18 i a * S1x1024.size a) (fun a => (Pipeline.Clip.of (cc0_transform_3 b18 i a) (S1x1024.size a) (S1x30522.size a)).extent (S1x1024.size a)) fun a => Pipeline.Clip.inb (Pipeline.Clip.ok_of (h a))).WholeWords (EltTy.packing .f32)) ∧ (EltTy.bits .f32 = 32 ∨ (Rect.unit (s := S1x1024) (fun _ => 0) (fun a => (Pipeline.Clip.of (cc0_transform_3 b18 i a) (S1x1024.size a) (S1x30522.size a)).extent (S1x1024.size a)) fun a => (Nat.zero_add _).trans_le (Pipeline.Clip.extent_le (Pipeline.Clip.ok_of (h a)))).WholeWords (EltTy.packing .f32))) := by
  decide +kernel

set_option maxRecDepth 100000 in
theorem okw4 : (∀ i : (grid0.at b18).Coords, ∃ h : (∀ a, cc0_transform_4 b18 i a * S1x1024.size a < S1x30522.size a), (EltTy.bits .f32 = 32 ∨ (Rect.unit (s := S1x30522) (fun a => cc0_transform_4 b18 i a * S1x1024.size a) (fun a => (Pipeline.Clip.of (cc0_transform_4 b18 i a) (S1x1024.size a) (S1x30522.size a)).extent (S1x1024.size a)) fun a => Pipeline.Clip.inb (Pipeline.Clip.ok_of (h a))).WholeWords (EltTy.packing .f32)) ∧ (EltTy.bits .f32 = 32 ∨ (Rect.unit (s := S1x1024) (fun _ => 0) (fun a => (Pipeline.Clip.of (cc0_transform_4 b18 i a) (S1x1024.size a) (S1x30522.size a)).extent (S1x1024.size a)) fun a => (Nat.zero_add _).trans_le (Pipeline.Clip.extent_le (Pipeline.Clip.ok_of (h a)))).WholeWords (EltTy.packing .f32))) := by
  decide +kernel

set_option maxRecDepth 100000 in
theorem okw5 : (∀ i : (grid0.at b18).Coords, ∃ h : (∀ a, (cc0_transform_5 b18 i a + 1) * S64x128.size a ≤ S64x128.size a), EltTy.bits .i32 = 32 ∨ (Rect.block (s := S64x128) S64x128.size (cc0_transform_5 b18 i) h).WholeWords (EltTy.packing .i32)) := by
  decide +kernel

set_option maxRecDepth 100000 in
theorem okw6 : (∀ i : (grid0.at b18).Coords, ∃ h : (∀ a, cc0_transform_6 b18 i a * S64x1024.size a < S64x30522.size a), (EltTy.bits .bf16 = 32 ∨ (Rect.unit (s := S64x30522) (fun a => cc0_transform_6 b18 i a * S64x1024.size a) (fun a => (Pipeline.Clip.of (cc0_transform_6 b18 i a) (S64x1024.size a) (S64x30522.size a)).extent (S64x1024.size a)) fun a => Pipeline.Clip.inb (Pipeline.Clip.ok_of (h a))).WholeWords (EltTy.packing .bf16)) ∧ (EltTy.bits .bf16 = 32 ∨ (Rect.unit (s := S64x1024) (fun _ => 0) (fun a => (Pipeline.Clip.of (cc0_transform_6 b18 i a) (S64x1024.size a) (S64x30522.size a)).extent (S64x1024.size a)) fun a => (Nat.zero_add _).trans_le (Pipeline.Clip.extent_le (Pipeline.Clip.ok_of (h a)))).WholeWords (EltTy.packing .bf16))) := by
  decide +kernel

set_option maxRecDepth 100000 in
theorem okw7 : (∀ i : (grid0.at b18).Coords, ∃ h : (∀ a, (cc0_transform_7 b18 i a + 1) * S64x256.size a ≤ S64x256.size a), EltTy.bits .f32 = 32 ∨ (Rect.block (s := S64x256) S64x256.size (cc0_transform_7 b18 i) h).WholeWords (EltTy.packing .f32)) := by
  decide +kernel

/-- A point of the grid at `n ≤ 18` chunks as a point of the largest grid. -/
def up (b : grid0.Bounds) (h0 : b 0 ≤ 18) (h1 : b 1 = 30) (i : (grid0.at b).Coords) : (grid0.at b18).Coords :=
  fun | 0 => ⟨(i 0).val, Nat.lt_of_lt_of_le (i 0).isLt h0⟩ | 1 => ⟨(i 1).val, (i 1).isLt⟩

theorem ok_of (pf : pre0.Contents (Elt F)) (h : (pf 0 fun a => a.elim0).toNat ≤ 18) : ok0 pf := by
  have h0 : dynb0 pf 0 ≤ 18 := h
  refine ⟨?_, fun i => okw0 (up _ h0 rfl i), fun i => okw1 (up _ h0 rfl i), fun i => okw2 (up _ h0 rfl i), fun i => okw3 (up _ h0 rfl i), fun i => okw4 (up _ h0 rfl i), fun i => okw5 (up _ h0 rfl i), fun i => okw6 (up _ h0 rfl i), fun i => okw7 (up _ h0 rfl i)⟩
  have : (grid0.at (dynb0 pf)).N = (pf 0 fun a => a.elim0).toNat * 30 := by
    show _ * (30 * 1) = _
    rfl
  unfold Pipeline.Grid.Admits
  rw [this]; omega

end Cert.Proof.KernelIdeal
-- ==== Proof.IBody.lean ====
module

public import proofs.«01_k».proof.Proof.VHeadA
public import proofs.«01_k».proof.Proof.VHeadB
public import proofs.«01_k».proof.Proof.VHeadC
public import proofs.«01_k».proof.Proof.VHeadD
public import proofs.«01_k».proof.Proof.VTile
public import proofs.«01_k».proof.Proof.IOk

@[expose] public section

set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem flag1 (v : BitVec 1) : (Scalar.cmpi .ne (Scalar.extui v) (0#32 : BitVec 32) = 1#1) ↔ v = 1#1 := by
  revert v; decide

theorem first_col (i : grid0.Static) : k0_cond1 i = 1#1 ↔ (i 1).val = 0 := by
  have key : ∀ y : Fin 30, Scalar.cmpi .eq (BitVec.ofNat 32 y.val) 0#32 = 1#1 ↔ y.val = 0 := by decide +kernel
  exact (flag1 _).trans (key (i 1))

theorem last_col (i : grid0.Static) (a v : BitVec 32) (h : k0_cond3 i a v = 1#1) : (i 1).val = 29 := by
  have key : ∀ y : Fin 30, Scalar.cmpi .eq (BitVec.ofNat 32 y.val) 29#32 = 1#1 ↔ y.val = 29 := by decide +kernel
  exact (key (i 1)).mp (and1 (show IntOp.andi _ _ = 1#1 from (flag1 _).mp h)).2

theorem cond3_last (i : grid0.Static) (n : ℕ) (hn : n < 18) (h : (i 1).val = 29) : k0_cond3 i (BitVec.ofNat 32 n) (BitVec.ofNat 32 (n + 1)) = 1#1 := by
  have key : ∀ y : Fin 18, Scalar.andi (Scalar.cmpi .eq (BitVec.ofNat 32 y.val) (Scalar.subi (BitVec.ofNat 32 (y.val + 1)) 1#32)) (Scalar.cmpi .eq (BitVec.ofNat 32 29) 29#32) = 1#1 := by decide +kernel
  have e : k0_cond3 i (BitVec.ofNat 32 n) (BitVec.ofNat 32 (n + 1))
      = Scalar.cmpi .ne (Scalar.extui (Scalar.andi (Scalar.cmpi .eq (BitVec.ofNat 32 n) (Scalar.subi (BitVec.ofNat 32 (n + 1)) 1#32)) (Scalar.cmpi .eq (BitVec.ofNat 32 (i 1).val) 29#32))) (0#32 : BitVec 32) := rfl
  rw [e, h]
  exact (flag1 _).mpr (key ⟨n, hn⟩)

theorem start_zero (n : ℕ) (hn : n < 18) : Scalar.cmpi .eq (BitVec.ofNat 32 n) 0#32 = 1#1 ↔ n = 0 := by
  have key : ∀ y : Fin 18, Scalar.cmpi .eq (BitVec.ofNat 32 y.val) 0#32 = 1#1 ↔ y.val = 0 := by decide +kernel
  exact key ⟨n, hn⟩

theorem off1_eq : ∀ n : Fin 18, k0_off1 (BitVec.ofNat 32 n.val) = ![928 * n.val, 0] := by decide +kernel

/-- The row scales of a chunk as a function of two numbers. -/
def xN (X6 : S928x128.Idx → EReal) (r l : ℕ) : EReal := if h : r < 928 ∧ l < 128 then X6 (ix2 ⟨r, h.1⟩ ⟨l, h.2⟩) else 0

/-- What one grid point does to the values it keeps: the left-hand sums `S`, the token sums `T`, and at the last point the second result. -/
structure Step (i : grid0.Static) (n cnt : ℕ) (len : ℕ → BitVec 32) (X5 : S928x3584.Idx → Elt Ideal .bf16) (X6 : S928x128.Idx → Elt Ideal .f32) (X7 : S1024x3584.Idx → Elt Ideal .i8)
    (X8 X9 : S1x1024.Idx → Elt Ideal .f32) (S S' : S5x464x1792.Idx → Elt Ideal .bf16) (T T' : S16704x128.Idx → Elt Ideal .f32) (X12 : S64x256.Idx → Elt Ideal .f32) : Prop where
  sums : (i 1).val = 0 → SIs X5 S'
  keep : (i 1).val ≠ 0 → S' = S
  tok : ∀ P : ℕ → ℕ → ℝ, (∀ (r k : ℕ) (hr : r < 928) (hk : k < 3584), X5 (ix2 ⟨r, hr⟩ ⟨k, hk⟩) = ((P r k : ℝ) : EReal)) → SIs X5 S' →
    ∀ (row : Fin 16704) (l : Fin 128), T' (ix2 row l)
      = (if (i 1).val = 0 ∧ (n = 0 ∨ (928 * n ≤ row.val ∧ row.val < 928 * (n + 1))) then 0 else T (ix2 row l))
        + (if 928 * n ≤ row.val ∧ row.val < 928 * (n + 1) then st (i 1).val X8 X9 (fun r q => ((accN P (wN i X7) r q : ℝ) : EReal)) (xN X6) (row.val - 928 * n) l else 0)
  l1 : (i 1).val = 29 → n + 1 = cnt → L1Is len T' X12

/-- The point's values from what its body leaves. -/
theorem step_of (c : Dev nD) (b : grid0.Bounds) (i : grid0.Static) (n : ℕ) (hn : n < 18) (arg2 : Memref sig .tc .smem S1 .i32) (harg2 : arg2.IsWhole) (arg3 : Memref sig .tc .smem S64 .i32) (harg3 : arg3.IsWhole) (arg4 : Memref sig .tc .smem S6144 .i32) (harg4 : arg4.IsWhole) (arg5 : Memref sig .tc .vmem S928x3584 .bf16) (harg5 : arg5.IsWhole) (arg6 : Memref sig .tc .vmem S928x128 .f32) (harg6 : arg6.IsWhole) (arg7 : Memref sig .tc .vmem S1024x3584 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S64x128 .i32) (harg10 : arg10.IsWhole) (arg11 : Memref sig .tc .vmem S64x1024 .bf16) (harg11 : arg11.IsWhole) (arg12 : Memref sig .tc .vmem S64x256 .f32) (harg12 : arg12.IsWhole) (arg13 : Memref sig .tc .vmem S5x464x1792 .bf16) (harg13 : arg13.IsWhole) (arg14 : Memref sig .tc .vmem S512x1792 .bf16) (harg14 : arg14.IsWhole) (arg15 : Memref sig .tc .vmem S2x2x464x512 .f32) (harg15 : arg15.IsWhole) (arg16 : Memref sig .tc .vmem S65x8x1024 .f32) (harg16 : arg16.IsWhole) (arg17 : Memref sig .tc .vmem S30x64x1024 .f32) (harg17 : arg17.IsWhole) (arg18 : Memref sig .tc .vmem S16704x128 .f32) (harg18 : arg18.IsWhole)   (T3 : Buf (Elt Ideal) (arg3.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f13 : Buf (Elt Ideal) (arg13.view.loc (c : Thread nD τ))) (f15 : Buf (Elt Ideal) (arg15.view.loc (c : Thread nD τ))) (f18 : Buf (Elt Ideal) (arg18.view.loc (c : Thread nD τ)))
    (f13' : Buf (Elt Ideal) (arg13.view.loc (c : Thread nD τ))) (G : Buf (Elt Ideal) (arg18.view.loc (c : Thread nD τ))) (g12 : Buf (Elt Ideal) (arg12.view.loc (c : Thread nD τ))) (cnt : ℕ)
    (hs : (i 1).val = 0 → SIs (arg5.view.read (Elt Ideal) f5) (arg13.view.read (Elt Ideal) f13')) (hk : (i 1).val ≠ 0 → f13' = f13) (hC : CIs i (arg5.view.read (Elt Ideal) f5) (arg7.view.read (Elt Ideal) f7) (arg13.view.read (Elt Ideal) f13') (arg15.view.read (Elt Ideal) f15))
    (hG : ∀ (row : Fin 16704) (l : Fin 128), (arg18.view.read (Elt Ideal) G) (ix2 row l) = (if (i 1).val = 0 ∧ (n = 0 ∨ (928 * n ≤ row.val ∧ row.val < 928 * (n + 1))) then 0 else (arg18.view.read (Elt Ideal) f18) (ix2 row l)))
    (hl : (i 1).val = 29 → n + 1 = cnt → L1Is (fun b => arg3.view.readAt (Elt Ideal) (Rect.unit (s := S64) ![b % 64] S1.size (inb_len b)).toLoadRect T3 (Shape.Idx.first (numel1_S1.symm ▸ Nat.one_pos))) (arg18.view.read (Elt Ideal) (tokAt2 c i (BitVec.ofNat 32 n) arg6 arg15 arg18 (chk1_of i hn) (k0_pay198 (BitVec.ofNat 32 (i 1).val)) (k0_pay199 (BitVec.ofNat 32 (i 1).val) (arg8.view.readAt (Elt Ideal) (Rect.unit (s := S1x1024) ![0, 0] S1x1024.size inb_S1x1024_S1x1024_0_0).toLoadRect f8)) (k0_pay200 (BitVec.ofNat 32 (i 1).val) (arg9.view.readAt (Elt Ideal) (Rect.unit (s := S1x1024) ![0, 0] S1x1024.size inb_S1x1024_S1x1024_0_0).toLoadRect f9)) f6 f15 (tokAt1 c i (BitVec.ofNat 32 n) arg6 arg15 arg18 (chk1_of i hn) (BitVec.ofNat 32 (i 1).val) (arg8.view.readAt (Elt Ideal) (Rect.unit (s := S1x1024) ![0, 0] S1x1024.size inb_S1x1024_S1x1024_0_0).toLoadRect f8) (arg9.view.readAt (Elt Ideal) (Rect.unit (s := S1x1024) ![0, 0] S1x1024.size inb_S1x1024_S1x1024_0_0).toLoadRect f9) f6 f15 G 58) 58)) (arg12.view.read (Elt Ideal) g12)) :
    Step i n cnt (fun b => arg3.view.readAt (Elt Ideal) (Rect.unit (s := S64) ![b % 64] S1.size (inb_len b)).toLoadRect T3 (Shape.Idx.first (numel1_S1.symm ▸ Nat.one_pos))) (arg5.view.read (Elt Ideal) f5) (arg6.view.read (Elt Ideal) f6) (arg7.view.read (Elt Ideal) f7) (arg8.view.read (Elt Ideal) f8) (arg9.view.read (Elt Ideal) f9) (arg13.view.read (Elt Ideal) f13) (arg13.view.read (Elt Ideal) f13') (arg18.view.read (Elt Ideal) f18) (arg18.view.read (Elt Ideal) (tokAt2 c i (BitVec.ofNat 32 n) arg6 arg15 arg18 (chk1_of i hn) (k0_pay198 (BitVec.ofNat 32 (i 1).val)) (k0_pay199 (BitVec.ofNat 32 (i 1).val) (arg8.view.readAt (Elt Ideal) (Rect.unit (s := S1x1024) ![0, 0] S1x1024.size inb_S1x1024_S1x1024_0_0).toLoadRect f8)) (k0_pay200 (BitVec.ofNat 32 (i 1).val) (arg9.view.readAt (Elt Ideal) (Rect.unit (s := S1x1024) ![0, 0] S1x1024.size inb_S1x1024_S1x1024_0_0).toLoadRect f9)) f6 f15 (tokAt1 c i (BitVec.ofNat 32 n) arg6 arg15 arg18 (chk1_of i hn) (BitVec.ofNat 32 (i 1).val) (arg8.view.readAt (Elt Ideal) (Rect.unit (s := S1x1024) ![0, 0] S1x1024.size inb_S1x1024_S1x1024_0_0).toLoadRect f8) (arg9.view.readAt (Elt Ideal) (Rect.unit (s := S1x1024) ![0, 0] S1x1024.size inb_S1x1024_S1x1024_0_0).toLoadRect f9) f6 f15 G 58) 58)) (arg12.view.read (Elt Ideal) g12) where
  sums := hs
  keep h := by rw [hk h]
  l1 := hl
  tok P hP hS row l := by
    have hv8 : (arg8.view.readAt (Elt Ideal) (Rect.unit (s := S1x1024) ![0, 0] S1x1024.size inb_S1x1024_S1x1024_0_0).toLoadRect f8) = (arg8.view.read (Elt Ideal) f8) := funext fun x => ld_eq _ _ _ _ rfl (fun a => by fin_cases a <;> exact (Nat.zero_add _).symm)
    have hv9 : (arg9.view.readAt (Elt Ideal) (Rect.unit (s := S1x1024) ![0, 0] S1x1024.size inb_S1x1024_S1x1024_0_0).toLoadRect f9) = (arg9.view.read (Elt Ideal) f9) := funext fun x => ld_eq _ _ _ _ rfl (fun a => by fin_cases a <;> exact (Nat.zero_add _).symm)
    have hp := fun r q => prod_at i (arg5.view.read (Elt Ideal) f5) (arg7.view.read (Elt Ideal) f7) (arg13.view.read (Elt Ideal) f13') (arg15.view.read (Elt Ideal) f15) P hP hS hC r q
    have hA : AIs (arg15.view.read (Elt Ideal) f15) (fun r q => ((accN P (wN i (arg7.view.read (Elt Ideal) f7)) r q : ℝ) : EReal)) :=
      ⟨fun r q => (hp r q).1, fun r q => (hp r q).2.1, fun r q => (hp r q).2.2.1, fun r q => (hp r q).2.2.2⟩
    have hX : ∀ (r : Fin 928) (l : Fin 128), (arg6.view.read (Elt Ideal) f6) (ix2 r l) = xN (arg6.view.read (Elt Ideal) f6) r l := fun r l => by
      rw [xN, dif_pos ⟨r.isLt, l.isLt⟩]
    rw [hv8, hv9]
    have e := point_at c i ⟨n, hn⟩ (i 1).val (i 1).isLt arg6 arg15 arg18 (chk1_of i hn) (arg8.view.read (Elt Ideal) f8) (arg9.view.read (Elt Ideal) f9) f6 f15 G _ _ hA hX row l
    rw [hG] at e
    exact e

/-- The chunk's rows zeroed, the others as they were. -/
theorem zeroed_at (c : Dev nD) (i : grid0.Static) (n : ℕ) (hn : n < 18) (arg18 : Memref sig .tc .vmem S16704x128 .f32) (f18 : Buf (Elt Ideal) (arg18.view.loc (c : Thread nD τ))) (hc1 : k0_cond1 i = 1#1)
    (hj : (i 1).val = 0) (hn0 : n ≠ 0) (row : Fin 16704) (l : Fin 128) :
    arg18.view.read (Elt Ideal) (arg18.view.writes (Elt Ideal) f18 [⟨Rect.unit (s := S16704x128) (k0_off1 (BitVec.ofNat 32 n)) S928x128.size (k0_off1_inb i (BitVec.ofNat 32 n) (chk1_of i hn) hc1), (k0_pay161 (F := Ideal))⟩]) (ix2 row l)
      = (if (i 1).val = 0 ∧ (n = 0 ∨ (928 * n ≤ row.val ∧ row.val < 928 * (n + 1))) then 0 else arg18.view.read (Elt Ideal) f18 (ix2 row l)) := by
  by_cases h : 928 * n ≤ row.val ∧ row.val < 928 * (n + 1)
  · rw [if_pos ⟨hj, Or.inr h⟩]
    refine (View.read_writes_cons_unit_of_mem (Val := Elt Ideal) arg18.view f18 (k0_off1_inb i (BitVec.ofNat 32 n) (chk1_of i hn) hc1) (k0_pay161 (F := Ideal)) [] (ix2 row l)
      (ix2 ⟨row.val - 928 * n, by omega⟩ l) (off1_eq ⟨n, hn⟩) (by
        intro a; fin_cases a
        · show row.val = 928 * n + (row.val - 928 * n); omega
        · show l.val = 0 + l.val; omega)).trans ?_
    pointwise [k0_pay161]
  · rw [if_neg (fun x => x.2.elim hn0 h)]
    exact View.read_writes_cons_unit_of_not_mem (Val := Elt Ideal) arg18.view f18 (k0_off1_inb i (BitVec.ofNat 32 n) (chk1_of i hn) hc1) (k0_pay161 (F := Ideal)) [] (ix2 row l) (off1_eq ⟨n, hn⟩) 0 (by
      show row.val < 928 * n ∨ 928 * n + 928 ≤ row.val; omega)

set_option maxHeartbeats 4000000 in
/-- The body at a grid point, whichever of its branches the point takes. -/
theorem head_raw (c : Dev nD) (b : grid0.Bounds) (i : grid0.Static) (n : ℕ) (hn : n < 18) (arg2 : Memref sig .tc .smem S1 .i32) (harg2 : arg2.IsWhole) (arg3 : Memref sig .tc .smem S64 .i32) (harg3 : arg3.IsWhole) (arg4 : Memref sig .tc .smem S6144 .i32) (harg4 : arg4.IsWhole) (arg5 : Memref sig .tc .vmem S928x3584 .bf16) (harg5 : arg5.IsWhole) (arg6 : Memref sig .tc .vmem S928x128 .f32) (harg6 : arg6.IsWhole) (arg7 : Memref sig .tc .vmem S1024x3584 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S64x128 .i32) (harg10 : arg10.IsWhole) (arg11 : Memref sig .tc .vmem S64x1024 .bf16) (harg11 : arg11.IsWhole) (arg12 : Memref sig .tc .vmem S64x256 .f32) (harg12 : arg12.IsWhole) (arg13 : Memref sig .tc .vmem S5x464x1792 .bf16) (harg13 : arg13.IsWhole) (arg14 : Memref sig .tc .vmem S512x1792 .bf16) (harg14 : arg14.IsWhole) (arg15 : Memref sig .tc .vmem S2x2x464x512 .f32) (harg15 : arg15.IsWhole) (arg16 : Memref sig .tc .vmem S65x8x1024 .f32) (harg16 : arg16.IsWhole) (arg17 : Memref sig .tc .vmem S30x64x1024 .f32) (harg17 : arg17.IsWhole) (arg18 : Memref sig .tc .vmem S16704x128 .f32) (harg18 : arg18.IsWhole)  (T2 : Buf (Elt Ideal) (arg2.view.loc (c : Thread nD τ))) (T3 : Buf (Elt Ideal) (arg3.view.loc (c : Thread nD τ))) (T4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f12 : Buf (Elt Ideal) (arg12.view.loc (c : Thread nD τ))) (f13 : Buf (Elt Ideal) (arg13.view.loc (c : Thread nD τ))) (f18 : Buf (Elt Ideal) (arg18.view.loc (c : Thread nD τ)))
    (cnt : ℕ) (hcnt : (arg2.view.readAt (Elt Ideal) (Rect.unit (s := S1) ![0] S1.size inb_S1_S1_0).toLoadRect T2 (Shape.Idx.first (numel1_S1.symm ▸ Nat.one_pos))) = BitVec.ofNat 32 cnt)
    (hseq : ∀ (o : Fin 1 → ℕ) (hb : ∀ a, o a + S1.size a ≤ S6144.size a), o 0 < 2089 → (arg4.view.readAt (Elt Ideal) (Rect.unit (s := S6144) o S1.size hb).toLoadRect T4 (Shape.Idx.first (numel1_S1.symm ▸ Nat.one_pos))).toNat ≤ 64)
    (hlen : ∀ (o : Fin 1 → ℕ) (hb : ∀ a, o a + S1.size a ≤ S64.size a), (arg3.view.readAt (Elt Ideal) (Rect.unit (s := S64) o S1.size hb).toLoadRect T3 (Shape.Idx.first (numel1_S1.symm ▸ Nat.one_pos))).toInt ≤ 256) (K : PUnit → sProp 𝕄) :
    iprop((arg2.view.loc (c : Thread nD τ) ↦[arg2.view.set]{fullShare.right} T2) ∗ (arg3.view.loc (c : Thread nD τ) ↦[arg3.view.set]{fullShare.right} T3) ∗ (arg4.view.loc (c : Thread nD τ) ↦[arg4.view.set]{fullShare.right} T4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f, (arg11.view.loc (c : Thread nD τ) ↦[arg11.view.set]{fullShare} f)) ∗ (arg12.view.loc (c : Thread nD τ) ↦[arg12.view.set]{fullShare} f12) ∗ (arg13.view.loc (c : Thread nD τ) ↦[arg13.view.set]{fullShare} f13) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (arg18.view.loc (c : Thread nD τ) ↦[arg18.view.set]{fullShare} f18)
      ∗ (iprop((arg2.view.loc (c : Thread nD τ) ↦[arg2.view.set]{fullShare.right} T2) ∗ (arg3.view.loc (c : Thread nD τ) ↦[arg3.view.set]{fullShare.right} T3) ∗ (arg4.view.loc (c : Thread nD τ) ↦[arg4.view.set]{fullShare.right} T4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f, (arg11.view.loc (c : Thread nD τ) ↦[arg11.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ g12 f13' f18', ⌜Step i n cnt (fun b => arg3.view.readAt (Elt Ideal) (Rect.unit (s := S64) ![b % 64] S1.size (inb_len b)).toLoadRect T3 (Shape.Idx.first (numel1_S1.symm ▸ Nat.one_pos))) (arg5.view.read (Elt Ideal) f5) (arg6.view.read (Elt Ideal) f6) (arg7.view.read (Elt Ideal) f7) (arg8.view.read (Elt Ideal) f8) (arg9.view.read (Elt Ideal) f9) (arg13.view.read (Elt Ideal) f13) (arg13.view.read (Elt Ideal) f13') (arg18.view.read (Elt Ideal) f18) (arg18.view.read (Elt Ideal) f18') (arg12.view.read (Elt Ideal) g12)⌝ ∗ (arg12.view.loc (c : Thread nD τ) ↦[arg12.view.set]{fullShare} g12) ∗ (arg13.view.loc (c : Thread nD τ) ↦[arg13.view.set]{fullShare} f13') ∗ (arg18.view.loc (c : Thread nD τ) ↦[arg18.view.set]{fullShare} f18'))) -∗ K ⟨⟩))
      ⊢ wp frame (wpE (defs₀ (F := Ideal)) Variants.none c none) Set.univ (cc0_head b i (BitVec.ofNat 32 n) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  by_cases hc1 : k0_cond1 i = 1#1
  · have hj := (first_col i).mp hc1
    have hc3 : ∀ v, ¬(k0_cond3 i (BitVec.ofNat 32 n) v = 1#1) := fun v h => by
      have h2 := last_col i _ v h
      omega
    by_cases hc2 : (Scalar.cmpi .ne (Scalar.extui (Scalar.andi (Scalar.cmpi .eq (BitVec.ofNat 32 n) 0#32) (Scalar.cmpi .eq (BitVec.ofNat 32 (i 1).val) 0#32))) 0#32 = 1#1)
    · have hn0 : n = 0 := (start_zero n hn).mp (and1 (show IntOp.andi _ _ = 1#1 from (flag1 _).mp hc2)).1
      iintro ⟨H2, H3, H4, H5, H6, H7, H8, H9, H10, H11, H12, H13, H14, H15, H16, H17, H18, Hk⟩
      iapply (headA c b i (BitVec.ofNat 32 n) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 T2 T3 T4 f5 f6 f7 f8 f9 f10 f12 (chk1_of i hn) (fun k => (chk234_of (hseq _ _ ((seq_lt ⟨n, hn⟩).1 k))).1) (fun k => (chk234_of (hseq _ _ ((seq_lt ⟨n, hn⟩).2.1 k))).2.1) (chk234_of (hseq _ _ (seq_lt ⟨n, hn⟩).2.2)).2.2 hc1 hc2 (hc3 _)  K)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexact H14
      isplitl [H15]; · iexact H15
      isplitl [H16]; · iexact H16
      isplitl [H17]; · iexact H17
      isplitl [H18]; · iexists _; iexact H18
      iintro ⟨H2, H3, H4, H5, H6, H7, H8, H9, H10, H11, H12, H14, H16, H17, ⟨%f13n, %f15, %f18n, %hp, H13, H15, H18⟩⟩
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H14]; · iexact H14
      isplitl [H15]; · iexists _; iexact H15
      isplitl [H16]; · iexact H16
      isplitl [H17]; · iexact H17
      iexists f12, f13n, _
      isplitr; rotate_left
      · isplitl [H12]; · iexact H12
        isplitl [H13]; · iexact H13
        iexact H18
      ipureintro
      obtain ⟨hS, hz, hC⟩ := hp
      refine step_of c b i n hn arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 T3 f5 f6 f7 f8 f9 f13 f15 f18 f13n f18n f12 cnt ?_ ?_ hC ?_ ?_
      · exact fun _ => hS
      · exact fun h => absurd ((first_col i).mp hc1) h
      · intro row l
        rw [if_pos ⟨hj, Or.inl hn0⟩, hz]
        show k0_pay163 (F := Ideal) (ix2 row l) = 0
        pointwise [k0_pay163]
      · intro h; omega
    · have hn0 : n ≠ 0 := fun h => hc2 ((flag1 _).mpr (by subst h; rw [hj]; decide))
      iintro ⟨H2, H3, H4, H5, H6, H7, H8, H9, H10, H11, H12, H13, H14, H15, H16, H17, H18, Hk⟩
      iapply (headB c b i (BitVec.ofNat 32 n) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 T2 T3 T4 f5 f6 f7 f8 f9 f10 f12 f18 (chk1_of i hn) (fun k => (chk234_of (hseq _ _ ((seq_lt ⟨n, hn⟩).1 k))).1) (fun k => (chk234_of (hseq _ _ ((seq_lt ⟨n, hn⟩).2.1 k))).2.1) (chk234_of (hseq _ _ (seq_lt ⟨n, hn⟩).2.2)).2.2 hc1 hc2 (hc3 _)  K)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexact H14
      isplitl [H15]; · iexact H15
      isplitl [H16]; · iexact H16
      isplitl [H17]; · iexact H17
      isplitl [H18]; · iexact H18
      iintro ⟨H2, H3, H4, H5, H6, H7, H8, H9, H10, H11, H12, H14, H16, H17, ⟨%f13n, %f15, %hp, H13, H15, H18⟩⟩
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H14]; · iexact H14
      isplitl [H15]; · iexists _; iexact H15
      isplitl [H16]; · iexact H16
      isplitl [H17]; · iexact H17
      iexists f12, f13n, _
      isplitr; rotate_left
      · isplitl [H12]; · iexact H12
        isplitl [H13]; · iexact H13
        iexact H18
      ipureintro
      obtain ⟨hS, hC⟩ := hp
      refine step_of c b i n hn arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 T3 f5 f6 f7 f8 f9 f13 f15 f18 f13n _ f12 cnt ?_ ?_ hC ?_ ?_
      · exact fun _ => hS
      · exact fun h => absurd ((first_col i).mp hc1) h
      · intro row l
        exact zeroed_at c i n hn arg18 f18 hc1 hj hn0 row l
      · intro h; omega
  · have hj : (i 1).val ≠ 0 := fun h => hc1 ((first_col i).mpr h)
    have hc2 : ¬(Scalar.cmpi .ne (Scalar.extui (Scalar.andi (Scalar.cmpi .eq (BitVec.ofNat 32 n) 0#32) (Scalar.cmpi .eq (BitVec.ofNat 32 (i 1).val) 0#32))) 0#32 = 1#1) := fun h =>
      hc1 ((flag1 _).mpr (and1 (show IntOp.andi _ _ = 1#1 from (flag1 _).mp h)).2)
    by_cases hc3 : k0_cond3 i (BitVec.ofNat 32 n) (arg2.view.readAt (Elt Ideal) (Rect.unit (s := S1) ![0] S1.size inb_S1_S1_0).toLoadRect T2 (Shape.Idx.first (numel1_S1.symm ▸ Nat.one_pos))) = 1#1
    · skip
      iintro ⟨H2, H3, H4, H5, H6, H7, H8, H9, H10, H11, H12, H13, H14, H15, H16, H17, H18, Hk⟩
      iapply (headD c b i (BitVec.ofNat 32 n) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 T2 T3 T4 f5 f6 f7 f8 f9 f10 f12 f13 f18 (chk1_of i hn) (fun k => (chk234_of (hseq _ _ ((seq_lt ⟨n, hn⟩).1 k))).1) (fun k => (chk234_of (hseq _ _ ((seq_lt ⟨n, hn⟩).2.1 k))).2.1) (chk234_of (hseq _ _ (seq_lt ⟨n, hn⟩).2.2)).2.2 hc1 hc2 hc3 hlen K)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iintro ⟨H2, H3, H4, H5, H6, H7, H8, H9, H10, H11, H14, H16, H17, ⟨%f15, %g12, %hp, H12, H13, H15, H18⟩⟩
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H14]; · iexact H14
      isplitl [H15]; · iexists _; iexact H15
      isplitl [H16]; · iexact H16
      isplitl [H17]; · iexact H17
      iexists g12, f13, _
      isplitr; rotate_left
      · isplitl [H12]; · iexact H12
        isplitl [H13]; · iexact H13
        iexact H18
      ipureintro
      obtain ⟨hC, hL⟩ := hp
      refine step_of c b i n hn arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 T3 f5 f6 f7 f8 f9 f13 f15 f18 f13 f18 g12 cnt ?_ ?_ hC ?_ ?_
      · exact fun h => absurd h hj
      · exact fun _ => rfl
      · intro row l
        rw [if_neg (fun h => hj h.1)]
      · exact fun _ _ => hL
    · skip
      iintro ⟨H2, H3, H4, H5, H6, H7, H8, H9, H10, H11, H12, H13, H14, H15, H16, H17, H18, Hk⟩
      iapply (headC c b i (BitVec.ofNat 32 n) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 T2 T3 T4 f5 f6 f7 f8 f9 f10 f12 f13 f18 (chk1_of i hn) (fun k => (chk234_of (hseq _ _ ((seq_lt ⟨n, hn⟩).1 k))).1) (fun k => (chk234_of (hseq _ _ ((seq_lt ⟨n, hn⟩).2.1 k))).2.1) (chk234_of (hseq _ _ (seq_lt ⟨n, hn⟩).2.2)).2.2 hc1 hc2 hc3  K)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iintro ⟨H2, H3, H4, H5, H6, H7, H8, H9, H10, H11, H12, H14, H16, H17, ⟨%f15, %hC, H13, H15, H18⟩⟩
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H14]; · iexact H14
      isplitl [H15]; · iexists _; iexact H15
      isplitl [H16]; · iexact H16
      isplitl [H17]; · iexact H17
      iexists f12, f13, _
      isplitr; rotate_left
      · isplitl [H12]; · iexact H12
        isplitl [H13]; · iexact H13
        iexact H18
      ipureintro
      refine step_of c b i n hn arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 T3 f5 f6 f7 f8 f9 f13 f15 f18 f13 f18 f12 cnt ?_ ?_ hC ?_ ?_
      · exact fun h => absurd h hj
      · exact fun _ => rfl
      · intro row l
        rw [if_neg (fun h => hj h.1)]
      · intro h1 h2
        exact absurd (by rw [hcnt, ← h2]; exact cond3_last i n hn h1) hc3

set_option maxHeartbeats 4000000 in
/-- The body at a grid point: the input windows stay as found, the values kept move by `Step`. -/
theorem head_any (c : Dev nD) (b : grid0.Bounds) (i : grid0.Static) (n : ℕ) (hn : n < 18) (arg2 : Memref sig .tc .smem S1 .i32) (harg2 : arg2.IsWhole) (arg3 : Memref sig .tc .smem S64 .i32) (harg3 : arg3.IsWhole) (arg4 : Memref sig .tc .smem S6144 .i32) (harg4 : arg4.IsWhole) (arg5 : Memref sig .tc .vmem S928x3584 .bf16) (harg5 : arg5.IsWhole) (arg6 : Memref sig .tc .vmem S928x128 .f32) (harg6 : arg6.IsWhole) (arg7 : Memref sig .tc .vmem S1024x3584 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S64x128 .i32) (harg10 : arg10.IsWhole) (arg11 : Memref sig .tc .vmem S64x1024 .bf16) (harg11 : arg11.IsWhole) (arg12 : Memref sig .tc .vmem S64x256 .f32) (harg12 : arg12.IsWhole) (arg13 : Memref sig .tc .vmem S5x464x1792 .bf16) (harg13 : arg13.IsWhole) (arg14 : Memref sig .tc .vmem S512x1792 .bf16) (harg14 : arg14.IsWhole) (arg15 : Memref sig .tc .vmem S2x2x464x512 .f32) (harg15 : arg15.IsWhole) (arg16 : Memref sig .tc .vmem S65x8x1024 .f32) (harg16 : arg16.IsWhole) (arg17 : Memref sig .tc .vmem S30x64x1024 .f32) (harg17 : arg17.IsWhole) (arg18 : Memref sig .tc .vmem S16704x128 .f32) (harg18 : arg18.IsWhole)  (T2 : Buf (Elt Ideal) (arg2.view.loc (c : Thread nD τ))) (T3 : Buf (Elt Ideal) (arg3.view.loc (c : Thread nD τ))) (T4 : Buf (Elt Ideal) (arg4.view.loc (c : Thread nD τ))) (X5 : S928x3584.Idx → Elt Ideal .bf16) (X6 : S928x128.Idx → Elt Ideal .f32) (X7 : S1024x3584.Idx → Elt Ideal .i8) (X8 : S1x1024.Idx → Elt Ideal .f32) (X9 : S1x1024.Idx → Elt Ideal .f32) (X10 : S64x128.Idx → Elt Ideal .i32) (f13 : Buf (Elt Ideal) (arg13.view.loc (c : Thread nD τ))) (f18 : Buf (Elt Ideal) (arg18.view.loc (c : Thread nD τ)))
    (cnt : ℕ) (hcnt : (arg2.view.readAt (Elt Ideal) (Rect.unit (s := S1) ![0] S1.size inb_S1_S1_0).toLoadRect T2 (Shape.Idx.first (numel1_S1.symm ▸ Nat.one_pos))) = BitVec.ofNat 32 cnt)
    (hseq : ∀ (o : Fin 1 → ℕ) (hb : ∀ a, o a + S1.size a ≤ S6144.size a), o 0 < 2089 → (arg4.view.readAt (Elt Ideal) (Rect.unit (s := S6144) o S1.size hb).toLoadRect T4 (Shape.Idx.first (numel1_S1.symm ▸ Nat.one_pos))).toNat ≤ 64)
    (hlen : ∀ (o : Fin 1 → ℕ) (hb : ∀ a, o a + S1.size a ≤ S64.size a), (arg3.view.readAt (Elt Ideal) (Rect.unit (s := S64) o S1.size hb).toLoadRect T3 (Shape.Idx.first (numel1_S1.symm ▸ Nat.one_pos))).toInt ≤ 256) (K : PUnit → sProp 𝕄) :
    iprop((arg2.view.loc (c : Thread nD τ) ↦[arg2.view.set]{fullShare.right} T2) ∗ (arg3.view.loc (c : Thread nD τ) ↦[arg3.view.set]{fullShare.right} T3) ∗ (arg4.view.loc (c : Thread nD τ) ↦[arg4.view.set]{fullShare.right} T4) ∗ (owns (c : Thread nD τ) arg5 fullShare X5) ∗ (owns (c : Thread nD τ) arg6 fullShare X6) ∗ (owns (c : Thread nD τ) arg7 fullShare X7) ∗ (owns (c : Thread nD τ) arg8 fullShare X8) ∗ (owns (c : Thread nD τ) arg9 fullShare X9) ∗ (owns (c : Thread nD τ) arg10 fullShare X10) ∗ (∃ X, (owns (c : Thread nD τ) arg11 fullShare X)) ∗ (∃ X, (owns (c : Thread nD τ) arg12 fullShare X)) ∗ (arg13.view.loc (c : Thread nD τ) ↦[arg13.view.set]{fullShare} f13) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (arg18.view.loc (c : Thread nD τ) ↦[arg18.view.set]{fullShare} f18)
      ∗ (iprop((arg2.view.loc (c : Thread nD τ) ↦[arg2.view.set]{fullShare.right} T2) ∗ (arg3.view.loc (c : Thread nD τ) ↦[arg3.view.set]{fullShare.right} T3) ∗ (arg4.view.loc (c : Thread nD τ) ↦[arg4.view.set]{fullShare.right} T4) ∗ (owns (c : Thread nD τ) arg5 fullShare X5) ∗ (owns (c : Thread nD τ) arg6 fullShare X6) ∗ (owns (c : Thread nD τ) arg7 fullShare X7) ∗ (owns (c : Thread nD τ) arg8 fullShare X8) ∗ (owns (c : Thread nD τ) arg9 fullShare X9) ∗ (owns (c : Thread nD τ) arg10 fullShare X10) ∗ (∃ X, (owns (c : Thread nD τ) arg11 fullShare X)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ X12 f13' f18', ⌜Step i n cnt (fun b => arg3.view.readAt (Elt Ideal) (Rect.unit (s := S64) ![b % 64] S1.size (inb_len b)).toLoadRect T3 (Shape.Idx.first (numel1_S1.symm ▸ Nat.one_pos))) X5 X6 X7 X8 X9 (arg13.view.read (Elt Ideal) f13) (arg13.view.read (Elt Ideal) f13') (arg18.view.read (Elt Ideal) f18) (arg18.view.read (Elt Ideal) f18') X12⌝ ∗ (owns (c : Thread nD τ) arg12 fullShare X12) ∗ (arg13.view.loc (c : Thread nD τ) ↦[arg13.view.set]{fullShare} f13') ∗ (arg18.view.loc (c : Thread nD τ) ↦[arg18.view.set]{fullShare} f18'))) -∗ K ⟨⟩))
      ⊢ wp frame (wpE (defs₀ (F := Ideal)) Variants.none c none) Set.univ (cc0_head b i (BitVec.ofNat 32 n) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold owns
  iintro ⟨H2, H3, H4, ⟨%f5, %h5, H5⟩, ⟨%f6, %h6, H6⟩, ⟨%f7, %h7, H7⟩, ⟨%f8, %h8, H8⟩, ⟨%f9, %h9, H9⟩, ⟨%f10, %h10, H10⟩, ⟨%X11, %f11, %h11, H11⟩, ⟨%X12, %f12, %h12, H12⟩, H13, H14, H15, H16, H17, H18, Hk⟩
  iapply (head_raw c b i n hn arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 T2 T3 T4 f5 f6 f7 f8 f9 f10 f12 f13 f18 cnt hcnt hseq hlen K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iintro ⟨H2, H3, H4, H5, H6, H7, H8, H9, H10, ⟨%g11, H11⟩, H14, H15, H16, H17, ⟨%g12, %f13n, %f18n, %hp, H12, H13, H18⟩⟩
  iapply Hk
  isplitl [H2]; · iexact H2
  isplitl [H3]; · iexact H3
  isplitl [H4]; · iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists f9; isplitr; · ipureintro; exact h9
    iexact H9
  isplitl [H10]
  · iexists f10; isplitr; · ipureintro; exact h10
    iexact H10
  isplitl [H11]
  · iexists _, g11; isplitr; · ipureintro; rfl
    iexact H11
  isplitl [H14]; · iexact H14
  isplitl [H15]; · iexact H15
  isplitl [H16]; · iexact H16
  isplitl [H17]; · iexact H17
  iexists _, f13n, f18n
  isplitr; rotate_left
  · isplitl [H12]
    · iexists g12; isplitr; · ipureintro; rfl
      iexact H12
    isplitl [H13]; · iexact H13
    iexact H18
  ipureintro
  rw [← h5, ← h6, ← h7, ← h8, ← h9]
  exact hp

end Cert.Proof.KernelIdeal
-- ==== Proof.VInv.lean ====
module

public import proofs.«01_k».proof.Proof.IBody

@[expose] public section

noncomputable section

namespace Cert.Proof.KernelIdeal

open Cert.KernelIdeal Cert.KernelIdeal.Gen
open Idealize.ShloMosaic Idealize.ShloMosaic.TcCoe
open scoped BigOperators

/-! ## The token sums between two grid points, from the arguments -/

/-- The operands of the product and of the logits, read at two numbers. -/
structure Ops where
  p : S16704x3584.Idx → Elt Ideal .bf16
  ps : S16704x128.Idx → Elt Ideal .f32
  w : S30522x3584.Idx → Elt Ideal .i8
  ws : S30522.Idx → Elt Ideal .f32
  bi : S30522.Idx → Elt Ideal .f32

variable (o : Ops)

def Ops.P (r k : ℕ) : EReal := if h : r < 16704 ∧ k < 3584 then o.p (ix2 ⟨r, h.1⟩ ⟨k, h.2⟩) else 0
def Ops.X (r l : ℕ) : EReal := if h : r < 16704 ∧ l < 128 then o.ps (ix2 ⟨r, h.1⟩ ⟨l, h.2⟩) else 0
def Ops.W (v k : ℕ) : ℝ := if h : v < 30522 ∧ k < 3584 then cd (o.w (ix2 ⟨v, h.1⟩ ⟨k, h.2⟩)) else 0
def Ops.S (v : ℕ) : EReal := if h : v < 30522 then o.ws (ix1 ⟨v, h⟩) else 0
def Ops.B (v : ℕ) : EReal := if h : v < 30522 then o.bi (ix1 ⟨v, h⟩) else 0

/-- The product of a packed row and a vocabulary entry. -/
def Ops.acc (r v : ℕ) : ℝ := ∑ k ∈ Finset.range 3584, (o.P r k).toReal * o.W v k

/-- A vocabulary entry's term of a packed row, with lane `l` of the row's scales. -/
def Ops.term (r l v : ℕ) : EReal :=
  if v < 30522 then Ideal.log1p (max (((o.acc r v : ℝ) : EReal) * o.X r l * o.S v + o.B v) 0) else 0

/-- The terms of vocabulary block `j` in lane `l`. -/
def Ops.blk (j r l : ℕ) : EReal := ∑ g ∈ Finset.range 8, o.term r l (1024 * j + (128 * g + l))

/-- How many vocabulary blocks a row has seen before point `t`. -/
def seen (t r : ℕ) : ℕ := if r < 928 * (t / 30) then 30 else if r < 928 * (t / 30 + 1) then t % 30 else 0

/-- The token sums before point `t`. -/
def Ops.tk (t r l : ℕ) : EReal := ∑ j ∈ Finset.range (seen t r), o.blk j r l

/-- The chunk's codes as the window holds them. -/
def Ops.Pb (n : ℕ) : S928x3584.Idx → Elt Ideal .bf16 := fun y => o.P (928 * n + (y 0).val) (y 1).val

/-- The invariant before point `t`: the left-hand sums are the current chunk's once it has begun, the token sums are as far as the points went. -/
structure Inv (t : ℕ) (S : S5x464x1792.Idx → Elt Ideal .bf16) (T : S16704x128.Idx → Elt Ideal .f32) : Prop where
  sums : t % 30 ≠ 0 → SIs (o.Pb (t / 30)) S
  tok : t ≠ 0 → ∀ (r : Fin 16704) (l : Fin 128), T (ix2 r l) = o.tk t r l

/-- The windows hold the blocks of the point. -/
structure Wins (n j : ℕ) (X5 : S928x3584.Idx → Elt Ideal .bf16) (X6 : S928x128.Idx → Elt Ideal .f32) (X7 : S1024x3584.Idx → Elt Ideal .i8)
    (X8 X9 : S1x1024.Idx → Elt Ideal .f32) : Prop where
  p : X5 = o.Pb n
  ps : ∀ (r : Fin 928) (l : Fin 128), X6 (ix2 r l) = o.X (928 * n + r) l
  w : ∀ (q : Fin 1024) (k : Fin 3584), 1024 * j + q.val < 30522 → cd (X7 (ix2 q k)) = o.W (1024 * j + q) k
  ws : ∀ (q : Fin 1024), 1024 * j + q.val < 30522 → X8 (ix2 0 q) = o.S (1024 * j + q)
  bi : ∀ (q : Fin 1024), 1024 * j + q.val < 30522 → X9 (ix2 0 q) = o.B (1024 * j + q)

/-- A point's terms are the block's. -/
theorem st_eq {i : grid0.Static} {n : ℕ} (hn : n < 18) {X5 : S928x3584.Idx → Elt Ideal .bf16} {X6 : S928x128.Idx → Elt Ideal .f32} {X7 : S1024x3584.Idx → Elt Ideal .i8}
    {X8 X9 : S1x1024.Idx → Elt Ideal .f32} (hw : Wins o n (i 1).val X5 X6 X7 X8 X9) (r l : ℕ) (hr : r < 928) (hl : l < 128) :
    st (i 1).val X8 X9 (fun r q => ((accN (fun r k => (o.P (928 * n + r) k).toReal) (wN i X7) r q : ℝ) : EReal)) (xN X6) r l = o.blk (i 1).val (928 * n + r) l := by
  rw [st, Ops.blk]
  refine Finset.sum_congr rfl fun g hg => ?_
  have hg := Finset.mem_range.mp hg
  rw [tm, Ops.term]
  by_cases h : 1024 * (i 1).val + (128 * g + l) < 30522
  · have hq : 128 * g + l < 1024 := by omega
    rw [dif_pos ⟨hq, h⟩, if_pos h, hw.ws ⟨_, hq⟩ h, hw.bi ⟨_, hq⟩ h, xN, dif_pos ⟨hr, hl⟩, hw.ps]
    have e : accN (fun r k => (o.P (928 * n + r) k).toReal) (wN i X7) r (128 * g + l) = o.acc (928 * n + r) (1024 * (i 1).val + (128 * g + l)) := by
      rw [accN, Ops.acc]
      refine Finset.sum_congr rfl fun k hk => ?_
      have hk := Finset.mem_range.mp hk
      rw [wN, dif_pos ⟨hq, hk⟩, if_pos h, hw.w ⟨_, hq⟩ ⟨k, hk⟩ h]
    rw [e]
  · rw [dif_neg (fun x => h x.2), if_neg h]

/-- One point keeps the invariant. -/
theorem Inv.next {i : grid0.Static} {n cnt : ℕ} (hn : n < 18) {len : ℕ → BitVec 32} {X5 : S928x3584.Idx → Elt Ideal .bf16} {X6 : S928x128.Idx → Elt Ideal .f32} {X7 : S1024x3584.Idx → Elt Ideal .i8}
    {X8 X9 : S1x1024.Idx → Elt Ideal .f32} {S S' : S5x464x1792.Idx → Elt Ideal .bf16} {T T' : S16704x128.Idx → Elt Ideal .f32} {X12 : S64x256.Idx → Elt Ideal .f32}
    (hst : Step i n cnt len X5 X6 X7 X8 X9 S S' T T' X12) (hw : Wins o n (i 1).val X5 X6 X7 X8 X9)
    (hfin : ∀ r k, r < 16704 → k < 3584 → o.P r k = (((o.P r k).toReal : ℝ) : EReal))
    {t : ℕ} (ht : t = 30 * n + (i 1).val) (hI : Inv o t S T) : Inv o (t + 1) S' T' := by
  have hj : (i 1).val < 30 := (i 1).isLt
  have hS : SIs X5 S' := by
    by_cases h : (i 1).val = 0
    · exact hst.sums h
    · rw [hst.keep h, hw.p]
      have := hI.sums (by omega)
      rwa [show t / 30 = n by omega] at this
  refine ⟨fun h => ?_, fun _ r l => ?_⟩
  · rw [show (t + 1) / 30 = n by omega, ← hw.p]; exact hS
  rw [hst.tok (fun r k => (o.P (928 * n + r) k).toReal) (fun r k hr hk => by rw [hw.p]; exact hfin _ _ (by show 928 * n + r < 16704; omega) hk) hS r l]
  have hbase : (if (i 1).val = 0 ∧ (n = 0 ∨ (928 * n ≤ r.val ∧ r.val < 928 * (n + 1))) then 0 else T (ix2 r l))
      = ∑ j ∈ Finset.range (if r.val < 928 * n then 30 else if r.val < 928 * (n + 1) then (i 1).val else 0), o.blk j r l := by
    by_cases h : (i 1).val = 0 ∧ (n = 0 ∨ (928 * n ≤ r.val ∧ r.val < 928 * (n + 1)))
    · rw [if_pos h, if_neg (by omega), h.1, ite_self, Finset.range_zero, Finset.sum_empty]
    · rw [if_neg h, hI.tok (by omega) r l, Ops.tk, seen, show t / 30 = n by omega, show t % 30 = (i 1).val by omega]
  rw [hbase, Ops.tk]
  by_cases h : 928 * n ≤ r.val ∧ r.val < 928 * (n + 1)
  · rw [if_pos h, if_neg (by omega), if_pos h.2]
    have hs : seen (t + 1) r.val = (i 1).val + 1 := by
      unfold seen
      by_cases h29 : (i 1).val = 29
      · rw [show (t + 1) / 30 = n + 1 by omega, if_pos (by omega), h29]
      · rw [show (t + 1) / 30 = n by omega, show (t + 1) % 30 = (i 1).val + 1 by omega, if_neg (by omega), if_pos (by omega)]
    rw [hs, Finset.sum_range_succ]
    congr 1
    rw [st_eq o hn hw (r.val - 928 * n) l (by omega) l.isLt, show 928 * n + (r.val - 928 * n) = r.val by omega]
  · rw [if_neg h, add_zero]
    have hs : seen (t + 1) r.val = if r.val < 928 * n then 30 else if r.val < 928 * (n + 1) then (i 1).val else 0 := by
      unfold seen
      by_cases h29 : (i 1).val = 29
      · rw [show (t + 1) / 30 = n + 1 by omega, show (t + 1) % 30 = 0 by omega]
        by_cases hr : r.val < 928 * n
        · rw [if_pos (by omega), if_pos hr]
        · have hr1 : ¬ r.val < 928 * (n + 1) := by omega
          simp only [if_neg hr, if_neg hr1, ite_self]
      · rw [show (t + 1) / 30 = n by omega]
        by_cases hr : r.val < 928 * n
        · rw [if_pos (by omega), if_pos hr]
        · rw [if_neg (by omega), if_neg hr, if_neg (by omega), if_neg (by omega)]
    rw [hs]

end Cert.Proof.KernelIdeal
-- ==== Proof.VWin.lean ====
module

public import proofs.«01_k».proof.Proof.VInv
public import Idealize.ShloMosaic.Lib.StableHlo.RunRead
public import Idealize.ShloMosaic.Lib.Pipeline.ArrRel
public import Idealize.ShloMosaic.Lib.KernelVsHost

@[expose] public section

set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Idealize.ShloMosaic.Pipeline (RDat Cfg)

/-! ## The contents the region starts from -/

/-- The core's buffers after the host operations before the call. -/
abbrev Vm (m : (ℓ : Loc nD τ sig) → Buf (Elt Ideal) ℓ) (c : Dev nD) (b : Ref sig .tc) : Buf (Elt Ideal) ((c.tc : Thread nD τ).loc b) :=
  StableHlo.after (hostOps0 (F := Ideal)) (fun b => m (c, b)) b

theorem Vm_arg (m : (ℓ : Loc nD τ sig) → Buf (Elt Ideal) ℓ) (c : Dev nD) (r : Ref sig .tc)
    (hr : r ∉ [main_v0, main_c, main_v1, main_v2, main_v3]) : Vm m c r = m ((c.tc : Thread nD τ).loc r) :=
  StableHlo.after_unwritten (ops := hostOps0 (F := Ideal)) [main_v0, main_c, main_v1, main_v2, main_v3] rfl hr _

/-- The tables' contents at the region's entry. -/
def pfN (m : (ℓ : Loc nD τ sig) → Buf (Elt Ideal) ℓ) : pre0.Contents (Elt Ideal) := fun k => Vm m 0 (pre0.ref k)

/-- The tables of the run are in their bounds. -/
def TabsM (m : (ℓ : Loc nD τ sig) → Buf (Elt Ideal) ℓ) : Prop :=
  Tabs (m ((0 : Dev nD).tc.loc main_arg0)) (m ((0 : Dev nD).tc.loc main_arg1)) (m ((0 : Dev nD).tc.loc main_arg2))

variable (m : (ℓ : Loc nD τ sig) → Buf (Elt Ideal) ℓ) (h : TabsM m)

theorem pf0_eq : pfN m 0 = m ((0 : Dev nD).tc.loc main_arg0) := Vm_arg m 0 main_arg0 (by decide)
theorem pf2_eq : pfN m 2 = m ((0 : Dev nD).tc.loc main_arg1) := Vm_arg m 0 main_arg1 (by decide)
theorem pf3_eq : pfN m 3 = m ((0 : Dev nD).tc.loc main_arg2) := Vm_arg m 0 main_arg2 (by decide)

include h in
theorem cnt_le : (pfN m 0 fun a => a.elim0).toNat ≤ 18 := by rw [pf0_eq]; exact h.n_hi

/-- The tables as contents the pipeline admits. -/
def adm : (pcfg0 (F := Ideal)).Adm := ⟨pfN m, ok_of _ (cnt_le m h)⟩

abbrev cfgm : Cfg sig Λ₀ := cfg0 (adm m h)

/-! ## The operands of the body at a grid point -/

abbrev ms0 (t : Fin (cfgm m h).N) : Memref sig .tc .vmem S928x3584 .bf16 := spec0_0.stage ((cfgm m h).slots t 0)
theorem hs0 (t : Fin (cfgm m h).N) : (ms0 m h t).IsWhole := hstage0_0 (((cfgm m h).slots t 0).cast nbuf0_0)
abbrev ms1 (t : Fin (cfgm m h).N) : Memref sig .tc .vmem S928x128 .f32 := spec0_1.stage ((cfgm m h).slots t 1)
theorem hs1 (t : Fin (cfgm m h).N) : (ms1 m h t).IsWhole := hstage0_1 (((cfgm m h).slots t 1).cast nbuf0_1)
abbrev ms2 (t : Fin (cfgm m h).N) : Memref sig .tc .vmem S1024x3584 .i8 := spec0_2.stage ((cfgm m h).slots t 2)
theorem hs2 (t : Fin (cfgm m h).N) : (ms2 m h t).IsWhole := hstage0_2 (((cfgm m h).slots t 2).cast nbuf0_2)
abbrev ms3 (t : Fin (cfgm m h).N) : Memref sig .tc .vmem S1x1024 .f32 := spec0_3.stage ((cfgm m h).slots t 3)
theorem hs3 (t : Fin (cfgm m h).N) : (ms3 m h t).IsWhole := hstage0_3 (((cfgm m h).slots t 3).cast nbuf0_3)
abbrev ms4 (t : Fin (cfgm m h).N) : Memref sig .tc .vmem S1x1024 .f32 := spec0_4.stage ((cfgm m h).slots t 4)
theorem hs4 (t : Fin (cfgm m h).N) : (ms4 m h t).IsWhole := hstage0_4 (((cfgm m h).slots t 4).cast nbuf0_4)
abbrev ms5 (t : Fin (cfgm m h).N) : Memref sig .tc .vmem S64x128 .i32 := spec0_5.stage ((cfgm m h).slots t 5)
theorem hs5 (t : Fin (cfgm m h).N) : (ms5 m h t).IsWhole := hstage0_5 (((cfgm m h).slots t 5).cast nbuf0_5)
abbrev ms6 (t : Fin (cfgm m h).N) : Memref sig .tc .vmem S64x1024 .bf16 := spec0_6.stage ((cfgm m h).slots t 6)
theorem hs6 (t : Fin (cfgm m h).N) : (ms6 m h t).IsWhole := hstage0_6 (((cfgm m h).slots t 6).cast nbuf0_6)
abbrev ms7 (t : Fin (cfgm m h).N) : Memref sig .tc .vmem S64x256 .f32 := spec0_7.stage ((cfgm m h).slots t 7)
theorem hs7 (t : Fin (cfgm m h).N) : (ms7 m h t).IsWhole := hstage0_7 (((cfgm m h).slots t 7).cast nbuf0_7)

/-- The body the pipeline runs at a grid point. -/
abbrev bodyAt (t : Fin (cfgm m h).N) : Prog (TpuEff nD τ sig (Elt Ideal) Λ₀ .tc) PUnit :=
  cc0_head (dynb0 (pfN m)) (Pipeline.Grid.Coords.static grid0 ((cfgm m h).grid.coords t)) (BitVec.ofNat 32 ((cfgm m h).grid.coords t (0 : Fin 2)).val) (Memref.whole main_v0) (Memref.isWhole_whole _) (Memref.whole main_arg1) (Memref.isWhole_whole _) (Memref.whole main_arg2) (Memref.isWhole_whole _) (ms0 m h t) (hs0 m h t) (ms1 m h t) (hs1 m h t) (ms2 m h t) (hs2 m h t) (ms3 m h t) (hs3 m h t) (ms4 m h t) (hs4 m h t) (ms5 m h t) (hs5 m h t) (ms6 m h t) (hs6 m h t) (ms7 m h t) (hs7 m h t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

theorem row_eq (t : Fin (cfgm m h).N) : defs₀ (F := Ideal) .tc (cfgm m h).body ((cfgm m h).bodyArgs t ((cfgm m h).slots t)) = bodyAt m h t := by
  unfold defs₀; rw [Defs.onTc_tc]; rfl

theorem row_lt (t : Fin (cfgm m h).N) : ((cfgm m h).grid.coords t (0 : Fin 2)).val < 18 :=
  Nat.lt_of_lt_of_le ((cfgm m h).grid.coords t (0 : Fin 2)).isLt (cnt_le m h)

/-! ## The invariant, conjunct by conjunct -/

theorem tabs_eq (c : Dev nD) : (Pipeline.ΦT (U := UR sig nD τ) pre0 (pfN m) c : sProp 𝕄)
    = iprop((((c : Thread nD τ).loc main_arg0) ↦{fullShare.right} pfN m 0) ∗ (((Memref.whole main_v0).view.loc (c : Thread nD τ)) ↦[(Memref.whole main_v0).view.set]{fullShare.right} (pfN m 1)) ∗ (((Memref.whole main_arg1).view.loc (c : Thread nD τ)) ↦[(Memref.whole main_arg1).view.set]{fullShare.right} (pfN m 2)) ∗ (((Memref.whole main_arg2).view.loc (c : Thread nD τ)) ↦[(Memref.whole main_arg2).view.set]{fullShare.right} (pfN m 3))) := by
  unfold Pipeline.ΦT Pipeline.prefHeld
  rw [bigSep_univ_eq_bigSepL [(0 : Fin 4), (1 : Fin 4), (2 : Fin 4), (3 : Fin 4)] (by decide) (by decide)]
  simp only [Memref.view_whole, View.set_whole]
  rfl

theorem rest_eq (c : Dev nD) : (Pipeline.scopedRest (Ix := Unit) (Name := ℕ) (U := UR sig nD τ) (Lvl := ℕ) (Val := Elt Ideal) spec0 c : sProp 𝕄)
    = iprop((∃ f, ((Memref.whole cc0_scratch0).view.loc (c : Thread nD τ)) ↦[(Memref.whole cc0_scratch0).view.set]{fullShare} f) ∗ (∃ f, ((Memref.whole cc0_scratch1).view.loc (c : Thread nD τ)) ↦[(Memref.whole cc0_scratch1).view.set]{fullShare} f) ∗ (∃ f, ((Memref.whole cc0_scratch2).view.loc (c : Thread nD τ)) ↦[(Memref.whole cc0_scratch2).view.set]{fullShare} f) ∗ (∃ f, ((Memref.whole cc0_scratch3).view.loc (c : Thread nD τ)) ↦[(Memref.whole cc0_scratch3).view.set]{fullShare} f) ∗ (∃ f, ((Memref.whole cc0_scratch4).view.loc (c : Thread nD τ)) ↦[(Memref.whole cc0_scratch4).view.set]{fullShare} f) ∗ (∃ f, ((Memref.whole cc0_scratch5).view.loc (c : Thread nD τ)) ↦[(Memref.whole cc0_scratch5).view.set]{fullShare} f)) := by
  rw [scopedRest0_eq]
  simp only [Memref.view_whole, View.set_whole]

/-! ## The arrays the host operations leave -/

/-- The operands of the product and the logits. -/
def opsM (c : Dev nD) : Ops where
  p := m ((c.tc : Thread nD τ).loc main_arg3)
  ps := m ((c.tc : Thread nD τ).loc main_arg4)
  w := m ((c.tc : Thread nD τ).loc main_arg5)
  ws := m ((c.tc : Thread nD τ).loc main_arg6)
  bi := m ((c.tc : Thread nD τ).loc main_arg7)

theorem v1_at (c : Dev nD) (v : Fin 30720) (k : Fin 3584) (hv : v.val < 30522) :
    Vm m c main_v1 (ix2 v k) = m ((c.tc : Thread nD τ).loc main_arg5) (ix2 ⟨v.val, hv⟩ k) := by
  have e : Vm m c main_v1 = pad S30720x3584 ![0, 0] ![198, 0] ![0, 0] (m ((c.tc : Thread nD τ).loc main_arg5)) (constantI S_ 8 0#8) pads_S30522x3584_S30720x3584_01980_000 h_S_ := by
    unfold Vm; after_reads_simp
  rw [e]
  exact pad_apply_of_inside _ _ _ _ _ _ _ (ix2 v k) (ix2 ⟨v.val, hv⟩ k) (fun a => by fin_cases a <;> simp)

theorem v2_at (c : Dev nD) (v : Fin 30522) : Vm m c main_v2 (ix2 0 v) = m ((c.tc : Thread nD τ).loc main_arg6) (ix1 v) := by
  have e : Vm m c main_v2 = shapeCast S1x30522 (m ((c.tc : Thread nD τ).loc main_arg6)) shapeCasts_S30522_S1x30522 := by
    unfold Vm; after_reads_simp; rfl
  rw [e]
  refine (shapeCast_addUnit_apply ![30522] (m ((c.tc : Thread nD τ).loc main_arg6)) shapeCasts_S30522_S1x30522 (ix2 0 v)).trans (congrArg _ (funext fun a => ?_))
  fin_cases a
  rfl

theorem v3_at (c : Dev nD) (v : Fin 30522) : Vm m c main_v3 (ix2 0 v) = m ((c.tc : Thread nD τ).loc main_arg7) (ix1 v) := by
  have e : Vm m c main_v3 = shapeCast S1x30522 (m ((c.tc : Thread nD τ).loc main_arg7)) shapeCasts_S30522_S1x30522 := by
    unfold Vm; after_reads_simp; rfl
  rw [e]
  refine (shapeCast_addUnit_apply ![30522] (m ((c.tc : Thread nD τ).loc main_arg7)) shapeCasts_S30522_S1x30522 (ix2 0 v)).trans (congrArg _ (funext fun a => ?_))
  fin_cases a
  rfl

theorem v0_at (y : S1.Idx) : pfN m 1 y = m ((0 : Dev nD).tc.loc main_arg0) (fun a => a.elim0) := by
  have e : pfN m 1 = shapeCast S1 (m ((0 : Dev nD).tc.loc main_arg0)) shapeCasts_S_S1 := by
    show Vm m 0 main_v0 = _
    unfold Vm; after_reads_simp; rfl
  rw [e, shapeCast]
  exact congrArg _ (funext fun a => a.elim0)

/-! ## The grid -/

/-- The chunks the run takes. -/
def cntM : ℕ := (pfN m 0 fun a => a.elim0).toNat

theorem N_eq : (cfgm m h).N = cntM m * 30 := by
  show (List.ofFn _).prod = _
  simp [List.ofFn_succ]
  rfl

theorem co0 (t : Fin (cfgm m h).N) : ((cfgm m h).grid.coords t (0 : Fin 2)).val = t.val / 30 := by
  have hN := N_eq m h
  have h1 := t.isLt
  rw [Pipeline.Grid.coords_val t (0 : Fin 2) (S := 30) (B := cntM m) (by show (List.ofFn _).prod = _; simp [List.ofFn_succ]; rfl) rfl]
  exact Nat.mod_eq_of_lt (by omega)

theorem co1 (t : Fin (cfgm m h).N) : ((cfgm m h).grid.coords t (1 : Fin 2)).val = t.val % 30 := by
  rw [Pipeline.Grid.coords_val t (1 : Fin 2) (S := 1) (B := 30) (by show (List.ofFn _).prod = _; simp [List.ofFn_succ]) rfl, Nat.div_one]

/-! ## The proof data -/

/-- The codes of the packed rows are real numbers. -/
def FinP (o : Ops) : Prop := ∀ r k, r < 16704 → k < 3584 → o.P r k = (((o.P r k).toReal : ℝ) : EReal)

/-- The sequences' lengths as the body reads them. -/
def lenM (b : ℕ) : BitVec 32 := (Memref.whole main_arg1).view.readAt (Elt Ideal) (Rect.unit (s := S64) ![b % 64] S1.size (inb_len b)).toLoadRect (pfN m 2) (Shape.Idx.first (numel1_S1.symm ▸ Nat.one_pos))

/-- The token sums after the last point. -/
def tkEnd (c : Dev nD) : S16704x128.Idx → Elt Ideal .f32 := fun y => (opsM m c).tk (cntM m * 30) (y 0).val (y 1).val

/-- Before a point: the two scratch buffers the points hand on, the other scratch buffers at anything, the generator and the tables. -/
def Φm (c : Dev nD) (t : ℕ) : sProp 𝕄 :=
  iprop((∃ f13 f18, ⌜FinP (opsM m c) → Inv (opsM m c) t ((Memref.whole cc0_scratch0).view.read (Elt Ideal) f13) ((Memref.whole cc0_scratch5).view.read (Elt Ideal) f18)⌝ ∗ (((Memref.whole cc0_scratch0).view.loc (c : Thread nD τ)) ↦[(Memref.whole cc0_scratch0).view.set]{fullShare} f13) ∗ (((Memref.whole cc0_scratch5).view.loc (c : Thread nD τ)) ↦[(Memref.whole cc0_scratch5).view.set]{fullShare} f18))
    ∗ (∃ f, ((Memref.whole cc0_scratch1).view.loc (c : Thread nD τ)) ↦[(Memref.whole cc0_scratch1).view.set]{fullShare} f) ∗ (∃ f, ((Memref.whole cc0_scratch2).view.loc (c : Thread nD τ)) ↦[(Memref.whole cc0_scratch2).view.set]{fullShare} f) ∗ (∃ f, ((Memref.whole cc0_scratch3).view.loc (c : Thread nD τ)) ↦[(Memref.whole cc0_scratch3).view.set]{fullShare} f) ∗ (∃ f, ((Memref.whole cc0_scratch4).view.loc (c : Thread nD τ)) ↦[(Memref.whole cc0_scratch4).view.set]{fullShare} f)
    ∗ (∃ r, prngReg c r) ∗ Pipeline.ΦT (U := UR sig nD τ) pre0 (pfN m) c)

/-- Inputs stay as found; the second output is left at the last point as the sums give it. -/
def rdat (c : Dev nD) : RDat τ (Elt Ideal) Unit ℕ (UR sig nD τ) ℕ (cfgm m h) c where
  A w := Vm m c (Pipeline.arrRef spec0 w)
  after w t Y X := (w.val < 6 → X = Y) ∧ (∀ Z : S64x256.Idx → Elt Ideal .f32, w = (7 : Fin 8) → HEq X Z → FinP (opsM m c) → t.val + 1 = cntM m * 30 → L1Is (lenM m) (tkEnd m c) Z)
  Φ t := Φm m c t.val
  q _ := fullShare
  owed _ := 0

include h in
theorem seq_of (o : Fin 1 → ℕ) (hb : ∀ a, o a + S1.size a ≤ S6144.size a) (ho : o 0 < 2089) :
    ((Memref.whole main_arg2).view.readAt (Elt Ideal) (Rect.unit (s := S6144) o S1.size hb).toLoadRect (pfN m 3) (Shape.Idx.first (numel1_S1.symm ▸ Nat.one_pos))).toNat ≤ 64 := by
  have key : ∀ T : S6144.Idx → BitVec 32, (∀ j, (j 0).val < 2089 → (T j).toNat ≤ 64) →
      ((Memref.whole main_arg2).view.readAt (Elt Ideal) (Rect.unit (s := S6144) o S1.size hb).toLoadRect T (Shape.Idx.first (numel1_S1.symm ▸ Nat.one_pos))).toNat ≤ 64 := by
    intro T hT
    refine hT ((Rect.unit (s := S6144) o S1.size hb).emb (Shape.Idx.first (numel1_S1.symm ▸ Nat.one_pos))) ?_
    show o 0 + _ < 2089
    have : ((Shape.Idx.first (numel1_S1.symm ▸ Nat.one_pos) : S1.Idx) 0).val < 1 := (Shape.Idx.first (numel1_S1.symm ▸ Nat.one_pos) : S1.Idx) 0 |>.isLt
    simp only [Rect.unit]
    omega
  rw [pf3_eq]
  exact key _ h.seq_hi

include h in
theorem len_of (o : Fin 1 → ℕ) (hb : ∀ a, o a + S1.size a ≤ S64.size a) :
    ((Memref.whole main_arg1).view.readAt (Elt Ideal) (Rect.unit (s := S64) o S1.size hb).toLoadRect (pfN m 2) (Shape.Idx.first (numel1_S1.symm ▸ Nat.one_pos))).toInt ≤ 256 := by
  have key : ∀ T : S64.Idx → BitVec 32, (∀ j, (T j).toInt ≤ 256) →
      ((Memref.whole main_arg1).view.readAt (Elt Ideal) (Rect.unit (s := S64) o S1.size hb).toLoadRect T (Shape.Idx.first (numel1_S1.symm ▸ Nat.one_pos))).toInt ≤ 256 :=
    fun T hT => hT _
  rw [pf2_eq]
  exact key _ h.len_hi

/-! ## What the windows hold -/

theorem keep_in (c : Dev nD) (w : Fin 8) (hw : w.val < 6) (t : Fin (cfgm m h).N) (Y X) (ha : (rdat m h c).after w t Y X) : X = Y := ha.1 hw

theorem win0_at (c : Dev nD) (t : Fin (cfgm m h).N) (Y) (hY : (rdat m h c).Finds (0 : Fin 8) t Y) (y : S928x3584.Idx) :
    (Y : S928x3584.Idx → Elt Ideal .bf16) y = (opsM m c).P (928 * (t.val / 30) + (y 0).val) (y 1).val := by
  obtain ⟨d, rfl⟩ := (rdat m h c).finds_in_eq_fetched (0 : Fin 8) rfl (fun _ _ _ => rfl) (fun t Y X ha => keep_in m h c 0 (by decide) t Y X ha) t Y hY
  have h0 := row_lt m h t
  have e0 := co0 m h t
  have hy0 : (y 0).val < 928 := (y 0).isLt
  have hy1 : (y 1).val < 3584 := (y 1).isLt
  rw [Ops.P, dif_pos ⟨by omega, hy1⟩]
  rw [RDat.fetched, Pipeline.Window.fill, dif_pos (((cfgm m h).win (0 : Fin 8)).moved_iff _ _ |>.mpr (fun a => (y a).isLt))]
  show Vm m c main_arg3 _ = m ((c.tc : Thread nD τ).loc main_arg3) _
  rw [Vm_arg m c main_arg3 (by decide)]
  congr 1
  funext a
  apply Fin.ext
  fin_cases a
  · show (BitVec.ofNat 32 ((cfgm m h).grid.coords t (0 : Fin 2)).val).toNat * 928 + 1 * (y 0).val = 928 * (t.val / 30) + (y 0).val
    rw [BitVec.toNat_ofNat, e0]
    rw [e0] at h0
    omega
  · show (0#32).toNat * 3584 + 1 * (y 1).val = (y 1).val
    simp

theorem win1_at (c : Dev nD) (t : Fin (cfgm m h).N) (Y) (hY : (rdat m h c).Finds (1 : Fin 8) t Y) (y : S928x128.Idx) :
    (Y : S928x128.Idx → Elt Ideal .f32) y = (opsM m c).X (928 * (t.val / 30) + (y 0).val) (y 1).val := by
  obtain ⟨d, rfl⟩ := (rdat m h c).finds_in_eq_fetched (1 : Fin 8) rfl (fun _ _ _ => rfl) (fun t Y X ha => keep_in m h c 1 (by decide) t Y X ha) t Y hY
  have h0 := row_lt m h t
  have e0 := co0 m h t
  have hy0 : (y 0).val < 928 := (y 0).isLt
  have hy1 : (y 1).val < 128 := (y 1).isLt
  rw [Ops.X, dif_pos ⟨by omega, hy1⟩]
  rw [RDat.fetched, Pipeline.Window.fill, dif_pos (((cfgm m h).win (1 : Fin 8)).moved_iff _ _ |>.mpr (fun a => (y a).isLt))]
  show Vm m c main_arg4 _ = m ((c.tc : Thread nD τ).loc main_arg4) _
  rw [Vm_arg m c main_arg4 (by decide)]
  congr 1
  funext a
  apply Fin.ext
  fin_cases a
  · show (BitVec.ofNat 32 ((cfgm m h).grid.coords t (0 : Fin 2)).val).toNat * 928 + 1 * (y 0).val = 928 * (t.val / 30) + (y 0).val
    rw [BitVec.toNat_ofNat, e0]
    rw [e0] at h0
    omega
  · show (0#32).toNat * 128 + 1 * (y 1).val = (y 1).val
    simp

theorem win2_at (c : Dev nD) (t : Fin (cfgm m h).N) (Y) (hY : (rdat m h c).Finds (2 : Fin 8) t Y) (y : S1024x3584.Idx) (hv : 1024 * (t.val % 30) + (y 0).val < 30522) :
    cd ((Y : S1024x3584.Idx → Elt Ideal .i8) y) = (opsM m c).W (1024 * (t.val % 30) + (y 0).val) (y 1).val := by
  obtain ⟨d, rfl⟩ := (rdat m h c).finds_in_eq_fetched (2 : Fin 8) rfl (fun _ _ _ => rfl) (fun t Y X ha => keep_in m h c 2 (by decide) t Y X ha) t Y hY
  have e1 := co1 m h t
  have hy0 : (y 0).val < 1024 := (y 0).isLt
  have hy1 : (y 1).val < 3584 := (y 1).isLt
  rw [Ops.W, dif_pos ⟨hv, hy1⟩]
  congr 1
  rw [RDat.fetched, Pipeline.Window.fill, dif_pos (((cfgm m h).win (2 : Fin 8)).moved_iff _ _ |>.mpr (fun a => (y a).isLt))]
  refine Eq.trans ?_ (v1_at m c ⟨1024 * (t.val % 30) + (y 0).val, by omega⟩ ⟨(y 1).val, hy1⟩ hv)
  show Vm m c main_v1 _ = Vm m c main_v1 _
  congr 1
  funext a
  apply Fin.ext
  fin_cases a
  · show (BitVec.ofNat 32 ((cfgm m h).grid.coords t (1 : Fin 2)).val).toNat * 1024 + 1 * (y 0).val = 1024 * (t.val % 30) + (y 0).val
    rw [BitVec.toNat_ofNat, e1]
    omega
  · show (0#32).toNat * 3584 + 1 * (y 1).val = (y 1).val
    simp

/-- A column below the vocabulary's end is in the part the transfer moves. -/
theorem lt_extent {ix j : ℕ} (hj : j < 1024) (hv : 1024 * ix + j < 30522) : j < (Pipeline.Clip.of ix 1024 30522).extent 1024 := by
  unfold Pipeline.Clip.of
  split
  · exact hj
  · show j < 30522 - ix * 1024
    omega

theorem win3_at (c : Dev nD) (t : Fin (cfgm m h).N) (Y) (hY : (rdat m h c).Finds (3 : Fin 8) t Y) (q : Fin 1024) (hv : 1024 * (t.val % 30) + q.val < 30522) :
    (Y : S1x1024.Idx → Elt Ideal .f32) (ix2 0 q) = (opsM m c).S (1024 * (t.val % 30) + q.val) := by
  obtain ⟨d, rfl⟩ := (rdat m h c).finds_in_eq_fetched (3 : Fin 8) rfl (fun t t' e => funext fun a => congrArg (fun ix : Fin 2 → ℕ => Pipeline.Clip.of (ix a) (S1x1024.size a) (S1x30522.size a)) e) (fun t Y X ha => keep_in m h c 3 (by decide) t Y X ha) t Y hY
  have e1 := co1 m h t
  have eix : (BitVec.ofNat 32 ((cfgm m h).grid.coords t (1 : Fin 2)).val).toNat = t.val % 30 := by
    rw [BitVec.toNat_ofNat, e1]
    omega
  rw [Ops.S, dif_pos hv]
  have hm : ∀ a, ((ix2 (0 : Fin 1) q : S1x1024.Idx) a).val < ((cfgm m h).win (3 : Fin 8)).xsize ((cfgm m h).grid.coords t) a := by
    intro a
    fin_cases a
    · show 0 < (Pipeline.Clip.of (0#32).toNat 1 1).extent 1
      decide
    · show q.val < (Pipeline.Clip.of (BitVec.ofNat 32 ((cfgm m h).grid.coords t (1 : Fin 2)).val).toNat 1024 30522).extent 1024
      rw [eix]
      exact lt_extent q.isLt hv
  rw [RDat.fetched, Pipeline.Window.fill, dif_pos (((cfgm m h).win (3 : Fin 8)).moved_iff _ _ |>.mpr hm)]
  refine Eq.trans ?_ (v2_at m c ⟨1024 * (t.val % 30) + q.val, hv⟩)
  show Vm m c main_v2 _ = Vm m c main_v2 _
  congr 1
  funext a
  apply Fin.ext
  fin_cases a
  · show (0#32).toNat * 1 + 1 * 0 = 0
    simp
  · show (BitVec.ofNat 32 ((cfgm m h).grid.coords t (1 : Fin 2)).val).toNat * 1024 + 1 * q.val = 1024 * (t.val % 30) + q.val
    rw [eix]
    omega

theorem win4_at (c : Dev nD) (t : Fin (cfgm m h).N) (Y) (hY : (rdat m h c).Finds (4 : Fin 8) t Y) (q : Fin 1024) (hv : 1024 * (t.val % 30) + q.val < 30522) :
    (Y : S1x1024.Idx → Elt Ideal .f32) (ix2 0 q) = (opsM m c).B (1024 * (t.val % 30) + q.val) := by
  obtain ⟨d, rfl⟩ := (rdat m h c).finds_in_eq_fetched (4 : Fin 8) rfl (fun t t' e => funext fun a => congrArg (fun ix : Fin 2 → ℕ => Pipeline.Clip.of (ix a) (S1x1024.size a) (S1x30522.size a)) e) (fun t Y X ha => keep_in m h c 4 (by decide) t Y X ha) t Y hY
  have e1 := co1 m h t
  have eix : (BitVec.ofNat 32 ((cfgm m h).grid.coords t (1 : Fin 2)).val).toNat = t.val % 30 := by
    rw [BitVec.toNat_ofNat, e1]
    omega
  rw [Ops.B, dif_pos hv]
  have hm : ∀ a, ((ix2 (0 : Fin 1) q : S1x1024.Idx) a).val < ((cfgm m h).win (4 : Fin 8)).xsize ((cfgm m h).grid.coords t) a := by
    intro a
    fin_cases a
    · show 0 < (Pipeline.Clip.of (0#32).toNat 1 1).extent 1
      decide
    · show q.val < (Pipeline.Clip.of (BitVec.ofNat 32 ((cfgm m h).grid.coords t (1 : Fin 2)).val).toNat 1024 30522).extent 1024
      rw [eix]
      exact lt_extent q.isLt hv
  rw [RDat.fetched, Pipeline.Window.fill, dif_pos (((cfgm m h).win (4 : Fin 8)).moved_iff _ _ |>.mpr hm)]
  refine Eq.trans ?_ (v3_at m c ⟨1024 * (t.val % 30) + q.val, hv⟩)
  show Vm m c main_v3 _ = Vm m c main_v3 _
  congr 1
  funext a
  apply Fin.ext
  fin_cases a
  · show (0#32).toNat * 1 + 1 * 0 = 0
    simp
  · show (BitVec.ofNat 32 ((cfgm m h).grid.coords t (1 : Fin 2)).val).toNat * 1024 + 1 * q.val = 1024 * (t.val % 30) + q.val
    rw [eix]
    omega

/-- The windows of a point hold its blocks. -/
theorem wins_of (c : Dev nD) (t : Fin (cfgm m h).N) (Y : ∀ w, (((cfgm m h).win w).block.Idx → Elt Ideal ((cfgm m h).win w).elt)) (hY : ∀ w, (rdat m h c).Finds w t (Y w)) :
    Wins (opsM m c) (t.val / 30) (t.val % 30) (Y (0 : Fin 8)) (Y (1 : Fin 8)) (Y (2 : Fin 8)) (Y (3 : Fin 8)) (Y (4 : Fin 8)) where
  p := funext fun y => win0_at m h c t _ (hY 0) y
  ps r l := win1_at m h c t _ (hY 1) (ix2 r l)
  w q k hv := win2_at m h c t _ (hY 2) (ix2 q k) hv
  ws q hv := win3_at m h c t _ (hY 3) q hv
  bi q hv := win4_at m h c t _ (hY 4) q hv

end Cert.Proof.KernelIdeal
-- ==== Proof.ILaunch.lean ====
module

public import proofs.«01_k».proof.Proof.VWin

@[expose] public section

set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Idealize.ShloMosaic.Pipeline (RDat Cfg)

variable (m : (ℓ : Loc nD τ sig) → Buf (Elt Ideal) ℓ) (h : TabsM m)

/-- The first table's word is the number of chunks. -/
theorem cnt_word : (Memref.whole main_v0).view.readAt (Elt Ideal) (Rect.unit (s := S1) ![0] S1.size inb_S1_S1_0).toLoadRect (pfN m 1) (Shape.Idx.first (numel1_S1.symm ▸ Nat.one_pos)) = BitVec.ofNat 32 (cntM m) := by
  refine (v0_at m _).trans ?_
  rw [cntM, pf0_eq, BitVec.ofNat_toNat, BitVec.setWidth_eq]
  exact congrArg _ (funext fun a => a.elim0)

/-- One point: the invariant goes on, and the last one leaves the second output. -/
theorem step_inv (c : Dev nD) (t : Fin (cfgm m h).N) {X5 : S928x3584.Idx → Elt Ideal .bf16} {X6 : S928x128.Idx → Elt Ideal .f32} {X7 : S1024x3584.Idx → Elt Ideal .i8}
    {X8 X9 : S1x1024.Idx → Elt Ideal .f32} {S S' : S5x464x1792.Idx → Elt Ideal .bf16} {T T' : S16704x128.Idx → Elt Ideal .f32} {X12 : S64x256.Idx → Elt Ideal .f32}
    (hw : Wins (opsM m c) (t.val / 30) (t.val % 30) X5 X6 X7 X8 X9)
    (hst : Step (Pipeline.Grid.Coords.static grid0 ((cfgm m h).grid.coords t)) ((cfgm m h).grid.coords t (0 : Fin 2)).val (cntM m) (lenM m) X5 X6 X7 X8 X9 S S' T T' X12)
    (hI : FinP (opsM m c) → Inv (opsM m c) t.val S T) (hF : FinP (opsM m c)) :
    Inv (opsM m c) (t.val + 1) S' T' ∧ (t.val + 1 = cntM m * 30 → L1Is (lenM m) (tkEnd m c) X12) := by
  have e0 := co0 m h t
  have e1 : ((Pipeline.Grid.Coords.static grid0 ((cfgm m h).grid.coords t)) 1).val = t.val % 30 := co1 m h t
  have hn := row_lt m h t
  rw [e0] at hst hn
  have hnext := Inv.next (opsM m c) hn hst (by rw [e1]; exact hw) hF (t := t.val) (by rw [e1]; omega) (hI hF)
  refine ⟨hnext, fun hl => ?_⟩
  have := hst.l1 (by rw [e1]; omega) (by omega)
  have eT : T' = tkEnd m c := funext fun y => by
    obtain ⟨r, l, rfl⟩ : ∃ r l, y = ix2 r l := ⟨y 0, y 1, by funext a; fin_cases a <;> rfl⟩
    rw [hnext.tok (by omega) r l, hl]
    rfl
  rwa [eT] at this

theorem after_in (c : Dev nD) (w : Fin 8) (t : Fin (cfgm m h).N) (Y) (hw : w.val < 6) : (rdat m h c).after w t Y Y :=
  ⟨fun _ => rfl, fun _ e => absurd (congrArg Fin.val e) (by show w.val ≠ 7; omega)⟩

theorem after_6 (c : Dev nD) (t : Fin (cfgm m h).N) (Y X) : (rdat m h c).after (6 : Fin 8) t Y X :=
  ⟨fun hh => absurd (show 6 < 6 from hh) (by decide), fun _ e => absurd (congrArg Fin.val e) (by show 6 ≠ 7; decide)⟩

theorem after_7 (c : Dev nD) (t : Fin (cfgm m h).N) (Y) (X : S64x256.Idx → Elt Ideal .f32) (hX : FinP (opsM m c) → t.val + 1 = cntM m * 30 → L1Is (lenM m) (tkEnd m c) X) :
    (rdat m h c).after (7 : Fin 8) t Y X :=
  ⟨fun hh => absurd (show 7 < 6 from hh) (by decide), fun Z _ hZ hF hl => eq_of_heq hZ ▸ hX hF hl⟩

theorem phi_succ (c : Dev nD) (t : Fin (cfgm m h).N) : (rdat m h c).Φ t.succ = Φm m c (t.val + 1) := by
  show Φm m c t.succ.val = _
  rw [Fin.val_succ]

theorem phi_cast (c : Dev nD) (t : Fin (cfgm m h).N) : (rdat m h c).Φ t.castSucc = Φm m c t.val := by
  show Φm m c t.castSucc.val = _
  rw [Fin.val_castSucc]

theorem owes_succ (c : Dev nD) (t : Fin (cfgm m h).N) : (rdat m h c).owesAt () t.succ = (rdat m h c).owesAt () t.castSucc := rfl

set_option maxHeartbeats 4000000 in
/-- The body keeps the invariant at every point, whatever the windows hold. -/
theorem body_ok (c : Dev nD) : (rdat m h c).BodyObligation (defs₀ (F := Ideal)) 𝒱₀ () Set.univ := by
  intro t Y hY
  rw [bigSep_W0, bigSep_W0, row_eq]
  rw [phi_succ, owes_succ, phi_cast]
  unfold Φm
  rw [tabs_eq]
  have hW := wins_of m h c t Y hY
  iintro ⟨⟨⟨%f13, %f18, %hI, S0, S5⟩, S1, S2, S3, S4, Hg, ⟨T0, T1, T2, T3⟩⟩, HO, ⟨W0, W1, W2, W3, W4, W5, W6, W7⟩⟩
  iapply (head_any c (dynb0 (pfN m)) (Pipeline.Grid.Coords.static grid0 ((cfgm m h).grid.coords t)) ((cfgm m h).grid.coords t (0 : Fin 2)).val (row_lt m h t) (Memref.whole main_v0) (Memref.isWhole_whole _) (Memref.whole main_arg1) (Memref.isWhole_whole _) (Memref.whole main_arg2) (Memref.isWhole_whole _) (ms0 m h t) (hs0 m h t) (ms1 m h t) (hs1 m h t) (ms2 m h t) (hs2 m h t) (ms3 m h t) (hs3 m h t) (ms4 m h t) (hs4 m h t) (ms5 m h t) (hs5 m h t) (ms6 m h t) (hs6 m h t) (ms7 m h t) (hs7 m h t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    (pfN m 1) (pfN m 2) (pfN m 3) (Y 0) (Y 1) (Y 2) (Y 3) (Y 4) (Y 5) f13 f18 (cntM m) (cnt_word m) (seq_of m h) (len_of m h) _)
  isplitl [T1]; · iexact T1
  isplitl [T2]; · iexact T2
  isplitl [T3]; · iexact T3
  isplitl [W0]; · iexact W0
  isplitl [W1]; · iexact W1
  isplitl [W2]; · iexact W2
  isplitl [W3]; · iexact W3
  isplitl [W4]; · iexact W4
  isplitl [W5]; · iexact W5
  isplitl [W6]; · iexists _; iexact W6
  isplitl [W7]; · iexists _; iexact W7
  isplitl [S0]; · iexact S0
  isplitl [S1]; · iexact S1
  isplitl [S2]; · iexact S2
  isplitl [S3]; · iexact S3
  isplitl [S4]; · iexact S4
  isplitl [S5]; · iexact S5
  iintro ⟨T1, T2, T3, W0, W1, W2, W3, W4, W5, ⟨%X6, W6⟩, S1, S2, S3, S4, ⟨%X7, %f13n, %f18n, %hst, W7, S0, S5⟩⟩
  have hstep := step_inv m h c t hW hst hI
  isplitl [S0 S1 S2 S3 S4 S5 Hg T0 T1 T2 T3]
  · isplitl [S0 S5]
    · iexists f13n, f18n
      isplitr
      · ipureintro; exact fun hF => (hstep hF).1
      isplitl [S0]; · iexact S0
      iexact S5
    isplitl [S1]; · iexact S1
    isplitl [S2]; · iexact S2
    isplitl [S3]; · iexact S3
    isplitl [S4]; · iexact S4
    isplitl [Hg]; · iexact Hg
    isplitl [T0]; · iexact T0
    isplitl [T1]; · iexact T1
    isplitl [T2]; · iexact T2
    iexact T3
  isplitl [HO]; · iexact HO
  isplitl [W0]
  · iexists _; isplitr; · ipureintro; exact after_in m h c _ t _ (by decide)
    iexact W0
  isplitl [W1]
  · iexists _; isplitr; · ipureintro; exact after_in m h c _ t _ (by decide)
    iexact W1
  isplitl [W2]
  · iexists _; isplitr; · ipureintro; exact after_in m h c _ t _ (by decide)
    iexact W2
  isplitl [W3]
  · iexists _; isplitr; · ipureintro; exact after_in m h c _ t _ (by decide)
    iexact W3
  isplitl [W4]
  · iexists _; isplitr; · ipureintro; exact after_in m h c _ t _ (by decide)
    iexact W4
  isplitl [W5]
  · iexists _; isplitr; · ipureintro; exact after_in m h c _ t _ (by decide)
    iexact W5
  isplitl [W6]
  · iexists X6; isplitr; · ipureintro; exact after_6 m h c t _ _
    iexact W6
  iexists X7; isplitr; · ipureintro; exact after_7 m h c t _ _ fun hF => (hstep hF).2
  iexact W7

/-! ## The launch -/

theorem hin_ok (c : Dev nD) : iprop(Pipeline.ΦA (U := UR sig nD τ) spec0 c ∗ Pipeline.ΦT (U := UR sig nD τ) pre0 (pfN m) c) ⊢ (Φm m c 0 : sProp 𝕄) := by
  unfold Φm Pipeline.ΦA
  rw [rest_eq]
  iintro ⟨⟨⟨⟨%f13, S0⟩, S1, S2, S3, S4, ⟨%f18, S5⟩⟩, Hg⟩, HT⟩
  isplitl [S0 S5]
  · iexists f13, f18
    isplitr
    · ipureintro; exact fun _ => ⟨fun h => absurd rfl h, fun h => absurd rfl h⟩
    isplitl [S0]; · iexact S0
    iexact S5
  isplitl [S1]; · iexact S1
  isplitl [S2]; · iexact S2
  isplitl [S3]; · iexact S3
  isplitl [S4]; · iexact S4
  isplitl [Hg]; · iexact Hg
  iexact HT

theorem hout_ok (c : Dev nD) (t : ℕ) : (Φm m c t : sProp 𝕄) ⊢ Pipeline.ΦA (U := UR sig nD τ) spec0 c := by
  unfold Φm Pipeline.ΦA
  rw [rest_eq]
  iintro ⟨⟨%f13, %f18, -, S0, S5⟩, S1, S2, S3, S4, Hg, -⟩
  isplitl [S0 S1 S2 S3 S4 S5]
  · isplitl [S0]; · iexists f13; iexact S0
    isplitl [S1]; · iexact S1
    isplitl [S2]; · iexact S2
    isplitl [S3]; · iexact S3
    isplitl [S4]; · iexact S4
    iexists f18; iexact S5
  iexact Hg

theorem hmain_ok : Pipeline.HMainP (Ix := Unit) (Name := ℕ) (U := UR sig nD τ) (Lvl := ℕ) (pcfgs (F := Ideal)) 0 defs₀ 𝒱₀ m (main (F := Ideal)) (Vm m) :=
  Pipeline.hmainP_prefix (pcfgs (F := Ideal)) 0 defs₀ 𝒱₀ m main hostOps0 hostOps0_sub ⟨rfl, rfl, rfl, rfl, rfl⟩ fun c => (main_chain c).trans rfl

set_option backward.isDefEq.respectTransparency.types false in
theorem run_main (g : Dev nD → PrngReg) :
    θ_run defs (onTc (τ := τ) (main (F := Ideal))) (s₀ m g)
      (fun r => Pipeline.RDat.FramePost (cfgm m h) (rdat m h) (Vm m) r ∧ r.2.sem = fun _ => 0) :=
  Pipeline.RDat.θ_run_frameP_track (pcfgs (F := Ideal)) (fun _ => adm m h) 0 launch0 defs₀ 𝒱₀ (rdat m h) m g main
    (hbody := body_ok m h) (hshare := fun c w => by simp only [RDat.share, rdat, ite_self]) (howed := fun _ _ => rfl) (V := Vm m)
    (hmain := hmain_ok m) (hA := fun _ _ => rfl) (hpf := fun c k => by fin_cases c; rfl)
    (hin := fun c => hin_ok m c) (hout := fun c => hout_ok m c _) (Q' := _) (hQ' := fun _ h => h)

/-- The arguments stand as at launch at the end. -/
theorem args_kept {r : PUnit × MemSt nD τ sig (Elt Ideal)} (hr : Pipeline.RDat.FramePost (cfgm m h) (rdat m h) (Vm m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) := by
  have rest : ∀ b : Ref sig .tc, b ∉ [main_v0, main_c, main_v1, main_v2, main_v3] → b.isScoped = false → (∀ w, (spec0 w).arr.view.ref ≠ b) →
      r.2.mem ((c.tc : Thread nD τ).loc b) = m ((c.tc : Thread nD τ).loc b) := fun b hb hs ha =>
    ((hr c).2 b (Pipeline.mem_restRefs_of b hs ha)).trans (Vm_arg m c b hb)
  refine ⟨rest _ (by decide) (by decide) (by decide), rest _ (by decide) (by decide) (by decide), rest _ (by decide) (by decide) (by decide), ?_, ?_,
    rest _ (by decide) (by decide) (by decide), rest _ (by decide) (by decide) (by decide), rest _ (by decide) (by decide) (by decide), ?_⟩
  · exact (Pipeline.RDat.FramePost.arr_in hr c (0 : Fin 8) rfl).trans (Vm_arg m c main_arg3 (by decide))
  · exact (Pipeline.RDat.FramePost.arr_in hr c (1 : Fin 8) rfl).trans (Vm_arg m c main_arg4 (by decide))
  · exact (Pipeline.RDat.FramePost.arr_in hr c (5 : Fin 8) rfl).trans (Vm_arg m c main_arg8 (by decide))

/-! ## The second output -/

theorem cnt_pos_N (t : Fin (cfgm m h).N) : 0 < cntM m := by
  have := N_eq m h
  have := t.isLt
  omega

/-- The second output goes back once, whole, at the last point. -/
theorem whole7 (t : Fin (cfgm m h).N) (ht : t.val + 1 = (cfgm m h).N) : ((cfgm m h).win (7 : Fin 8)).WholeAt t := by
  have hfl : ∀ u : Fin (cfgm m h).N, ((cfgm m h).win (7 : Fin 8)).flush u = true ↔ u.val + 1 = (cfgm m h).N := by
    intro u
    unfold Pipeline.Window.flush
    rw [Bool.and_eq_true, Bool.or_eq_true, decide_eq_true_iff, decide_eq_true_iff]
    exact ⟨fun x => x.2.elim id fun ⟨_, hne⟩ => absurd rfl hne, fun x => ⟨rfl, .inl x⟩⟩
  exact ⟨(hfl t).2 ht, fun u hu => Fin.ext (by have := (hfl u).1 hu; omega), fun a => ⟨by fin_cases a <;> rfl, by fin_cases a <;> rfl⟩⟩

/-- The second output at the end. -/
theorem out_at {r : PUnit × MemSt nD τ sig (Elt Ideal)} (hr : Pipeline.RDat.FramePost (cfgm m h) (rdat m h) (Vm m) r) (c : Dev nD) (hF : FinP (opsM m c)) (hpos : 0 < cntM m) :
    ∃ Z : S64x256.Idx → Elt Ideal .f32, L1Is (lenM m) (tkEnd m c) Z ∧ r.2.mem ((c.tc : Thread nD τ).loc main_v4_1) = Z := by
  have hN := N_eq m h
  obtain ⟨X, ⟨Y, -, hX⟩, hG⟩ := Pipeline.RDat.ArrAt.emb_eq_of_wholeAt ((hr c).1 (7 : Fin 8)) (whole7 m h ⟨(cfgm m h).N - 1, by omega⟩ (by show (cfgm m h).N - 1 + 1 = _; omega))
  refine ⟨X, hX.2 X rfl HEq.rfl hF (by show (cfgm m h).N - 1 + 1 = _; omega), funext fun j => ?_⟩
  exact hG j

end Cert.Proof.KernelIdeal
-- ==== Proof.RRun.lean ====
module

public import proofs.«01_k».proof.ReferenceIdeal
public import proofs.«01_k».proof.Proof.Gen.ReferenceIdeal
public import Idealize.ShloMosaic.Lib.StableHlo.Run
public import Idealize.ShloMosaic.Lib.StableHlo.RunRead
public import Idealize.ShloMosaic.Lib.Quiescent

@[expose] public section

noncomputable section

namespace Cert.Proof.ReferenceIdeal

open Cert.ReferenceIdeal Cert.ReferenceIdeal.Gen
open Idealize.ShloMosaic Idealize.ShloMosaic.TcCoe Idealize.SL.Sem

variable {F : FTy → Type} [FloatOps F]

/-- The reference's operations, in order. -/
abbrev ops : List (HloOp τ sig (Elt F)) :=
  [ StableHlo.unary main_arg5 main_v0 ((extsi 32 · natLt_8_32) : (⟨S30522x3584, .i8⟩ : BufTy).Contents (Elt F) → (⟨S30522x3584, .i32⟩ : BufTy).Contents (Elt F)),
    StableHlo.unary main_v0 main_v1 (sitofp .f32 : (⟨S30522x3584, .i32⟩ : BufTy).Contents (Elt F) → (⟨S30522x3584, .f32⟩ : BufTy).Contents (Elt F)),
    StableHlo.unary main_v1 main_v2 ((truncf .bf16 · bitsLt_bf16_f32) : (⟨S30522x3584, .f32⟩ : BufTy).Contents (Elt F) → (⟨S30522x3584, .bf16⟩ : BufTy).Contents (Elt F)),
    StableHlo.binary main_arg3 main_v2 main_v3 ((fun l r => Host.dotGeneral dot_S16704x3584_S30522x3584_S16704x30522_1_1_0_0_n_n none l r) : (⟨S16704x3584, .bf16⟩ : BufTy).Contents (Elt F) → (⟨S30522x3584, .bf16⟩ : BufTy).Contents (Elt F) → (⟨S16704x30522, .f32⟩ : BufTy).Contents (Elt F)),
    StableHlo.unary main_arg4 main_v4 ((extractStridedSlice S16704x1 ![0, 0] · slices_S16704x128_S16704x1_0_0) : (⟨S16704x128, .f32⟩ : BufTy).Contents (Elt F) → (⟨S16704x1, .f32⟩ : BufTy).Contents (Elt F)),
    StableHlo.unary main_v4 main_v5 (broadcastInDim S16704x30522 ![0, 1] bcast_S16704x1_S16704x30522_0_1 : (⟨S16704x1, .f32⟩ : BufTy).Contents (Elt F) → (⟨S16704x30522, .f32⟩ : BufTy).Contents (Elt F)),
    StableHlo.binary main_v3 main_v5 main_v6 (mulf : (⟨S16704x30522, .f32⟩ : BufTy).Contents (Elt F) → (⟨S16704x30522, .f32⟩ : BufTy).Contents (Elt F) → (⟨S16704x30522, .f32⟩ : BufTy).Contents (Elt F)),
    StableHlo.unary main_arg6 main_v7 (broadcastInDim S1x30522 ![1] bcast_S30522_S1x30522_1 : (⟨S30522, .f32⟩ : BufTy).Contents (Elt F) → (⟨S1x30522, .f32⟩ : BufTy).Contents (Elt F)),
    StableHlo.unary main_v7 main_v8 (broadcastInDim S16704x30522 ![0, 1] bcast_S1x30522_S16704x30522_0_1 : (⟨S1x30522, .f32⟩ : BufTy).Contents (Elt F) → (⟨S16704x30522, .f32⟩ : BufTy).Contents (Elt F)),
    StableHlo.binary main_v6 main_v8 main_v9 (mulf : (⟨S16704x30522, .f32⟩ : BufTy).Contents (Elt F) → (⟨S16704x30522, .f32⟩ : BufTy).Contents (Elt F) → (⟨S16704x30522, .f32⟩ : BufTy).Contents (Elt F)),
    StableHlo.unary main_arg7 main_v10 (broadcastInDim S1x30522 ![1] bcast_S30522_S1x30522_1 : (⟨S30522, .f32⟩ : BufTy).Contents (Elt F) → (⟨S1x30522, .f32⟩ : BufTy).Contents (Elt F)),
    StableHlo.unary main_v10 main_v11 (broadcastInDim S16704x30522 ![0, 1] bcast_S1x30522_S16704x30522_0_1 : (⟨S1x30522, .f32⟩ : BufTy).Contents (Elt F) → (⟨S16704x30522, .f32⟩ : BufTy).Contents (Elt F)),
    StableHlo.binary main_v9 main_v11 main_v12 (addf : (⟨S16704x30522, .f32⟩ : BufTy).Contents (Elt F) → (⟨S16704x30522, .f32⟩ : BufTy).Contents (Elt F) → (⟨S16704x30522, .f32⟩ : BufTy).Contents (Elt F)),
    StableHlo.nullary main_cst (constant S_ .f32 0x00000000#32),
    StableHlo.unary main_cst main_v13 (broadcastInDim S16704x30522 ![] bcast_S_S16704x30522 : (⟨S_, .f32⟩ : BufTy).Contents (Elt F) → (⟨S16704x30522, .f32⟩ : BufTy).Contents (Elt F)),
    StableHlo.binary main_v12 main_v13 main_v14 (maximumf : (⟨S16704x30522, .f32⟩ : BufTy).Contents (Elt F) → (⟨S16704x30522, .f32⟩ : BufTy).Contents (Elt F) → (⟨S16704x30522, .f32⟩ : BufTy).Contents (Elt F)),
    StableHlo.unary main_v14 main_v15 (Host.log1p : (⟨S16704x30522, .f32⟩ : BufTy).Contents (Elt F) → (⟨S16704x30522, .f32⟩ : BufTy).Contents (Elt F)),
    StableHlo.nullary main_cst_0 (constant S_ .f32 0x00000000#32),
    StableHlo.binary main_v15 main_cst_0 main_v16 ((fun x v => Host.reduceAdd x v reducesTo_S16704x30522_S16704_d1 h_S_) : (⟨S16704x30522, .f32⟩ : BufTy).Contents (Elt F) → (⟨S_, .f32⟩ : BufTy).Contents (Elt F) → (⟨S16704, .f32⟩ : BufTy).Contents (Elt F)),
    StableHlo.nullary main_c (constantI S_ 32 0#32),
    StableHlo.unary main_c main_v17 (broadcastInDim S64 ![] bcast_S_S64 : (⟨S_, .i32⟩ : BufTy).Contents (Elt F) → (⟨S64, .i32⟩ : BufTy).Contents (Elt F)),
    StableHlo.binary main_arg1 main_v17 main_v18 (cmpi .sgt : (⟨S64, .i32⟩ : BufTy).Contents (Elt F) → (⟨S64, .i32⟩ : BufTy).Contents (Elt F) → (⟨S64, .i1⟩ : BufTy).Contents (Elt F)),
    StableHlo.nullary main_c_1 (constantI S_ 32 8#32),
    StableHlo.unary main_c_1 main_v19 (broadcastInDim S64 ![] bcast_S_S64 : (⟨S_, .i32⟩ : BufTy).Contents (Elt F) → (⟨S64, .i32⟩ : BufTy).Contents (Elt F)),
    StableHlo.binary main_arg1 main_v19 main_v20 (maxsi : (⟨S64, .i32⟩ : BufTy).Contents (Elt F) → (⟨S64, .i32⟩ : BufTy).Contents (Elt F) → (⟨S64, .i32⟩ : BufTy).Contents (Elt F)),
    StableHlo.ternary main_v18 main_v20 main_v17 main_v21 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.nullary main_v22 (iotaInDim S64x64 32 1),
    StableHlo.nullary main_v23 (iotaInDim S64x64 32 0),
    StableHlo.binary main_v22 main_v23 main_v24 (cmpi .slt : (⟨S64x64, .i32⟩ : BufTy).Contents (Elt F) → (⟨S64x64, .i32⟩ : BufTy).Contents (Elt F) → (⟨S64x64, .i1⟩ : BufTy).Contents (Elt F)),
    StableHlo.unary main_v21 main_v25 (broadcastInDim S1x64 ![1] bcast_S64_S1x64_1 : (⟨S64, .i32⟩ : BufTy).Contents (Elt F) → (⟨S1x64, .i32⟩ : BufTy).Contents (Elt F)),
    StableHlo.unary main_v25 main_v26 (broadcastInDim S64x64 ![0, 1] bcast_S1x64_S64x64_0_1 : (⟨S1x64, .i32⟩ : BufTy).Contents (Elt F) → (⟨S64x64, .i32⟩ : BufTy).Contents (Elt F)),
    StableHlo.nullary main_c_2 (constantI S_ 32 0#32),
    StableHlo.unary main_c_2 main_v27 (broadcastInDim S64x64 ![] bcast_S_S64x64 : (⟨S_, .i32⟩ : BufTy).Contents (Elt F) → (⟨S64x64, .i32⟩ : BufTy).Contents (Elt F)),
    StableHlo.ternary main_v24 main_v26 main_v27 main_v28 (select : (⟨S64x64, .i1⟩ : BufTy).Contents (Elt F) → (⟨S64x64, .i32⟩ : BufTy).Contents (Elt F) → (⟨S64x64, .i32⟩ : BufTy).Contents (Elt F) → (⟨S64x64, .i32⟩ : BufTy).Contents (Elt F)),
    StableHlo.nullary main_c_3 (constantI S_ 32 0#32),
    StableHlo.binary main_v28 main_c_3 main_v29 ((fun x v => Host.reduce IntOp.addi x v reducesTo_S64x64_S64_d1 h_S_) : (⟨S64x64, .i32⟩ : BufTy).Contents (Elt F) → (⟨S_, .i32⟩ : BufTy).Contents (Elt F) → (⟨S64, .i32⟩ : BufTy).Contents (Elt F)),
    StableHlo.nullary main_v30 (iotaInDim S64x256 32 1),
    StableHlo.unary main_v29 main_v31 (broadcastInDim S64x1 ![0] bcast_S64_S64x1_0 : (⟨S64, .i32⟩ : BufTy).Contents (Elt F) → (⟨S64x1, .i32⟩ : BufTy).Contents (Elt F)),
    StableHlo.unary main_v31 main_v32 (broadcastInDim S64x256 ![0, 1] bcast_S64x1_S64x256_0_1 : (⟨S64x1, .i32⟩ : BufTy).Contents (Elt F) → (⟨S64x256, .i32⟩ : BufTy).Contents (Elt F)),
    StableHlo.binary main_v32 main_v30 main_v33 (addi : (⟨S64x256, .i32⟩ : BufTy).Contents (Elt F) → (⟨S64x256, .i32⟩ : BufTy).Contents (Elt F) → (⟨S64x256, .i32⟩ : BufTy).Contents (Elt F)),
    StableHlo.nullary main_c_4 (constantI S_ 32 0#32),
    StableHlo.unary main_c_4 main_v34 (broadcastInDim S64x256 ![] bcast_S_S64x256 : (⟨S_, .i32⟩ : BufTy).Contents (Elt F) → (⟨S64x256, .i32⟩ : BufTy).Contents (Elt F)),
    StableHlo.binary main_v33 main_v34 main_v35 (cmpi .slt : (⟨S64x256, .i32⟩ : BufTy).Contents (Elt F) → (⟨S64x256, .i32⟩ : BufTy).Contents (Elt F) → (⟨S64x256, .i1⟩ : BufTy).Contents (Elt F)),
    StableHlo.nullary main_c_5 (constantI S_ 32 16704#32),
    StableHlo.unary main_c_5 main_v36 (broadcastInDim S64x256 ![] bcast_S_S64x256 : (⟨S_, .i32⟩ : BufTy).Contents (Elt F) → (⟨S64x256, .i32⟩ : BufTy).Contents (Elt F)),
    StableHlo.binary main_v33 main_v36 main_v37 (addi : (⟨S64x256, .i32⟩ : BufTy).Contents (Elt F) → (⟨S64x256, .i32⟩ : BufTy).Contents (Elt F) → (⟨S64x256, .i32⟩ : BufTy).Contents (Elt F)),
    StableHlo.ternary main_v35 main_v37 main_v33 main_v38 (select : (⟨S64x256, .i1⟩ : BufTy).Contents (Elt F) → (⟨S64x256, .i32⟩ : BufTy).Contents (Elt F) → (⟨S64x256, .i32⟩ : BufTy).Contents (Elt F) → (⟨S64x256, .i32⟩ : BufTy).Contents (Elt F)),
    StableHlo.unary main_v38 main_v39 (broadcastInDim S64x256x1 ![0, 1] bcast_S64x256_S64x256x1_0_1 : (⟨S64x256, .i32⟩ : BufTy).Contents (Elt F) → (⟨S64x256x1, .i32⟩ : BufTy).Contents (Elt F)),
    StableHlo.binary main_v16 main_v39 main_v40 ((fun x i => Host.gather gather_S16704_S64x256x1_S64x256_n_0_n_n_0_2_1 x i) : (⟨S16704, .f32⟩ : BufTy).Contents (Elt F) → (⟨S64x256x1, .i32⟩ : BufTy).Contents (Elt F) → (⟨S64x256, .f32⟩ : BufTy).Contents (Elt F)),
    StableHlo.unary main_arg1 main_v41 (broadcastInDim S64x1 ![0] bcast_S64_S64x1_0 : (⟨S64, .i32⟩ : BufTy).Contents (Elt F) → (⟨S64x1, .i32⟩ : BufTy).Contents (Elt F)),
    StableHlo.unary main_v41 main_v42 (broadcastInDim S64x256 ![0, 1] bcast_S64x1_S64x256_0_1 : (⟨S64x1, .i32⟩ : BufTy).Contents (Elt F) → (⟨S64x256, .i32⟩ : BufTy).Contents (Elt F)),
    StableHlo.binary main_v30 main_v42 main_v43 (cmpi .slt : (⟨S64x256, .i32⟩ : BufTy).Contents (Elt F) → (⟨S64x256, .i32⟩ : BufTy).Contents (Elt F) → (⟨S64x256, .i1⟩ : BufTy).Contents (Elt F)),
    StableHlo.nullary main_cst_6 (constant S_ .f32 0x00000000#32),
    StableHlo.unary main_cst_6 main_v44 (broadcastInDim S64x256 ![] bcast_S_S64x256 : (⟨S_, .f32⟩ : BufTy).Contents (Elt F) → (⟨S64x256, .f32⟩ : BufTy).Contents (Elt F)),
    StableHlo.ternary main_v43 main_v40 main_v44 main_v45 (select : (⟨S64x256, .i1⟩ : BufTy).Contents (Elt F) → (⟨S64x256, .f32⟩ : BufTy).Contents (Elt F) → (⟨S64x256, .f32⟩ : BufTy).Contents (Elt F) → (⟨S64x256, .f32⟩ : BufTy).Contents (Elt F)) ]

/-- The buffers they write. -/
abbrev written : List (Ref sig .tc) := [main_v0, main_v1, main_v2, main_v3, main_v4, main_v5, main_v6, main_v7, main_v8, main_v9, main_v10, main_v11, main_v12, main_cst, main_v13, main_v14, main_v15, main_cst_0, main_v16, main_c, main_v17, main_v18, main_c_1, main_v19, main_v20, main_v21, main_v22, main_v23, main_v24, main_v25, main_v26, main_c_2, main_v27, main_v28, main_c_3, main_v29, main_v30, main_v31, main_v32, main_v33, main_c_4, main_v34, main_v35, main_c_5, main_v36, main_v37, main_v38, main_v39, main_v40, main_v41, main_v42, main_v43, main_cst_6, main_v44, main_v45]

/-- The reference is that straight line. -/
theorem main_eq (c : Dev nD) : main (F := F) c = StableHlo.seq ops := rfl

theorem ops_sub : (ops : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.binary_bufs_sub .., StableHlo.unary_bufs_sub .., StableHlo.unary_bufs_sub .., StableHlo.nullary_bufs_sub .., StableHlo.unary_bufs_sub .., StableHlo.ternary_bufs_sub .., StableHlo.nullary_bufs_sub .., StableHlo.binary_bufs_sub .., StableHlo.nullary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.ternary_bufs_sub ..⟩

/-- A buffer the line does not write ends as it began. -/
theorem kept (V : Valuation τ sig (Elt F)) (r : Ref sig .tc) (hr : r ∉ written) :
    StableHlo.after (ops (F := F)) V (Proc.devRef .tc r) = V (Proc.devRef .tc r) :=
  StableHlo.after_unwritten (ops := ops (F := F)) written rfl hr V

/-- The run: every buffer ends at the operations' results, every counter at zero. -/
theorem run_main (m : (ℓ : Loc nD τ sig) → Buf (Elt F) ℓ) (g : Dev nD → PrngReg) :
    θ_run (defs (F := F)) (onTc (τ := τ) (main (F := F))) ⟨m, fun _ => 0, g⟩ fun r =>
      (∀ (d : Dev nD) (b : Ref sig .tc), r.2.mem ((d.tc : Thread nD τ).loc b) = StableHlo.after (ops (F := F)) (StableHlo.launchContents m d) (Proc.devRef .tc b))
      ∧ r.2.sem = fun _ => 0 :=
  (θ_run _ _ _).mono (fun r h => ⟨h, sem_eq_zero_of_no_sems (by decide) r.2⟩)
    (StableHlo.run_seq (by decide) (by decide) defs main (fun _ => ops) main_eq (fun _ => ops_sub) m g)

/-- The arguments stand at the end. -/
theorem args_kept {m : (ℓ : Loc nD τ sig) → Buf (Elt F) ℓ} {r : PUnit × MemSt nD τ sig (Elt F)}
    (h : ∀ (d : Dev nD) (b : Ref sig .tc), r.2.mem ((d.tc : Thread nD τ).loc b) = StableHlo.after (ops (F := F)) (StableHlo.launchContents m d) (Proc.devRef .tc b)) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  have key : ∀ b : Ref sig .tc, b ∉ written → r.2.mem ((c.tc : Thread nD τ).loc b) = m ((c.tc : Thread nD τ).loc b) := fun b hb => (h c b).trans (kept _ b hb)
  ⟨key _ (by decide), key _ (by decide), key _ (by decide), key _ (by decide), key _ (by decide), key _ (by decide), key _ (by decide), key _ (by decide), key _ (by decide)⟩

end Cert.Proof.ReferenceIdeal
-- ==== Proof.VBits.lean ====
module

public import proofs.«01_k».proof.Proof.VInv
public import Idealize.ShloMosaic.Lib.Pointwise
public import Mathlib.Data.BitVec

@[expose] public section

noncomputable section

namespace Cert.Proof.KernelIdeal

open Cert.KernelIdeal Cert.KernelIdeal.Gen
open Idealize.ShloMosaic Idealize.ShloMosaic.TcCoe
open scoped BigOperators

/-! ## The rows the sequences take -/

/-- The rows taken by a sequence, as a number. -/
def rowsN (len : ℕ → BitVec 32) (k : ℕ) : ℕ := (rowsOf (len k)).toNat

/-- The rows taken by the sequences before `b`. -/
def offN (len : ℕ → BitVec 32) (b : ℕ) : ℕ := ∑ k ∈ Finset.range b, rowsN len k

theorem rows_pos {x : BitVec 32} (h : 0 < x.toInt) : (rowsOf x).toNat = max x.toNat 8 := by
  have hx := x.isLt
  have e : x.toInt = x.toNat := by rw [BitVec.toInt_eq_toNat_cond] at *; split at * <;> omega
  have h0 : (0#32).slt x = true := by simpa [BitVec.slt] using h
  have e1 : rowsOf x = Scalar.maxsi x 8#32 := by
    rw [rowsOf, Scalar.select, Scalar.cmpi, IntOp.cmpi]
    simp only [h0]
    exact if_pos (by decide)
  rw [e1, Scalar.maxsi, IntOp.maxsi]
  have e8 : (8#32).toInt = 8 := by decide
  have e8' : (8#32).toNat = 8 := by decide
  split
  · rename_i h8
    have h8 : 8 < x.toInt := by rw [BitVec.slt, e8] at h8; exact of_decide_eq_true h8
    omega
  · rename_i h8
    have h8 : ¬ 8 < x.toInt := fun hc => h8 (by rw [BitVec.slt, e8]; exact decide_eq_true hc)
    omega

theorem rows_neg {x : BitVec 32} (h : ¬ 0 < x.toInt) : (rowsOf x).toNat = 0 := by
  have h0 : (0#32).slt x = false := by simpa [BitVec.slt] using h
  have e1 : rowsOf x = 0#32 := by
    rw [rowsOf, Scalar.select, Scalar.cmpi, IntOp.cmpi]
    simp only [h0]
    exact if_neg (by decide)
  rw [e1]; rfl

theorem rowsN_le {len : ℕ → BitVec 32} (h : ∀ k, (len k).toInt ≤ 256) (k : ℕ) : rowsN len k ≤ 256 := by
  have hk := h k
  unfold rowsN
  by_cases h0 : 0 < (len k).toInt
  · rw [rows_pos h0]
    have hx := (len k).isLt
    have e : (len k).toInt = (len k).toNat := by rw [BitVec.toInt_eq_toNat_cond] at *; split at * <;> omega
    omega
  · rw [rows_neg h0]; omega

theorem lt_rowsN {len : ℕ → BitVec 32} {k t : ℕ} (h : (t : ℤ) < (len k).toInt) : t < rowsN len k := by
  unfold rowsN
  rw [rows_pos (by omega)]
  have hx := (len k).isLt
  have e : (len k).toInt = (len k).toNat := by rw [BitVec.toInt_eq_toNat_cond] at *; split at * <;> omega
  omega

theorem offN_succ (len : ℕ → BitVec 32) (b : ℕ) : offN len (b + 1) = offN len b + rowsN len b := Finset.sum_range_succ _ _

theorem offN_mono (len : ℕ → BitVec 32) {a b : ℕ} (h : a ≤ b) : offN len a ≤ offN len b :=
  Finset.sum_le_sum_of_subset (Finset.range_mono h)

theorem offN_le {len : ℕ → BitVec 32} (h : ∀ k, (len k).toInt ≤ 256) (b : ℕ) : offN len b ≤ 256 * b := by
  induction b with
  | zero => simp [offN]
  | succ b ih => rw [offN_succ]; have := rowsN_le h b; omega

theorem offOf_toNat {len : ℕ → BitVec 32} (h : ∀ k, (len k).toInt ≤ 256) (b : ℕ) (hb : b ≤ 64) : (offOf len b).toNat = offN len b := by
  induction b with
  | zero => simp [offN, offOf]
  | succ b ih =>
    have h1 := offN_le h (b + 1)
    rw [offN_succ] at *
    rw [offOf, Scalar.addi, IntOp.addi, BitVec.toNat_add, ih (by omega)]
    exact Nat.mod_eq_of_lt (by unfold rowsN at *; omega)

/-- A sum of words, below the word size. -/
theorem toNat_sum {ι : Type*} (s : Finset ι) (f : ι → BitVec 32) (h : ∑ i ∈ s, (f i).toNat < 2 ^ 32) : (∑ i ∈ s, f i).toNat = ∑ i ∈ s, (f i).toNat := by
  classical
  induction s using Finset.induction_on with
  | empty => simp
  | insert a s ha ih =>
    rw [Finset.sum_insert ha] at h ⊢
    rw [Finset.sum_insert ha, BitVec.toNat_add, ih (by omega), Nat.mod_eq_of_lt (by omega)]

/-- A fold of additions is a sum. -/
theorem fold_addi {ι : Type*} (s : Finset ι) (f : ι → BitVec 32) : Finset.fold IntOp.addi 0#32 f s = ∑ i ∈ s, f i := by
  classical
  induction s using Finset.induction_on with
  | empty => rfl
  | insert a s ha ih => rw [Finset.fold_insert ha, Finset.sum_insert ha, ih]; rfl

theorem toInt_small {x : BitVec 32} (h : x.toNat < 2 ^ 31) : x.toInt = x.toNat := by
  rw [BitVec.toInt_eq_toNat_cond]; split <;> omega

/-! ## Sums over the vocabulary -/

theorem sum_blocks (f : ℕ → EReal) (n m : ℕ) : ∑ j ∈ Finset.range n, ∑ i ∈ Finset.range m, f (m * j + i) = ∑ v ∈ Finset.range (m * n), f v := by
  induction n with
  | zero => simp
  | succ n ih => rw [Finset.sum_range_succ, ih, Nat.mul_succ, Finset.sum_range_add]

/-- Lanes, blocks and groups are the padded vocabulary. -/
theorem sum_vocab (f : ℕ → EReal) (hf : ∀ v, 30522 ≤ v → f v = 0) :
    ∑ x : Fin 128, ∑ j ∈ Finset.range 30, ∑ g ∈ Finset.range 8, f (1024 * j + (128 * g + x.val)) = ∑ v ∈ Finset.range 30522, f v := by
  rw [Finset.sum_comm]
  have e : ∀ j, ∑ x : Fin 128, ∑ g ∈ Finset.range 8, f (1024 * j + (128 * g + x.val)) = ∑ i ∈ Finset.range 1024, f (1024 * j + i) := fun j => by
    rw [Finset.sum_comm]
    rw [← sum_blocks (fun i => f (1024 * j + i)) 8 128]
    exact Finset.sum_congr rfl fun g _ => (Finset.sum_range (fun i => f (1024 * j + (128 * g + i)))).symm
  rw [Finset.sum_congr rfl fun j _ => e j, sum_blocks f 30 1024]
  rw [show 1024 * 30 = 30522 + 198 from rfl, Finset.sum_range_add]
  rw [Finset.sum_eq_zero (s := Finset.range 198) fun v _ => hf _ (by omega), add_zero]

/-- What the token sums give in the end, lane by lane, is the row's sum over the vocabulary. -/
theorem tk_sum (o : Ops) {c r : ℕ} (hr : r < 928 * c) (hx : ∀ l, l < 128 → o.X r l = o.X r 0) :
    ∑ x : Fin 128, o.tk (c * 30) r x.val = ∑ v ∈ Finset.range 30522, o.term r 0 v := by
  have hs : seen (c * 30) r = 30 := by rw [seen, show c * 30 / 30 = c by omega, if_pos hr]
  rw [← sum_vocab (o.term r 0) (fun v hv => by rw [Ops.term, if_neg (by omega)])]
  refine Finset.sum_congr rfl fun x _ => ?_
  rw [Ops.tk, hs]
  refine Finset.sum_congr rfl fun j _ => ?_
  rw [Ops.blk]
  refine Finset.sum_congr rfl fun g _ => ?_
  rw [Ops.term, Ops.term, hx _ x.isLt]

/-! ## The written rows -/

theorem l1_at {len : ℕ → BitVec 32} {T : S16704x128.Idx → Elt Ideal .f32} {Z : S64x256.Idx → Elt Ideal .f32} (h : L1Is len T Z) (b : Fin 64) (t : Fin 256)
    (hlt : (offOf len b).toNat + t.val < 16704) :
    Z (ix2 b t) = Scalar.select (IntOp.cmpi .slt (BitVec.ofNat 32 t.val) (len b)) (∑ x : Fin 128, T (ix2 ⟨(offOf len b).toNat + t.val, hlt⟩ x) : EReal) (0 : EReal) := by
  obtain ⟨inb, e⟩ := h b b.isLt
  have e1 := congrFun e (ix2 0 t)
  rw [ld_eq Z (inb_row b b.isLt) (ix2 0 t) (ix2 b t) rfl (fun a => by fin_cases a <;> simp)] at e1
  rw [e1]
  have hX : ∀ x : Fin 128, View.ld T (Rect.unit (s := S16704x128) ![(Scalar.indexCast (offOf len b)).toNat, 0] S256x128.size inb) (ix2 t x)
      = T (ix2 ⟨(offOf len b).toNat + t.val, hlt⟩ x) := fun x =>
    ld_eq T inb (ix2 t x) (ix2 ⟨(offOf len b).toNat + t.val, hlt⟩ x) rfl (fun a => by fin_cases a <;> simp [Scalar.indexCast])
  simp only [← hX]
  generalize View.ld T (Rect.unit (s := S16704x128) ![(Scalar.indexCast (offOf len b)).toNat, 0] S256x128.size inb) = X
  generalize len b = l
  pointwise [k0_pay88]

end Cert.Proof.KernelIdeal
-- ==== Proof.VRef.lean ====
module

public import proofs.«01_k».proof.Proof.RRun
public import proofs.«01_k».proof.Proof.VBits

@[expose] public section

noncomputable section

namespace Cert.Proof.ReferenceIdeal

open Cert.ReferenceIdeal Cert.ReferenceIdeal.Gen
open Idealize.ShloMosaic Idealize.ShloMosaic.TcCoe
open scoped BigOperators

/-- The rows' sums over the vocabulary. -/
def rowV (p : FVec Ideal S16704x3584 .bf16) (ps : FVec Ideal S16704x128 .f32) (w : IVec S30522x3584 8) (ws bi : FVec Ideal S30522 .f32) : FVec Ideal S16704 .f32 :=
  Host.reduceAdd (Host.log1p (maximumf (addf (mulf (mulf
      (Host.dotGeneral dot_S16704x3584_S30522x3584_S16704x30522_1_1_0_0_n_n none p (truncf .bf16 (sitofp .f32 (extsi 32 w natLt_8_32) : FVec Ideal S30522x3584 .f32) bitsLt_bf16_f32))
      (broadcastInDim S16704x30522 ![0, 1] bcast_S16704x1_S16704x30522_0_1 (extractStridedSlice S16704x1 ![0, 0] ps slices_S16704x128_S16704x1_0_0)))
      (broadcastInDim S16704x30522 ![0, 1] bcast_S1x30522_S16704x30522_0_1 (broadcastInDim S1x30522 ![1] bcast_S30522_S1x30522_1 ws)))
      (broadcastInDim S16704x30522 ![0, 1] bcast_S1x30522_S16704x30522_0_1 (broadcastInDim S1x30522 ![1] bcast_S30522_S1x30522_1 bi)))
      (broadcastInDim S16704x30522 ![] bcast_S_S16704x30522 (constant S_ .f32 0x00000000#32)))) (constant S_ .f32 0x00000000#32) reducesTo_S16704x30522_S16704_d1 h_S_

/-- The rows the sequences take. -/
def heldV (len : IVec S64 32) : IVec S64 32 :=
  select (cmpi .sgt len (broadcastInDim S64 ![] bcast_S_S64 (constantI S_ 32 0#32))) (maxsi len (broadcastInDim S64 ![] bcast_S_S64 (constantI S_ 32 8#32)))
    (broadcastInDim S64 ![] bcast_S_S64 (constantI S_ 32 0#32))

/-- The sequences' first rows. -/
def offV (len : IVec S64 32) : IVec S64 32 :=
  Host.reduce IntOp.addi (select (cmpi .slt (iotaInDim S64x64 32 1) (iotaInDim S64x64 32 0))
    (broadcastInDim S64x64 ![0, 1] bcast_S1x64_S64x64_0_1 (broadcastInDim S1x64 ![1] bcast_S64_S1x64_1 (heldV len)))
    (broadcastInDim S64x64 ![] bcast_S_S64x64 (constantI S_ 32 0#32))) (constantI S_ 32 0#32) reducesTo_S64x64_S64_d1 h_S_

/-- The rows of the positions, before the wrap of negatives. -/
def atV (len : IVec S64 32) : IVec S64x256 32 :=
  addi (broadcastInDim S64x256 ![0, 1] bcast_S64x1_S64x256_0_1 (broadcastInDim S64x1 ![0] bcast_S64_S64x1_0 (offV len))) (iotaInDim S64x256 32 1)

/-- The rows of the positions. -/
def idxV (len : IVec S64 32) : IVec S64x256x1 32 :=
  broadcastInDim S64x256x1 ![0, 1] bcast_S64x256_S64x256x1_0_1 (select (cmpi .slt (atV len) (broadcastInDim S64x256 ![] bcast_S_S64x256 (constantI S_ 32 0#32)))
    (addi (atV len) (broadcastInDim S64x256 ![] bcast_S_S64x256 (constantI S_ 32 16704#32))) (atV len))

/-- The reference's result. -/
def outV (len : IVec S64 32) (p : FVec Ideal S16704x3584 .bf16) (ps : FVec Ideal S16704x128 .f32) (w : IVec S30522x3584 8) (ws bi : FVec Ideal S30522 .f32) : FVec Ideal S64x256 .f32 :=
  select (cmpi .slt (iotaInDim S64x256 32 1) (broadcastInDim S64x256 ![0, 1] bcast_S64x1_S64x256_0_1 (broadcastInDim S64x1 ![0] bcast_S64_S64x1_0 len)))
    (Host.gather gather_S16704_S64x256x1_S64x256_n_0_n_n_0_2_1 (rowV p ps w ws bi) (idxV len))
    (broadcastInDim S64x256 ![] bcast_S_S64x256 (constant S_ .f32 0x00000000#32))

theorem after_out (V : Valuation τ sig (Elt Ideal)) :
    StableHlo.after (ops (F := Ideal)) V (Proc.devRef .tc main_v45)
      = outV (V (Proc.devRef .tc main_arg1)) (V (Proc.devRef .tc main_arg3)) (V (Proc.devRef .tc main_arg4)) (V (Proc.devRef .tc main_arg5)) (V (Proc.devRef .tc main_arg6)) (V (Proc.devRef .tc main_arg7)) := by
  after_reads_simp
  rfl

theorem sitofp_ext (x : BitVec 8) : (FloatOps.sitofp (F := Ideal) FTy.f32 (BitVec.signExtend 32 x) : EReal) = ((KernelIdeal.cd x : ℝ) : EReal) := by
  show (((BitVec.signExtend 32 x).toInt : ℝ) : EReal) = _
  rw [BitVec.toInt_signExtend_of_le (by decide)]
  rfl

theorem rowV_at (p : FVec Ideal S16704x3584 .bf16) (ps : FVec Ideal S16704x128 .f32) (w : IVec S30522x3584 8) (ws bi : FVec Ideal S30522 .f32) (r : Fin 16704) :
    rowV p ps w ws bi (ix1 r) = ∑ v : Fin 30522, Ideal.log1p (max ((∑ k : Fin 3584, p (ix2 r k) * ((KernelIdeal.cd (w (ix2 v k)) : ℝ) : EReal)) * ps (ix2 r 0) * ws (ix1 v) + bi (ix1 v)) 0) := by
  pointwise [rowV]
  refine Finset.sum_congr rfl fun v _ => ?_
  congr 4
  refine congrArg (fun z => z * ps (ix2 r 0)) (Finset.sum_congr rfl fun k _ => ?_)
  rw [sitofp_ext]

theorem heldV_at (len : IVec S64 32) (b : Fin 64) : heldV len (ix1 b) = KernelIdeal.rowsOf (len (ix1 b)) := by
  pointwise [heldV]
  rfl

theorem offV_at (len : IVec S64 32) (l : ℕ → BitVec 32) (hl : ∀ k : Fin 64, len (ix1 k) = l k.val) (h : ∀ k, (l k).toInt ≤ 256) (b : Fin 64) :
    (offV len (ix1 b)).toNat = KernelIdeal.offN l b := by
  have e : offV len (ix1 b) = ∑ k : Fin 64, Scalar.select (IntOp.cmpi .slt (BitVec.ofNat 32 k.val) (BitVec.ofNat 32 b.val)) (KernelIdeal.rowsOf (l k.val)) 0#32 := by
    rw [offV, Host.reduce_eq_fold]
    refine (KernelIdeal.fold_addi _ _).trans ?_
    rw [reducesTo_S64x64_S64_d1.sum_fiber_r2_a1]
    refine Finset.sum_congr rfl fun k _ => ?_
    rw [← hl, ← heldV_at]
    generalize heldV len = H
    pointwise
  have e2 : ∀ k : Fin 64, (Scalar.select (IntOp.cmpi .slt (BitVec.ofNat 32 k.val) (BitVec.ofNat 32 b.val)) (KernelIdeal.rowsOf (l k.val)) 0#32).toNat
      = if k.val < b.val then KernelIdeal.rowsN l k.val else 0 := fun k => by
    have hk := k.isLt
    have hb := b.isLt
    have e1 : (BitVec.ofNat 32 k.val).slt (BitVec.ofNat 32 b.val) = decide (k.val < b.val) := by
      rw [BitVec.slt, KernelIdeal.toInt_small (by rw [BitVec.toNat_ofNat]; omega), KernelIdeal.toInt_small (by rw [BitVec.toNat_ofNat]; omega), BitVec.toNat_ofNat, BitVec.toNat_ofNat,
        Nat.mod_eq_of_lt (by omega), Nat.mod_eq_of_lt (by omega)]
      simp
    rw [Scalar.select, IntOp.cmpi]
    simp only [e1]
    by_cases hlt : k.val < b.val <;> simp [hlt, KernelIdeal.rowsN]
  have e3 : ∑ k : Fin 64, (if k.val < b.val then KernelIdeal.rowsN l k.val else 0) = KernelIdeal.offN l b := by
    rw [← Finset.sum_range (fun k => if k < b.val then KernelIdeal.rowsN l k else 0), ← Finset.sum_filter, KernelIdeal.offN]
    congr 1
    ext k
    simp only [Finset.mem_filter, Finset.mem_range]
    have := b.isLt
    omega
  rw [e, KernelIdeal.toNat_sum _ _ (by
    simp only [e2, e3]; have := KernelIdeal.offN_le h b; have := b.isLt; omega)]
  simp only [e2, e3]

theorem gather_at (x : FVec Ideal S16704 .f32) (i : IVec S64x256x1 32) (b : Fin 64) (t : Fin 256) (n : ℕ) (hn : n < 16704)
    (hi : (i (ix3 b t 0)).toInt = n) : Host.gather gather_S16704_S64x256x1_S64x256_n_0_n_n_0_2_1 x i (ix2 b t) = x (ix1 ⟨n, hn⟩) := by
  have hs : gather_S16704_S64x256x1_S64x256_n_0_n_n_0_2_1.start (ix2 b t) i 0 = n := by
    unfold GatherDims.start
    rw [dif_pos (by decide)]
    have : (gather_S16704_S64x256x1_S64x256_n_0_n_n_0_2_1).siIdx (ix2 b t) ⟨0, by decide⟩ = ix3 b t 0 := by
      funext a
      fin_cases a <;> rfl
    have e : ∀ q, q = ix3 b t 0 → min (i q).toInt.toNat (16704 - 1) = n := fun q hq => by rw [hq, hi]; simp; omega
    exact e _ this
  have hb : gather_S16704_S64x256x1_S64x256_n_0_n_n_0_2_1.batchCoord (ix2 b t) 0 = 0 := by unfold GatherDims.batchCoord; rw [dif_neg (by decide)]
  have ho : gather_S16704_S64x256x1_S64x256_n_0_n_n_0_2_1.offCoord (ix2 b t) 0 = 0 := by unfold GatherDims.offCoord; rw [dif_neg (by decide)]
  unfold Host.gather
  congr 1
  funext a
  fin_cases a
  refine Fin.ext ?_
  show gather_S16704_S64x256x1_S64x256_n_0_n_n_0_2_1.start (ix2 b t) i 0 + gather_S16704_S64x256x1_S64x256_n_0_n_n_0_2_1.batchCoord (ix2 b t) 0 + gather_S16704_S64x256x1_S64x256_n_0_n_n_0_2_1.offCoord (ix2 b t) 0 = n
  rw [hs, hb, ho]
  rfl

theorem outV_at (len : IVec S64 32) (p : FVec Ideal S16704x3584 .bf16) (ps : FVec Ideal S16704x128 .f32) (w : IVec S30522x3584 8) (ws bi : FVec Ideal S30522 .f32)
    (l : ℕ → BitVec 32) (hl : ∀ k : Fin 64, len (ix1 k) = l k.val) (h : ∀ k, (l k).toInt ≤ 256) (b : Fin 64) (t : Fin 256) (hlt : KernelIdeal.offN l b + t.val < 16704) :
    outV len p ps w ws bi (ix2 b t)
      = Scalar.select (IntOp.cmpi .slt (BitVec.ofNat 32 t.val) (l b)) (rowV p ps w ws bi (ix1 ⟨KernelIdeal.offN l b + t.val, hlt⟩)) (0 : EReal) := by
  have ha : (atV len (ix2 b t)).toNat = KernelIdeal.offN l b + t.val := by
    have e : atV len (ix2 b t) = offV len (ix1 b) + BitVec.ofNat 32 t.val := by
      rw [atV]
      generalize offV len = H
      pointwise
      rfl
    have := t.isLt
    rw [e, BitVec.toNat_add, offV_at len l hl h b, BitVec.toNat_ofNat]
    omega
  have ha' : (atV len (ix2 b t)).toInt = KernelIdeal.offN l b + t.val := by
    rw [KernelIdeal.toInt_small (by omega), ha]; push_cast; rfl
  have hi : (idxV len (ix3 b t 0)).toInt = ((KernelIdeal.offN l b + t.val : ℕ) : ℤ) := by
    have e : idxV len (ix3 b t 0) = Scalar.select (IntOp.cmpi .slt (atV len (ix2 b t)) 0#32) (atV len (ix2 b t) + 16704#32) (atV len (ix2 b t)) := by
      rw [idxV]
      generalize atV len = H
      pointwise
      rfl
    have hz : (atV len (ix2 b t)).slt 0#32 = false := by
      rw [BitVec.slt, ha']; simp; omega
    rw [e, Scalar.select, IntOp.cmpi]
    simp only [hz]
    rw [if_neg (by decide), ha']; push_cast; rfl
  rw [← gather_at (rowV p ps w ws bi) (idxV len) b t _ hlt hi, ← hl b]
  rw [outV]
  generalize Host.gather gather_S16704_S64x256x1_S64x256_n_0_n_n_0_2_1 (rowV p ps w ws bi) (idxV len) = G
  pointwise

end Cert.Proof.ReferenceIdeal
-- ==== Proof.VPre.lean ====
module

public import proofs.«01_k».proof.Proof.VBits
public import proofs.«01_k».proof.Proof.IBase

@[expose] public section

noncomputable section

namespace Cert.Proof.KernelIdeal

open Cert.KernelIdeal Cert.KernelIdeal.Gen
open Idealize.ShloMosaic Idealize.ShloMosaic.TcCoe
open scoped BigOperators

/-! ## What the precondition says of the values -/

theorem of_word {P : Prop} [Decidable P] (h : BitVec.ofBool (decide P) = 1#1) : P := by
  by_contra hc
  rw [decide_eq_false hc] at h
  exact absurd h (by decide)

theorem real_of_abs {x c : EReal} (hc : c ≠ ⊤) (h : max x (-x) ≤ c) : x = ((x.toReal : ℝ) : EReal) := by
  have hlt : c < ⊤ := lt_top_iff_ne_top.mpr hc
  refine (EReal.coe_toReal ?_ ?_).symm
  · rintro rfl
    exact absurd ((le_max_left _ _).trans h) (not_le.mpr hlt)
  · rintro rfl
    exact absurd ((le_max_right _ _).trans h) (by rw [EReal.neg_bot]; exact not_le.mpr hlt)

theorem ofBits_127 : Ideal.ofBits .f32 0x42FE0000#32 ≠ ⊤ := by
  have : Ideal.ofBits .f32 0x42FE0000#32 = ((127 : ℝ) : EReal) := by
    simp [Ideal.ofBits, Ideal.ieee, -EReal.coe_mul]; norm_num
  rw [this]; exact EReal.coe_ne_top _

theorem vals_of_pre (a0 : IVec S_ 32) (a1 : IVec S64 32) (a2 : IVec S6144 32) (a3 : FVec Ideal S16704x3584 .bf16) (a4 : FVec Ideal S16704x128 .f32)
    (a5 : IVec S30522x3584 8) (a6 : FVec Ideal S30522 .f32) (a7 : FVec Ideal S30522 .f32) (a8 : IVec S64x128 32)
    (h : Cert.Pre_pre.fn (F := Ideal) a0 a1 a2 a3 a4 a5 a6 a7 a8 = fun _ => 1#1) :
    (∀ r k, a3 (ix2 r k) = (((a3 (ix2 r k) : EReal).toReal : ℝ) : EReal)) ∧ (∀ r l, a4 (ix2 r l) = a4 (ix2 r 0))
    ∧ (∑ k : Fin 64, rowsOf (a1 (ix1 k))).toInt ≤ (a0 (fun a => a.elim0) * 928#32).toInt := by
  have h0 := congrFun h (fun a => a.elim0)
  obtain ⟨h1, hps⟩ := and1 (show IntOp.andi _ _ = 1#1 from h0)
  obtain ⟨h2, hp⟩ := and1 (show IntOp.andi _ _ = 1#1 from h1)
  obtain ⟨h3, hm⟩ := and1 (show IntOp.andi _ _ = 1#1 from h2)
  obtain ⟨h4, hs⟩ := and1 (show IntOp.andi _ _ = 1#1 from h3)
  have hsub : Subsingleton Cert.Pre_pre.S_.Idx := ⟨fun i j => funext fun a => a.elim0⟩
  refine ⟨fun r k => ?_, fun r l => ?_, ?_⟩
  · have hk := Host.reduce_andi_all _ _ _ _ _ hp (ix2 r k)
    pointwise at hk
    have hd : max (a3 (ix2 r k) : EReal) (-(a3 (ix2 r k) : EReal)) ≤ Ideal.ofBits .f32 0x42FE0000#32 := of_word hk
    exact real_of_abs ofBits_127 hd
  · have hk := Host.reduce_andi_all _ _ _ _ _ hps (ix2 r l)
    pointwise at hk
    exact of_word hk
  · have hk := sle1 (show IntOp.cmpi .sle _ _ = 1#1 from hs)
    have e : Host.reduce IntOp.addi (Cert.Pre_pre.fn_where (F := Ideal) (cmpi .sgt a1 (broadcastInDim Cert.Pre_pre.S64 ![] Cert.Pre_pre.Gen.bcast_S_S64 (constantI Cert.Pre_pre.S_ 32 0#32)))
        (maxsi a1 (broadcastInDim Cert.Pre_pre.S64 ![] Cert.Pre_pre.Gen.bcast_S_S64 (constantI Cert.Pre_pre.S_ 32 8#32))) (constantI Cert.Pre_pre.S_ 32 0#32))
        (constantI Cert.Pre_pre.S_ 32 0#32) Cert.Pre_pre.Gen.reducesTo_S64_S_d0 Cert.Pre_pre.Gen.h_S_ (fun a => a.elim0) = ∑ k : Fin 64, rowsOf (a1 (ix1 k)) := by
      rw [Host.reduce_eq_fold]
      refine (fold_addi _ _).trans ?_
      rw [Cert.Pre_pre.Gen.reducesTo_S64_S_d0.sum_fiber_r1_a0]
      refine Finset.sum_congr rfl fun k _ => ?_
      pointwise [Cert.Pre_pre.fn_where]
      rfl
    rw [← e]
    exact hk

end Cert.Proof.KernelIdeal
-- ==== Proof.IValue.lean ====
module

public import proofs.«01_k».proof.Defs
public import proofs.«01_k».proof.Proof.ILaunch
public import proofs.«01_k».proof.Proof.VRef
public import proofs.«01_k».proof.Proof.VPre
public import proofs.«01_k».proof.Proof.Gen.KernelIdeal
public import proofs.«01_k».proof.Proof.Gen.ReferenceIdeal
public import proofs.«01_k».proof.Proof.Gen.Pre_pre

@[expose] public section

noncomputable section

namespace Cert.Proof.KernelIdeal

open Cert.KernelIdeal Cert.KernelIdeal.Gen
open Idealize.ShloMosaic Idealize.ShloMosaic.TcCoe Idealize.SL.Sem
open scoped BigOperators

attribute [local instance] Cert.KernelIdeal.Gen.facts Cert.ReferenceIdeal.Gen.facts Cert.Pre_pre.Gen.facts

/-! ## The kernel's second output is the reference's -/

/-- The reference's row sum is the sum of the row's terms. -/
theorem row_term (o : Ops) (hF : ∀ r k, o.p (ix2 r k) = (((o.p (ix2 r k) : EReal).toReal : ℝ) : EReal)) (r : Fin 16704) :
    ReferenceIdeal.rowV o.p o.ps o.w o.ws o.bi (ix1 r) = ∑ v ∈ Finset.range 30522, o.term r.val 0 v := by
  rw [ReferenceIdeal.rowV_at, Finset.sum_range]
  refine Finset.sum_congr rfl fun v _ => ?_
  have hr := r.isLt
  have hv := v.isLt
  rw [Ops.term, if_pos hv, Ops.X, dif_pos ⟨hr, by omega⟩, Ops.S, dif_pos hv, Ops.B, dif_pos hv]
  have e : (∑ k : Fin 3584, (o.p (ix2 r k) : EReal) * ((cd (o.w (ix2 v k)) : ℝ) : EReal)) = ((o.acc r.val v.val : ℝ) : EReal) := by
    rw [Ops.acc, Finset.sum_range, ← coe_sum']
    refine Finset.sum_congr rfl fun k _ => ?_
    rw [Ops.P, dif_pos ⟨hr, k.isLt⟩, Ops.W, dif_pos ⟨hv, k.isLt⟩, EReal.coe_mul]
    congr 1
    exact hF r k
  rw [e]
  rfl

theorem cmp_lt {t : ℕ} (ht : t < 256) {x : BitVec 32} (h : IntOp.cmpi .slt (BitVec.ofNat 32 t) x = 1) : (t : ℤ) < x.toInt := by
  have h1 : (BitVec.ofNat 32 t).slt x = true := of_word (P := (BitVec.ofNat 32 t).slt x = true) (by
    rw [Bool.decide_eq_true]
    exact h)
  rw [BitVec.slt] at h1
  have h2 := of_decide_eq_true h1
  rwa [toInt_small (by rw [BitVec.toNat_ofNat]; omega), BitVec.toNat_ofNat, Nat.mod_eq_of_lt (by omega)] at h2

/-- Rows written from the final token sums are the reference's result. -/
theorem rows_ref (o : Ops) (cnt : ℕ) (hcnt : cnt ≤ 18) (len : ℕ → BitVec 32) (a1 : IVec S64 32) (hlen : ∀ k : Fin 64, a1 (ix1 k) = len k.val) (h256 : ∀ k, (len k).toInt ≤ 256)
    (hsum : offN len 64 ≤ 928 * cnt)
    (hF : ∀ r k, o.p (ix2 r k) = (((o.p (ix2 r k) : EReal).toReal : ℝ) : EReal)) (hps : ∀ r l, o.ps (ix2 r l) = o.ps (ix2 r 0))
    {Z : S64x256.Idx → Elt Ideal .f32} (hZ : L1Is len (fun y => o.tk (cnt * 30) (y 0).val (y 1).val) Z) :
    Z = ReferenceIdeal.outV a1 o.p o.ps o.w o.ws o.bi := by
  funext y
  obtain ⟨b, t, rfl⟩ : ∃ (b : Fin 64) (t : Fin 256), y = ix2 b t := ⟨y 0, y 1, by funext a; fin_cases a <;> rfl⟩
  have hb := b.isLt
  have ht := t.isLt
  have ho := offN_le h256 b.val
  have hoff := offOf_toNat h256 b.val (by omega)
  rw [l1_at hZ b t (by omega), ReferenceIdeal.outV_at a1 o.p o.ps o.w o.ws o.bi len hlen h256 b t (by omega)]
  by_cases hc : IntOp.cmpi .slt (BitVec.ofNat 32 t.val) (len b.val) = 1
  · rw [Scalar.select, if_pos hc, Scalar.select, if_pos hc]
    have hlt := lt_rowsN (cmp_lt ht hc)
    have hm := offN_mono len (a := b.val + 1) (b := 64) (by omega)
    rw [offN_succ] at hm
    have hr : offN len b.val + t.val < 928 * cnt := by omega
    have hrow : offN len b.val + t.val < 16704 := by omega
    rw [row_term o hF ⟨offN len b.val + t.val, hrow⟩]
    rw [← tk_sum o hr (fun l hl => by
      rw [Ops.X, dif_pos ⟨hrow, hl⟩, Ops.X, dif_pos ⟨hrow, by omega⟩]; exact hps _ _)]
    refine Finset.sum_congr rfl fun x _ => ?_
    show o.tk (cnt * 30) ((offOf len b.val).toNat + t.val) x.val = _
    rw [hoff]
  · rw [Scalar.select, if_neg hc, Scalar.select, if_neg hc]

variable (m : (ℓ : Loc nD τ sig) → Buf (Elt Ideal) ℓ) (h : TabsM m)

theorem lenM_eq (k : Fin 64) : m ((0 : Dev nD).tc.loc main_arg1) (ix1 k) = lenM m k.val := by
  have hk := k.isLt
  unfold lenM
  rw [pf2_eq]
  have key : ∀ T : S64.Idx → BitVec 32, T (ix1 k) = (Memref.whole main_arg1).view.readAt (Elt Ideal) (Rect.unit (s := S64) ![k.val % 64] S1.size (inb_len k.val)).toLoadRect T (Shape.Idx.first (numel1_S1.symm ▸ Nat.one_pos)) := by
    intro T
    show T _ = T _
    congr 1
    funext a
    fin_cases a
    exact Fin.ext (Nat.mod_eq_of_lt hk).symm
  exact key _

theorem sum_le (a0 : IVec S_ 32) (a1 : IVec S64 32) (h0 : (a0 fun a => a.elim0).toNat = cntM m) (h1 : ∀ k : Fin 64, a1 (ix1 k) = lenM m k.val) (hcnt : cntM m ≤ 18)
    (h256 : ∀ k, (lenM m k).toInt ≤ 256)
    (hs : (∑ k : Fin 64, rowsOf (a1 (ix1 k))).toInt ≤ (a0 (fun a => a.elim0) * 928#32).toInt) :
    offN (lenM m) 64 ≤ 928 * cntM m := by
  have ho := offN_le h256 64
  have e1 : (∑ k : Fin 64, rowsOf (a1 (ix1 k))).toNat = offN (lenM m) 64 := by
    have e : ∑ k : Fin 64, (rowsOf (a1 (ix1 k))).toNat = offN (lenM m) 64 := by
      rw [offN, Finset.sum_range]
      refine Finset.sum_congr rfl fun k _ => ?_
      rw [h1, rowsN]
    rw [toNat_sum _ _ (by rw [e]; omega), e]
  have e2 : (a0 (fun a => a.elim0) * 928#32).toNat = cntM m * 928 := by
    rw [BitVec.toNat_mul, h0]
    show cntM m * 928 % 2 ^ 32 = _
    omega
  rw [toInt_small (by omega), toInt_small (by omega), e1, e2] at hs
  omega

theorem out_congr {a1 b1 : IVec S64 32} {a3 b3 : FVec Ideal S16704x3584 .bf16} {a4 b4 : FVec Ideal S16704x128 .f32} {a5 b5 : IVec S30522x3584 8} {a6 b6 a7 b7 : FVec Ideal S30522 .f32}
    (e1 : a1 = b1) (e3 : a3 = b3) (e4 : a4 = b4) (e5 : a5 = b5) (e6 : a6 = b6) (e7 : a7 = b7) :
    ReferenceIdeal.outV a1 a3 a4 a5 a6 a7 = ReferenceIdeal.outV b1 b3 b4 b5 b6 b7 := by rw [e1, e3, e4, e5, e6, e7]

/-- The kernel's second output and the reference's result agree. -/
theorem algebraic : Cert.algebraic_KernelIdeal_ReferenceIdeal := by
  intro m g m' g' hpre hargs
  have h : TabsM m := tabs_of_pre _ _ _ _ _ _ _ _ _ (hpre 0)
  obtain ⟨hp, hps, hs⟩ := vals_of_pre _ _ _ _ _ _ _ _ _ (hpre 0)
  have hc18 : cntM m ≤ 18 := cnt_le m h
  have hpos : 0 < cntM m := by unfold cntM; rw [pf0_eq]; exact h.n_lo
  have h256 : ∀ k, (lenM m k).toInt ≤ 256 := fun k => len_of m h _ _
  have hsum := sum_le m _ _ (congrArg (fun f : S_.Idx → BitVec 32 => (f fun a => a.elim0).toNat) (pf0_eq m).symm) (lenM_eq m) hc18 h256 hs
  refine ⟨fun c => ReferenceIdeal.outV (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)), ?_, ?_⟩
  · refine (θ_run _ _ _).mono (fun r hr c => ⟨?_, args_kept m h hr.1 c⟩) (run_main m h g)
    obtain rfl : c = 0 := Subsingleton.elim _ _
    have hF : FinP (opsM m 0) := fun r k hr hk => by
      have e := hp ⟨r, hr⟩ ⟨k, hk⟩
      rw [Ops.P, dif_pos ⟨hr, hk⟩]
      exact e
    obtain ⟨Z, hZ, e⟩ := out_at m h hr.1 0 hF hpos
    rw [e]
    exact rows_ref (opsM m 0) (cntM m) hc18 (lenM m) _ (lenM_eq m) h256 hsum hp hps hZ
  · refine (θ_run _ _ _).mono (fun r hr c => ⟨?_, ReferenceIdeal.args_kept hr.1 c⟩) (ReferenceIdeal.run_main m' g')
    obtain ⟨-, e1, -, e3, e4, e5, e6, e7, -⟩ := hargs c
    rw [hr.1 c, ReferenceIdeal.after_out]
    exact out_congr e1 e3 e4 e5 e6 e7

end Cert.Proof.KernelIdeal
-- ==== Proof.lean ====
module

public import proofs.«01_k».proof.Defs
public import proofs.«01_k».proof.Proof.KLaunch
public import proofs.«01_k».proof.Proof.ILaunch
public import proofs.«01_k».proof.Proof.RRun
public import proofs.«01_k».proof.Proof.IValue
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_pre
public import Idealize.ShloMosaic.Adequacy
public import Idealize.ShloMosaic.Init

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_pre.Gen.facts

/-- The kernel runs and keeps its arguments. -/
theorem frame_kernel : Cert.quiescent_Kernel := by
  intro m g hpre
  have h : Kernel.TabsM m := Kernel.tabs_of_pre _ _ _ _ _ _ _ _ _ (hpre 0)
  exact (θ_run _ _ _).mono (fun r hr => ⟨Kernel.args_kept m h hr.1, hr.2⟩) (Kernel.run_main m h g)

/-- So does its idealized form. -/
theorem frame_ideal : Cert.quiescent_KernelIdeal := by
  intro m g hpre
  have h : KernelIdeal.TabsM m := KernelIdeal.tabs_of_pre _ _ _ _ _ _ _ _ _ (hpre 0)
  exact (θ_run _ _ _).mono (fun r hr => ⟨KernelIdeal.args_kept m h hr.1, hr.2⟩) (KernelIdeal.run_main m h g)

/-- So does the reference. -/
theorem frame_reference : Cert.quiescent_ReferenceIdeal := by
  intro m g _
  exact (θ_run _ _ _).mono (fun r hr => ⟨ReferenceIdeal.args_kept hr.1, hr.2⟩) (ReferenceIdeal.run_main m g)

theorem claim : Cert.Claim :=
  ⟨Cert.Kernel.Gen.facts, Cert.KernelIdeal.Gen.facts, Cert.ReferenceIdeal.Gen.facts, Cert.Pre_pre.Gen.facts,
    frame_kernel, frame_ideal, frame_reference, trivial, KernelIdeal.algebraic⟩

end Cert.Proof
